-- ==== Defs.lean ====
def Pre_Kernel [hPre_tables_routed : Cert.Pre_tables_routed.Facts] (m : (ℓ : Loc Cert.Kernel.nD Cert.Kernel.τ Cert.Kernel.sig) → Buf (Elt Bits) ℓ) : Prop :=
  ∀ c : Dev Cert.Kernel.nD,
    (Cert.Pre_tables_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_routed : Cert.Pre_tables_routed.Facts] (m : (ℓ : Loc Cert.KernelIdeal.nD Cert.KernelIdeal.τ Cert.KernelIdeal.sig) → Buf (Elt Ideal) ℓ) : Prop :=
  ∀ c : Dev Cert.KernelIdeal.nD,
    (Cert.Pre_tables_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_tables_routed : Cert.Pre_tables_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_tables_routed : Cert.Pre_tables_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_routed : Cert.Pre_tables_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables_routed : Cert.Pre_tables_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_routed : Cert.Pre_tables_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)) (v7 : (c : Dev Cert.Kernel2Ideal.nD) → Buf (Elt Ideal) ((c.tc : Thread Cert.Kernel2Ideal.nD Cert.Kernel2Ideal.τ).loc Cert.Kernel2Ideal.main_v11_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_v11_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_v32) = v4 c
          ∧ r.2.mem ((c.tc : Thread Cert.Reference2Ideal.nD Cert.Reference2Ideal.τ).loc Cert.Reference2Ideal.main_v34) = v5 c
          ∧ r.2.mem ((c.tc : Thread Cert.Reference2Ideal.nD Cert.Reference2Ideal.τ).loc Cert.Reference2Ideal.main_v35) = v6 c
          ∧ r.2.mem ((c.tc : Thread Cert.Reference2Ideal.nD Cert.Reference2Ideal.τ).loc Cert.Reference2Ideal.main_v43) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v12_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v17)) (v1 : (c : Dev Cert.Kernel5Ideal.nD) → Buf (Elt Ideal) ((c.tc : Thread Cert.Kernel5Ideal.nD Cert.Kernel5Ideal.τ).loc Cert.Kernel5Ideal.main_v18)) (v2 : (c : Dev Cert.Kernel5Ideal.nD) → Buf (Elt Ideal) ((c.tc : Thread Cert.Kernel5Ideal.nD Cert.Kernel5Ideal.τ).loc Cert.Kernel5Ideal.main_v20)) (v3 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_v18) = v1 c
          ∧ r.2.mem ((c.tc : Thread Cert.Kernel5Ideal.nD Cert.Kernel5Ideal.τ).loc Cert.Kernel5Ideal.main_v20) = v2 c
          ∧ r.2.mem ((c.tc : Thread Cert.Kernel5Ideal.nD Cert.Kernel5Ideal.τ).loc Cert.Kernel5Ideal.main_v21) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v16)) (v1 : (c : Dev Cert.Kernel7Ideal.nD) → Buf (Elt Ideal) ((c.tc : Thread Cert.Kernel7Ideal.nD Cert.Kernel7Ideal.τ).loc Cert.Kernel7Ideal.main_v19)) (v2 : (c : Dev Cert.Kernel7Ideal.nD) → Buf (Elt Ideal) ((c.tc : Thread Cert.Kernel7Ideal.nD Cert.Kernel7Ideal.τ).loc Cert.Kernel7Ideal.main_v21)) (v3 : (c : Dev Cert.Kernel7Ideal.nD) → Buf (Elt Ideal) ((c.tc : Thread Cert.Kernel7Ideal.nD Cert.Kernel7Ideal.τ).loc Cert.Kernel7Ideal.main_v22)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_v19) = v1 c
          ∧ r.2.mem ((c.tc : Thread Cert.Kernel7Ideal.nD Cert.Kernel7Ideal.τ).loc Cert.Kernel7Ideal.main_v21) = v2 c
          ∧ r.2.mem ((c.tc : Thread Cert.Kernel7Ideal.nD Cert.Kernel7Ideal.τ).loc Cert.Kernel7Ideal.main_v22) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_v28) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)) →
    ∃ (v0 : (c : Dev Cert.Kernel8Ideal.nD) → Buf (Elt Ideal) ((c.tc : Thread Cert.Kernel8Ideal.nD Cert.Kernel8Ideal.τ).loc Cert.Kernel8Ideal.main_v16_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16_0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v90) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_tables_routed : Cert.Pre_tables_routed.Facts),
    quiescent_Kernel (hKernel := hKernel) (hPre_tables_routed := hPre_tables_routed)
    ∧ quiescent_KernelIdeal (hKernelIdeal := hKernelIdeal) (hPre_tables_routed := hPre_tables_routed)
    ∧ quiescent_ReferenceIdeal (hReferenceIdeal := hReferenceIdeal) (hPre_tables_routed := hPre_tables_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_tables_routed := hPre_tables_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_tables_routed.lean ====
abbrev S129 : Shape := ⟨1, ![129]⟩
abbrev S4128 : Shape := ⟨1, ![4128]⟩
abbrev S50688x1024 : Shape := ⟨2, ![50688, 1024]⟩
abbrev S32x1024x512 : Shape := ⟨3, ![32, 1024, 512]⟩
abbrev S32x512x1024 : Shape := ⟨3, ![32, 512, 1024]⟩
abbrev S129x1 : Shape := ⟨2, ![129, 1]⟩
abbrev S129x32 : Shape := ⟨2, ![129, 32]⟩
abbrev S_ : Shape := ⟨0, ![]⟩

class Facts : Prop where
  bcast_S129_S129x1_0 : S129.BroadcastsInDim S129x1 (![0] : Fin 1 → Fin S129x1.rank)
  shapeCasts_S4128_S129x32 : S4128.ShapeCasts S129x32
  bcast_S_S129x1 : S_.BroadcastsInDim S129x1 (![] : Fin 0 → Fin S129x1.rank)
  bcast_S_S129x32 : S_.BroadcastsInDim S129x32 (![] : Fin 0 → Fin S129x32.rank)
  bcast_S129x1_S129x32_0_1 : S129x1.BroadcastsInDim S129x32 (![0, 1] : Fin 2 → Fin S129x32.rank)

variable [Facts]

def fn_part1 {F : FTy → Type} [FloatOps F] (main_v0 : IVec S129x1 32) (main_v7 : IVec S129x1 1) (main_v15 : IVec S129x32 1) (main_v17 : IVec S129x32 32) (main_c_4 : IVec S_ 32) : IVec S129x32 1 :=
  let main_v18 : IVec S129x32 32 := broadcastInDim S129x32 ![] bcast_S_S129x32 main_c_4
  let main_v19 : IVec S129x32 1 := cmpi .eq main_v17 main_v18
  let main_v20 : IVec S129x32 1 := andi main_v15 main_v19
  let main_c_5 : IVec S_ 32 := constantI S_ 32 0#32
  let main_v21 : IVec S129x1 32 := broadcastInDim S129x1 ![] bcast_S_S129x1 main_c_5
  let main_v22 : IVec S129x1 1 := cmpi .slt main_v0 main_v21
  let main_v23 : IVec S129x32 1 := broadcastInDim S129x32 ![0, 1] bcast_S129x1_S129x32_0_1 main_v22
  let main_v24 : IVec S129x32 1 := ori main_v23 main_v20
  let main_v25 : IVec S129x32 1 := broadcastInDim S129x32 ![0, 1] bcast_S129x1_S129x32_0_1 main_v7
  let main_v26 : IVec S129x32 1 := andi main_v25 main_v24
  main_v26

def fn {F : FTy → Type} [FloatOps F] (main_arg0 : IVec S129 32) (main_arg1 : IVec S129 32) (main_arg2 : IVec S4128 32) (main_arg3 : FVec F S50688x1024 .bf16) (main_arg4 : FVec F S32x1024x512 .f32) (main_arg5 : FVec F S32x1024x512 .f32) (main_arg6 : FVec F S32x512x1024 .f32) : IVec S129x32 1 :=
  let main_v0 : IVec S129x1 32 := broadcastInDim S129x1 ![0] bcast_S129_S129x1_0 main_arg0
  let main_v1 : IVec S129x1 32 := broadcastInDim S129x1 ![0] bcast_S129_S129x1_0 main_arg1
  let main_v2 : IVec S129x32 32 := shapeCast S129x32 main_arg2 shapeCasts_S4128_S129x32
  let main_c : IVec S_ 32 := constantI S_ 32 0#32
  let main_v3 : IVec S129x1 32 := broadcastInDim S129x1 ![] bcast_S_S129x1 main_c
  let main_v4 : IVec S129x1 1 := cmpi .sge main_v1 main_v3
  let main_c_0 : IVec S_ 32 := constantI S_ 32 32#32
  let main_v5 : IVec S129x1 32 := broadcastInDim S129x1 ![] bcast_S_S129x1 main_c_0
  let main_v6 : IVec S129x1 1 := cmpi .slt main_v1 main_v5
  let main_v7 : IVec S129x1 1 := andi main_v4 main_v6
  let main_v8 : IVec S129x1 1 := cmpi .eq main_v0 main_v1
  let main_c_1 : IVec S_ 32 := constantI S_ 32 0#32
  let main_v9 : IVec S129x32 32 := broadcastInDim S129x32 ![] bcast_S_S129x32 main_c_1
  let main_v10 : IVec S129x32 1 := cmpi .sge main_v2 main_v9
  let main_v11 : IVec S129x32 1 := broadcastInDim S129x32 ![0, 1] bcast_S129x1_S129x32_0_1 main_v8
  let main_v12 : IVec S129x32 1 := andi main_v11 main_v10
  let main_c_2 : IVec S_ 32 := constantI S_ 32 50672#32
  let main_v13 : IVec S129x32 32 := broadcastInDim S129x32 ![] bcast_S_S129x32 main_c_2
  let main_v14 : IVec S129x32 1 := cmpi .sle main_v2 main_v13
  let main_v15 : IVec S129x32 1 := andi main_v12 main_v14
  let main_c_3 : IVec S_ 32 := constantI S_ 32 15#32
  let main_v16 : IVec S129x32 32 := broadcastInDim S129x32 ![] bcast_S_S129x32 main_c_3
  let main_v17 : IVec S129x32 32 := andi main_v2 main_v16
  let main_c_4 : IVec S_ 32 := constantI S_ 32 0#32
  fn_part1 (F := F) main_v0 main_v7 main_v15 main_v17 main_c_4
-- ==== Kernel.lean ====
abbrev S129 : Shape := ⟨1, ![129]⟩
abbrev S4128 : Shape := ⟨1, ![4128]⟩
abbrev S50688x1024 : Shape := ⟨2, ![50688, 1024]⟩
abbrev S32x1024x512 : Shape := ⟨3, ![32, 1024, 512]⟩
abbrev S32x512x1024 : Shape := ⟨3, ![32, 512, 1024]⟩
abbrev S66048x1024 : Shape := ⟨2, ![66048, 1024]⟩
abbrev S1x1024x512 : Shape := ⟨3, ![1, 1024, 512]⟩
abbrev S1 : Shape := ⟨1, ![1]⟩
abbrev S1x512x1024 : Shape := ⟨3, ![1, 512, 1024]⟩
abbrev S512x1024 : Shape := ⟨2, ![512, 1024]⟩
abbrev S2x512x1024 : Shape := ⟨3, ![2, 512, 1024]⟩
abbrev S1024x512 : Shape := ⟨2, ![1024, 512]⟩
abbrev S2 : Shape := ⟨1, ![2]⟩
abbrev S_ : Shape := ⟨0, ![]⟩
abbrev S1x16x1024 : Shape := ⟨3, ![1, 16, 1024]⟩
abbrev S16x1024 : Shape := ⟨2, ![16, 1024]⟩
abbrev S512x512 : Shape := ⟨2, ![512, 512]⟩

abbrev nBuf : Space → Nat
  | .hbm => 5
  | .vmem => 12
  | .smem => 3
  | _ => 0

abbrev bufTy : (tb : Table) → Fin (tcTables nBuf tb) → BufTy
  | .hbm, ⟨0, _⟩ => ⟨S50688x1024, .bf16⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S66048x1024, .bf16⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .bf16⟩
  | .local _ .vmem, ⟨7, _⟩ => ⟨S512x1024, .bf16⟩
  | .local _ .vmem, ⟨8, _⟩ => ⟨S2x512x1024, .bf16⟩
  | .local _ .vmem, ⟨9, _⟩ => ⟨S1024x512, .bf16⟩
  | .local _ .vmem, ⟨10, _⟩ => ⟨S1024x512, .bf16⟩
  | .local _ .vmem, ⟨11, _⟩ => ⟨S512x1024, .bf16⟩
  | .local _ .smem, ⟨0, _⟩ => ⟨S129, .i32⟩
  | .local _ .smem, ⟨1, _⟩ => ⟨S129, .i32⟩
  | .local _ .smem, ⟨2, _⟩ => ⟨S4128, .i32⟩
  | _, _ => ⟨S50688x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![129], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_mult1 (v46 : BitVec 32) : BitVec 32 :=
  v46
def k0_cond1 (i : grid0.Coords) (v1 : BitVec 32) : BitVec 1 :=
  let arg0 : BitVec 32 := BitVec.ofNat 32 (i 0).val
  let c0_i32_5 : BitVec 32 := 0#32
  let v16 : BitVec 1 := Scalar.cmpi .eq arg0 c0_i32_5
  let c0_i32_6 : BitVec 32 := 0#32
  let v17 : BitVec 1 := Scalar.cmpi .sge v1 c0_i32_6
  let v18 : BitVec 1 := Scalar.andi v16 v17
  let v19 : BitVec 32 := Scalar.extui v18
  let c0_i32_7 : BitVec 32 := 0#32
  let v20 : BitVec 1 := Scalar.cmpi .ne v19 c0_i32_7
  v20

def k0_off3 (v46 : BitVec 32) : Fin 2 → Nat :=
  let v47 : BitVec 32 := v46
  let c0_i32_25 : BitVec 32 := 0#32
  ![v47.toNat, 0]

def k0_chk1 (i : grid0.Coords) (v1 : BitVec 32) (v46 : BitVec 32) : Prop :=
  (∀ (k0_h1 : k0_cond1 i v1 = 1#1), 16 ∣ (k0_mult1 v46).toNat) ∧
  (∀ (k0_h1 : k0_cond1 i v1 = 1#1), ∀ a, (k0_off3 v46) a + S16x1024.size a ≤ S50688x1024.size a) ∧
  (∀ (k0_h1 : k0_cond1 i v1 = 1#1), ∀ (hinb : ∀ a, (k0_off3 v46) a + S16x1024.size a ≤ S50688x1024.size a), (Rect.unit (s := S50688x1024) (k0_off3 v46) S16x1024.size hinb).WholeWords (EltTy.packing .bf16))
theorem k0_mult1_dvd : ∀ (i : grid0.Coords) (v1 : BitVec 32) (v46 : BitVec 32) (k0_hw1 : k0_chk1 i v1 v46), ∀ (k0_h1 : k0_cond1 i v1 = 1#1), 16 ∣ (k0_mult1 v46).toNat := fun i v1 v46 k0_hw1 k0_h1 => k0_hw1.1 k0_h1
theorem k0_off3_inb : ∀ (i : grid0.Coords) (v1 : BitVec 32) (v46 : BitVec 32) (k0_hw1 : k0_chk1 i v1 v46), ∀ (k0_h1 : k0_cond1 i v1 = 1#1), ∀ a, (k0_off3 v46) a + S16x1024.size a ≤ S50688x1024.size a := fun i v1 v46 k0_hw1 k0_h1 => k0_hw1.2.1 k0_h1
theorem k0_off3_wordsbf16 : ∀ (i : grid0.Coords) (v1 : BitVec 32) (v46 : BitVec 32) (k0_hw1 : k0_chk1 i v1 v46), ∀ (k0_h1 : k0_cond1 i v1 = 1#1), (Rect.unit (s := S50688x1024) (k0_off3 v46) S16x1024.size (k0_off3_inb i v1 v46 k0_hw1 k0_h1)).WholeWords (EltTy.packing .bf16) := fun i v1 v46 k0_hw1 k0_h1 => k0_hw1.2.2 k0_h1 (k0_off3_inb i v1 v46 k0_hw1 k0_h1)

def k0_mult2 (v53 : BitVec 32) : BitVec 32 :=
  v53

def k0_off4 (v53 : BitVec 32) : Fin 2 → Nat :=
  let v54 : BitVec 32 := v53
  let c0_i32_29 : BitVec 32 := 0#32
  ![v54.toNat, 0]

def k0_chk2 (i : grid0.Coords) (v1 : BitVec 32) (v53 : BitVec 32) : Prop :=
  (∀ (k0_h1 : k0_cond1 i v1 = 1#1), 16 ∣ (k0_mult2 v53).toNat) ∧
  (∀ (k0_h1 : k0_cond1 i v1 = 1#1), ∀ a, (k0_off4 v53) a + S16x1024.size a ≤ S50688x1024.size a) ∧
  (∀ (k0_h1 : k0_cond1 i v1 = 1#1), ∀ (hinb : ∀ a, (k0_off4 v53) a + S16x1024.size a ≤ S50688x1024.size a), (Rect.unit (s := S50688x1024) (k0_off4 v53) S16x1024.size hinb).WholeWords (EltTy.packing .bf16))
theorem k0_mult2_dvd : ∀ (i : grid0.Coords) (v1 : BitVec 32) (v53 : BitVec 32) (k0_hw2 : k0_chk2 i v1 v53), ∀ (k0_h1 : k0_cond1 i v1 = 1#1), 16 ∣ (k0_mult2 v53).toNat := fun i v1 v53 k0_hw2 k0_h1 => k0_hw2.1 k0_h1
theorem k0_off4_inb : ∀ (i : grid0.Coords) (v1 : BitVec 32) (v53 : BitVec 32) (k0_hw2 : k0_chk2 i v1 v53), ∀ (k0_h1 : k0_cond1 i v1 = 1#1), ∀ a, (k0_off4 v53) a + S16x1024.size a ≤ S50688x1024.size a := fun i v1 v53 k0_hw2 k0_h1 => k0_hw2.2.1 k0_h1
theorem k0_off4_wordsbf16 : ∀ (i : grid0.Coords) (v1 : BitVec 32) (v53 : BitVec 32) (k0_hw2 : k0_chk2 i v1 v53), ∀ (k0_h1 : k0_cond1 i v1 = 1#1), (Rect.unit (s := S50688x1024) (k0_off4 v53) S16x1024.size (k0_off4_inb i v1 v53 k0_hw2 k0_h1)).WholeWords (EltTy.packing .bf16) := fun i v1 v53 k0_hw2 k0_h1 => k0_hw2.2.2 k0_h1 (k0_off4_inb i v1 v53 k0_hw2 k0_h1)

def k0_mult3 (v60 : BitVec 32) : BitVec 32 :=
  v60

def k0_off5 (v60 : BitVec 32) : Fin 2 → Nat :=
  let v61 : BitVec 32 := v60
  let c0_i32_33 : BitVec 32 := 0#32
  ![v61.toNat, 0]

def k0_chk3 (i : grid0.Coords) (v1 : BitVec 32) (v60 : BitVec 32) : Prop :=
  (∀ (k0_h1 : k0_cond1 i v1 = 1#1), 16 ∣ (k0_mult3 v60).toNat) ∧
  (∀ (k0_h1 : k0_cond1 i v1 = 1#1), ∀ a, (k0_off5 v60) a + S16x1024.size a ≤ S50688x1024.size a) ∧
  (∀ (k0_h1 : k0_cond1 i v1 = 1#1), ∀ (hinb : ∀ a, (k0_off5 v60) a + S16x1024.size a ≤ S50688x1024.size a), (Rect.unit (s := S50688x1024) (k0_off5 v60) S16x1024.size hinb).WholeWords (EltTy.packing .bf16))
theorem k0_mult3_dvd : ∀ (i : grid0.Coords) (v1 : BitVec 32) (v60 : BitVec 32) (k0_hw3 : k0_chk3 i v1 v60), ∀ (k0_h1 : k0_cond1 i v1 = 1#1), 16 ∣ (k0_mult3 v60).toNat := fun i v1 v60 k0_hw3 k0_h1 => k0_hw3.1 k0_h1
theorem k0_off5_inb : ∀ (i : grid0.Coords) (v1 : BitVec 32) (v60 : BitVec 32) (k0_hw3 : k0_chk3 i v1 v60), ∀ (k0_h1 : k0_cond1 i v1 = 1#1), ∀ a, (k0_off5 v60) a + S16x1024.size a ≤ S50688x1024.size a := fun i v1 v60 k0_hw3 k0_h1 => k0_hw3.2.1 k0_h1
theorem k0_off5_wordsbf16 : ∀ (i : grid0.Coords) (v1 : BitVec 32) (v60 : BitVec 32) (k0_hw3 : k0_chk3 i v1 v60), ∀ (k0_h1 : k0_cond1 i v1 = 1#1), (Rect.unit (s := S50688x1024) (k0_off5 v60) S16x1024.size (k0_off5_inb i v1 v60 k0_hw3 k0_h1)).WholeWords (EltTy.packing .bf16) := fun i v1 v60 k0_hw3 k0_h1 => k0_hw3.2.2 k0_h1 (k0_off5_inb i v1 v60 k0_hw3 k0_h1)

def k0_mult4 (v67 : BitVec 32) : BitVec 32 :=
  v67

def k0_off6 (v67 : BitVec 32) : Fin 2 → Nat :=
  let v68 : BitVec 32 := v67
  let c0_i32_37 : BitVec 32 := 0#32
  ![v68.toNat, 0]

def k0_chk4 (i : grid0.Coords) (v1 : BitVec 32) (v67 : BitVec 32) : Prop :=
  (∀ (k0_h1 : k0_cond1 i v1 = 1#1), 16 ∣ (k0_mult4 v67).toNat) ∧
  (∀ (k0_h1 : k0_cond1 i v1 = 1#1), ∀ a, (k0_off6 v67) a + S16x1024.size a ≤ S50688x1024.size a) ∧
  (∀ (k0_h1 : k0_cond1 i v1 = 1#1), ∀ (hinb : ∀ a, (k0_off6 v67) a + S16x1024.size a ≤ S50688x1024.size a), (Rect.unit (s := S50688x1024) (k0_off6 v67) S16x1024.size hinb).WholeWords (EltTy.packing .bf16))
theorem k0_mult4_dvd : ∀ (i : grid0.Coords) (v1 : BitVec 32) (v67 : BitVec 32) (k0_hw4 : k0_chk4 i v1 v67), ∀ (k0_h1 : k0_cond1 i v1 = 1#1), 16 ∣ (k0_mult4 v67).toNat := fun i v1 v67 k0_hw4 k0_h1 => k0_hw4.1 k0_h1
theorem k0_off6_inb : ∀ (i : grid0.Coords) (v1 : BitVec 32) (v67 : BitVec 32) (k0_hw4 : k0_chk4 i v1 v67), ∀ (k0_h1 : k0_cond1 i v1 = 1#1), ∀ a, (k0_off6 v67) a + S16x1024.size a ≤ S50688x1024.size a := fun i v1 v67 k0_hw4 k0_h1 => k0_hw4.2.1 k0_h1
theorem k0_off6_wordsbf16 : ∀ (i : grid0.Coords) (v1 : BitVec 32) (v67 : BitVec 32) (k0_hw4 : k0_chk4 i v1 v67), ∀ (k0_h1 : k0_cond1 i v1 = 1#1), (Rect.unit (s := S50688x1024) (k0_off6 v67) S16x1024.size (k0_off6_inb i v1 v67 k0_hw4 k0_h1)).WholeWords (EltTy.packing .bf16) := fun i v1 v67 k0_hw4 k0_h1 => k0_hw4.2.2 k0_h1 (k0_off6_inb i v1 v67 k0_hw4 k0_h1)

def k0_mult5 (v74 : BitVec 32) : BitVec 32 :=
  v74

def k0_off7 (v74 : BitVec 32) : Fin 2 → Nat :=
  let v75 : BitVec 32 := v74
  let c0_i32_41 : BitVec 32 := 0#32
  ![v75.toNat, 0]

def k0_chk5 (i : grid0.Coords) (v1 : BitVec 32) (v74 : BitVec 32) : Prop :=
  (∀ (k0_h1 : k0_cond1 i v1 = 1#1), 16 ∣ (k0_mult5 v74).toNat) ∧
  (∀ (k0_h1 : k0_cond1 i v1 = 1#1), ∀ a, (k0_off7 v74) a + S16x1024.size a ≤ S50688x1024.size a) ∧
  (∀ (k0_h1 : k0_cond1 i v1 = 1#1), ∀ (hinb : ∀ a, (k0_off7 v74) a + S16x1024.size a ≤ S50688x1024.size a), (Rect.unit (s := S50688x1024) (k0_off7 v74) S16x1024.size hinb).WholeWords (EltTy.packing .bf16))
theorem k0_mult5_dvd : ∀ (i : grid0.Coords) (v1 : BitVec 32) (v74 : BitVec 32) (k0_hw5 : k0_chk5 i v1 v74), ∀ (k0_h1 : k0_cond1 i v1 = 1#1), 16 ∣ (k0_mult5 v74).toNat := fun i v1 v74 k0_hw5 k0_h1 => k0_hw5.1 k0_h1
theorem k0_off7_inb : ∀ (i : grid0.Coords) (v1 : BitVec 32) (v74 : BitVec 32) (k0_hw5 : k0_chk5 i v1 v74), ∀ (k0_h1 : k0_cond1 i v1 = 1#1), ∀ a, (k0_off7 v74) a + S16x1024.size a ≤ S50688x1024.size a := fun i v1 v74 k0_hw5 k0_h1 => k0_hw5.2.1 k0_h1
theorem k0_off7_wordsbf16 : ∀ (i : grid0.Coords) (v1 : BitVec 32) (v74 : BitVec 32) (k0_hw5 : k0_chk5 i v1 v74), ∀ (k0_h1 : k0_cond1 i v1 = 1#1), (Rect.unit (s := S50688x1024) (k0_off7 v74) S16x1024.size (k0_off7_inb i v1 v74 k0_hw5 k0_h1)).WholeWords (EltTy.packing .bf16) := fun i v1 v74 k0_hw5 k0_h1 => k0_hw5.2.2 k0_h1 (k0_off7_inb i v1 v74 k0_hw5 k0_h1)

def k0_mult6 (v81 : BitVec 32) : BitVec 32 :=
  v81

def k0_off8 (v81 : BitVec 32) : Fin 2 → Nat :=
  let v82 : BitVec 32 := v81
  let c0_i32_45 : BitVec 32 := 0#32
  ![v82.toNat, 0]

def k0_chk6 (i : grid0.Coords) (v1 : BitVec 32) (v81 : BitVec 32) : Prop :=
  (∀ (k0_h1 : k0_cond1 i v1 = 1#1), 16 ∣ (k0_mult6 v81).toNat) ∧
  (∀ (k0_h1 : k0_cond1 i v1 = 1#1), ∀ a, (k0_off8 v81) a + S16x1024.size a ≤ S50688x1024.size a) ∧
  (∀ (k0_h1 : k0_cond1 i v1 = 1#1), ∀ (hinb : ∀ a, (k0_off8 v81) a + S16x1024.size a ≤ S50688x1024.size a), (Rect.unit (s := S50688x1024) (k0_off8 v81) S16x1024.size hinb).WholeWords (EltTy.packing .bf16))
theorem k0_mult6_dvd : ∀ (i : grid0.Coords) (v1 : BitVec 32) (v81 : BitVec 32) (k0_hw6 : k0_chk6 i v1 v81), ∀ (k0_h1 : k0_cond1 i v1 = 1#1), 16 ∣ (k0_mult6 v81).toNat := fun i v1 v81 k0_hw6 k0_h1 => k0_hw6.1 k0_h1
theorem k0_off8_inb : ∀ (i : grid0.Coords) (v1 : BitVec 32) (v81 : BitVec 32) (k0_hw6 : k0_chk6 i v1 v81), ∀ (k0_h1 : k0_cond1 i v1 = 1#1), ∀ a, (k0_off8 v81) a + S16x1024.size a ≤ S50688x1024.size a := fun i v1 v81 k0_hw6 k0_h1 => k0_hw6.2.1 k0_h1
theorem k0_off8_wordsbf16 : ∀ (i : grid0.Coords) (v1 : BitVec 32) (v81 : BitVec 32) (k0_hw6 : k0_chk6 i v1 v81), ∀ (k0_h1 : k0_cond1 i v1 = 1#1), (Rect.unit (s := S50688x1024) (k0_off8 v81) S16x1024.size (k0_off8_inb i v1 v81 k0_hw6 k0_h1)).WholeWords (EltTy.packing .bf16) := fun i v1 v81 k0_hw6 k0_h1 => k0_hw6.2.2 k0_h1 (k0_off8_inb i v1 v81 k0_hw6 k0_h1)

def k0_mult7 (v88 : BitVec 32) : BitVec 32 :=
  v88

def k0_off9 (v88 : BitVec 32) : Fin 2 → Nat :=
  let v89 : BitVec 32 := v88
  let c0_i32_49 : BitVec 32 := 0#32
  ![v89.toNat, 0]

def k0_chk7 (i : grid0.Coords) (v1 : BitVec 32) (v88 : BitVec 32) : Prop :=
  (∀ (k0_h1 : k0_cond1 i v1 = 1#1), 16 ∣ (k0_mult7 v88).toNat) ∧
  (∀ (k0_h1 : k0_cond1 i v1 = 1#1), ∀ a, (k0_off9 v88) a + S16x1024.size a ≤ S50688x1024.size a) ∧
  (∀ (k0_h1 : k0_cond1 i v1 = 1#1), ∀ (hinb : ∀ a, (k0_off9 v88) a + S16x1024.size a ≤ S50688x1024.size a), (Rect.unit (s := S50688x1024) (k0_off9 v88) S16x1024.size hinb).WholeWords (EltTy.packing .bf16))
theorem k0_mult7_dvd : ∀ (i : grid0.Coords) (v1 : BitVec 32) (v88 : BitVec 32) (k0_hw7 : k0_chk7 i v1 v88), ∀ (k0_h1 : k0_cond1 i v1 = 1#1), 16 ∣ (k0_mult7 v88).toNat := fun i v1 v88 k0_hw7 k0_h1 => k0_hw7.1 k0_h1
theorem k0_off9_inb : ∀ (i : grid0.Coords) (v1 : BitVec 32) (v88 : BitVec 32) (k0_hw7 : k0_chk7 i v1 v88), ∀ (k0_h1 : k0_cond1 i v1 = 1#1), ∀ a, (k0_off9 v88) a + S16x1024.size a ≤ S50688x1024.size a := fun i v1 v88 k0_hw7 k0_h1 => k0_hw7.2.1 k0_h1
theorem k0_off9_wordsbf16 : ∀ (i : grid0.Coords) (v1 : BitVec 32) (v88 : BitVec 32) (k0_hw7 : k0_chk7 i v1 v88), ∀ (k0_h1 : k0_cond1 i v1 = 1#1), (Rect.unit (s := S50688x1024) (k0_off9 v88) S16x1024.size (k0_off9_inb i v1 v88 k0_hw7 k0_h1)).WholeWords (EltTy.packing .bf16) := fun i v1 v88 k0_hw7 k0_h1 => k0_hw7.2.2 k0_h1 (k0_off9_inb i v1 v88 k0_hw7 k0_h1)

def k0_mult8 (v95 : BitVec 32) : BitVec 32 :=
  v95

def k0_off10 (v95 : BitVec 32) : Fin 2 → Nat :=
  let v96 : BitVec 32 := v95
  let c0_i32_53 : BitVec 32 := 0#32
  ![v96.toNat, 0]

def k0_chk8 (i : grid0.Coords) (v1 : BitVec 32) (v95 : BitVec 32) : Prop :=
  (∀ (k0_h1 : k0_cond1 i v1 = 1#1), 16 ∣ (k0_mult8 v95).toNat) ∧
  (∀ (k0_h1 : k0_cond1 i v1 = 1#1), ∀ a, (k0_off10 v95) a + S16x1024.size a ≤ S50688x1024.size a) ∧
  (∀ (k0_h1 : k0_cond1 i v1 = 1#1), ∀ (hinb : ∀ a, (k0_off10 v95) a + S16x1024.size a ≤ S50688x1024.size a), (Rect.unit (s := S50688x1024) (k0_off10 v95) S16x1024.size hinb).WholeWords (EltTy.packing .bf16))
theorem k0_mult8_dvd : ∀ (i : grid0.Coords) (v1 : BitVec 32) (v95 : BitVec 32) (k0_hw8 : k0_chk8 i v1 v95), ∀ (k0_h1 : k0_cond1 i v1 = 1#1), 16 ∣ (k0_mult8 v95).toNat := fun i v1 v95 k0_hw8 k0_h1 => k0_hw8.1 k0_h1
theorem k0_off10_inb : ∀ (i : grid0.Coords) (v1 : BitVec 32) (v95 : BitVec 32) (k0_hw8 : k0_chk8 i v1 v95), ∀ (k0_h1 : k0_cond1 i v1 = 1#1), ∀ a, (k0_off10 v95) a + S16x1024.size a ≤ S50688x1024.size a := fun i v1 v95 k0_hw8 k0_h1 => k0_hw8.2.1 k0_h1
theorem k0_off10_wordsbf16 : ∀ (i : grid0.Coords) (v1 : BitVec 32) (v95 : BitVec 32) (k0_hw8 : k0_chk8 i v1 v95), ∀ (k0_h1 : k0_cond1 i v1 = 1#1), (Rect.unit (s := S50688x1024) (k0_off10 v95) S16x1024.size (k0_off10_inb i v1 v95 k0_hw8 k0_h1)).WholeWords (EltTy.packing .bf16) := fun i v1 v95 k0_hw8 k0_h1 => k0_hw8.2.2 k0_h1 (k0_off10_inb i v1 v95 k0_hw8 k0_h1)

def k0_mult9 (v102 : BitVec 32) : BitVec 32 :=
  v102

def k0_off11 (v102 : BitVec 32) : Fin 2 → Nat :=
  let v103 : BitVec 32 := v102
  let c0_i32_58 : BitVec 32 := 0#32
  ![v103.toNat, 0]

def k0_chk9 (i : grid0.Coords) (v1 : BitVec 32) (v102 : BitVec 32) : Prop :=
  (∀ (k0_h1 : k0_cond1 i v1 = 1#1), 16 ∣ (k0_mult9 v102).toNat) ∧
  (∀ (k0_h1 : k0_cond1 i v1 = 1#1), ∀ a, (k0_off11 v102) a + S16x1024.size a ≤ S50688x1024.size a) ∧
  (∀ (k0_h1 : k0_cond1 i v1 = 1#1), ∀ (hinb : ∀ a, (k0_off11 v102) a + S16x1024.size a ≤ S50688x1024.size a), (Rect.unit (s := S50688x1024) (k0_off11 v102) S16x1024.size hinb).WholeWords (EltTy.packing .bf16))
theorem k0_mult9_dvd : ∀ (i : grid0.Coords) (v1 : BitVec 32) (v102 : BitVec 32) (k0_hw9 : k0_chk9 i v1 v102), ∀ (k0_h1 : k0_cond1 i v1 = 1#1), 16 ∣ (k0_mult9 v102).toNat := fun i v1 v102 k0_hw9 k0_h1 => k0_hw9.1 k0_h1
theorem k0_off11_inb : ∀ (i : grid0.Coords) (v1 : BitVec 32) (v102 : BitVec 32) (k0_hw9 : k0_chk9 i v1 v102), ∀ (k0_h1 : k0_cond1 i v1 = 1#1), ∀ a, (k0_off11 v102) a + S16x1024.size a ≤ S50688x1024.size a := fun i v1 v102 k0_hw9 k0_h1 => k0_hw9.2.1 k0_h1
theorem k0_off11_wordsbf16 : ∀ (i : grid0.Coords) (v1 : BitVec 32) (v102 : BitVec 32) (k0_hw9 : k0_chk9 i v1 v102), ∀ (k0_h1 : k0_cond1 i v1 = 1#1), (Rect.unit (s := S50688x1024) (k0_off11 v102) S16x1024.size (k0_off11_inb i v1 v102 k0_hw9 k0_h1)).WholeWords (EltTy.packing .bf16) := fun i v1 v102 k0_hw9 k0_h1 => k0_hw9.2.2 k0_h1 (k0_off11_inb i v1 v102 k0_hw9 k0_h1)

def k0_mult10 (v109 : BitVec 32) : BitVec 32 :=
  v109

def k0_off12 (v109 : BitVec 32) : Fin 2 → Nat :=
  let v110 : BitVec 32 := v109
  let c0_i32_62 : BitVec 32 := 0#32
  ![v110.toNat, 0]

def k0_chk10 (i : grid0.Coords) (v1 : BitVec 32) (v109 : BitVec 32) : Prop :=
  (∀ (k0_h1 : k0_cond1 i v1 = 1#1), 16 ∣ (k0_mult10 v109).toNat) ∧
  (∀ (k0_h1 : k0_cond1 i v1 = 1#1), ∀ a, (k0_off12 v109) a + S16x1024.size a ≤ S50688x1024.size a) ∧
  (∀ (k0_h1 : k0_cond1 i v1 = 1#1), ∀ (hinb : ∀ a, (k0_off12 v109) a + S16x1024.size a ≤ S50688x1024.size a), (Rect.unit (s := S50688x1024) (k0_off12 v109) S16x1024.size hinb).WholeWords (EltTy.packing .bf16))
theorem k0_mult10_dvd : ∀ (i : grid0.Coords) (v1 : BitVec 32) (v109 : BitVec 32) (k0_hw10 : k0_chk10 i v1 v109), ∀ (k0_h1 : k0_cond1 i v1 = 1#1), 16 ∣ (k0_mult10 v109).toNat := fun i v1 v109 k0_hw10 k0_h1 => k0_hw10.1 k0_h1
theorem k0_off12_inb : ∀ (i : grid0.Coords) (v1 : BitVec 32) (v109 : BitVec 32) (k0_hw10 : k0_chk10 i v1 v109), ∀ (k0_h1 : k0_cond1 i v1 = 1#1), ∀ a, (k0_off12 v109) a + S16x1024.size a ≤ S50688x1024.size a := fun i v1 v109 k0_hw10 k0_h1 => k0_hw10.2.1 k0_h1
theorem k0_off12_wordsbf16 : ∀ (i : grid0.Coords) (v1 : BitVec 32) (v109 : BitVec 32) (k0_hw10 : k0_chk10 i v1 v109), ∀ (k0_h1 : k0_cond1 i v1 = 1#1), (Rect.unit (s := S50688x1024) (k0_off12 v109) S16x1024.size (k0_off12_inb i v1 v109 k0_hw10 k0_h1)).WholeWords (EltTy.packing .bf16) := fun i v1 v109 k0_hw10 k0_h1 => k0_hw10.2.2 k0_h1 (k0_off12_inb i v1 v109 k0_hw10 k0_h1)

def k0_mult11 (v116 : BitVec 32) : BitVec 32 :=
  v116

def k0_off13 (v116 : BitVec 32) : Fin 2 → Nat :=
  let v117 : BitVec 32 := v116
  let c0_i32_66 : BitVec 32 := 0#32
  ![v117.toNat, 0]

def k0_chk11 (i : grid0.Coords) (v1 : BitVec 32) (v116 : BitVec 32) : Prop :=
  (∀ (k0_h1 : k0_cond1 i v1 = 1#1), 16 ∣ (k0_mult11 v116).toNat) ∧
  (∀ (k0_h1 : k0_cond1 i v1 = 1#1), ∀ a, (k0_off13 v116) a + S16x1024.size a ≤ S50688x1024.size a) ∧
  (∀ (k0_h1 : k0_cond1 i v1 = 1#1), ∀ (hinb : ∀ a, (k0_off13 v116) a + S16x1024.size a ≤ S50688x1024.size a), (Rect.unit (s := S50688x1024) (k0_off13 v116) S16x1024.size hinb).WholeWords (EltTy.packing .bf16))
theorem k0_mult11_dvd : ∀ (i : grid0.Coords) (v1 : BitVec 32) (v116 : BitVec 32) (k0_hw11 : k0_chk11 i v1 v116), ∀ (k0_h1 : k0_cond1 i v1 = 1#1), 16 ∣ (k0_mult11 v116).toNat := fun i v1 v116 k0_hw11 k0_h1 => k0_hw11.1 k0_h1
theorem k0_off13_inb : ∀ (i : grid0.Coords) (v1 : BitVec 32) (v116 : BitVec 32) (k0_hw11 : k0_chk11 i v1 v116), ∀ (k0_h1 : k0_cond1 i v1 = 1#1), ∀ a, (k0_off13 v116) a + S16x1024.size a ≤ S50688x1024.size a := fun i v1 v116 k0_hw11 k0_h1 => k0_hw11.2.1 k0_h1
theorem k0_off13_wordsbf16 : ∀ (i : grid0.Coords) (v1 : BitVec 32) (v116 : BitVec 32) (k0_hw11 : k0_chk11 i v1 v116), ∀ (k0_h1 : k0_cond1 i v1 = 1#1), (Rect.unit (s := S50688x1024) (k0_off13 v116) S16x1024.size (k0_off13_inb i v1 v116 k0_hw11 k0_h1)).WholeWords (EltTy.packing .bf16) := fun i v1 v116 k0_hw11 k0_h1 => k0_hw11.2.2 k0_h1 (k0_off13_inb i v1 v116 k0_hw11 k0_h1)

def k0_mult12 (v123 : BitVec 32) : BitVec 32 :=
  v123

def k0_off14 (v123 : BitVec 32) : Fin 2 → Nat :=
  let v124 : BitVec 32 := v123
  let c0_i32_70 : BitVec 32 := 0#32
  ![v124.toNat, 0]

def k0_chk12 (i : grid0.Coords) (v1 : BitVec 32) (v123 : BitVec 32) : Prop :=
  (∀ (k0_h1 : k0_cond1 i v1 = 1#1), 16 ∣ (k0_mult12 v123).toNat) ∧
  (∀ (k0_h1 : k0_cond1 i v1 = 1#1), ∀ a, (k0_off14 v123) a + S16x1024.size a ≤ S50688x1024.size a) ∧
  (∀ (k0_h1 : k0_cond1 i v1 = 1#1), ∀ (hinb : ∀ a, (k0_off14 v123) a + S16x1024.size a ≤ S50688x1024.size a), (Rect.unit (s := S50688x1024) (k0_off14 v123) S16x1024.size hinb).WholeWords (EltTy.packing .bf16))
theorem k0_mult12_dvd : ∀ (i : grid0.Coords) (v1 : BitVec 32) (v123 : BitVec 32) (k0_hw12 : k0_chk12 i v1 v123), ∀ (k0_h1 : k0_cond1 i v1 = 1#1), 16 ∣ (k0_mult12 v123).toNat := fun i v1 v123 k0_hw12 k0_h1 => k0_hw12.1 k0_h1
theorem k0_off14_inb : ∀ (i : grid0.Coords) (v1 : BitVec 32) (v123 : BitVec 32) (k0_hw12 : k0_chk12 i v1 v123), ∀ (k0_h1 : k0_cond1 i v1 = 1#1), ∀ a, (k0_off14 v123) a + S16x1024.size a ≤ S50688x1024.size a := fun i v1 v123 k0_hw12 k0_h1 => k0_hw12.2.1 k0_h1
theorem k0_off14_wordsbf16 : ∀ (i : grid0.Coords) (v1 : BitVec 32) (v123 : BitVec 32) (k0_hw12 : k0_chk12 i v1 v123), ∀ (k0_h1 : k0_cond1 i v1 = 1#1), (Rect.unit (s := S50688x1024) (k0_off14 v123) S16x1024.size (k0_off14_inb i v1 v123 k0_hw12 k0_h1)).WholeWords (EltTy.packing .bf16) := fun i v1 v123 k0_hw12 k0_h1 => k0_hw12.2.2 k0_h1 (k0_off14_inb i v1 v123 k0_hw12 k0_h1)

def k0_mult13 (v130 : BitVec 32) : BitVec 32 :=
  v130

def k0_off15 (v130 : BitVec 32) : Fin 2 → Nat :=
  let v131 : BitVec 32 := v130
  let c0_i32_74 : BitVec 32 := 0#32
  ![v131.toNat, 0]

def k0_chk13 (i : grid0.Coords) (v1 : BitVec 32) (v130 : BitVec 32) : Prop :=
  (∀ (k0_h1 : k0_cond1 i v1 = 1#1), 16 ∣ (k0_mult13 v130).toNat) ∧
  (∀ (k0_h1 : k0_cond1 i v1 = 1#1), ∀ a, (k0_off15 v130) a + S16x1024.size a ≤ S50688x1024.size a) ∧
  (∀ (k0_h1 : k0_cond1 i v1 = 1#1), ∀ (hinb : ∀ a, (k0_off15 v130) a + S16x1024.size a ≤ S50688x1024.size a), (Rect.unit (s := S50688x1024) (k0_off15 v130) S16x1024.size hinb).WholeWords (EltTy.packing .bf16))
theorem k0_mult13_dvd : ∀ (i : grid0.Coords) (v1 : BitVec 32) (v130 : BitVec 32) (k0_hw13 : k0_chk13 i v1 v130), ∀ (k0_h1 : k0_cond1 i v1 = 1#1), 16 ∣ (k0_mult13 v130).toNat := fun i v1 v130 k0_hw13 k0_h1 => k0_hw13.1 k0_h1
theorem k0_off15_inb : ∀ (i : grid0.Coords) (v1 : BitVec 32) (v130 : BitVec 32) (k0_hw13 : k0_chk13 i v1 v130), ∀ (k0_h1 : k0_cond1 i v1 = 1#1), ∀ a, (k0_off15 v130) a + S16x1024.size a ≤ S50688x1024.size a := fun i v1 v130 k0_hw13 k0_h1 => k0_hw13.2.1 k0_h1
theorem k0_off15_wordsbf16 : ∀ (i : grid0.Coords) (v1 : BitVec 32) (v130 : BitVec 32) (k0_hw13 : k0_chk13 i v1 v130), ∀ (k0_h1 : k0_cond1 i v1 = 1#1), (Rect.unit (s := S50688x1024) (k0_off15 v130) S16x1024.size (k0_off15_inb i v1 v130 k0_hw13 k0_h1)).WholeWords (EltTy.packing .bf16) := fun i v1 v130 k0_hw13 k0_h1 => k0_hw13.2.2 k0_h1 (k0_off15_inb i v1 v130 k0_hw13 k0_h1)

def k0_mult14 (v137 : BitVec 32) : BitVec 32 :=
  v137

def k0_off16 (v137 : BitVec 32) : Fin 2 → Nat :=
  let v138 : BitVec 32 := v137
  let c0_i32_78 : BitVec 32 := 0#32
  ![v138.toNat, 0]

def k0_chk14 (i : grid0.Coords) (v1 : BitVec 32) (v137 : BitVec 32) : Prop :=
  (∀ (k0_h1 : k0_cond1 i v1 = 1#1), 16 ∣ (k0_mult14 v137).toNat) ∧
  (∀ (k0_h1 : k0_cond1 i v1 = 1#1), ∀ a, (k0_off16 v137) a + S16x1024.size a ≤ S50688x1024.size a) ∧
  (∀ (k0_h1 : k0_cond1 i v1 = 1#1), ∀ (hinb : ∀ a, (k0_off16 v137) a + S16x1024.size a ≤ S50688x1024.size a), (Rect.unit (s := S50688x1024) (k0_off16 v137) S16x1024.size hinb).WholeWords (EltTy.packing .bf16))
theorem k0_mult14_dvd : ∀ (i : grid0.Coords) (v1 : BitVec 32) (v137 : BitVec 32) (k0_hw14 : k0_chk14 i v1 v137), ∀ (k0_h1 : k0_cond1 i v1 = 1#1), 16 ∣ (k0_mult14 v137).toNat := fun i v1 v137 k0_hw14 k0_h1 => k0_hw14.1 k0_h1
theorem k0_off16_inb : ∀ (i : grid0.Coords) (v1 : BitVec 32) (v137 : BitVec 32) (k0_hw14 : k0_chk14 i v1 v137), ∀ (k0_h1 : k0_cond1 i v1 = 1#1), ∀ a, (k0_off16 v137) a + S16x1024.size a ≤ S50688x1024.size a := fun i v1 v137 k0_hw14 k0_h1 => k0_hw14.2.1 k0_h1
theorem k0_off16_wordsbf16 : ∀ (i : grid0.Coords) (v1 : BitVec 32) (v137 : BitVec 32) (k0_hw14 : k0_chk14 i v1 v137), ∀ (k0_h1 : k0_cond1 i v1 = 1#1), (Rect.unit (s := S50688x1024) (k0_off16 v137) S16x1024.size (k0_off16_inb i v1 v137 k0_hw14 k0_h1)).WholeWords (EltTy.packing .bf16) := fun i v1 v137 k0_hw14 k0_h1 => k0_hw14.2.2 k0_h1 (k0_off16_inb i v1 v137 k0_hw14 k0_h1)

def k0_mult15 (v144 : BitVec 32) : BitVec 32 :=
  v144

def k0_off17 (v144 : BitVec 32) : Fin 2 → Nat :=
  let v145 : BitVec 32 := v144
  let c0_i32_82 : BitVec 32 := 0#32
  ![v145.toNat, 0]

def k0_chk15 (i : grid0.Coords) (v1 : BitVec 32) (v144 : BitVec 32) : Prop :=
  (∀ (k0_h1 : k0_cond1 i v1 = 1#1), 16 ∣ (k0_mult15 v144).toNat) ∧
  (∀ (k0_h1 : k0_cond1 i v1 = 1#1), ∀ a, (k0_off17 v144) a + S16x1024.size a ≤ S50688x1024.size a) ∧
  (∀ (k0_h1 : k0_cond1 i v1 = 1#1), ∀ (hinb : ∀ a, (k0_off17 v144) a + S16x1024.size a ≤ S50688x1024.size a), (Rect.unit (s := S50688x1024) (k0_off17 v144) S16x1024.size hinb).WholeWords (EltTy.packing .bf16))
theorem k0_mult15_dvd : ∀ (i : grid0.Coords) (v1 : BitVec 32) (v144 : BitVec 32) (k0_hw15 : k0_chk15 i v1 v144), ∀ (k0_h1 : k0_cond1 i v1 = 1#1), 16 ∣ (k0_mult15 v144).toNat := fun i v1 v144 k0_hw15 k0_h1 => k0_hw15.1 k0_h1
theorem k0_off17_inb : ∀ (i : grid0.Coords) (v1 : BitVec 32) (v144 : BitVec 32) (k0_hw15 : k0_chk15 i v1 v144), ∀ (k0_h1 : k0_cond1 i v1 = 1#1), ∀ a, (k0_off17 v144) a + S16x1024.size a ≤ S50688x1024.size a := fun i v1 v144 k0_hw15 k0_h1 => k0_hw15.2.1 k0_h1
theorem k0_off17_wordsbf16 : ∀ (i : grid0.Coords) (v1 : BitVec 32) (v144 : BitVec 32) (k0_hw15 : k0_chk15 i v1 v144), ∀ (k0_h1 : k0_cond1 i v1 = 1#1), (Rect.unit (s := S50688x1024) (k0_off17 v144) S16x1024.size (k0_off17_inb i v1 v144 k0_hw15 k0_h1)).WholeWords (EltTy.packing .bf16) := fun i v1 v144 k0_hw15 k0_h1 => k0_hw15.2.2 k0_h1 (k0_off17_inb i v1 v144 k0_hw15 k0_h1)

def k0_mult16 (v151 : BitVec 32) : BitVec 32 :=
  v151

def k0_off18 (v151 : BitVec 32) : Fin 2 → Nat :=
  let v152 : BitVec 32 := v151
  let c0_i32_86 : BitVec 32 := 0#32
  ![v152.toNat, 0]

def k0_chk16 (i : grid0.Coords) (v1 : BitVec 32) (v151 : BitVec 32) : Prop :=
  (∀ (k0_h1 : k0_cond1 i v1 = 1#1), 16 ∣ (k0_mult16 v151).toNat) ∧
  (∀ (k0_h1 : k0_cond1 i v1 = 1#1), ∀ a, (k0_off18 v151) a + S16x1024.size a ≤ S50688x1024.size a) ∧
  (∀ (k0_h1 : k0_cond1 i v1 = 1#1), ∀ (hinb : ∀ a, (k0_off18 v151) a + S16x1024.size a ≤ S50688x1024.size a), (Rect.unit (s := S50688x1024) (k0_off18 v151) S16x1024.size hinb).WholeWords (EltTy.packing .bf16))
theorem k0_mult16_dvd : ∀ (i : grid0.Coords) (v1 : BitVec 32) (v151 : BitVec 32) (k0_hw16 : k0_chk16 i v1 v151), ∀ (k0_h1 : k0_cond1 i v1 = 1#1), 16 ∣ (k0_mult16 v151).toNat := fun i v1 v151 k0_hw16 k0_h1 => k0_hw16.1 k0_h1
theorem k0_off18_inb : ∀ (i : grid0.Coords) (v1 : BitVec 32) (v151 : BitVec 32) (k0_hw16 : k0_chk16 i v1 v151), ∀ (k0_h1 : k0_cond1 i v1 = 1#1), ∀ a, (k0_off18 v151) a + S16x1024.size a ≤ S50688x1024.size a := fun i v1 v151 k0_hw16 k0_h1 => k0_hw16.2.1 k0_h1
theorem k0_off18_wordsbf16 : ∀ (i : grid0.Coords) (v1 : BitVec 32) (v151 : BitVec 32) (k0_hw16 : k0_chk16 i v1 v151), ∀ (k0_h1 : k0_cond1 i v1 = 1#1), (Rect.unit (s := S50688x1024) (k0_off18 v151) S16x1024.size (k0_off18_inb i v1 v151 k0_hw16 k0_h1)).WholeWords (EltTy.packing .bf16) := fun i v1 v151 k0_hw16 k0_h1 => k0_hw16.2.2 k0_h1 (k0_off18_inb i v1 v151 k0_hw16 k0_h1)

def k0_mult17 (v158 : BitVec 32) : BitVec 32 :=
  v158

def k0_off19 (v158 : BitVec 32) : Fin 2 → Nat :=
  let v159 : BitVec 32 := v158
  let c0_i32_90 : BitVec 32 := 0#32
  ![v159.toNat, 0]

def k0_chk17 (i : grid0.Coords) (v1 : BitVec 32) (v158 : BitVec 32) : Prop :=
  (∀ (k0_h1 : k0_cond1 i v1 = 1#1), 16 ∣ (k0_mult17 v158).toNat) ∧
  (∀ (k0_h1 : k0_cond1 i v1 = 1#1), ∀ a, (k0_off19 v158) a + S16x1024.size a ≤ S50688x1024.size a) ∧
  (∀ (k0_h1 : k0_cond1 i v1 = 1#1), ∀ (hinb : ∀ a, (k0_off19 v158) a + S16x1024.size a ≤ S50688x1024.size a), (Rect.unit (s := S50688x1024) (k0_off19 v158) S16x1024.size hinb).WholeWords (EltTy.packing .bf16))
theorem k0_mult17_dvd : ∀ (i : grid0.Coords) (v1 : BitVec 32) (v158 : BitVec 32) (k0_hw17 : k0_chk17 i v1 v158), ∀ (k0_h1 : k0_cond1 i v1 = 1#1), 16 ∣ (k0_mult17 v158).toNat := fun i v1 v158 k0_hw17 k0_h1 => k0_hw17.1 k0_h1
theorem k0_off19_inb : ∀ (i : grid0.Coords) (v1 : BitVec 32) (v158 : BitVec 32) (k0_hw17 : k0_chk17 i v1 v158), ∀ (k0_h1 : k0_cond1 i v1 = 1#1), ∀ a, (k0_off19 v158) a + S16x1024.size a ≤ S50688x1024.size a := fun i v1 v158 k0_hw17 k0_h1 => k0_hw17.2.1 k0_h1
theorem k0_off19_wordsbf16 : ∀ (i : grid0.Coords) (v1 : BitVec 32) (v158 : BitVec 32) (k0_hw17 : k0_chk17 i v1 v158), ∀ (k0_h1 : k0_cond1 i v1 = 1#1), (Rect.unit (s := S50688x1024) (k0_off19 v158) S16x1024.size (k0_off19_inb i v1 v158 k0_hw17 k0_h1)).WholeWords (EltTy.packing .bf16) := fun i v1 v158 k0_hw17 k0_h1 => k0_hw17.2.2 k0_h1 (k0_off19_inb i v1 v158 k0_hw17 k0_h1)

def k0_mult18 (v165 : BitVec 32) : BitVec 32 :=
  v165

def k0_off20 (v165 : BitVec 32) : Fin 2 → Nat :=
  let v166 : BitVec 32 := v165
  let c0_i32_94 : BitVec 32 := 0#32
  ![v166.toNat, 0]

def k0_chk18 (i : grid0.Coords) (v1 : BitVec 32) (v165 : BitVec 32) : Prop :=
  (∀ (k0_h1 : k0_cond1 i v1 = 1#1), 16 ∣ (k0_mult18 v165).toNat) ∧
  (∀ (k0_h1 : k0_cond1 i v1 = 1#1), ∀ a, (k0_off20 v165) a + S16x1024.size a ≤ S50688x1024.size a) ∧
  (∀ (k0_h1 : k0_cond1 i v1 = 1#1), ∀ (hinb : ∀ a, (k0_off20 v165) a + S16x1024.size a ≤ S50688x1024.size a), (Rect.unit (s := S50688x1024) (k0_off20 v165) S16x1024.size hinb).WholeWords (EltTy.packing .bf16))
theorem k0_mult18_dvd : ∀ (i : grid0.Coords) (v1 : BitVec 32) (v165 : BitVec 32) (k0_hw18 : k0_chk18 i v1 v165), ∀ (k0_h1 : k0_cond1 i v1 = 1#1), 16 ∣ (k0_mult18 v165).toNat := fun i v1 v165 k0_hw18 k0_h1 => k0_hw18.1 k0_h1
theorem k0_off20_inb : ∀ (i : grid0.Coords) (v1 : BitVec 32) (v165 : BitVec 32) (k0_hw18 : k0_chk18 i v1 v165), ∀ (k0_h1 : k0_cond1 i v1 = 1#1), ∀ a, (k0_off20 v165) a + S16x1024.size a ≤ S50688x1024.size a := fun i v1 v165 k0_hw18 k0_h1 => k0_hw18.2.1 k0_h1
theorem k0_off20_wordsbf16 : ∀ (i : grid0.Coords) (v1 : BitVec 32) (v165 : BitVec 32) (k0_hw18 : k0_chk18 i v1 v165), ∀ (k0_h1 : k0_cond1 i v1 = 1#1), (Rect.unit (s := S50688x1024) (k0_off20 v165) S16x1024.size (k0_off20_inb i v1 v165 k0_hw18 k0_h1)).WholeWords (EltTy.packing .bf16) := fun i v1 v165 k0_hw18 k0_h1 => k0_hw18.2.2 k0_h1 (k0_off20_inb i v1 v165 k0_hw18 k0_h1)

def k0_mult19 (v172 : BitVec 32) : BitVec 32 :=
  v172

def k0_off21 (v172 : BitVec 32) : Fin 2 → Nat :=
  let v173 : BitVec 32 := v172
  let c0_i32_98 : BitVec 32 := 0#32
  ![v173.toNat, 0]

def k0_chk19 (i : grid0.Coords) (v1 : BitVec 32) (v172 : BitVec 32) : Prop :=
  (∀ (k0_h1 : k0_cond1 i v1 = 1#1), 16 ∣ (k0_mult19 v172).toNat) ∧
  (∀ (k0_h1 : k0_cond1 i v1 = 1#1), ∀ a, (k0_off21 v172) a + S16x1024.size a ≤ S50688x1024.size a) ∧
  (∀ (k0_h1 : k0_cond1 i v1 = 1#1), ∀ (hinb : ∀ a, (k0_off21 v172) a + S16x1024.size a ≤ S50688x1024.size a), (Rect.unit (s := S50688x1024) (k0_off21 v172) S16x1024.size hinb).WholeWords (EltTy.packing .bf16))
theorem k0_mult19_dvd : ∀ (i : grid0.Coords) (v1 : BitVec 32) (v172 : BitVec 32) (k0_hw19 : k0_chk19 i v1 v172), ∀ (k0_h1 : k0_cond1 i v1 = 1#1), 16 ∣ (k0_mult19 v172).toNat := fun i v1 v172 k0_hw19 k0_h1 => k0_hw19.1 k0_h1
theorem k0_off21_inb : ∀ (i : grid0.Coords) (v1 : BitVec 32) (v172 : BitVec 32) (k0_hw19 : k0_chk19 i v1 v172), ∀ (k0_h1 : k0_cond1 i v1 = 1#1), ∀ a, (k0_off21 v172) a + S16x1024.size a ≤ S50688x1024.size a := fun i v1 v172 k0_hw19 k0_h1 => k0_hw19.2.1 k0_h1
theorem k0_off21_wordsbf16 : ∀ (i : grid0.Coords) (v1 : BitVec 32) (v172 : BitVec 32) (k0_hw19 : k0_chk19 i v1 v172), ∀ (k0_h1 : k0_cond1 i v1 = 1#1), (Rect.unit (s := S50688x1024) (k0_off21 v172) S16x1024.size (k0_off21_inb i v1 v172 k0_hw19 k0_h1)).WholeWords (EltTy.packing .bf16) := fun i v1 v172 k0_hw19 k0_h1 => k0_hw19.2.2 k0_h1 (k0_off21_inb i v1 v172 k0_hw19 k0_h1)

def k0_mult20 (v179 : BitVec 32) : BitVec 32 :=
  v179

def k0_off22 (v179 : BitVec 32) : Fin 2 → Nat :=
  let v180 : BitVec 32 := v179
  let c0_i32_102 : BitVec 32 := 0#32
  ![v180.toNat, 0]

def k0_chk20 (i : grid0.Coords) (v1 : BitVec 32) (v179 : BitVec 32) : Prop :=
  (∀ (k0_h1 : k0_cond1 i v1 = 1#1), 16 ∣ (k0_mult20 v179).toNat) ∧
  (∀ (k0_h1 : k0_cond1 i v1 = 1#1), ∀ a, (k0_off22 v179) a + S16x1024.size a ≤ S50688x1024.size a) ∧
  (∀ (k0_h1 : k0_cond1 i v1 = 1#1), ∀ (hinb : ∀ a, (k0_off22 v179) a + S16x1024.size a ≤ S50688x1024.size a), (Rect.unit (s := S50688x1024) (k0_off22 v179) S16x1024.size hinb).WholeWords (EltTy.packing .bf16))
theorem k0_mult20_dvd : ∀ (i : grid0.Coords) (v1 : BitVec 32) (v179 : BitVec 32) (k0_hw20 : k0_chk20 i v1 v179), ∀ (k0_h1 : k0_cond1 i v1 = 1#1), 16 ∣ (k0_mult20 v179).toNat := fun i v1 v179 k0_hw20 k0_h1 => k0_hw20.1 k0_h1
theorem k0_off22_inb : ∀ (i : grid0.Coords) (v1 : BitVec 32) (v179 : BitVec 32) (k0_hw20 : k0_chk20 i v1 v179), ∀ (k0_h1 : k0_cond1 i v1 = 1#1), ∀ a, (k0_off22 v179) a + S16x1024.size a ≤ S50688x1024.size a := fun i v1 v179 k0_hw20 k0_h1 => k0_hw20.2.1 k0_h1
theorem k0_off22_wordsbf16 : ∀ (i : grid0.Coords) (v1 : BitVec 32) (v179 : BitVec 32) (k0_hw20 : k0_chk20 i v1 v179), ∀ (k0_h1 : k0_cond1 i v1 = 1#1), (Rect.unit (s := S50688x1024) (k0_off22 v179) S16x1024.size (k0_off22_inb i v1 v179 k0_hw20 k0_h1)).WholeWords (EltTy.packing .bf16) := fun i v1 v179 k0_hw20 k0_h1 => k0_hw20.2.2 k0_h1 (k0_off22_inb i v1 v179 k0_hw20 k0_h1)

def k0_mult21 (v186 : BitVec 32) : BitVec 32 :=
  v186

def k0_off23 (v186 : BitVec 32) : Fin 2 → Nat :=
  let v187 : BitVec 32 := v186
  let c0_i32_106 : BitVec 32 := 0#32
  ![v187.toNat, 0]

def k0_chk21 (i : grid0.Coords) (v1 : BitVec 32) (v186 : BitVec 32) : Prop :=
  (∀ (k0_h1 : k0_cond1 i v1 = 1#1), 16 ∣ (k0_mult21 v186).toNat) ∧
  (∀ (k0_h1 : k0_cond1 i v1 = 1#1), ∀ a, (k0_off23 v186) a + S16x1024.size a ≤ S50688x1024.size a) ∧
  (∀ (k0_h1 : k0_cond1 i v1 = 1#1), ∀ (hinb : ∀ a, (k0_off23 v186) a + S16x1024.size a ≤ S50688x1024.size a), (Rect.unit (s := S50688x1024) (k0_off23 v186) S16x1024.size hinb).WholeWords (EltTy.packing .bf16))
theorem k0_mult21_dvd : ∀ (i : grid0.Coords) (v1 : BitVec 32) (v186 : BitVec 32) (k0_hw21 : k0_chk21 i v1 v186), ∀ (k0_h1 : k0_cond1 i v1 = 1#1), 16 ∣ (k0_mult21 v186).toNat := fun i v1 v186 k0_hw21 k0_h1 => k0_hw21.1 k0_h1
theorem k0_off23_inb : ∀ (i : grid0.Coords) (v1 : BitVec 32) (v186 : BitVec 32) (k0_hw21 : k0_chk21 i v1 v186), ∀ (k0_h1 : k0_cond1 i v1 = 1#1), ∀ a, (k0_off23 v186) a + S16x1024.size a ≤ S50688x1024.size a := fun i v1 v186 k0_hw21 k0_h1 => k0_hw21.2.1 k0_h1
theorem k0_off23_wordsbf16 : ∀ (i : grid0.Coords) (v1 : BitVec 32) (v186 : BitVec 32) (k0_hw21 : k0_chk21 i v1 v186), ∀ (k0_h1 : k0_cond1 i v1 = 1#1), (Rect.unit (s := S50688x1024) (k0_off23 v186) S16x1024.size (k0_off23_inb i v1 v186 k0_hw21 k0_h1)).WholeWords (EltTy.packing .bf16) := fun i v1 v186 k0_hw21 k0_h1 => k0_hw21.2.2 k0_h1 (k0_off23_inb i v1 v186 k0_hw21 k0_h1)

def k0_mult22 (v193 : BitVec 32) : BitVec 32 :=
  v193

def k0_off24 (v193 : BitVec 32) : Fin 2 → Nat :=
  let v194 : BitVec 32 := v193
  let c0_i32_110 : BitVec 32 := 0#32
  ![v194.toNat, 0]

def k0_chk22 (i : grid0.Coords) (v1 : BitVec 32) (v193 : BitVec 32) : Prop :=
  (∀ (k0_h1 : k0_cond1 i v1 = 1#1), 16 ∣ (k0_mult22 v193).toNat) ∧
  (∀ (k0_h1 : k0_cond1 i v1 = 1#1), ∀ a, (k0_off24 v193) a + S16x1024.size a ≤ S50688x1024.size a) ∧
  (∀ (k0_h1 : k0_cond1 i v1 = 1#1), ∀ (hinb : ∀ a, (k0_off24 v193) a + S16x1024.size a ≤ S50688x1024.size a), (Rect.unit (s := S50688x1024) (k0_off24 v193) S16x1024.size hinb).WholeWords (EltTy.packing .bf16))
theorem k0_mult22_dvd : ∀ (i : grid0.Coords) (v1 : BitVec 32) (v193 : BitVec 32) (k0_hw22 : k0_chk22 i v1 v193), ∀ (k0_h1 : k0_cond1 i v1 = 1#1), 16 ∣ (k0_mult22 v193).toNat := fun i v1 v193 k0_hw22 k0_h1 => k0_hw22.1 k0_h1
theorem k0_off24_inb : ∀ (i : grid0.Coords) (v1 : BitVec 32) (v193 : BitVec 32) (k0_hw22 : k0_chk22 i v1 v193), ∀ (k0_h1 : k0_cond1 i v1 = 1#1), ∀ a, (k0_off24 v193) a + S16x1024.size a ≤ S50688x1024.size a := fun i v1 v193 k0_hw22 k0_h1 => k0_hw22.2.1 k0_h1
theorem k0_off24_wordsbf16 : ∀ (i : grid0.Coords) (v1 : BitVec 32) (v193 : BitVec 32) (k0_hw22 : k0_chk22 i v1 v193), ∀ (k0_h1 : k0_cond1 i v1 = 1#1), (Rect.unit (s := S50688x1024) (k0_off24 v193) S16x1024.size (k0_off24_inb i v1 v193 k0_hw22 k0_h1)).WholeWords (EltTy.packing .bf16) := fun i v1 v193 k0_hw22 k0_h1 => k0_hw22.2.2 k0_h1 (k0_off24_inb i v1 v193 k0_hw22 k0_h1)

def k0_mult23 (v200 : BitVec 32) : BitVec 32 :=
  v200

def k0_off25 (v200 : BitVec 32) : Fin 2 → Nat :=
  let v201 : BitVec 32 := v200
  let c0_i32_114 : BitVec 32 := 0#32
  ![v201.toNat, 0]

def k0_chk23 (i : grid0.Coords) (v1 : BitVec 32) (v200 : BitVec 32) : Prop :=
  (∀ (k0_h1 : k0_cond1 i v1 = 1#1), 16 ∣ (k0_mult23 v200).toNat) ∧
  (∀ (k0_h1 : k0_cond1 i v1 = 1#1), ∀ a, (k0_off25 v200) a + S16x1024.size a ≤ S50688x1024.size a) ∧
  (∀ (k0_h1 : k0_cond1 i v1 = 1#1), ∀ (hinb : ∀ a, (k0_off25 v200) a + S16x1024.size a ≤ S50688x1024.size a), (Rect.unit (s := S50688x1024) (k0_off25 v200) S16x1024.size hinb).WholeWords (EltTy.packing .bf16))
theorem k0_mult23_dvd : ∀ (i : grid0.Coords) (v1 : BitVec 32) (v200 : BitVec 32) (k0_hw23 : k0_chk23 i v1 v200), ∀ (k0_h1 : k0_cond1 i v1 = 1#1), 16 ∣ (k0_mult23 v200).toNat := fun i v1 v200 k0_hw23 k0_h1 => k0_hw23.1 k0_h1
theorem k0_off25_inb : ∀ (i : grid0.Coords) (v1 : BitVec 32) (v200 : BitVec 32) (k0_hw23 : k0_chk23 i v1 v200), ∀ (k0_h1 : k0_cond1 i v1 = 1#1), ∀ a, (k0_off25 v200) a + S16x1024.size a ≤ S50688x1024.size a := fun i v1 v200 k0_hw23 k0_h1 => k0_hw23.2.1 k0_h1
theorem k0_off25_wordsbf16 : ∀ (i : grid0.Coords) (v1 : BitVec 32) (v200 : BitVec 32) (k0_hw23 : k0_chk23 i v1 v200), ∀ (k0_h1 : k0_cond1 i v1 = 1#1), (Rect.unit (s := S50688x1024) (k0_off25 v200) S16x1024.size (k0_off25_inb i v1 v200 k0_hw23 k0_h1)).WholeWords (EltTy.packing .bf16) := fun i v1 v200 k0_hw23 k0_h1 => k0_hw23.2.2 k0_h1 (k0_off25_inb i v1 v200 k0_hw23 k0_h1)

def k0_mult24 (v207 : BitVec 32) : BitVec 32 :=
  v207

def k0_off26 (v207 : BitVec 32) : Fin 2 → Nat :=
  let v208 : BitVec 32 := v207
  let c0_i32_118 : BitVec 32 := 0#32
  ![v208.toNat, 0]

def k0_chk24 (i : grid0.Coords) (v1 : BitVec 32) (v207 : BitVec 32) : Prop :=
  (∀ (k0_h1 : k0_cond1 i v1 = 1#1), 16 ∣ (k0_mult24 v207).toNat) ∧
  (∀ (k0_h1 : k0_cond1 i v1 = 1#1), ∀ a, (k0_off26 v207) a + S16x1024.size a ≤ S50688x1024.size a) ∧
  (∀ (k0_h1 : k0_cond1 i v1 = 1#1), ∀ (hinb : ∀ a, (k0_off26 v207) a + S16x1024.size a ≤ S50688x1024.size a), (Rect.unit (s := S50688x1024) (k0_off26 v207) S16x1024.size hinb).WholeWords (EltTy.packing .bf16))
theorem k0_mult24_dvd : ∀ (i : grid0.Coords) (v1 : BitVec 32) (v207 : BitVec 32) (k0_hw24 : k0_chk24 i v1 v207), ∀ (k0_h1 : k0_cond1 i v1 = 1#1), 16 ∣ (k0_mult24 v207).toNat := fun i v1 v207 k0_hw24 k0_h1 => k0_hw24.1 k0_h1
theorem k0_off26_inb : ∀ (i : grid0.Coords) (v1 : BitVec 32) (v207 : BitVec 32) (k0_hw24 : k0_chk24 i v1 v207), ∀ (k0_h1 : k0_cond1 i v1 = 1#1), ∀ a, (k0_off26 v207) a + S16x1024.size a ≤ S50688x1024.size a := fun i v1 v207 k0_hw24 k0_h1 => k0_hw24.2.1 k0_h1
theorem k0_off26_wordsbf16 : ∀ (i : grid0.Coords) (v1 : BitVec 32) (v207 : BitVec 32) (k0_hw24 : k0_chk24 i v1 v207), ∀ (k0_h1 : k0_cond1 i v1 = 1#1), (Rect.unit (s := S50688x1024) (k0_off26 v207) S16x1024.size (k0_off26_inb i v1 v207 k0_hw24 k0_h1)).WholeWords (EltTy.packing .bf16) := fun i v1 v207 k0_hw24 k0_h1 => k0_hw24.2.2 k0_h1 (k0_off26_inb i v1 v207 k0_hw24 k0_h1)

def k0_mult25 (v214 : BitVec 32) : BitVec 32 :=
  v214

def k0_off27 (v214 : BitVec 32) : Fin 2 → Nat :=
  let v215 : BitVec 32 := v214
  let c0_i32_122 : BitVec 32 := 0#32
  ![v215.toNat, 0]

def k0_chk25 (i : grid0.Coords) (v1 : BitVec 32) (v214 : BitVec 32) : Prop :=
  (∀ (k0_h1 : k0_cond1 i v1 = 1#1), 16 ∣ (k0_mult25 v214).toNat) ∧
  (∀ (k0_h1 : k0_cond1 i v1 = 1#1), ∀ a, (k0_off27 v214) a + S16x1024.size a ≤ S50688x1024.size a) ∧
  (∀ (k0_h1 : k0_cond1 i v1 = 1#1), ∀ (hinb : ∀ a, (k0_off27 v214) a + S16x1024.size a ≤ S50688x1024.size a), (Rect.unit (s := S50688x1024) (k0_off27 v214) S16x1024.size hinb).WholeWords (EltTy.packing .bf16))
theorem k0_mult25_dvd : ∀ (i : grid0.Coords) (v1 : BitVec 32) (v214 : BitVec 32) (k0_hw25 : k0_chk25 i v1 v214), ∀ (k0_h1 : k0_cond1 i v1 = 1#1), 16 ∣ (k0_mult25 v214).toNat := fun i v1 v214 k0_hw25 k0_h1 => k0_hw25.1 k0_h1
theorem k0_off27_inb : ∀ (i : grid0.Coords) (v1 : BitVec 32) (v214 : BitVec 32) (k0_hw25 : k0_chk25 i v1 v214), ∀ (k0_h1 : k0_cond1 i v1 = 1#1), ∀ a, (k0_off27 v214) a + S16x1024.size a ≤ S50688x1024.size a := fun i v1 v214 k0_hw25 k0_h1 => k0_hw25.2.1 k0_h1
theorem k0_off27_wordsbf16 : ∀ (i : grid0.Coords) (v1 : BitVec 32) (v214 : BitVec 32) (k0_hw25 : k0_chk25 i v1 v214), ∀ (k0_h1 : k0_cond1 i v1 = 1#1), (Rect.unit (s := S50688x1024) (k0_off27 v214) S16x1024.size (k0_off27_inb i v1 v214 k0_hw25 k0_h1)).WholeWords (EltTy.packing .bf16) := fun i v1 v214 k0_hw25 k0_h1 => k0_hw25.2.2 k0_h1 (k0_off27_inb i v1 v214 k0_hw25 k0_h1)

def k0_mult26 (v221 : BitVec 32) : BitVec 32 :=
  v221

def k0_off28 (v221 : BitVec 32) : Fin 2 → Nat :=
  let v222 : BitVec 32 := v221
  let c0_i32_126 : BitVec 32 := 0#32
  ![v222.toNat, 0]

def k0_chk26 (i : grid0.Coords) (v1 : BitVec 32) (v221 : BitVec 32) : Prop :=
  (∀ (k0_h1 : k0_cond1 i v1 = 1#1), 16 ∣ (k0_mult26 v221).toNat) ∧
  (∀ (k0_h1 : k0_cond1 i v1 = 1#1), ∀ a, (k0_off28 v221) a + S16x1024.size a ≤ S50688x1024.size a) ∧
  (∀ (k0_h1 : k0_cond1 i v1 = 1#1), ∀ (hinb : ∀ a, (k0_off28 v221) a + S16x1024.size a ≤ S50688x1024.size a), (Rect.unit (s := S50688x1024) (k0_off28 v221) S16x1024.size hinb).WholeWords (EltTy.packing .bf16))
theorem k0_mult26_dvd : ∀ (i : grid0.Coords) (v1 : BitVec 32) (v221 : BitVec 32) (k0_hw26 : k0_chk26 i v1 v221), ∀ (k0_h1 : k0_cond1 i v1 = 1#1), 16 ∣ (k0_mult26 v221).toNat := fun i v1 v221 k0_hw26 k0_h1 => k0_hw26.1 k0_h1
theorem k0_off28_inb : ∀ (i : grid0.Coords) (v1 : BitVec 32) (v221 : BitVec 32) (k0_hw26 : k0_chk26 i v1 v221), ∀ (k0_h1 : k0_cond1 i v1 = 1#1), ∀ a, (k0_off28 v221) a + S16x1024.size a ≤ S50688x1024.size a := fun i v1 v221 k0_hw26 k0_h1 => k0_hw26.2.1 k0_h1
theorem k0_off28_wordsbf16 : ∀ (i : grid0.Coords) (v1 : BitVec 32) (v221 : BitVec 32) (k0_hw26 : k0_chk26 i v1 v221), ∀ (k0_h1 : k0_cond1 i v1 = 1#1), (Rect.unit (s := S50688x1024) (k0_off28 v221) S16x1024.size (k0_off28_inb i v1 v221 k0_hw26 k0_h1)).WholeWords (EltTy.packing .bf16) := fun i v1 v221 k0_hw26 k0_h1 => k0_hw26.2.2 k0_h1 (k0_off28_inb i v1 v221 k0_hw26 k0_h1)

def k0_mult27 (v228 : BitVec 32) : BitVec 32 :=
  v228

def k0_off29 (v228 : BitVec 32) : Fin 2 → Nat :=
  let v229 : BitVec 32 := v228
  let c0_i32_130 : BitVec 32 := 0#32
  ![v229.toNat, 0]

def k0_chk27 (i : grid0.Coords) (v1 : BitVec 32) (v228 : BitVec 32) : Prop :=
  (∀ (k0_h1 : k0_cond1 i v1 = 1#1), 16 ∣ (k0_mult27 v228).toNat) ∧
  (∀ (k0_h1 : k0_cond1 i v1 = 1#1), ∀ a, (k0_off29 v228) a + S16x1024.size a ≤ S50688x1024.size a) ∧
  (∀ (k0_h1 : k0_cond1 i v1 = 1#1), ∀ (hinb : ∀ a, (k0_off29 v228) a + S16x1024.size a ≤ S50688x1024.size a), (Rect.unit (s := S50688x1024) (k0_off29 v228) S16x1024.size hinb).WholeWords (EltTy.packing .bf16))
theorem k0_mult27_dvd : ∀ (i : grid0.Coords) (v1 : BitVec 32) (v228 : BitVec 32) (k0_hw27 : k0_chk27 i v1 v228), ∀ (k0_h1 : k0_cond1 i v1 = 1#1), 16 ∣ (k0_mult27 v228).toNat := fun i v1 v228 k0_hw27 k0_h1 => k0_hw27.1 k0_h1
theorem k0_off29_inb : ∀ (i : grid0.Coords) (v1 : BitVec 32) (v228 : BitVec 32) (k0_hw27 : k0_chk27 i v1 v228), ∀ (k0_h1 : k0_cond1 i v1 = 1#1), ∀ a, (k0_off29 v228) a + S16x1024.size a ≤ S50688x1024.size a := fun i v1 v228 k0_hw27 k0_h1 => k0_hw27.2.1 k0_h1
theorem k0_off29_wordsbf16 : ∀ (i : grid0.Coords) (v1 : BitVec 32) (v228 : BitVec 32) (k0_hw27 : k0_chk27 i v1 v228), ∀ (k0_h1 : k0_cond1 i v1 = 1#1), (Rect.unit (s := S50688x1024) (k0_off29 v228) S16x1024.size (k0_off29_inb i v1 v228 k0_hw27 k0_h1)).WholeWords (EltTy.packing .bf16) := fun i v1 v228 k0_hw27 k0_h1 => k0_hw27.2.2 k0_h1 (k0_off29_inb i v1 v228 k0_hw27 k0_h1)

def k0_mult28 (v235 : BitVec 32) : BitVec 32 :=
  v235

def k0_off30 (v235 : BitVec 32) : Fin 2 → Nat :=
  let v236 : BitVec 32 := v235
  let c0_i32_134 : BitVec 32 := 0#32
  ![v236.toNat, 0]

def k0_chk28 (i : grid0.Coords) (v1 : BitVec 32) (v235 : BitVec 32) : Prop :=
  (∀ (k0_h1 : k0_cond1 i v1 = 1#1), 16 ∣ (k0_mult28 v235).toNat) ∧
  (∀ (k0_h1 : k0_cond1 i v1 = 1#1), ∀ a, (k0_off30 v235) a + S16x1024.size a ≤ S50688x1024.size a) ∧
  (∀ (k0_h1 : k0_cond1 i v1 = 1#1), ∀ (hinb : ∀ a, (k0_off30 v235) a + S16x1024.size a ≤ S50688x1024.size a), (Rect.unit (s := S50688x1024) (k0_off30 v235) S16x1024.size hinb).WholeWords (EltTy.packing .bf16))
theorem k0_mult28_dvd : ∀ (i : grid0.Coords) (v1 : BitVec 32) (v235 : BitVec 32) (k0_hw28 : k0_chk28 i v1 v235), ∀ (k0_h1 : k0_cond1 i v1 = 1#1), 16 ∣ (k0_mult28 v235).toNat := fun i v1 v235 k0_hw28 k0_h1 => k0_hw28.1 k0_h1
theorem k0_off30_inb : ∀ (i : grid0.Coords) (v1 : BitVec 32) (v235 : BitVec 32) (k0_hw28 : k0_chk28 i v1 v235), ∀ (k0_h1 : k0_cond1 i v1 = 1#1), ∀ a, (k0_off30 v235) a + S16x1024.size a ≤ S50688x1024.size a := fun i v1 v235 k0_hw28 k0_h1 => k0_hw28.2.1 k0_h1
theorem k0_off30_wordsbf16 : ∀ (i : grid0.Coords) (v1 : BitVec 32) (v235 : BitVec 32) (k0_hw28 : k0_chk28 i v1 v235), ∀ (k0_h1 : k0_cond1 i v1 = 1#1), (Rect.unit (s := S50688x1024) (k0_off30 v235) S16x1024.size (k0_off30_inb i v1 v235 k0_hw28 k0_h1)).WholeWords (EltTy.packing .bf16) := fun i v1 v235 k0_hw28 k0_h1 => k0_hw28.2.2 k0_h1 (k0_off30_inb i v1 v235 k0_hw28 k0_h1)

def k0_mult29 (v242 : BitVec 32) : BitVec 32 :=
  v242

def k0_off31 (v242 : BitVec 32) : Fin 2 → Nat :=
  let v243 : BitVec 32 := v242
  let c0_i32_138 : BitVec 32 := 0#32
  ![v243.toNat, 0]

def k0_chk29 (i : grid0.Coords) (v1 : BitVec 32) (v242 : BitVec 32) : Prop :=
  (∀ (k0_h1 : k0_cond1 i v1 = 1#1), 16 ∣ (k0_mult29 v242).toNat) ∧
  (∀ (k0_h1 : k0_cond1 i v1 = 1#1), ∀ a, (k0_off31 v242) a + S16x1024.size a ≤ S50688x1024.size a) ∧
  (∀ (k0_h1 : k0_cond1 i v1 = 1#1), ∀ (hinb : ∀ a, (k0_off31 v242) a + S16x1024.size a ≤ S50688x1024.size a), (Rect.unit (s := S50688x1024) (k0_off31 v242) S16x1024.size hinb).WholeWords (EltTy.packing .bf16))
theorem k0_mult29_dvd : ∀ (i : grid0.Coords) (v1 : BitVec 32) (v242 : BitVec 32) (k0_hw29 : k0_chk29 i v1 v242), ∀ (k0_h1 : k0_cond1 i v1 = 1#1), 16 ∣ (k0_mult29 v242).toNat := fun i v1 v242 k0_hw29 k0_h1 => k0_hw29.1 k0_h1
theorem k0_off31_inb : ∀ (i : grid0.Coords) (v1 : BitVec 32) (v242 : BitVec 32) (k0_hw29 : k0_chk29 i v1 v242), ∀ (k0_h1 : k0_cond1 i v1 = 1#1), ∀ a, (k0_off31 v242) a + S16x1024.size a ≤ S50688x1024.size a := fun i v1 v242 k0_hw29 k0_h1 => k0_hw29.2.1 k0_h1
theorem k0_off31_wordsbf16 : ∀ (i : grid0.Coords) (v1 : BitVec 32) (v242 : BitVec 32) (k0_hw29 : k0_chk29 i v1 v242), ∀ (k0_h1 : k0_cond1 i v1 = 1#1), (Rect.unit (s := S50688x1024) (k0_off31 v242) S16x1024.size (k0_off31_inb i v1 v242 k0_hw29 k0_h1)).WholeWords (EltTy.packing .bf16) := fun i v1 v242 k0_hw29 k0_h1 => k0_hw29.2.2 k0_h1 (k0_off31_inb i v1 v242 k0_hw29 k0_h1)

def k0_mult30 (v249 : BitVec 32) : BitVec 32 :=
  v249

def k0_off32 (v249 : BitVec 32) : Fin 2 → Nat :=
  let v250 : BitVec 32 := v249
  let c0_i32_142 : BitVec 32 := 0#32
  ![v250.toNat, 0]

def k0_chk30 (i : grid0.Coords) (v1 : BitVec 32) (v249 : BitVec 32) : Prop :=
  (∀ (k0_h1 : k0_cond1 i v1 = 1#1), 16 ∣ (k0_mult30 v249).toNat) ∧
  (∀ (k0_h1 : k0_cond1 i v1 = 1#1), ∀ a, (k0_off32 v249) a + S16x1024.size a ≤ S50688x1024.size a) ∧
  (∀ (k0_h1 : k0_cond1 i v1 = 1#1), ∀ (hinb : ∀ a, (k0_off32 v249) a + S16x1024.size a ≤ S50688x1024.size a), (Rect.unit (s := S50688x1024) (k0_off32 v249) S16x1024.size hinb).WholeWords (EltTy.packing .bf16))
theorem k0_mult30_dvd : ∀ (i : grid0.Coords) (v1 : BitVec 32) (v249 : BitVec 32) (k0_hw30 : k0_chk30 i v1 v249), ∀ (k0_h1 : k0_cond1 i v1 = 1#1), 16 ∣ (k0_mult30 v249).toNat := fun i v1 v249 k0_hw30 k0_h1 => k0_hw30.1 k0_h1
theorem k0_off32_inb : ∀ (i : grid0.Coords) (v1 : BitVec 32) (v249 : BitVec 32) (k0_hw30 : k0_chk30 i v1 v249), ∀ (k0_h1 : k0_cond1 i v1 = 1#1), ∀ a, (k0_off32 v249) a + S16x1024.size a ≤ S50688x1024.size a := fun i v1 v249 k0_hw30 k0_h1 => k0_hw30.2.1 k0_h1
theorem k0_off32_wordsbf16 : ∀ (i : grid0.Coords) (v1 : BitVec 32) (v249 : BitVec 32) (k0_hw30 : k0_chk30 i v1 v249), ∀ (k0_h1 : k0_cond1 i v1 = 1#1), (Rect.unit (s := S50688x1024) (k0_off32 v249) S16x1024.size (k0_off32_inb i v1 v249 k0_hw30 k0_h1)).WholeWords (EltTy.packing .bf16) := fun i v1 v249 k0_hw30 k0_h1 => k0_hw30.2.2 k0_h1 (k0_off32_inb i v1 v249 k0_hw30 k0_h1)

def k0_mult31 (v256 : BitVec 32) : BitVec 32 :=
  v256

def k0_off33 (v256 : BitVec 32) : Fin 2 → Nat :=
  let v257 : BitVec 32 := v256
  let c0_i32_146 : BitVec 32 := 0#32
  ![v257.toNat, 0]

def k0_chk31 (i : grid0.Coords) (v1 : BitVec 32) (v256 : BitVec 32) : Prop :=
  (∀ (k0_h1 : k0_cond1 i v1 = 1#1), 16 ∣ (k0_mult31 v256).toNat) ∧
  (∀ (k0_h1 : k0_cond1 i v1 = 1#1), ∀ a, (k0_off33 v256) a + S16x1024.size a ≤ S50688x1024.size a) ∧
  (∀ (k0_h1 : k0_cond1 i v1 = 1#1), ∀ (hinb : ∀ a, (k0_off33 v256) a + S16x1024.size a ≤ S50688x1024.size a), (Rect.unit (s := S50688x1024) (k0_off33 v256) S16x1024.size hinb).WholeWords (EltTy.packing .bf16))
theorem k0_mult31_dvd : ∀ (i : grid0.Coords) (v1 : BitVec 32) (v256 : BitVec 32) (k0_hw31 : k0_chk31 i v1 v256), ∀ (k0_h1 : k0_cond1 i v1 = 1#1), 16 ∣ (k0_mult31 v256).toNat := fun i v1 v256 k0_hw31 k0_h1 => k0_hw31.1 k0_h1
theorem k0_off33_inb : ∀ (i : grid0.Coords) (v1 : BitVec 32) (v256 : BitVec 32) (k0_hw31 : k0_chk31 i v1 v256), ∀ (k0_h1 : k0_cond1 i v1 = 1#1), ∀ a, (k0_off33 v256) a + S16x1024.size a ≤ S50688x1024.size a := fun i v1 v256 k0_hw31 k0_h1 => k0_hw31.2.1 k0_h1
theorem k0_off33_wordsbf16 : ∀ (i : grid0.Coords) (v1 : BitVec 32) (v256 : BitVec 32) (k0_hw31 : k0_chk31 i v1 v256), ∀ (k0_h1 : k0_cond1 i v1 = 1#1), (Rect.unit (s := S50688x1024) (k0_off33 v256) S16x1024.size (k0_off33_inb i v1 v256 k0_hw31 k0_h1)).WholeWords (EltTy.packing .bf16) := fun i v1 v256 k0_hw31 k0_h1 => k0_hw31.2.2 k0_h1 (k0_off33_inb i v1 v256 k0_hw31 k0_h1)

def k0_mult32 (v263 : BitVec 32) : BitVec 32 :=
  v263

def k0_off34 (v263 : BitVec 32) : Fin 2 → Nat :=
  let v264 : BitVec 32 := v263
  let c0_i32_150 : BitVec 32 := 0#32
  ![v264.toNat, 0]

def k0_chk32 (i : grid0.Coords) (v1 : BitVec 32) (v263 : BitVec 32) : Prop :=
  (∀ (k0_h1 : k0_cond1 i v1 = 1#1), 16 ∣ (k0_mult32 v263).toNat) ∧
  (∀ (k0_h1 : k0_cond1 i v1 = 1#1), ∀ a, (k0_off34 v263) a + S16x1024.size a ≤ S50688x1024.size a) ∧
  (∀ (k0_h1 : k0_cond1 i v1 = 1#1), ∀ (hinb : ∀ a, (k0_off34 v263) a + S16x1024.size a ≤ S50688x1024.size a), (Rect.unit (s := S50688x1024) (k0_off34 v263) S16x1024.size hinb).WholeWords (EltTy.packing .bf16))
theorem k0_mult32_dvd : ∀ (i : grid0.Coords) (v1 : BitVec 32) (v263 : BitVec 32) (k0_hw32 : k0_chk32 i v1 v263), ∀ (k0_h1 : k0_cond1 i v1 = 1#1), 16 ∣ (k0_mult32 v263).toNat := fun i v1 v263 k0_hw32 k0_h1 => k0_hw32.1 k0_h1
theorem k0_off34_inb : ∀ (i : grid0.Coords) (v1 : BitVec 32) (v263 : BitVec 32) (k0_hw32 : k0_chk32 i v1 v263), ∀ (k0_h1 : k0_cond1 i v1 = 1#1), ∀ a, (k0_off34 v263) a + S16x1024.size a ≤ S50688x1024.size a := fun i v1 v263 k0_hw32 k0_h1 => k0_hw32.2.1 k0_h1
theorem k0_off34_wordsbf16 : ∀ (i : grid0.Coords) (v1 : BitVec 32) (v263 : BitVec 32) (k0_hw32 : k0_chk32 i v1 v263), ∀ (k0_h1 : k0_cond1 i v1 = 1#1), (Rect.unit (s := S50688x1024) (k0_off34 v263) S16x1024.size (k0_off34_inb i v1 v263 k0_hw32 k0_h1)).WholeWords (EltTy.packing .bf16) := fun i v1 v263 k0_hw32 k0_h1 => k0_hw32.2.2 k0_h1 (k0_off34_inb i v1 v263 k0_hw32 k0_h1)

def k0_off35 (i : grid0.Coords) : Fin 1 → Nat :=
  let arg0 : BitVec 32 := BitVec.ofNat 32 (i 0).val
  let c1_i32_8 : BitVec 32 := 1#32
  let v22 : BitVec 32 := Scalar.addi arg0 c1_i32_8
  let c128_i32_9 : BitVec 32 := 128#32
  let v23 : BitVec 32 := Scalar.minsi v22 c128_i32_9
  let v24 : Index := Scalar.indexCast v23
  ![v24.toNat]
def k0_off36 (i : grid0.Coords) : Fin 1 → Nat :=
  let arg0 : BitVec 32 := BitVec.ofNat 32 (i 0).val
  let c1_i32_22 : BitVec 32 := 1#32
  let v47 : BitVec 32 := Scalar.addi arg0 c1_i32_22
  let c32_i32 : BitVec 32 := 32#32
  let v48 : BitVec 32 := Scalar.muli v47 c32_i32
  let c0_i32_23 : BitVec 32 := 0#32
  let v49 : BitVec 32 := Scalar.addi v48 c0_i32_23
  let v50 : Index := Scalar.indexCast v49
  ![v50.toNat]
def k0_cond2 (i : grid0.Coords) (v25 : BitVec 32) : BitVec 1 :=
  let arg0 : BitVec 32 := BitVec.ofNat 32 (i 0).val
  let c128_i32 : BitVec 32 := 128#32
  let v21 : BitVec 1 := Scalar.cmpi .slt arg0 c128_i32
  let c0_i32_10 : BitVec 32 := 0#32
  let v26 : BitVec 1 := Scalar.cmpi .sge v25 c0_i32_10
  let v27 : BitVec 1 := Scalar.andi v21 v26
  let v28 : BitVec 32 := Scalar.extui v27
  let c0_i32_11 : BitVec 32 := 0#32
  let v29 : BitVec 1 := Scalar.cmpi .ne v28 c0_i32_11
  v29

def k0_mult33 (v51 : BitVec 32) : BitVec 32 :=
  v51

def k0_off37 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off38 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c0_i32_24 : BitVec 32 := 0#32
  let c0_i32_25 : BitVec 32 := 0#32
  ![v46.toNat, 0, 0]
def k0_off39 (v51 : BitVec 32) : Fin 2 → Nat :=
  let v52 : BitVec 32 := v51
  let c0_i32_26 : BitVec 32 := 0#32
  ![v52.toNat, 0]

def k0_chk34 (i : grid0.Coords) (v25 : BitVec 32) (v51 : BitVec 32) : Prop :=
  (∀ (k0_h2 : k0_cond2 i v25 = 1#1), 16 ∣ (k0_mult33 v51).toNat) ∧
  (∀ (k0_h2 : k0_cond2 i v25 = 1#1), ∀ a, (k0_off39 v51) a + S16x1024.size a ≤ S50688x1024.size a) ∧
  (∀ (k0_h2 : k0_cond2 i v25 = 1#1), ∀ (hinb : ∀ a, (k0_off39 v51) a + S16x1024.size a ≤ S50688x1024.size a), (Rect.unit (s := S50688x1024) (k0_off39 v51) S16x1024.size hinb).WholeWords (EltTy.packing .bf16))
theorem k0_mult33_dvd : ∀ (i : grid0.Coords) (v25 : BitVec 32) (v51 : BitVec 32) (k0_hw34 : k0_chk34 i v25 v51), ∀ (k0_h2 : k0_cond2 i v25 = 1#1), 16 ∣ (k0_mult33 v51).toNat := fun i v25 v51 k0_hw34 k0_h2 => k0_hw34.1 k0_h2
theorem k0_off39_inb : ∀ (i : grid0.Coords) (v25 : BitVec 32) (v51 : BitVec 32) (k0_hw34 : k0_chk34 i v25 v51), ∀ (k0_h2 : k0_cond2 i v25 = 1#1), ∀ a, (k0_off39 v51) a + S16x1024.size a ≤ S50688x1024.size a := fun i v25 v51 k0_hw34 k0_h2 => k0_hw34.2.1 k0_h2
theorem k0_off39_wordsbf16 : ∀ (i : grid0.Coords) (v25 : BitVec 32) (v51 : BitVec 32) (k0_hw34 : k0_chk34 i v25 v51), ∀ (k0_h2 : k0_cond2 i v25 = 1#1), (Rect.unit (s := S50688x1024) (k0_off39 v51) S16x1024.size (k0_off39_inb i v25 v51 k0_hw34 k0_h2)).WholeWords (EltTy.packing .bf16) := fun i v25 v51 k0_hw34 k0_h2 => k0_hw34.2.2 k0_h2 (k0_off39_inb i v25 v51 k0_hw34 k0_h2)

def k0_off40 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_27 : BitVec 32 := 32#32
  let v58 : BitVec 32 := Scalar.muli v47 c32_i32_27
  let c1_i32_28 : BitVec 32 := 1#32
  let v59 : BitVec 32 := Scalar.addi v58 c1_i32_28
  let v60 : Index := Scalar.indexCast v59
  ![v60.toNat]
def k0_mult34 (v61 : BitVec 32) : BitVec 32 :=
  v61

def k0_off41 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off42 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c16_i32 : BitVec 32 := 16#32
  let c0_i32_29 : BitVec 32 := 0#32
  ![v46.toNat, 16, 0]
def k0_off43 (v61 : BitVec 32) : Fin 2 → Nat :=
  let v62 : BitVec 32 := v61
  let c0_i32_30 : BitVec 32 := 0#32
  ![v62.toNat, 0]

def k0_chk35 (i : grid0.Coords) (v25 : BitVec 32) (v61 : BitVec 32) : Prop :=
  (∀ (k0_h2 : k0_cond2 i v25 = 1#1), 16 ∣ (k0_mult34 v61).toNat) ∧
  (∀ (k0_h2 : k0_cond2 i v25 = 1#1), ∀ a, (k0_off43 v61) a + S16x1024.size a ≤ S50688x1024.size a) ∧
  (∀ (k0_h2 : k0_cond2 i v25 = 1#1), ∀ (hinb : ∀ a, (k0_off43 v61) a + S16x1024.size a ≤ S50688x1024.size a), (Rect.unit (s := S50688x1024) (k0_off43 v61) S16x1024.size hinb).WholeWords (EltTy.packing .bf16))
theorem k0_mult34_dvd : ∀ (i : grid0.Coords) (v25 : BitVec 32) (v61 : BitVec 32) (k0_hw35 : k0_chk35 i v25 v61), ∀ (k0_h2 : k0_cond2 i v25 = 1#1), 16 ∣ (k0_mult34 v61).toNat := fun i v25 v61 k0_hw35 k0_h2 => k0_hw35.1 k0_h2
theorem k0_off43_inb : ∀ (i : grid0.Coords) (v25 : BitVec 32) (v61 : BitVec 32) (k0_hw35 : k0_chk35 i v25 v61), ∀ (k0_h2 : k0_cond2 i v25 = 1#1), ∀ a, (k0_off43 v61) a + S16x1024.size a ≤ S50688x1024.size a := fun i v25 v61 k0_hw35 k0_h2 => k0_hw35.2.1 k0_h2
theorem k0_off43_wordsbf16 : ∀ (i : grid0.Coords) (v25 : BitVec 32) (v61 : BitVec 32) (k0_hw35 : k0_chk35 i v25 v61), ∀ (k0_h2 : k0_cond2 i v25 = 1#1), (Rect.unit (s := S50688x1024) (k0_off43 v61) S16x1024.size (k0_off43_inb i v25 v61 k0_hw35 k0_h2)).WholeWords (EltTy.packing .bf16) := fun i v25 v61 k0_hw35 k0_h2 => k0_hw35.2.2 k0_h2 (k0_off43_inb i v25 v61 k0_hw35 k0_h2)

def k0_off44 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_31 : BitVec 32 := 32#32
  let v68 : BitVec 32 := Scalar.muli v47 c32_i32_31
  let c2_i32_32 : BitVec 32 := 2#32
  let v69 : BitVec 32 := Scalar.addi v68 c2_i32_32
  let v70 : Index := Scalar.indexCast v69
  ![v70.toNat]
def k0_mult35 (v71 : BitVec 32) : BitVec 32 :=
  v71

def k0_off45 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off46 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c32_i32_33 : BitVec 32 := 32#32
  let c0_i32_34 : BitVec 32 := 0#32
  ![v46.toNat, 32, 0]
def k0_off47 (v71 : BitVec 32) : Fin 2 → Nat :=
  let v72 : BitVec 32 := v71
  let c0_i32_35 : BitVec 32 := 0#32
  ![v72.toNat, 0]

def k0_chk36 (i : grid0.Coords) (v25 : BitVec 32) (v71 : BitVec 32) : Prop :=
  (∀ (k0_h2 : k0_cond2 i v25 = 1#1), 16 ∣ (k0_mult35 v71).toNat) ∧
  (∀ (k0_h2 : k0_cond2 i v25 = 1#1), ∀ a, (k0_off47 v71) a + S16x1024.size a ≤ S50688x1024.size a) ∧
  (∀ (k0_h2 : k0_cond2 i v25 = 1#1), ∀ (hinb : ∀ a, (k0_off47 v71) a + S16x1024.size a ≤ S50688x1024.size a), (Rect.unit (s := S50688x1024) (k0_off47 v71) S16x1024.size hinb).WholeWords (EltTy.packing .bf16))
theorem k0_mult35_dvd : ∀ (i : grid0.Coords) (v25 : BitVec 32) (v71 : BitVec 32) (k0_hw36 : k0_chk36 i v25 v71), ∀ (k0_h2 : k0_cond2 i v25 = 1#1), 16 ∣ (k0_mult35 v71).toNat := fun i v25 v71 k0_hw36 k0_h2 => k0_hw36.1 k0_h2
theorem k0_off47_inb : ∀ (i : grid0.Coords) (v25 : BitVec 32) (v71 : BitVec 32) (k0_hw36 : k0_chk36 i v25 v71), ∀ (k0_h2 : k0_cond2 i v25 = 1#1), ∀ a, (k0_off47 v71) a + S16x1024.size a ≤ S50688x1024.size a := fun i v25 v71 k0_hw36 k0_h2 => k0_hw36.2.1 k0_h2
theorem k0_off47_wordsbf16 : ∀ (i : grid0.Coords) (v25 : BitVec 32) (v71 : BitVec 32) (k0_hw36 : k0_chk36 i v25 v71), ∀ (k0_h2 : k0_cond2 i v25 = 1#1), (Rect.unit (s := S50688x1024) (k0_off47 v71) S16x1024.size (k0_off47_inb i v25 v71 k0_hw36 k0_h2)).WholeWords (EltTy.packing .bf16) := fun i v25 v71 k0_hw36 k0_h2 => k0_hw36.2.2 k0_h2 (k0_off47_inb i v25 v71 k0_hw36 k0_h2)

def k0_off48 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_36 : BitVec 32 := 32#32
  let v78 : BitVec 32 := Scalar.muli v47 c32_i32_36
  let c3_i32 : BitVec 32 := 3#32
  let v79 : BitVec 32 := Scalar.addi v78 c3_i32
  let v80 : Index := Scalar.indexCast v79
  ![v80.toNat]
def k0_mult36 (v81 : BitVec 32) : BitVec 32 :=
  v81

def k0_off49 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off50 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c48_i32 : BitVec 32 := 48#32
  let c0_i32_37 : BitVec 32 := 0#32
  ![v46.toNat, 48, 0]
def k0_off51 (v81 : BitVec 32) : Fin 2 → Nat :=
  let v82 : BitVec 32 := v81
  let c0_i32_38 : BitVec 32 := 0#32
  ![v82.toNat, 0]

def k0_chk37 (i : grid0.Coords) (v25 : BitVec 32) (v81 : BitVec 32) : Prop :=
  (∀ (k0_h2 : k0_cond2 i v25 = 1#1), 16 ∣ (k0_mult36 v81).toNat) ∧
  (∀ (k0_h2 : k0_cond2 i v25 = 1#1), ∀ a, (k0_off51 v81) a + S16x1024.size a ≤ S50688x1024.size a) ∧
  (∀ (k0_h2 : k0_cond2 i v25 = 1#1), ∀ (hinb : ∀ a, (k0_off51 v81) a + S16x1024.size a ≤ S50688x1024.size a), (Rect.unit (s := S50688x1024) (k0_off51 v81) S16x1024.size hinb).WholeWords (EltTy.packing .bf16))
theorem k0_mult36_dvd : ∀ (i : grid0.Coords) (v25 : BitVec 32) (v81 : BitVec 32) (k0_hw37 : k0_chk37 i v25 v81), ∀ (k0_h2 : k0_cond2 i v25 = 1#1), 16 ∣ (k0_mult36 v81).toNat := fun i v25 v81 k0_hw37 k0_h2 => k0_hw37.1 k0_h2
theorem k0_off51_inb : ∀ (i : grid0.Coords) (v25 : BitVec 32) (v81 : BitVec 32) (k0_hw37 : k0_chk37 i v25 v81), ∀ (k0_h2 : k0_cond2 i v25 = 1#1), ∀ a, (k0_off51 v81) a + S16x1024.size a ≤ S50688x1024.size a := fun i v25 v81 k0_hw37 k0_h2 => k0_hw37.2.1 k0_h2
theorem k0_off51_wordsbf16 : ∀ (i : grid0.Coords) (v25 : BitVec 32) (v81 : BitVec 32) (k0_hw37 : k0_chk37 i v25 v81), ∀ (k0_h2 : k0_cond2 i v25 = 1#1), (Rect.unit (s := S50688x1024) (k0_off51 v81) S16x1024.size (k0_off51_inb i v25 v81 k0_hw37 k0_h2)).WholeWords (EltTy.packing .bf16) := fun i v25 v81 k0_hw37 k0_h2 => k0_hw37.2.2 k0_h2 (k0_off51_inb i v25 v81 k0_hw37 k0_h2)

def k0_off52 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_39 : BitVec 32 := 32#32
  let v88 : BitVec 32 := Scalar.muli v47 c32_i32_39
  let c4_i32 : BitVec 32 := 4#32
  let v89 : BitVec 32 := Scalar.addi v88 c4_i32
  let v90 : Index := Scalar.indexCast v89
  ![v90.toNat]
def k0_mult37 (v91 : BitVec 32) : BitVec 32 :=
  v91

def k0_off53 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off54 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c64_i32 : BitVec 32 := 64#32
  let c0_i32_40 : BitVec 32 := 0#32
  ![v46.toNat, 64, 0]
def k0_off55 (v91 : BitVec 32) : Fin 2 → Nat :=
  let v92 : BitVec 32 := v91
  let c0_i32_41 : BitVec 32 := 0#32
  ![v92.toNat, 0]

def k0_chk38 (i : grid0.Coords) (v25 : BitVec 32) (v91 : BitVec 32) : Prop :=
  (∀ (k0_h2 : k0_cond2 i v25 = 1#1), 16 ∣ (k0_mult37 v91).toNat) ∧
  (∀ (k0_h2 : k0_cond2 i v25 = 1#1), ∀ a, (k0_off55 v91) a + S16x1024.size a ≤ S50688x1024.size a) ∧
  (∀ (k0_h2 : k0_cond2 i v25 = 1#1), ∀ (hinb : ∀ a, (k0_off55 v91) a + S16x1024.size a ≤ S50688x1024.size a), (Rect.unit (s := S50688x1024) (k0_off55 v91) S16x1024.size hinb).WholeWords (EltTy.packing .bf16))
theorem k0_mult37_dvd : ∀ (i : grid0.Coords) (v25 : BitVec 32) (v91 : BitVec 32) (k0_hw38 : k0_chk38 i v25 v91), ∀ (k0_h2 : k0_cond2 i v25 = 1#1), 16 ∣ (k0_mult37 v91).toNat := fun i v25 v91 k0_hw38 k0_h2 => k0_hw38.1 k0_h2
theorem k0_off55_inb : ∀ (i : grid0.Coords) (v25 : BitVec 32) (v91 : BitVec 32) (k0_hw38 : k0_chk38 i v25 v91), ∀ (k0_h2 : k0_cond2 i v25 = 1#1), ∀ a, (k0_off55 v91) a + S16x1024.size a ≤ S50688x1024.size a := fun i v25 v91 k0_hw38 k0_h2 => k0_hw38.2.1 k0_h2
theorem k0_off55_wordsbf16 : ∀ (i : grid0.Coords) (v25 : BitVec 32) (v91 : BitVec 32) (k0_hw38 : k0_chk38 i v25 v91), ∀ (k0_h2 : k0_cond2 i v25 = 1#1), (Rect.unit (s := S50688x1024) (k0_off55 v91) S16x1024.size (k0_off55_inb i v25 v91 k0_hw38 k0_h2)).WholeWords (EltTy.packing .bf16) := fun i v25 v91 k0_hw38 k0_h2 => k0_hw38.2.2 k0_h2 (k0_off55_inb i v25 v91 k0_hw38 k0_h2)

def k0_off56 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_42 : BitVec 32 := 32#32
  let v98 : BitVec 32 := Scalar.muli v47 c32_i32_42
  let c5_i32 : BitVec 32 := 5#32
  let v99 : BitVec 32 := Scalar.addi v98 c5_i32
  let v100 : Index := Scalar.indexCast v99
  ![v100.toNat]
def k0_mult38 (v101 : BitVec 32) : BitVec 32 :=
  v101

def k0_off57 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off58 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c80_i32 : BitVec 32 := 80#32
  let c0_i32_43 : BitVec 32 := 0#32
  ![v46.toNat, 80, 0]
def k0_off59 (v101 : BitVec 32) : Fin 2 → Nat :=
  let v102 : BitVec 32 := v101
  let c0_i32_44 : BitVec 32 := 0#32
  ![v102.toNat, 0]

def k0_chk39 (i : grid0.Coords) (v25 : BitVec 32) (v101 : BitVec 32) : Prop :=
  (∀ (k0_h2 : k0_cond2 i v25 = 1#1), 16 ∣ (k0_mult38 v101).toNat) ∧
  (∀ (k0_h2 : k0_cond2 i v25 = 1#1), ∀ a, (k0_off59 v101) a + S16x1024.size a ≤ S50688x1024.size a) ∧
  (∀ (k0_h2 : k0_cond2 i v25 = 1#1), ∀ (hinb : ∀ a, (k0_off59 v101) a + S16x1024.size a ≤ S50688x1024.size a), (Rect.unit (s := S50688x1024) (k0_off59 v101) S16x1024.size hinb).WholeWords (EltTy.packing .bf16))
theorem k0_mult38_dvd : ∀ (i : grid0.Coords) (v25 : BitVec 32) (v101 : BitVec 32) (k0_hw39 : k0_chk39 i v25 v101), ∀ (k0_h2 : k0_cond2 i v25 = 1#1), 16 ∣ (k0_mult38 v101).toNat := fun i v25 v101 k0_hw39 k0_h2 => k0_hw39.1 k0_h2
theorem k0_off59_inb : ∀ (i : grid0.Coords) (v25 : BitVec 32) (v101 : BitVec 32) (k0_hw39 : k0_chk39 i v25 v101), ∀ (k0_h2 : k0_cond2 i v25 = 1#1), ∀ a, (k0_off59 v101) a + S16x1024.size a ≤ S50688x1024.size a := fun i v25 v101 k0_hw39 k0_h2 => k0_hw39.2.1 k0_h2
theorem k0_off59_wordsbf16 : ∀ (i : grid0.Coords) (v25 : BitVec 32) (v101 : BitVec 32) (k0_hw39 : k0_chk39 i v25 v101), ∀ (k0_h2 : k0_cond2 i v25 = 1#1), (Rect.unit (s := S50688x1024) (k0_off59 v101) S16x1024.size (k0_off59_inb i v25 v101 k0_hw39 k0_h2)).WholeWords (EltTy.packing .bf16) := fun i v25 v101 k0_hw39 k0_h2 => k0_hw39.2.2 k0_h2 (k0_off59_inb i v25 v101 k0_hw39 k0_h2)

def k0_off60 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_45 : BitVec 32 := 32#32
  let v108 : BitVec 32 := Scalar.muli v47 c32_i32_45
  let c6_i32 : BitVec 32 := 6#32
  let v109 : BitVec 32 := Scalar.addi v108 c6_i32
  let v110 : Index := Scalar.indexCast v109
  ![v110.toNat]
def k0_mult39 (v111 : BitVec 32) : BitVec 32 :=
  v111

def k0_off61 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off62 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c96_i32 : BitVec 32 := 96#32
  let c0_i32_46 : BitVec 32 := 0#32
  ![v46.toNat, 96, 0]
def k0_off63 (v111 : BitVec 32) : Fin 2 → Nat :=
  let v112 : BitVec 32 := v111
  let c0_i32_47 : BitVec 32 := 0#32
  ![v112.toNat, 0]

def k0_chk40 (i : grid0.Coords) (v25 : BitVec 32) (v111 : BitVec 32) : Prop :=
  (∀ (k0_h2 : k0_cond2 i v25 = 1#1), 16 ∣ (k0_mult39 v111).toNat) ∧
  (∀ (k0_h2 : k0_cond2 i v25 = 1#1), ∀ a, (k0_off63 v111) a + S16x1024.size a ≤ S50688x1024.size a) ∧
  (∀ (k0_h2 : k0_cond2 i v25 = 1#1), ∀ (hinb : ∀ a, (k0_off63 v111) a + S16x1024.size a ≤ S50688x1024.size a), (Rect.unit (s := S50688x1024) (k0_off63 v111) S16x1024.size hinb).WholeWords (EltTy.packing .bf16))
theorem k0_mult39_dvd : ∀ (i : grid0.Coords) (v25 : BitVec 32) (v111 : BitVec 32) (k0_hw40 : k0_chk40 i v25 v111), ∀ (k0_h2 : k0_cond2 i v25 = 1#1), 16 ∣ (k0_mult39 v111).toNat := fun i v25 v111 k0_hw40 k0_h2 => k0_hw40.1 k0_h2
theorem k0_off63_inb : ∀ (i : grid0.Coords) (v25 : BitVec 32) (v111 : BitVec 32) (k0_hw40 : k0_chk40 i v25 v111), ∀ (k0_h2 : k0_cond2 i v25 = 1#1), ∀ a, (k0_off63 v111) a + S16x1024.size a ≤ S50688x1024.size a := fun i v25 v111 k0_hw40 k0_h2 => k0_hw40.2.1 k0_h2
theorem k0_off63_wordsbf16 : ∀ (i : grid0.Coords) (v25 : BitVec 32) (v111 : BitVec 32) (k0_hw40 : k0_chk40 i v25 v111), ∀ (k0_h2 : k0_cond2 i v25 = 1#1), (Rect.unit (s := S50688x1024) (k0_off63 v111) S16x1024.size (k0_off63_inb i v25 v111 k0_hw40 k0_h2)).WholeWords (EltTy.packing .bf16) := fun i v25 v111 k0_hw40 k0_h2 => k0_hw40.2.2 k0_h2 (k0_off63_inb i v25 v111 k0_hw40 k0_h2)

def k0_off64 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_48 : BitVec 32 := 32#32
  let v118 : BitVec 32 := Scalar.muli v47 c32_i32_48
  let c7_i32 : BitVec 32 := 7#32
  let v119 : BitVec 32 := Scalar.addi v118 c7_i32
  let v120 : Index := Scalar.indexCast v119
  ![v120.toNat]
def k0_mult40 (v121 : BitVec 32) : BitVec 32 :=
  v121

def k0_off65 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off66 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c112_i32 : BitVec 32 := 112#32
  let c0_i32_49 : BitVec 32 := 0#32
  ![v46.toNat, 112, 0]
def k0_off67 (v121 : BitVec 32) : Fin 2 → Nat :=
  let v122 : BitVec 32 := v121
  let c0_i32_50 : BitVec 32 := 0#32
  ![v122.toNat, 0]

def k0_chk41 (i : grid0.Coords) (v25 : BitVec 32) (v121 : BitVec 32) : Prop :=
  (∀ (k0_h2 : k0_cond2 i v25 = 1#1), 16 ∣ (k0_mult40 v121).toNat) ∧
  (∀ (k0_h2 : k0_cond2 i v25 = 1#1), ∀ a, (k0_off67 v121) a + S16x1024.size a ≤ S50688x1024.size a) ∧
  (∀ (k0_h2 : k0_cond2 i v25 = 1#1), ∀ (hinb : ∀ a, (k0_off67 v121) a + S16x1024.size a ≤ S50688x1024.size a), (Rect.unit (s := S50688x1024) (k0_off67 v121) S16x1024.size hinb).WholeWords (EltTy.packing .bf16))
theorem k0_mult40_dvd : ∀ (i : grid0.Coords) (v25 : BitVec 32) (v121 : BitVec 32) (k0_hw41 : k0_chk41 i v25 v121), ∀ (k0_h2 : k0_cond2 i v25 = 1#1), 16 ∣ (k0_mult40 v121).toNat := fun i v25 v121 k0_hw41 k0_h2 => k0_hw41.1 k0_h2
theorem k0_off67_inb : ∀ (i : grid0.Coords) (v25 : BitVec 32) (v121 : BitVec 32) (k0_hw41 : k0_chk41 i v25 v121), ∀ (k0_h2 : k0_cond2 i v25 = 1#1), ∀ a, (k0_off67 v121) a + S16x1024.size a ≤ S50688x1024.size a := fun i v25 v121 k0_hw41 k0_h2 => k0_hw41.2.1 k0_h2
theorem k0_off67_wordsbf16 : ∀ (i : grid0.Coords) (v25 : BitVec 32) (v121 : BitVec 32) (k0_hw41 : k0_chk41 i v25 v121), ∀ (k0_h2 : k0_cond2 i v25 = 1#1), (Rect.unit (s := S50688x1024) (k0_off67 v121) S16x1024.size (k0_off67_inb i v25 v121 k0_hw41 k0_h2)).WholeWords (EltTy.packing .bf16) := fun i v25 v121 k0_hw41 k0_h2 => k0_hw41.2.2 k0_h2 (k0_off67_inb i v25 v121 k0_hw41 k0_h2)

def k0_off68 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_51 : BitVec 32 := 32#32
  let v128 : BitVec 32 := Scalar.muli v47 c32_i32_51
  let c8_i32 : BitVec 32 := 8#32
  let v129 : BitVec 32 := Scalar.addi v128 c8_i32
  let v130 : Index := Scalar.indexCast v129
  ![v130.toNat]
def k0_mult41 (v131 : BitVec 32) : BitVec 32 :=
  v131

def k0_off69 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off70 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c128_i32_52 : BitVec 32 := 128#32
  let c0_i32_53 : BitVec 32 := 0#32
  ![v46.toNat, 128, 0]
def k0_off71 (v131 : BitVec 32) : Fin 2 → Nat :=
  let v132 : BitVec 32 := v131
  let c0_i32_54 : BitVec 32 := 0#32
  ![v132.toNat, 0]

def k0_chk42 (i : grid0.Coords) (v25 : BitVec 32) (v131 : BitVec 32) : Prop :=
  (∀ (k0_h2 : k0_cond2 i v25 = 1#1), 16 ∣ (k0_mult41 v131).toNat) ∧
  (∀ (k0_h2 : k0_cond2 i v25 = 1#1), ∀ a, (k0_off71 v131) a + S16x1024.size a ≤ S50688x1024.size a) ∧
  (∀ (k0_h2 : k0_cond2 i v25 = 1#1), ∀ (hinb : ∀ a, (k0_off71 v131) a + S16x1024.size a ≤ S50688x1024.size a), (Rect.unit (s := S50688x1024) (k0_off71 v131) S16x1024.size hinb).WholeWords (EltTy.packing .bf16))
theorem k0_mult41_dvd : ∀ (i : grid0.Coords) (v25 : BitVec 32) (v131 : BitVec 32) (k0_hw42 : k0_chk42 i v25 v131), ∀ (k0_h2 : k0_cond2 i v25 = 1#1), 16 ∣ (k0_mult41 v131).toNat := fun i v25 v131 k0_hw42 k0_h2 => k0_hw42.1 k0_h2
theorem k0_off71_inb : ∀ (i : grid0.Coords) (v25 : BitVec 32) (v131 : BitVec 32) (k0_hw42 : k0_chk42 i v25 v131), ∀ (k0_h2 : k0_cond2 i v25 = 1#1), ∀ a, (k0_off71 v131) a + S16x1024.size a ≤ S50688x1024.size a := fun i v25 v131 k0_hw42 k0_h2 => k0_hw42.2.1 k0_h2
theorem k0_off71_wordsbf16 : ∀ (i : grid0.Coords) (v25 : BitVec 32) (v131 : BitVec 32) (k0_hw42 : k0_chk42 i v25 v131), ∀ (k0_h2 : k0_cond2 i v25 = 1#1), (Rect.unit (s := S50688x1024) (k0_off71 v131) S16x1024.size (k0_off71_inb i v25 v131 k0_hw42 k0_h2)).WholeWords (EltTy.packing .bf16) := fun i v25 v131 k0_hw42 k0_h2 => k0_hw42.2.2 k0_h2 (k0_off71_inb i v25 v131 k0_hw42 k0_h2)

def k0_off72 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_55 : BitVec 32 := 32#32
  let v138 : BitVec 32 := Scalar.muli v47 c32_i32_55
  let c9_i32 : BitVec 32 := 9#32
  let v139 : BitVec 32 := Scalar.addi v138 c9_i32
  let v140 : Index := Scalar.indexCast v139
  ![v140.toNat]
def k0_mult42 (v141 : BitVec 32) : BitVec 32 :=
  v141

def k0_off73 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off74 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c144_i32 : BitVec 32 := 144#32
  let c0_i32_56 : BitVec 32 := 0#32
  ![v46.toNat, 144, 0]
def k0_off75 (v141 : BitVec 32) : Fin 2 → Nat :=
  let v142 : BitVec 32 := v141
  let c0_i32_57 : BitVec 32 := 0#32
  ![v142.toNat, 0]

def k0_chk43 (i : grid0.Coords) (v25 : BitVec 32) (v141 : BitVec 32) : Prop :=
  (∀ (k0_h2 : k0_cond2 i v25 = 1#1), 16 ∣ (k0_mult42 v141).toNat) ∧
  (∀ (k0_h2 : k0_cond2 i v25 = 1#1), ∀ a, (k0_off75 v141) a + S16x1024.size a ≤ S50688x1024.size a) ∧
  (∀ (k0_h2 : k0_cond2 i v25 = 1#1), ∀ (hinb : ∀ a, (k0_off75 v141) a + S16x1024.size a ≤ S50688x1024.size a), (Rect.unit (s := S50688x1024) (k0_off75 v141) S16x1024.size hinb).WholeWords (EltTy.packing .bf16))
theorem k0_mult42_dvd : ∀ (i : grid0.Coords) (v25 : BitVec 32) (v141 : BitVec 32) (k0_hw43 : k0_chk43 i v25 v141), ∀ (k0_h2 : k0_cond2 i v25 = 1#1), 16 ∣ (k0_mult42 v141).toNat := fun i v25 v141 k0_hw43 k0_h2 => k0_hw43.1 k0_h2
theorem k0_off75_inb : ∀ (i : grid0.Coords) (v25 : BitVec 32) (v141 : BitVec 32) (k0_hw43 : k0_chk43 i v25 v141), ∀ (k0_h2 : k0_cond2 i v25 = 1#1), ∀ a, (k0_off75 v141) a + S16x1024.size a ≤ S50688x1024.size a := fun i v25 v141 k0_hw43 k0_h2 => k0_hw43.2.1 k0_h2
theorem k0_off75_wordsbf16 : ∀ (i : grid0.Coords) (v25 : BitVec 32) (v141 : BitVec 32) (k0_hw43 : k0_chk43 i v25 v141), ∀ (k0_h2 : k0_cond2 i v25 = 1#1), (Rect.unit (s := S50688x1024) (k0_off75 v141) S16x1024.size (k0_off75_inb i v25 v141 k0_hw43 k0_h2)).WholeWords (EltTy.packing .bf16) := fun i v25 v141 k0_hw43 k0_h2 => k0_hw43.2.2 k0_h2 (k0_off75_inb i v25 v141 k0_hw43 k0_h2)

def k0_off76 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_58 : BitVec 32 := 32#32
  let v148 : BitVec 32 := Scalar.muli v47 c32_i32_58
  let c10_i32 : BitVec 32 := 10#32
  let v149 : BitVec 32 := Scalar.addi v148 c10_i32
  let v150 : Index := Scalar.indexCast v149
  ![v150.toNat]
def k0_mult43 (v151 : BitVec 32) : BitVec 32 :=
  v151

def k0_off77 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off78 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c160_i32 : BitVec 32 := 160#32
  let c0_i32_59 : BitVec 32 := 0#32
  ![v46.toNat, 160, 0]
def k0_off79 (v151 : BitVec 32) : Fin 2 → Nat :=
  let v152 : BitVec 32 := v151
  let c0_i32_60 : BitVec 32 := 0#32
  ![v152.toNat, 0]

def k0_chk44 (i : grid0.Coords) (v25 : BitVec 32) (v151 : BitVec 32) : Prop :=
  (∀ (k0_h2 : k0_cond2 i v25 = 1#1), 16 ∣ (k0_mult43 v151).toNat) ∧
  (∀ (k0_h2 : k0_cond2 i v25 = 1#1), ∀ a, (k0_off79 v151) a + S16x1024.size a ≤ S50688x1024.size a) ∧
  (∀ (k0_h2 : k0_cond2 i v25 = 1#1), ∀ (hinb : ∀ a, (k0_off79 v151) a + S16x1024.size a ≤ S50688x1024.size a), (Rect.unit (s := S50688x1024) (k0_off79 v151) S16x1024.size hinb).WholeWords (EltTy.packing .bf16))
theorem k0_mult43_dvd : ∀ (i : grid0.Coords) (v25 : BitVec 32) (v151 : BitVec 32) (k0_hw44 : k0_chk44 i v25 v151), ∀ (k0_h2 : k0_cond2 i v25 = 1#1), 16 ∣ (k0_mult43 v151).toNat := fun i v25 v151 k0_hw44 k0_h2 => k0_hw44.1 k0_h2
theorem k0_off79_inb : ∀ (i : grid0.Coords) (v25 : BitVec 32) (v151 : BitVec 32) (k0_hw44 : k0_chk44 i v25 v151), ∀ (k0_h2 : k0_cond2 i v25 = 1#1), ∀ a, (k0_off79 v151) a + S16x1024.size a ≤ S50688x1024.size a := fun i v25 v151 k0_hw44 k0_h2 => k0_hw44.2.1 k0_h2
theorem k0_off79_wordsbf16 : ∀ (i : grid0.Coords) (v25 : BitVec 32) (v151 : BitVec 32) (k0_hw44 : k0_chk44 i v25 v151), ∀ (k0_h2 : k0_cond2 i v25 = 1#1), (Rect.unit (s := S50688x1024) (k0_off79 v151) S16x1024.size (k0_off79_inb i v25 v151 k0_hw44 k0_h2)).WholeWords (EltTy.packing .bf16) := fun i v25 v151 k0_hw44 k0_h2 => k0_hw44.2.2 k0_h2 (k0_off79_inb i v25 v151 k0_hw44 k0_h2)

def k0_off80 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_61 : BitVec 32 := 32#32
  let v158 : BitVec 32 := Scalar.muli v47 c32_i32_61
  let c11_i32 : BitVec 32 := 11#32
  let v159 : BitVec 32 := Scalar.addi v158 c11_i32
  let v160 : Index := Scalar.indexCast v159
  ![v160.toNat]
def k0_mult44 (v161 : BitVec 32) : BitVec 32 :=
  v161

def k0_off81 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off82 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c176_i32 : BitVec 32 := 176#32
  let c0_i32_62 : BitVec 32 := 0#32
  ![v46.toNat, 176, 0]
def k0_off83 (v161 : BitVec 32) : Fin 2 → Nat :=
  let v162 : BitVec 32 := v161
  let c0_i32_63 : BitVec 32 := 0#32
  ![v162.toNat, 0]

def k0_chk45 (i : grid0.Coords) (v25 : BitVec 32) (v161 : BitVec 32) : Prop :=
  (∀ (k0_h2 : k0_cond2 i v25 = 1#1), 16 ∣ (k0_mult44 v161).toNat) ∧
  (∀ (k0_h2 : k0_cond2 i v25 = 1#1), ∀ a, (k0_off83 v161) a + S16x1024.size a ≤ S50688x1024.size a) ∧
  (∀ (k0_h2 : k0_cond2 i v25 = 1#1), ∀ (hinb : ∀ a, (k0_off83 v161) a + S16x1024.size a ≤ S50688x1024.size a), (Rect.unit (s := S50688x1024) (k0_off83 v161) S16x1024.size hinb).WholeWords (EltTy.packing .bf16))
theorem k0_mult44_dvd : ∀ (i : grid0.Coords) (v25 : BitVec 32) (v161 : BitVec 32) (k0_hw45 : k0_chk45 i v25 v161), ∀ (k0_h2 : k0_cond2 i v25 = 1#1), 16 ∣ (k0_mult44 v161).toNat := fun i v25 v161 k0_hw45 k0_h2 => k0_hw45.1 k0_h2
theorem k0_off83_inb : ∀ (i : grid0.Coords) (v25 : BitVec 32) (v161 : BitVec 32) (k0_hw45 : k0_chk45 i v25 v161), ∀ (k0_h2 : k0_cond2 i v25 = 1#1), ∀ a, (k0_off83 v161) a + S16x1024.size a ≤ S50688x1024.size a := fun i v25 v161 k0_hw45 k0_h2 => k0_hw45.2.1 k0_h2
theorem k0_off83_wordsbf16 : ∀ (i : grid0.Coords) (v25 : BitVec 32) (v161 : BitVec 32) (k0_hw45 : k0_chk45 i v25 v161), ∀ (k0_h2 : k0_cond2 i v25 = 1#1), (Rect.unit (s := S50688x1024) (k0_off83 v161) S16x1024.size (k0_off83_inb i v25 v161 k0_hw45 k0_h2)).WholeWords (EltTy.packing .bf16) := fun i v25 v161 k0_hw45 k0_h2 => k0_hw45.2.2 k0_h2 (k0_off83_inb i v25 v161 k0_hw45 k0_h2)

def k0_off84 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_64 : BitVec 32 := 32#32
  let v168 : BitVec 32 := Scalar.muli v47 c32_i32_64
  let c12_i32 : BitVec 32 := 12#32
  let v169 : BitVec 32 := Scalar.addi v168 c12_i32
  let v170 : Index := Scalar.indexCast v169
  ![v170.toNat]
def k0_mult45 (v171 : BitVec 32) : BitVec 32 :=
  v171

def k0_off85 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off86 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c192_i32 : BitVec 32 := 192#32
  let c0_i32_65 : BitVec 32 := 0#32
  ![v46.toNat, 192, 0]
def k0_off87 (v171 : BitVec 32) : Fin 2 → Nat :=
  let v172 : BitVec 32 := v171
  let c0_i32_66 : BitVec 32 := 0#32
  ![v172.toNat, 0]

def k0_chk46 (i : grid0.Coords) (v25 : BitVec 32) (v171 : BitVec 32) : Prop :=
  (∀ (k0_h2 : k0_cond2 i v25 = 1#1), 16 ∣ (k0_mult45 v171).toNat) ∧
  (∀ (k0_h2 : k0_cond2 i v25 = 1#1), ∀ a, (k0_off87 v171) a + S16x1024.size a ≤ S50688x1024.size a) ∧
  (∀ (k0_h2 : k0_cond2 i v25 = 1#1), ∀ (hinb : ∀ a, (k0_off87 v171) a + S16x1024.size a ≤ S50688x1024.size a), (Rect.unit (s := S50688x1024) (k0_off87 v171) S16x1024.size hinb).WholeWords (EltTy.packing .bf16))
theorem k0_mult45_dvd : ∀ (i : grid0.Coords) (v25 : BitVec 32) (v171 : BitVec 32) (k0_hw46 : k0_chk46 i v25 v171), ∀ (k0_h2 : k0_cond2 i v25 = 1#1), 16 ∣ (k0_mult45 v171).toNat := fun i v25 v171 k0_hw46 k0_h2 => k0_hw46.1 k0_h2
theorem k0_off87_inb : ∀ (i : grid0.Coords) (v25 : BitVec 32) (v171 : BitVec 32) (k0_hw46 : k0_chk46 i v25 v171), ∀ (k0_h2 : k0_cond2 i v25 = 1#1), ∀ a, (k0_off87 v171) a + S16x1024.size a ≤ S50688x1024.size a := fun i v25 v171 k0_hw46 k0_h2 => k0_hw46.2.1 k0_h2
theorem k0_off87_wordsbf16 : ∀ (i : grid0.Coords) (v25 : BitVec 32) (v171 : BitVec 32) (k0_hw46 : k0_chk46 i v25 v171), ∀ (k0_h2 : k0_cond2 i v25 = 1#1), (Rect.unit (s := S50688x1024) (k0_off87 v171) S16x1024.size (k0_off87_inb i v25 v171 k0_hw46 k0_h2)).WholeWords (EltTy.packing .bf16) := fun i v25 v171 k0_hw46 k0_h2 => k0_hw46.2.2 k0_h2 (k0_off87_inb i v25 v171 k0_hw46 k0_h2)

def k0_off88 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_67 : BitVec 32 := 32#32
  let v178 : BitVec 32 := Scalar.muli v47 c32_i32_67
  let c13_i32 : BitVec 32 := 13#32
  let v179 : BitVec 32 := Scalar.addi v178 c13_i32
  let v180 : Index := Scalar.indexCast v179
  ![v180.toNat]
def k0_mult46 (v181 : BitVec 32) : BitVec 32 :=
  v181

def k0_off89 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off90 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c208_i32 : BitVec 32 := 208#32
  let c0_i32_68 : BitVec 32 := 0#32
  ![v46.toNat, 208, 0]
def k0_off91 (v181 : BitVec 32) : Fin 2 → Nat :=
  let v182 : BitVec 32 := v181
  let c0_i32_69 : BitVec 32 := 0#32
  ![v182.toNat, 0]

def k0_chk47 (i : grid0.Coords) (v25 : BitVec 32) (v181 : BitVec 32) : Prop :=
  (∀ (k0_h2 : k0_cond2 i v25 = 1#1), 16 ∣ (k0_mult46 v181).toNat) ∧
  (∀ (k0_h2 : k0_cond2 i v25 = 1#1), ∀ a, (k0_off91 v181) a + S16x1024.size a ≤ S50688x1024.size a) ∧
  (∀ (k0_h2 : k0_cond2 i v25 = 1#1), ∀ (hinb : ∀ a, (k0_off91 v181) a + S16x1024.size a ≤ S50688x1024.size a), (Rect.unit (s := S50688x1024) (k0_off91 v181) S16x1024.size hinb).WholeWords (EltTy.packing .bf16))
theorem k0_mult46_dvd : ∀ (i : grid0.Coords) (v25 : BitVec 32) (v181 : BitVec 32) (k0_hw47 : k0_chk47 i v25 v181), ∀ (k0_h2 : k0_cond2 i v25 = 1#1), 16 ∣ (k0_mult46 v181).toNat := fun i v25 v181 k0_hw47 k0_h2 => k0_hw47.1 k0_h2
theorem k0_off91_inb : ∀ (i : grid0.Coords) (v25 : BitVec 32) (v181 : BitVec 32) (k0_hw47 : k0_chk47 i v25 v181), ∀ (k0_h2 : k0_cond2 i v25 = 1#1), ∀ a, (k0_off91 v181) a + S16x1024.size a ≤ S50688x1024.size a := fun i v25 v181 k0_hw47 k0_h2 => k0_hw47.2.1 k0_h2
theorem k0_off91_wordsbf16 : ∀ (i : grid0.Coords) (v25 : BitVec 32) (v181 : BitVec 32) (k0_hw47 : k0_chk47 i v25 v181), ∀ (k0_h2 : k0_cond2 i v25 = 1#1), (Rect.unit (s := S50688x1024) (k0_off91 v181) S16x1024.size (k0_off91_inb i v25 v181 k0_hw47 k0_h2)).WholeWords (EltTy.packing .bf16) := fun i v25 v181 k0_hw47 k0_h2 => k0_hw47.2.2 k0_h2 (k0_off91_inb i v25 v181 k0_hw47 k0_h2)

def k0_off92 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_70 : BitVec 32 := 32#32
  let v188 : BitVec 32 := Scalar.muli v47 c32_i32_70
  let c14_i32 : BitVec 32 := 14#32
  let v189 : BitVec 32 := Scalar.addi v188 c14_i32
  let v190 : Index := Scalar.indexCast v189
  ![v190.toNat]
def k0_mult47 (v191 : BitVec 32) : BitVec 32 :=
  v191

def k0_off93 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off94 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c224_i32 : BitVec 32 := 224#32
  let c0_i32_71 : BitVec 32 := 0#32
  ![v46.toNat, 224, 0]
def k0_off95 (v191 : BitVec 32) : Fin 2 → Nat :=
  let v192 : BitVec 32 := v191
  let c0_i32_72 : BitVec 32 := 0#32
  ![v192.toNat, 0]

def k0_chk48 (i : grid0.Coords) (v25 : BitVec 32) (v191 : BitVec 32) : Prop :=
  (∀ (k0_h2 : k0_cond2 i v25 = 1#1), 16 ∣ (k0_mult47 v191).toNat) ∧
  (∀ (k0_h2 : k0_cond2 i v25 = 1#1), ∀ a, (k0_off95 v191) a + S16x1024.size a ≤ S50688x1024.size a) ∧
  (∀ (k0_h2 : k0_cond2 i v25 = 1#1), ∀ (hinb : ∀ a, (k0_off95 v191) a + S16x1024.size a ≤ S50688x1024.size a), (Rect.unit (s := S50688x1024) (k0_off95 v191) S16x1024.size hinb).WholeWords (EltTy.packing .bf16))
theorem k0_mult47_dvd : ∀ (i : grid0.Coords) (v25 : BitVec 32) (v191 : BitVec 32) (k0_hw48 : k0_chk48 i v25 v191), ∀ (k0_h2 : k0_cond2 i v25 = 1#1), 16 ∣ (k0_mult47 v191).toNat := fun i v25 v191 k0_hw48 k0_h2 => k0_hw48.1 k0_h2
theorem k0_off95_inb : ∀ (i : grid0.Coords) (v25 : BitVec 32) (v191 : BitVec 32) (k0_hw48 : k0_chk48 i v25 v191), ∀ (k0_h2 : k0_cond2 i v25 = 1#1), ∀ a, (k0_off95 v191) a + S16x1024.size a ≤ S50688x1024.size a := fun i v25 v191 k0_hw48 k0_h2 => k0_hw48.2.1 k0_h2
theorem k0_off95_wordsbf16 : ∀ (i : grid0.Coords) (v25 : BitVec 32) (v191 : BitVec 32) (k0_hw48 : k0_chk48 i v25 v191), ∀ (k0_h2 : k0_cond2 i v25 = 1#1), (Rect.unit (s := S50688x1024) (k0_off95 v191) S16x1024.size (k0_off95_inb i v25 v191 k0_hw48 k0_h2)).WholeWords (EltTy.packing .bf16) := fun i v25 v191 k0_hw48 k0_h2 => k0_hw48.2.2 k0_h2 (k0_off95_inb i v25 v191 k0_hw48 k0_h2)

def k0_off96 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_73 : BitVec 32 := 32#32
  let v198 : BitVec 32 := Scalar.muli v47 c32_i32_73
  let c15_i32 : BitVec 32 := 15#32
  let v199 : BitVec 32 := Scalar.addi v198 c15_i32
  let v200 : Index := Scalar.indexCast v199
  ![v200.toNat]
def k0_mult48 (v201 : BitVec 32) : BitVec 32 :=
  v201

def k0_off97 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off98 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c240_i32 : BitVec 32 := 240#32
  let c0_i32_74 : BitVec 32 := 0#32
  ![v46.toNat, 240, 0]
def k0_off99 (v201 : BitVec 32) : Fin 2 → Nat :=
  let v202 : BitVec 32 := v201
  let c0_i32_75 : BitVec 32 := 0#32
  ![v202.toNat, 0]

def k0_chk49 (i : grid0.Coords) (v25 : BitVec 32) (v201 : BitVec 32) : Prop :=
  (∀ (k0_h2 : k0_cond2 i v25 = 1#1), 16 ∣ (k0_mult48 v201).toNat) ∧
  (∀ (k0_h2 : k0_cond2 i v25 = 1#1), ∀ a, (k0_off99 v201) a + S16x1024.size a ≤ S50688x1024.size a) ∧
  (∀ (k0_h2 : k0_cond2 i v25 = 1#1), ∀ (hinb : ∀ a, (k0_off99 v201) a + S16x1024.size a ≤ S50688x1024.size a), (Rect.unit (s := S50688x1024) (k0_off99 v201) S16x1024.size hinb).WholeWords (EltTy.packing .bf16))
theorem k0_mult48_dvd : ∀ (i : grid0.Coords) (v25 : BitVec 32) (v201 : BitVec 32) (k0_hw49 : k0_chk49 i v25 v201), ∀ (k0_h2 : k0_cond2 i v25 = 1#1), 16 ∣ (k0_mult48 v201).toNat := fun i v25 v201 k0_hw49 k0_h2 => k0_hw49.1 k0_h2
theorem k0_off99_inb : ∀ (i : grid0.Coords) (v25 : BitVec 32) (v201 : BitVec 32) (k0_hw49 : k0_chk49 i v25 v201), ∀ (k0_h2 : k0_cond2 i v25 = 1#1), ∀ a, (k0_off99 v201) a + S16x1024.size a ≤ S50688x1024.size a := fun i v25 v201 k0_hw49 k0_h2 => k0_hw49.2.1 k0_h2
theorem k0_off99_wordsbf16 : ∀ (i : grid0.Coords) (v25 : BitVec 32) (v201 : BitVec 32) (k0_hw49 : k0_chk49 i v25 v201), ∀ (k0_h2 : k0_cond2 i v25 = 1#1), (Rect.unit (s := S50688x1024) (k0_off99 v201) S16x1024.size (k0_off99_inb i v25 v201 k0_hw49 k0_h2)).WholeWords (EltTy.packing .bf16) := fun i v25 v201 k0_hw49 k0_h2 => k0_hw49.2.2 k0_h2 (k0_off99_inb i v25 v201 k0_hw49 k0_h2)

def k0_off100 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_76 : BitVec 32 := 32#32
  let v208 : BitVec 32 := Scalar.muli v47 c32_i32_76
  let c16_i32_77 : BitVec 32 := 16#32
  let v209 : BitVec 32 := Scalar.addi v208 c16_i32_77
  let v210 : Index := Scalar.indexCast v209
  ![v210.toNat]
def k0_mult49 (v211 : BitVec 32) : BitVec 32 :=
  v211

def k0_off101 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off102 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c256_i32 : BitVec 32 := 256#32
  let c0_i32_78 : BitVec 32 := 0#32
  ![v46.toNat, 256, 0]
def k0_off103 (v211 : BitVec 32) : Fin 2 → Nat :=
  let v212 : BitVec 32 := v211
  let c0_i32_79 : BitVec 32 := 0#32
  ![v212.toNat, 0]

def k0_chk50 (i : grid0.Coords) (v25 : BitVec 32) (v211 : BitVec 32) : Prop :=
  (∀ (k0_h2 : k0_cond2 i v25 = 1#1), 16 ∣ (k0_mult49 v211).toNat) ∧
  (∀ (k0_h2 : k0_cond2 i v25 = 1#1), ∀ a, (k0_off103 v211) a + S16x1024.size a ≤ S50688x1024.size a) ∧
  (∀ (k0_h2 : k0_cond2 i v25 = 1#1), ∀ (hinb : ∀ a, (k0_off103 v211) a + S16x1024.size a ≤ S50688x1024.size a), (Rect.unit (s := S50688x1024) (k0_off103 v211) S16x1024.size hinb).WholeWords (EltTy.packing .bf16))
theorem k0_mult49_dvd : ∀ (i : grid0.Coords) (v25 : BitVec 32) (v211 : BitVec 32) (k0_hw50 : k0_chk50 i v25 v211), ∀ (k0_h2 : k0_cond2 i v25 = 1#1), 16 ∣ (k0_mult49 v211).toNat := fun i v25 v211 k0_hw50 k0_h2 => k0_hw50.1 k0_h2
theorem k0_off103_inb : ∀ (i : grid0.Coords) (v25 : BitVec 32) (v211 : BitVec 32) (k0_hw50 : k0_chk50 i v25 v211), ∀ (k0_h2 : k0_cond2 i v25 = 1#1), ∀ a, (k0_off103 v211) a + S16x1024.size a ≤ S50688x1024.size a := fun i v25 v211 k0_hw50 k0_h2 => k0_hw50.2.1 k0_h2
theorem k0_off103_wordsbf16 : ∀ (i : grid0.Coords) (v25 : BitVec 32) (v211 : BitVec 32) (k0_hw50 : k0_chk50 i v25 v211), ∀ (k0_h2 : k0_cond2 i v25 = 1#1), (Rect.unit (s := S50688x1024) (k0_off103 v211) S16x1024.size (k0_off103_inb i v25 v211 k0_hw50 k0_h2)).WholeWords (EltTy.packing .bf16) := fun i v25 v211 k0_hw50 k0_h2 => k0_hw50.2.2 k0_h2 (k0_off103_inb i v25 v211 k0_hw50 k0_h2)

def k0_off104 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_80 : BitVec 32 := 32#32
  let v218 : BitVec 32 := Scalar.muli v47 c32_i32_80
  let c17_i32 : BitVec 32 := 17#32
  let v219 : BitVec 32 := Scalar.addi v218 c17_i32
  let v220 : Index := Scalar.indexCast v219
  ![v220.toNat]
def k0_mult50 (v221 : BitVec 32) : BitVec 32 :=
  v221

def k0_off105 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off106 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c272_i32 : BitVec 32 := 272#32
  let c0_i32_81 : BitVec 32 := 0#32
  ![v46.toNat, 272, 0]
def k0_off107 (v221 : BitVec 32) : Fin 2 → Nat :=
  let v222 : BitVec 32 := v221
  let c0_i32_82 : BitVec 32 := 0#32
  ![v222.toNat, 0]

def k0_chk51 (i : grid0.Coords) (v25 : BitVec 32) (v221 : BitVec 32) : Prop :=
  (∀ (k0_h2 : k0_cond2 i v25 = 1#1), 16 ∣ (k0_mult50 v221).toNat) ∧
  (∀ (k0_h2 : k0_cond2 i v25 = 1#1), ∀ a, (k0_off107 v221) a + S16x1024.size a ≤ S50688x1024.size a) ∧
  (∀ (k0_h2 : k0_cond2 i v25 = 1#1), ∀ (hinb : ∀ a, (k0_off107 v221) a + S16x1024.size a ≤ S50688x1024.size a), (Rect.unit (s := S50688x1024) (k0_off107 v221) S16x1024.size hinb).WholeWords (EltTy.packing .bf16))
theorem k0_mult50_dvd : ∀ (i : grid0.Coords) (v25 : BitVec 32) (v221 : BitVec 32) (k0_hw51 : k0_chk51 i v25 v221), ∀ (k0_h2 : k0_cond2 i v25 = 1#1), 16 ∣ (k0_mult50 v221).toNat := fun i v25 v221 k0_hw51 k0_h2 => k0_hw51.1 k0_h2
theorem k0_off107_inb : ∀ (i : grid0.Coords) (v25 : BitVec 32) (v221 : BitVec 32) (k0_hw51 : k0_chk51 i v25 v221), ∀ (k0_h2 : k0_cond2 i v25 = 1#1), ∀ a, (k0_off107 v221) a + S16x1024.size a ≤ S50688x1024.size a := fun i v25 v221 k0_hw51 k0_h2 => k0_hw51.2.1 k0_h2
theorem k0_off107_wordsbf16 : ∀ (i : grid0.Coords) (v25 : BitVec 32) (v221 : BitVec 32) (k0_hw51 : k0_chk51 i v25 v221), ∀ (k0_h2 : k0_cond2 i v25 = 1#1), (Rect.unit (s := S50688x1024) (k0_off107 v221) S16x1024.size (k0_off107_inb i v25 v221 k0_hw51 k0_h2)).WholeWords (EltTy.packing .bf16) := fun i v25 v221 k0_hw51 k0_h2 => k0_hw51.2.2 k0_h2 (k0_off107_inb i v25 v221 k0_hw51 k0_h2)

def k0_off108 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_83 : BitVec 32 := 32#32
  let v228 : BitVec 32 := Scalar.muli v47 c32_i32_83
  let c18_i32 : BitVec 32 := 18#32
  let v229 : BitVec 32 := Scalar.addi v228 c18_i32
  let v230 : Index := Scalar.indexCast v229
  ![v230.toNat]
def k0_mult51 (v231 : BitVec 32) : BitVec 32 :=
  v231

def k0_off109 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off110 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c288_i32 : BitVec 32 := 288#32
  let c0_i32_84 : BitVec 32 := 0#32
  ![v46.toNat, 288, 0]
def k0_off111 (v231 : BitVec 32) : Fin 2 → Nat :=
  let v232 : BitVec 32 := v231
  let c0_i32_85 : BitVec 32 := 0#32
  ![v232.toNat, 0]

def k0_chk52 (i : grid0.Coords) (v25 : BitVec 32) (v231 : BitVec 32) : Prop :=
  (∀ (k0_h2 : k0_cond2 i v25 = 1#1), 16 ∣ (k0_mult51 v231).toNat) ∧
  (∀ (k0_h2 : k0_cond2 i v25 = 1#1), ∀ a, (k0_off111 v231) a + S16x1024.size a ≤ S50688x1024.size a) ∧
  (∀ (k0_h2 : k0_cond2 i v25 = 1#1), ∀ (hinb : ∀ a, (k0_off111 v231) a + S16x1024.size a ≤ S50688x1024.size a), (Rect.unit (s := S50688x1024) (k0_off111 v231) S16x1024.size hinb).WholeWords (EltTy.packing .bf16))
theorem k0_mult51_dvd : ∀ (i : grid0.Coords) (v25 : BitVec 32) (v231 : BitVec 32) (k0_hw52 : k0_chk52 i v25 v231), ∀ (k0_h2 : k0_cond2 i v25 = 1#1), 16 ∣ (k0_mult51 v231).toNat := fun i v25 v231 k0_hw52 k0_h2 => k0_hw52.1 k0_h2
theorem k0_off111_inb : ∀ (i : grid0.Coords) (v25 : BitVec 32) (v231 : BitVec 32) (k0_hw52 : k0_chk52 i v25 v231), ∀ (k0_h2 : k0_cond2 i v25 = 1#1), ∀ a, (k0_off111 v231) a + S16x1024.size a ≤ S50688x1024.size a := fun i v25 v231 k0_hw52 k0_h2 => k0_hw52.2.1 k0_h2
theorem k0_off111_wordsbf16 : ∀ (i : grid0.Coords) (v25 : BitVec 32) (v231 : BitVec 32) (k0_hw52 : k0_chk52 i v25 v231), ∀ (k0_h2 : k0_cond2 i v25 = 1#1), (Rect.unit (s := S50688x1024) (k0_off111 v231) S16x1024.size (k0_off111_inb i v25 v231 k0_hw52 k0_h2)).WholeWords (EltTy.packing .bf16) := fun i v25 v231 k0_hw52 k0_h2 => k0_hw52.2.2 k0_h2 (k0_off111_inb i v25 v231 k0_hw52 k0_h2)

def k0_off112 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_86 : BitVec 32 := 32#32
  let v238 : BitVec 32 := Scalar.muli v47 c32_i32_86
  let c19_i32 : BitVec 32 := 19#32
  let v239 : BitVec 32 := Scalar.addi v238 c19_i32
  let v240 : Index := Scalar.indexCast v239
  ![v240.toNat]
def k0_mult52 (v241 : BitVec 32) : BitVec 32 :=
  v241

def k0_off113 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off114 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c304_i32 : BitVec 32 := 304#32
  let c0_i32_87 : BitVec 32 := 0#32
  ![v46.toNat, 304, 0]
def k0_off115 (v241 : BitVec 32) : Fin 2 → Nat :=
  let v242 : BitVec 32 := v241
  let c0_i32_88 : BitVec 32 := 0#32
  ![v242.toNat, 0]

def k0_chk53 (i : grid0.Coords) (v25 : BitVec 32) (v241 : BitVec 32) : Prop :=
  (∀ (k0_h2 : k0_cond2 i v25 = 1#1), 16 ∣ (k0_mult52 v241).toNat) ∧
  (∀ (k0_h2 : k0_cond2 i v25 = 1#1), ∀ a, (k0_off115 v241) a + S16x1024.size a ≤ S50688x1024.size a) ∧
  (∀ (k0_h2 : k0_cond2 i v25 = 1#1), ∀ (hinb : ∀ a, (k0_off115 v241) a + S16x1024.size a ≤ S50688x1024.size a), (Rect.unit (s := S50688x1024) (k0_off115 v241) S16x1024.size hinb).WholeWords (EltTy.packing .bf16))
theorem k0_mult52_dvd : ∀ (i : grid0.Coords) (v25 : BitVec 32) (v241 : BitVec 32) (k0_hw53 : k0_chk53 i v25 v241), ∀ (k0_h2 : k0_cond2 i v25 = 1#1), 16 ∣ (k0_mult52 v241).toNat := fun i v25 v241 k0_hw53 k0_h2 => k0_hw53.1 k0_h2
theorem k0_off115_inb : ∀ (i : grid0.Coords) (v25 : BitVec 32) (v241 : BitVec 32) (k0_hw53 : k0_chk53 i v25 v241), ∀ (k0_h2 : k0_cond2 i v25 = 1#1), ∀ a, (k0_off115 v241) a + S16x1024.size a ≤ S50688x1024.size a := fun i v25 v241 k0_hw53 k0_h2 => k0_hw53.2.1 k0_h2
theorem k0_off115_wordsbf16 : ∀ (i : grid0.Coords) (v25 : BitVec 32) (v241 : BitVec 32) (k0_hw53 : k0_chk53 i v25 v241), ∀ (k0_h2 : k0_cond2 i v25 = 1#1), (Rect.unit (s := S50688x1024) (k0_off115 v241) S16x1024.size (k0_off115_inb i v25 v241 k0_hw53 k0_h2)).WholeWords (EltTy.packing .bf16) := fun i v25 v241 k0_hw53 k0_h2 => k0_hw53.2.2 k0_h2 (k0_off115_inb i v25 v241 k0_hw53 k0_h2)

def k0_off116 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_89 : BitVec 32 := 32#32
  let v248 : BitVec 32 := Scalar.muli v47 c32_i32_89
  let c20_i32 : BitVec 32 := 20#32
  let v249 : BitVec 32 := Scalar.addi v248 c20_i32
  let v250 : Index := Scalar.indexCast v249
  ![v250.toNat]
def k0_mult53 (v251 : BitVec 32) : BitVec 32 :=
  v251

def k0_off117 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off118 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c320_i32 : BitVec 32 := 320#32
  let c0_i32_90 : BitVec 32 := 0#32
  ![v46.toNat, 320, 0]
def k0_off119 (v251 : BitVec 32) : Fin 2 → Nat :=
  let v252 : BitVec 32 := v251
  let c0_i32_91 : BitVec 32 := 0#32
  ![v252.toNat, 0]

def k0_chk54 (i : grid0.Coords) (v25 : BitVec 32) (v251 : BitVec 32) : Prop :=
  (∀ (k0_h2 : k0_cond2 i v25 = 1#1), 16 ∣ (k0_mult53 v251).toNat) ∧
  (∀ (k0_h2 : k0_cond2 i v25 = 1#1), ∀ a, (k0_off119 v251) a + S16x1024.size a ≤ S50688x1024.size a) ∧
  (∀ (k0_h2 : k0_cond2 i v25 = 1#1), ∀ (hinb : ∀ a, (k0_off119 v251) a + S16x1024.size a ≤ S50688x1024.size a), (Rect.unit (s := S50688x1024) (k0_off119 v251) S16x1024.size hinb).WholeWords (EltTy.packing .bf16))
theorem k0_mult53_dvd : ∀ (i : grid0.Coords) (v25 : BitVec 32) (v251 : BitVec 32) (k0_hw54 : k0_chk54 i v25 v251), ∀ (k0_h2 : k0_cond2 i v25 = 1#1), 16 ∣ (k0_mult53 v251).toNat := fun i v25 v251 k0_hw54 k0_h2 => k0_hw54.1 k0_h2
theorem k0_off119_inb : ∀ (i : grid0.Coords) (v25 : BitVec 32) (v251 : BitVec 32) (k0_hw54 : k0_chk54 i v25 v251), ∀ (k0_h2 : k0_cond2 i v25 = 1#1), ∀ a, (k0_off119 v251) a + S16x1024.size a ≤ S50688x1024.size a := fun i v25 v251 k0_hw54 k0_h2 => k0_hw54.2.1 k0_h2
theorem k0_off119_wordsbf16 : ∀ (i : grid0.Coords) (v25 : BitVec 32) (v251 : BitVec 32) (k0_hw54 : k0_chk54 i v25 v251), ∀ (k0_h2 : k0_cond2 i v25 = 1#1), (Rect.unit (s := S50688x1024) (k0_off119 v251) S16x1024.size (k0_off119_inb i v25 v251 k0_hw54 k0_h2)).WholeWords (EltTy.packing .bf16) := fun i v25 v251 k0_hw54 k0_h2 => k0_hw54.2.2 k0_h2 (k0_off119_inb i v25 v251 k0_hw54 k0_h2)

def k0_off120 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_92 : BitVec 32 := 32#32
  let v258 : BitVec 32 := Scalar.muli v47 c32_i32_92
  let c21_i32 : BitVec 32 := 21#32
  let v259 : BitVec 32 := Scalar.addi v258 c21_i32
  let v260 : Index := Scalar.indexCast v259
  ![v260.toNat]
def k0_mult54 (v261 : BitVec 32) : BitVec 32 :=
  v261

def k0_off121 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off122 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c336_i32 : BitVec 32 := 336#32
  let c0_i32_93 : BitVec 32 := 0#32
  ![v46.toNat, 336, 0]
def k0_off123 (v261 : BitVec 32) : Fin 2 → Nat :=
  let v262 : BitVec 32 := v261
  let c0_i32_94 : BitVec 32 := 0#32
  ![v262.toNat, 0]

def k0_chk55 (i : grid0.Coords) (v25 : BitVec 32) (v261 : BitVec 32) : Prop :=
  (∀ (k0_h2 : k0_cond2 i v25 = 1#1), 16 ∣ (k0_mult54 v261).toNat) ∧
  (∀ (k0_h2 : k0_cond2 i v25 = 1#1), ∀ a, (k0_off123 v261) a + S16x1024.size a ≤ S50688x1024.size a) ∧
  (∀ (k0_h2 : k0_cond2 i v25 = 1#1), ∀ (hinb : ∀ a, (k0_off123 v261) a + S16x1024.size a ≤ S50688x1024.size a), (Rect.unit (s := S50688x1024) (k0_off123 v261) S16x1024.size hinb).WholeWords (EltTy.packing .bf16))
theorem k0_mult54_dvd : ∀ (i : grid0.Coords) (v25 : BitVec 32) (v261 : BitVec 32) (k0_hw55 : k0_chk55 i v25 v261), ∀ (k0_h2 : k0_cond2 i v25 = 1#1), 16 ∣ (k0_mult54 v261).toNat := fun i v25 v261 k0_hw55 k0_h2 => k0_hw55.1 k0_h2
theorem k0_off123_inb : ∀ (i : grid0.Coords) (v25 : BitVec 32) (v261 : BitVec 32) (k0_hw55 : k0_chk55 i v25 v261), ∀ (k0_h2 : k0_cond2 i v25 = 1#1), ∀ a, (k0_off123 v261) a + S16x1024.size a ≤ S50688x1024.size a := fun i v25 v261 k0_hw55 k0_h2 => k0_hw55.2.1 k0_h2
theorem k0_off123_wordsbf16 : ∀ (i : grid0.Coords) (v25 : BitVec 32) (v261 : BitVec 32) (k0_hw55 : k0_chk55 i v25 v261), ∀ (k0_h2 : k0_cond2 i v25 = 1#1), (Rect.unit (s := S50688x1024) (k0_off123 v261) S16x1024.size (k0_off123_inb i v25 v261 k0_hw55 k0_h2)).WholeWords (EltTy.packing .bf16) := fun i v25 v261 k0_hw55 k0_h2 => k0_hw55.2.2 k0_h2 (k0_off123_inb i v25 v261 k0_hw55 k0_h2)

def k0_off124 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_95 : BitVec 32 := 32#32
  let v268 : BitVec 32 := Scalar.muli v47 c32_i32_95
  let c22_i32 : BitVec 32 := 22#32
  let v269 : BitVec 32 := Scalar.addi v268 c22_i32
  let v270 : Index := Scalar.indexCast v269
  ![v270.toNat]
def k0_mult55 (v271 : BitVec 32) : BitVec 32 :=
  v271

def k0_off125 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off126 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c352_i32 : BitVec 32 := 352#32
  let c0_i32_96 : BitVec 32 := 0#32
  ![v46.toNat, 352, 0]
def k0_off127 (v271 : BitVec 32) : Fin 2 → Nat :=
  let v272 : BitVec 32 := v271
  let c0_i32_97 : BitVec 32 := 0#32
  ![v272.toNat, 0]

def k0_chk56 (i : grid0.Coords) (v25 : BitVec 32) (v271 : BitVec 32) : Prop :=
  (∀ (k0_h2 : k0_cond2 i v25 = 1#1), 16 ∣ (k0_mult55 v271).toNat) ∧
  (∀ (k0_h2 : k0_cond2 i v25 = 1#1), ∀ a, (k0_off127 v271) a + S16x1024.size a ≤ S50688x1024.size a) ∧
  (∀ (k0_h2 : k0_cond2 i v25 = 1#1), ∀ (hinb : ∀ a, (k0_off127 v271) a + S16x1024.size a ≤ S50688x1024.size a), (Rect.unit (s := S50688x1024) (k0_off127 v271) S16x1024.size hinb).WholeWords (EltTy.packing .bf16))
theorem k0_mult55_dvd : ∀ (i : grid0.Coords) (v25 : BitVec 32) (v271 : BitVec 32) (k0_hw56 : k0_chk56 i v25 v271), ∀ (k0_h2 : k0_cond2 i v25 = 1#1), 16 ∣ (k0_mult55 v271).toNat := fun i v25 v271 k0_hw56 k0_h2 => k0_hw56.1 k0_h2
theorem k0_off127_inb : ∀ (i : grid0.Coords) (v25 : BitVec 32) (v271 : BitVec 32) (k0_hw56 : k0_chk56 i v25 v271), ∀ (k0_h2 : k0_cond2 i v25 = 1#1), ∀ a, (k0_off127 v271) a + S16x1024.size a ≤ S50688x1024.size a := fun i v25 v271 k0_hw56 k0_h2 => k0_hw56.2.1 k0_h2
theorem k0_off127_wordsbf16 : ∀ (i : grid0.Coords) (v25 : BitVec 32) (v271 : BitVec 32) (k0_hw56 : k0_chk56 i v25 v271), ∀ (k0_h2 : k0_cond2 i v25 = 1#1), (Rect.unit (s := S50688x1024) (k0_off127 v271) S16x1024.size (k0_off127_inb i v25 v271 k0_hw56 k0_h2)).WholeWords (EltTy.packing .bf16) := fun i v25 v271 k0_hw56 k0_h2 => k0_hw56.2.2 k0_h2 (k0_off127_inb i v25 v271 k0_hw56 k0_h2)

def k0_off128 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_98 : BitVec 32 := 32#32
  let v278 : BitVec 32 := Scalar.muli v47 c32_i32_98
  let c23_i32 : BitVec 32 := 23#32
  let v279 : BitVec 32 := Scalar.addi v278 c23_i32
  let v280 : Index := Scalar.indexCast v279
  ![v280.toNat]
def k0_mult56 (v281 : BitVec 32) : BitVec 32 :=
  v281

def k0_off129 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off130 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c368_i32 : BitVec 32 := 368#32
  let c0_i32_99 : BitVec 32 := 0#32
  ![v46.toNat, 368, 0]
def k0_off131 (v281 : BitVec 32) : Fin 2 → Nat :=
  let v282 : BitVec 32 := v281
  let c0_i32_100 : BitVec 32 := 0#32
  ![v282.toNat, 0]

def k0_chk57 (i : grid0.Coords) (v25 : BitVec 32) (v281 : BitVec 32) : Prop :=
  (∀ (k0_h2 : k0_cond2 i v25 = 1#1), 16 ∣ (k0_mult56 v281).toNat) ∧
  (∀ (k0_h2 : k0_cond2 i v25 = 1#1), ∀ a, (k0_off131 v281) a + S16x1024.size a ≤ S50688x1024.size a) ∧
  (∀ (k0_h2 : k0_cond2 i v25 = 1#1), ∀ (hinb : ∀ a, (k0_off131 v281) a + S16x1024.size a ≤ S50688x1024.size a), (Rect.unit (s := S50688x1024) (k0_off131 v281) S16x1024.size hinb).WholeWords (EltTy.packing .bf16))
theorem k0_mult56_dvd : ∀ (i : grid0.Coords) (v25 : BitVec 32) (v281 : BitVec 32) (k0_hw57 : k0_chk57 i v25 v281), ∀ (k0_h2 : k0_cond2 i v25 = 1#1), 16 ∣ (k0_mult56 v281).toNat := fun i v25 v281 k0_hw57 k0_h2 => k0_hw57.1 k0_h2
theorem k0_off131_inb : ∀ (i : grid0.Coords) (v25 : BitVec 32) (v281 : BitVec 32) (k0_hw57 : k0_chk57 i v25 v281), ∀ (k0_h2 : k0_cond2 i v25 = 1#1), ∀ a, (k0_off131 v281) a + S16x1024.size a ≤ S50688x1024.size a := fun i v25 v281 k0_hw57 k0_h2 => k0_hw57.2.1 k0_h2
theorem k0_off131_wordsbf16 : ∀ (i : grid0.Coords) (v25 : BitVec 32) (v281 : BitVec 32) (k0_hw57 : k0_chk57 i v25 v281), ∀ (k0_h2 : k0_cond2 i v25 = 1#1), (Rect.unit (s := S50688x1024) (k0_off131 v281) S16x1024.size (k0_off131_inb i v25 v281 k0_hw57 k0_h2)).WholeWords (EltTy.packing .bf16) := fun i v25 v281 k0_hw57 k0_h2 => k0_hw57.2.2 k0_h2 (k0_off131_inb i v25 v281 k0_hw57 k0_h2)

def k0_off132 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_101 : BitVec 32 := 32#32
  let v288 : BitVec 32 := Scalar.muli v47 c32_i32_101
  let c24_i32 : BitVec 32 := 24#32
  let v289 : BitVec 32 := Scalar.addi v288 c24_i32
  let v290 : Index := Scalar.indexCast v289
  ![v290.toNat]
def k0_mult57 (v291 : BitVec 32) : BitVec 32 :=
  v291

def k0_off133 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off134 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c384_i32 : BitVec 32 := 384#32
  let c0_i32_102 : BitVec 32 := 0#32
  ![v46.toNat, 384, 0]
def k0_off135 (v291 : BitVec 32) : Fin 2 → Nat :=
  let v292 : BitVec 32 := v291
  let c0_i32_103 : BitVec 32 := 0#32
  ![v292.toNat, 0]

def k0_chk58 (i : grid0.Coords) (v25 : BitVec 32) (v291 : BitVec 32) : Prop :=
  (∀ (k0_h2 : k0_cond2 i v25 = 1#1), 16 ∣ (k0_mult57 v291).toNat) ∧
  (∀ (k0_h2 : k0_cond2 i v25 = 1#1), ∀ a, (k0_off135 v291) a + S16x1024.size a ≤ S50688x1024.size a) ∧
  (∀ (k0_h2 : k0_cond2 i v25 = 1#1), ∀ (hinb : ∀ a, (k0_off135 v291) a + S16x1024.size a ≤ S50688x1024.size a), (Rect.unit (s := S50688x1024) (k0_off135 v291) S16x1024.size hinb).WholeWords (EltTy.packing .bf16))
theorem k0_mult57_dvd : ∀ (i : grid0.Coords) (v25 : BitVec 32) (v291 : BitVec 32) (k0_hw58 : k0_chk58 i v25 v291), ∀ (k0_h2 : k0_cond2 i v25 = 1#1), 16 ∣ (k0_mult57 v291).toNat := fun i v25 v291 k0_hw58 k0_h2 => k0_hw58.1 k0_h2
theorem k0_off135_inb : ∀ (i : grid0.Coords) (v25 : BitVec 32) (v291 : BitVec 32) (k0_hw58 : k0_chk58 i v25 v291), ∀ (k0_h2 : k0_cond2 i v25 = 1#1), ∀ a, (k0_off135 v291) a + S16x1024.size a ≤ S50688x1024.size a := fun i v25 v291 k0_hw58 k0_h2 => k0_hw58.2.1 k0_h2
theorem k0_off135_wordsbf16 : ∀ (i : grid0.Coords) (v25 : BitVec 32) (v291 : BitVec 32) (k0_hw58 : k0_chk58 i v25 v291), ∀ (k0_h2 : k0_cond2 i v25 = 1#1), (Rect.unit (s := S50688x1024) (k0_off135 v291) S16x1024.size (k0_off135_inb i v25 v291 k0_hw58 k0_h2)).WholeWords (EltTy.packing .bf16) := fun i v25 v291 k0_hw58 k0_h2 => k0_hw58.2.2 k0_h2 (k0_off135_inb i v25 v291 k0_hw58 k0_h2)

def k0_off136 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_104 : BitVec 32 := 32#32
  let v298 : BitVec 32 := Scalar.muli v47 c32_i32_104
  let c25_i32 : BitVec 32 := 25#32
  let v299 : BitVec 32 := Scalar.addi v298 c25_i32
  let v300 : Index := Scalar.indexCast v299
  ![v300.toNat]
def k0_mult58 (v301 : BitVec 32) : BitVec 32 :=
  v301

def k0_off137 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off138 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c400_i32 : BitVec 32 := 400#32
  let c0_i32_105 : BitVec 32 := 0#32
  ![v46.toNat, 400, 0]
def k0_off139 (v301 : BitVec 32) : Fin 2 → Nat :=
  let v302 : BitVec 32 := v301
  let c0_i32_106 : BitVec 32 := 0#32
  ![v302.toNat, 0]

def k0_chk59 (i : grid0.Coords) (v25 : BitVec 32) (v301 : BitVec 32) : Prop :=
  (∀ (k0_h2 : k0_cond2 i v25 = 1#1), 16 ∣ (k0_mult58 v301).toNat) ∧
  (∀ (k0_h2 : k0_cond2 i v25 = 1#1), ∀ a, (k0_off139 v301) a + S16x1024.size a ≤ S50688x1024.size a) ∧
  (∀ (k0_h2 : k0_cond2 i v25 = 1#1), ∀ (hinb : ∀ a, (k0_off139 v301) a + S16x1024.size a ≤ S50688x1024.size a), (Rect.unit (s := S50688x1024) (k0_off139 v301) S16x1024.size hinb).WholeWords (EltTy.packing .bf16))
theorem k0_mult58_dvd : ∀ (i : grid0.Coords) (v25 : BitVec 32) (v301 : BitVec 32) (k0_hw59 : k0_chk59 i v25 v301), ∀ (k0_h2 : k0_cond2 i v25 = 1#1), 16 ∣ (k0_mult58 v301).toNat := fun i v25 v301 k0_hw59 k0_h2 => k0_hw59.1 k0_h2
theorem k0_off139_inb : ∀ (i : grid0.Coords) (v25 : BitVec 32) (v301 : BitVec 32) (k0_hw59 : k0_chk59 i v25 v301), ∀ (k0_h2 : k0_cond2 i v25 = 1#1), ∀ a, (k0_off139 v301) a + S16x1024.size a ≤ S50688x1024.size a := fun i v25 v301 k0_hw59 k0_h2 => k0_hw59.2.1 k0_h2
theorem k0_off139_wordsbf16 : ∀ (i : grid0.Coords) (v25 : BitVec 32) (v301 : BitVec 32) (k0_hw59 : k0_chk59 i v25 v301), ∀ (k0_h2 : k0_cond2 i v25 = 1#1), (Rect.unit (s := S50688x1024) (k0_off139 v301) S16x1024.size (k0_off139_inb i v25 v301 k0_hw59 k0_h2)).WholeWords (EltTy.packing .bf16) := fun i v25 v301 k0_hw59 k0_h2 => k0_hw59.2.2 k0_h2 (k0_off139_inb i v25 v301 k0_hw59 k0_h2)

def k0_off140 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_107 : BitVec 32 := 32#32
  let v308 : BitVec 32 := Scalar.muli v47 c32_i32_107
  let c26_i32 : BitVec 32 := 26#32
  let v309 : BitVec 32 := Scalar.addi v308 c26_i32
  let v310 : Index := Scalar.indexCast v309
  ![v310.toNat]
def k0_mult59 (v311 : BitVec 32) : BitVec 32 :=
  v311

def k0_off141 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off142 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c416_i32 : BitVec 32 := 416#32
  let c0_i32_108 : BitVec 32 := 0#32
  ![v46.toNat, 416, 0]
def k0_off143 (v311 : BitVec 32) : Fin 2 → Nat :=
  let v312 : BitVec 32 := v311
  let c0_i32_109 : BitVec 32 := 0#32
  ![v312.toNat, 0]

def k0_chk60 (i : grid0.Coords) (v25 : BitVec 32) (v311 : BitVec 32) : Prop :=
  (∀ (k0_h2 : k0_cond2 i v25 = 1#1), 16 ∣ (k0_mult59 v311).toNat) ∧
  (∀ (k0_h2 : k0_cond2 i v25 = 1#1), ∀ a, (k0_off143 v311) a + S16x1024.size a ≤ S50688x1024.size a) ∧
  (∀ (k0_h2 : k0_cond2 i v25 = 1#1), ∀ (hinb : ∀ a, (k0_off143 v311) a + S16x1024.size a ≤ S50688x1024.size a), (Rect.unit (s := S50688x1024) (k0_off143 v311) S16x1024.size hinb).WholeWords (EltTy.packing .bf16))
theorem k0_mult59_dvd : ∀ (i : grid0.Coords) (v25 : BitVec 32) (v311 : BitVec 32) (k0_hw60 : k0_chk60 i v25 v311), ∀ (k0_h2 : k0_cond2 i v25 = 1#1), 16 ∣ (k0_mult59 v311).toNat := fun i v25 v311 k0_hw60 k0_h2 => k0_hw60.1 k0_h2
theorem k0_off143_inb : ∀ (i : grid0.Coords) (v25 : BitVec 32) (v311 : BitVec 32) (k0_hw60 : k0_chk60 i v25 v311), ∀ (k0_h2 : k0_cond2 i v25 = 1#1), ∀ a, (k0_off143 v311) a + S16x1024.size a ≤ S50688x1024.size a := fun i v25 v311 k0_hw60 k0_h2 => k0_hw60.2.1 k0_h2
theorem k0_off143_wordsbf16 : ∀ (i : grid0.Coords) (v25 : BitVec 32) (v311 : BitVec 32) (k0_hw60 : k0_chk60 i v25 v311), ∀ (k0_h2 : k0_cond2 i v25 = 1#1), (Rect.unit (s := S50688x1024) (k0_off143 v311) S16x1024.size (k0_off143_inb i v25 v311 k0_hw60 k0_h2)).WholeWords (EltTy.packing .bf16) := fun i v25 v311 k0_hw60 k0_h2 => k0_hw60.2.2 k0_h2 (k0_off143_inb i v25 v311 k0_hw60 k0_h2)

def k0_off144 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_110 : BitVec 32 := 32#32
  let v318 : BitVec 32 := Scalar.muli v47 c32_i32_110
  let c27_i32 : BitVec 32 := 27#32
  let v319 : BitVec 32 := Scalar.addi v318 c27_i32
  let v320 : Index := Scalar.indexCast v319
  ![v320.toNat]
def k0_mult60 (v321 : BitVec 32) : BitVec 32 :=
  v321

def k0_off145 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off146 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c432_i32 : BitVec 32 := 432#32
  let c0_i32_111 : BitVec 32 := 0#32
  ![v46.toNat, 432, 0]
def k0_off147 (v321 : BitVec 32) : Fin 2 → Nat :=
  let v322 : BitVec 32 := v321
  let c0_i32_112 : BitVec 32 := 0#32
  ![v322.toNat, 0]

def k0_chk61 (i : grid0.Coords) (v25 : BitVec 32) (v321 : BitVec 32) : Prop :=
  (∀ (k0_h2 : k0_cond2 i v25 = 1#1), 16 ∣ (k0_mult60 v321).toNat) ∧
  (∀ (k0_h2 : k0_cond2 i v25 = 1#1), ∀ a, (k0_off147 v321) a + S16x1024.size a ≤ S50688x1024.size a) ∧
  (∀ (k0_h2 : k0_cond2 i v25 = 1#1), ∀ (hinb : ∀ a, (k0_off147 v321) a + S16x1024.size a ≤ S50688x1024.size a), (Rect.unit (s := S50688x1024) (k0_off147 v321) S16x1024.size hinb).WholeWords (EltTy.packing .bf16))
theorem k0_mult60_dvd : ∀ (i : grid0.Coords) (v25 : BitVec 32) (v321 : BitVec 32) (k0_hw61 : k0_chk61 i v25 v321), ∀ (k0_h2 : k0_cond2 i v25 = 1#1), 16 ∣ (k0_mult60 v321).toNat := fun i v25 v321 k0_hw61 k0_h2 => k0_hw61.1 k0_h2
theorem k0_off147_inb : ∀ (i : grid0.Coords) (v25 : BitVec 32) (v321 : BitVec 32) (k0_hw61 : k0_chk61 i v25 v321), ∀ (k0_h2 : k0_cond2 i v25 = 1#1), ∀ a, (k0_off147 v321) a + S16x1024.size a ≤ S50688x1024.size a := fun i v25 v321 k0_hw61 k0_h2 => k0_hw61.2.1 k0_h2
theorem k0_off147_wordsbf16 : ∀ (i : grid0.Coords) (v25 : BitVec 32) (v321 : BitVec 32) (k0_hw61 : k0_chk61 i v25 v321), ∀ (k0_h2 : k0_cond2 i v25 = 1#1), (Rect.unit (s := S50688x1024) (k0_off147 v321) S16x1024.size (k0_off147_inb i v25 v321 k0_hw61 k0_h2)).WholeWords (EltTy.packing .bf16) := fun i v25 v321 k0_hw61 k0_h2 => k0_hw61.2.2 k0_h2 (k0_off147_inb i v25 v321 k0_hw61 k0_h2)

def k0_off148 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_113 : BitVec 32 := 32#32
  let v328 : BitVec 32 := Scalar.muli v47 c32_i32_113
  let c28_i32 : BitVec 32 := 28#32
  let v329 : BitVec 32 := Scalar.addi v328 c28_i32
  let v330 : Index := Scalar.indexCast v329
  ![v330.toNat]
def k0_mult61 (v331 : BitVec 32) : BitVec 32 :=
  v331

def k0_off149 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off150 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c448_i32 : BitVec 32 := 448#32
  let c0_i32_114 : BitVec 32 := 0#32
  ![v46.toNat, 448, 0]
def k0_off151 (v331 : BitVec 32) : Fin 2 → Nat :=
  let v332 : BitVec 32 := v331
  let c0_i32_115 : BitVec 32 := 0#32
  ![v332.toNat, 0]

def k0_chk62 (i : grid0.Coords) (v25 : BitVec 32) (v331 : BitVec 32) : Prop :=
  (∀ (k0_h2 : k0_cond2 i v25 = 1#1), 16 ∣ (k0_mult61 v331).toNat) ∧
  (∀ (k0_h2 : k0_cond2 i v25 = 1#1), ∀ a, (k0_off151 v331) a + S16x1024.size a ≤ S50688x1024.size a) ∧
  (∀ (k0_h2 : k0_cond2 i v25 = 1#1), ∀ (hinb : ∀ a, (k0_off151 v331) a + S16x1024.size a ≤ S50688x1024.size a), (Rect.unit (s := S50688x1024) (k0_off151 v331) S16x1024.size hinb).WholeWords (EltTy.packing .bf16))
theorem k0_mult61_dvd : ∀ (i : grid0.Coords) (v25 : BitVec 32) (v331 : BitVec 32) (k0_hw62 : k0_chk62 i v25 v331), ∀ (k0_h2 : k0_cond2 i v25 = 1#1), 16 ∣ (k0_mult61 v331).toNat := fun i v25 v331 k0_hw62 k0_h2 => k0_hw62.1 k0_h2
theorem k0_off151_inb : ∀ (i : grid0.Coords) (v25 : BitVec 32) (v331 : BitVec 32) (k0_hw62 : k0_chk62 i v25 v331), ∀ (k0_h2 : k0_cond2 i v25 = 1#1), ∀ a, (k0_off151 v331) a + S16x1024.size a ≤ S50688x1024.size a := fun i v25 v331 k0_hw62 k0_h2 => k0_hw62.2.1 k0_h2
theorem k0_off151_wordsbf16 : ∀ (i : grid0.Coords) (v25 : BitVec 32) (v331 : BitVec 32) (k0_hw62 : k0_chk62 i v25 v331), ∀ (k0_h2 : k0_cond2 i v25 = 1#1), (Rect.unit (s := S50688x1024) (k0_off151 v331) S16x1024.size (k0_off151_inb i v25 v331 k0_hw62 k0_h2)).WholeWords (EltTy.packing .bf16) := fun i v25 v331 k0_hw62 k0_h2 => k0_hw62.2.2 k0_h2 (k0_off151_inb i v25 v331 k0_hw62 k0_h2)

def k0_off152 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_116 : BitVec 32 := 32#32
  let v338 : BitVec 32 := Scalar.muli v47 c32_i32_116
  let c29_i32 : BitVec 32 := 29#32
  let v339 : BitVec 32 := Scalar.addi v338 c29_i32
  let v340 : Index := Scalar.indexCast v339
  ![v340.toNat]
def k0_mult62 (v341 : BitVec 32) : BitVec 32 :=
  v341

def k0_off153 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off154 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c464_i32 : BitVec 32 := 464#32
  let c0_i32_117 : BitVec 32 := 0#32
  ![v46.toNat, 464, 0]
def k0_off155 (v341 : BitVec 32) : Fin 2 → Nat :=
  let v342 : BitVec 32 := v341
  let c0_i32_118 : BitVec 32 := 0#32
  ![v342.toNat, 0]

def k0_chk63 (i : grid0.Coords) (v25 : BitVec 32) (v341 : BitVec 32) : Prop :=
  (∀ (k0_h2 : k0_cond2 i v25 = 1#1), 16 ∣ (k0_mult62 v341).toNat) ∧
  (∀ (k0_h2 : k0_cond2 i v25 = 1#1), ∀ a, (k0_off155 v341) a + S16x1024.size a ≤ S50688x1024.size a) ∧
  (∀ (k0_h2 : k0_cond2 i v25 = 1#1), ∀ (hinb : ∀ a, (k0_off155 v341) a + S16x1024.size a ≤ S50688x1024.size a), (Rect.unit (s := S50688x1024) (k0_off155 v341) S16x1024.size hinb).WholeWords (EltTy.packing .bf16))
theorem k0_mult62_dvd : ∀ (i : grid0.Coords) (v25 : BitVec 32) (v341 : BitVec 32) (k0_hw63 : k0_chk63 i v25 v341), ∀ (k0_h2 : k0_cond2 i v25 = 1#1), 16 ∣ (k0_mult62 v341).toNat := fun i v25 v341 k0_hw63 k0_h2 => k0_hw63.1 k0_h2
theorem k0_off155_inb : ∀ (i : grid0.Coords) (v25 : BitVec 32) (v341 : BitVec 32) (k0_hw63 : k0_chk63 i v25 v341), ∀ (k0_h2 : k0_cond2 i v25 = 1#1), ∀ a, (k0_off155 v341) a + S16x1024.size a ≤ S50688x1024.size a := fun i v25 v341 k0_hw63 k0_h2 => k0_hw63.2.1 k0_h2
theorem k0_off155_wordsbf16 : ∀ (i : grid0.Coords) (v25 : BitVec 32) (v341 : BitVec 32) (k0_hw63 : k0_chk63 i v25 v341), ∀ (k0_h2 : k0_cond2 i v25 = 1#1), (Rect.unit (s := S50688x1024) (k0_off155 v341) S16x1024.size (k0_off155_inb i v25 v341 k0_hw63 k0_h2)).WholeWords (EltTy.packing .bf16) := fun i v25 v341 k0_hw63 k0_h2 => k0_hw63.2.2 k0_h2 (k0_off155_inb i v25 v341 k0_hw63 k0_h2)

def k0_off156 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_119 : BitVec 32 := 32#32
  let v348 : BitVec 32 := Scalar.muli v47 c32_i32_119
  let c30_i32 : BitVec 32 := 30#32
  let v349 : BitVec 32 := Scalar.addi v348 c30_i32
  let v350 : Index := Scalar.indexCast v349
  ![v350.toNat]
def k0_mult63 (v351 : BitVec 32) : BitVec 32 :=
  v351

def k0_off157 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off158 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c480_i32 : BitVec 32 := 480#32
  let c0_i32_120 : BitVec 32 := 0#32
  ![v46.toNat, 480, 0]
def k0_off159 (v351 : BitVec 32) : Fin 2 → Nat :=
  let v352 : BitVec 32 := v351
  let c0_i32_121 : BitVec 32 := 0#32
  ![v352.toNat, 0]

def k0_chk64 (i : grid0.Coords) (v25 : BitVec 32) (v351 : BitVec 32) : Prop :=
  (∀ (k0_h2 : k0_cond2 i v25 = 1#1), 16 ∣ (k0_mult63 v351).toNat) ∧
  (∀ (k0_h2 : k0_cond2 i v25 = 1#1), ∀ a, (k0_off159 v351) a + S16x1024.size a ≤ S50688x1024.size a) ∧
  (∀ (k0_h2 : k0_cond2 i v25 = 1#1), ∀ (hinb : ∀ a, (k0_off159 v351) a + S16x1024.size a ≤ S50688x1024.size a), (Rect.unit (s := S50688x1024) (k0_off159 v351) S16x1024.size hinb).WholeWords (EltTy.packing .bf16))
theorem k0_mult63_dvd : ∀ (i : grid0.Coords) (v25 : BitVec 32) (v351 : BitVec 32) (k0_hw64 : k0_chk64 i v25 v351), ∀ (k0_h2 : k0_cond2 i v25 = 1#1), 16 ∣ (k0_mult63 v351).toNat := fun i v25 v351 k0_hw64 k0_h2 => k0_hw64.1 k0_h2
theorem k0_off159_inb : ∀ (i : grid0.Coords) (v25 : BitVec 32) (v351 : BitVec 32) (k0_hw64 : k0_chk64 i v25 v351), ∀ (k0_h2 : k0_cond2 i v25 = 1#1), ∀ a, (k0_off159 v351) a + S16x1024.size a ≤ S50688x1024.size a := fun i v25 v351 k0_hw64 k0_h2 => k0_hw64.2.1 k0_h2
theorem k0_off159_wordsbf16 : ∀ (i : grid0.Coords) (v25 : BitVec 32) (v351 : BitVec 32) (k0_hw64 : k0_chk64 i v25 v351), ∀ (k0_h2 : k0_cond2 i v25 = 1#1), (Rect.unit (s := S50688x1024) (k0_off159 v351) S16x1024.size (k0_off159_inb i v25 v351 k0_hw64 k0_h2)).WholeWords (EltTy.packing .bf16) := fun i v25 v351 k0_hw64 k0_h2 => k0_hw64.2.2 k0_h2 (k0_off159_inb i v25 v351 k0_hw64 k0_h2)

def k0_off160 (i : grid0.Coords) : Fin 1 → Nat :=
  let arg0 : BitVec 32 := BitVec.ofNat 32 (i 0).val
  let c1_i32_22 : BitVec 32 := 1#32
  let v47 : BitVec 32 := Scalar.addi arg0 c1_i32_22
  let c32_i32_122 : BitVec 32 := 32#32
  let v358 : BitVec 32 := Scalar.muli v47 c32_i32_122
  let c31_i32 : BitVec 32 := 31#32
  let v359 : BitVec 32 := Scalar.addi v358 c31_i32
  let v360 : Index := Scalar.indexCast v359
  ![v360.toNat]

def k0_chk33 (i : grid0.Coords) (v25 : BitVec 32) : Prop :=
  (∀ (k0_h2 : k0_cond2 i v25 = 1#1), ∀ a, (k0_off36 i) a + S1.size a ≤ S4128.size a) ∧
  (∀ (k0_h2 : k0_cond2 i v25 = 1#1), ∀ a, (k0_off40 i) a + S1.size a ≤ S4128.size a) ∧
  (∀ (k0_h2 : k0_cond2 i v25 = 1#1), ∀ a, (k0_off44 i) a + S1.size a ≤ S4128.size a) ∧
  (∀ (k0_h2 : k0_cond2 i v25 = 1#1), ∀ a, (k0_off48 i) a + S1.size a ≤ S4128.size a) ∧
  (∀ (k0_h2 : k0_cond2 i v25 = 1#1), ∀ a, (k0_off52 i) a + S1.size a ≤ S4128.size a) ∧
  (∀ (k0_h2 : k0_cond2 i v25 = 1#1), ∀ a, (k0_off56 i) a + S1.size a ≤ S4128.size a) ∧
  (∀ (k0_h2 : k0_cond2 i v25 = 1#1), ∀ a, (k0_off60 i) a + S1.size a ≤ S4128.size a) ∧
  (∀ (k0_h2 : k0_cond2 i v25 = 1#1), ∀ a, (k0_off64 i) a + S1.size a ≤ S4128.size a) ∧
  (∀ (k0_h2 : k0_cond2 i v25 = 1#1), ∀ a, (k0_off68 i) a + S1.size a ≤ S4128.size a) ∧
  (∀ (k0_h2 : k0_cond2 i v25 = 1#1), ∀ a, (k0_off72 i) a + S1.size a ≤ S4128.size a) ∧
  (∀ (k0_h2 : k0_cond2 i v25 = 1#1), ∀ a, (k0_off76 i) a + S1.size a ≤ S4128.size a) ∧
  (∀ (k0_h2 : k0_cond2 i v25 = 1#1), ∀ a, (k0_off80 i) a + S1.size a ≤ S4128.size a) ∧
  (∀ (k0_h2 : k0_cond2 i v25 = 1#1), ∀ a, (k0_off84 i) a + S1.size a ≤ S4128.size a) ∧
  (∀ (k0_h2 : k0_cond2 i v25 = 1#1), ∀ a, (k0_off88 i) a + S1.size a ≤ S4128.size a) ∧
  (∀ (k0_h2 : k0_cond2 i v25 = 1#1), ∀ a, (k0_off92 i) a + S1.size a ≤ S4128.size a) ∧
  (∀ (k0_h2 : k0_cond2 i v25 = 1#1), ∀ a, (k0_off96 i) a + S1.size a ≤ S4128.size a) ∧
  (∀ (k0_h2 : k0_cond2 i v25 = 1#1), ∀ a, (k0_off100 i) a + S1.size a ≤ S4128.size a) ∧
  (∀ (k0_h2 : k0_cond2 i v25 = 1#1), ∀ a, (k0_off104 i) a + S1.size a ≤ S4128.size a) ∧
  (∀ (k0_h2 : k0_cond2 i v25 = 1#1), ∀ a, (k0_off108 i) a + S1.size a ≤ S4128.size a) ∧
  (∀ (k0_h2 : k0_cond2 i v25 = 1#1), ∀ a, (k0_off112 i) a + S1.size a ≤ S4128.size a) ∧
  (∀ (k0_h2 : k0_cond2 i v25 = 1#1), ∀ a, (k0_off116 i) a + S1.size a ≤ S4128.size a) ∧
  (∀ (k0_h2 : k0_cond2 i v25 = 1#1), ∀ a, (k0_off120 i) a + S1.size a ≤ S4128.size a) ∧
  (∀ (k0_h2 : k0_cond2 i v25 = 1#1), ∀ a, (k0_off124 i) a + S1.size a ≤ S4128.size a) ∧
  (∀ (k0_h2 : k0_cond2 i v25 = 1#1), ∀ a, (k0_off128 i) a + S1.size a ≤ S4128.size a) ∧
  (∀ (k0_h2 : k0_cond2 i v25 = 1#1), ∀ a, (k0_off132 i) a + S1.size a ≤ S4128.size a) ∧
  (∀ (k0_h2 : k0_cond2 i v25 = 1#1), ∀ a, (k0_off136 i) a + S1.size a ≤ S4128.size a) ∧
  (∀ (k0_h2 : k0_cond2 i v25 = 1#1), ∀ a, (k0_off140 i) a + S1.size a ≤ S4128.size a) ∧
  (∀ (k0_h2 : k0_cond2 i v25 = 1#1), ∀ a, (k0_off144 i) a + S1.size a ≤ S4128.size a) ∧
  (∀ (k0_h2 : k0_cond2 i v25 = 1#1), ∀ a, (k0_off148 i) a + S1.size a ≤ S4128.size a) ∧
  (∀ (k0_h2 : k0_cond2 i v25 = 1#1), ∀ a, (k0_off152 i) a + S1.size a ≤ S4128.size a) ∧
  (∀ (k0_h2 : k0_cond2 i v25 = 1#1), ∀ a, (k0_off156 i) a + S1.size a ≤ S4128.size a) ∧
  (∀ (k0_h2 : k0_cond2 i v25 = 1#1), ∀ a, (k0_off160 i) a + S1.size a ≤ S4128.size a)
theorem k0_off36_inb : ∀ (i : grid0.Coords) (v25 : BitVec 32) (k0_hw33 : k0_chk33 i v25), ∀ (k0_h2 : k0_cond2 i v25 = 1#1), ∀ a, (k0_off36 i) a + S1.size a ≤ S4128.size a := fun i v25 k0_hw33 k0_h2 => k0_hw33.1 k0_h2
theorem k0_off40_inb : ∀ (i : grid0.Coords) (v25 : BitVec 32) (k0_hw33 : k0_chk33 i v25), ∀ (k0_h2 : k0_cond2 i v25 = 1#1), ∀ a, (k0_off40 i) a + S1.size a ≤ S4128.size a := fun i v25 k0_hw33 k0_h2 => k0_hw33.2.1 k0_h2
theorem k0_off44_inb : ∀ (i : grid0.Coords) (v25 : BitVec 32) (k0_hw33 : k0_chk33 i v25), ∀ (k0_h2 : k0_cond2 i v25 = 1#1), ∀ a, (k0_off44 i) a + S1.size a ≤ S4128.size a := fun i v25 k0_hw33 k0_h2 => k0_hw33.2.2.1 k0_h2
theorem k0_off48_inb : ∀ (i : grid0.Coords) (v25 : BitVec 32) (k0_hw33 : k0_chk33 i v25), ∀ (k0_h2 : k0_cond2 i v25 = 1#1), ∀ a, (k0_off48 i) a + S1.size a ≤ S4128.size a := fun i v25 k0_hw33 k0_h2 => k0_hw33.2.2.2.1 k0_h2
theorem k0_off52_inb : ∀ (i : grid0.Coords) (v25 : BitVec 32) (k0_hw33 : k0_chk33 i v25), ∀ (k0_h2 : k0_cond2 i v25 = 1#1), ∀ a, (k0_off52 i) a + S1.size a ≤ S4128.size a := fun i v25 k0_hw33 k0_h2 => k0_hw33.2.2.2.2.1 k0_h2
theorem k0_off56_inb : ∀ (i : grid0.Coords) (v25 : BitVec 32) (k0_hw33 : k0_chk33 i v25), ∀ (k0_h2 : k0_cond2 i v25 = 1#1), ∀ a, (k0_off56 i) a + S1.size a ≤ S4128.size a := fun i v25 k0_hw33 k0_h2 => k0_hw33.2.2.2.2.2.1 k0_h2
theorem k0_off60_inb : ∀ (i : grid0.Coords) (v25 : BitVec 32) (k0_hw33 : k0_chk33 i v25), ∀ (k0_h2 : k0_cond2 i v25 = 1#1), ∀ a, (k0_off60 i) a + S1.size a ≤ S4128.size a := fun i v25 k0_hw33 k0_h2 => k0_hw33.2.2.2.2.2.2.1 k0_h2
theorem k0_off64_inb : ∀ (i : grid0.Coords) (v25 : BitVec 32) (k0_hw33 : k0_chk33 i v25), ∀ (k0_h2 : k0_cond2 i v25 = 1#1), ∀ a, (k0_off64 i) a + S1.size a ≤ S4128.size a := fun i v25 k0_hw33 k0_h2 => k0_hw33.2.2.2.2.2.2.2.1 k0_h2
theorem k0_off68_inb : ∀ (i : grid0.Coords) (v25 : BitVec 32) (k0_hw33 : k0_chk33 i v25), ∀ (k0_h2 : k0_cond2 i v25 = 1#1), ∀ a, (k0_off68 i) a + S1.size a ≤ S4128.size a := fun i v25 k0_hw33 k0_h2 => k0_hw33.2.2.2.2.2.2.2.2.1 k0_h2
theorem k0_off72_inb : ∀ (i : grid0.Coords) (v25 : BitVec 32) (k0_hw33 : k0_chk33 i v25), ∀ (k0_h2 : k0_cond2 i v25 = 1#1), ∀ a, (k0_off72 i) a + S1.size a ≤ S4128.size a := fun i v25 k0_hw33 k0_h2 => k0_hw33.2.2.2.2.2.2.2.2.2.1 k0_h2
theorem k0_off76_inb : ∀ (i : grid0.Coords) (v25 : BitVec 32) (k0_hw33 : k0_chk33 i v25), ∀ (k0_h2 : k0_cond2 i v25 = 1#1), ∀ a, (k0_off76 i) a + S1.size a ≤ S4128.size a := fun i v25 k0_hw33 k0_h2 => k0_hw33.2.2.2.2.2.2.2.2.2.2.1 k0_h2
theorem k0_off80_inb : ∀ (i : grid0.Coords) (v25 : BitVec 32) (k0_hw33 : k0_chk33 i v25), ∀ (k0_h2 : k0_cond2 i v25 = 1#1), ∀ a, (k0_off80 i) a + S1.size a ≤ S4128.size a := fun i v25 k0_hw33 k0_h2 => k0_hw33.2.2.2.2.2.2.2.2.2.2.2.1 k0_h2
theorem k0_off84_inb : ∀ (i : grid0.Coords) (v25 : BitVec 32) (k0_hw33 : k0_chk33 i v25), ∀ (k0_h2 : k0_cond2 i v25 = 1#1), ∀ a, (k0_off84 i) a + S1.size a ≤ S4128.size a := fun i v25 k0_hw33 k0_h2 => k0_hw33.2.2.2.2.2.2.2.2.2.2.2.2.1 k0_h2
theorem k0_off88_inb : ∀ (i : grid0.Coords) (v25 : BitVec 32) (k0_hw33 : k0_chk33 i v25), ∀ (k0_h2 : k0_cond2 i v25 = 1#1), ∀ a, (k0_off88 i) a + S1.size a ≤ S4128.size a := fun i v25 k0_hw33 k0_h2 => k0_hw33.2.2.2.2.2.2.2.2.2.2.2.2.2.1 k0_h2
theorem k0_off92_inb : ∀ (i : grid0.Coords) (v25 : BitVec 32) (k0_hw33 : k0_chk33 i v25), ∀ (k0_h2 : k0_cond2 i v25 = 1#1), ∀ a, (k0_off92 i) a + S1.size a ≤ S4128.size a := fun i v25 k0_hw33 k0_h2 => k0_hw33.2.2.2.2.2.2.2.2.2.2.2.2.2.2.1 k0_h2
theorem k0_off96_inb : ∀ (i : grid0.Coords) (v25 : BitVec 32) (k0_hw33 : k0_chk33 i v25), ∀ (k0_h2 : k0_cond2 i v25 = 1#1), ∀ a, (k0_off96 i) a + S1.size a ≤ S4128.size a := fun i v25 k0_hw33 k0_h2 => k0_hw33.2.2.2.2.2.2.2.2.2.2.2.2.2.2.2.1 k0_h2
theorem k0_off100_inb : ∀ (i : grid0.Coords) (v25 : BitVec 32) (k0_hw33 : k0_chk33 i v25), ∀ (k0_h2 : k0_cond2 i v25 = 1#1), ∀ a, (k0_off100 i) a + S1.size a ≤ S4128.size a := fun i v25 k0_hw33 k0_h2 => k0_hw33.2.2.2.2.2.2.2.2.2.2.2.2.2.2.2.2.1 k0_h2
theorem k0_off104_inb : ∀ (i : grid0.Coords) (v25 : BitVec 32) (k0_hw33 : k0_chk33 i v25), ∀ (k0_h2 : k0_cond2 i v25 = 1#1), ∀ a, (k0_off104 i) a + S1.size a ≤ S4128.size a := fun i v25 k0_hw33 k0_h2 => k0_hw33.2.2.2.2.2.2.2.2.2.2.2.2.2.2.2.2.2.1 k0_h2
theorem k0_off108_inb : ∀ (i : grid0.Coords) (v25 : BitVec 32) (k0_hw33 : k0_chk33 i v25), ∀ (k0_h2 : k0_cond2 i v25 = 1#1), ∀ a, (k0_off108 i) a + S1.size a ≤ S4128.size a := fun i v25 k0_hw33 k0_h2 => k0_hw33.2.2.2.2.2.2.2.2.2.2.2.2.2.2.2.2.2.2.1 k0_h2
theorem k0_off112_inb : ∀ (i : grid0.Coords) (v25 : BitVec 32) (k0_hw33 : k0_chk33 i v25), ∀ (k0_h2 : k0_cond2 i v25 = 1#1), ∀ a, (k0_off112 i) a + S1.size a ≤ S4128.size a := fun i v25 k0_hw33 k0_h2 => k0_hw33.2.2.2.2.2.2.2.2.2.2.2.2.2.2.2.2.2.2.2.1 k0_h2
theorem k0_off116_inb : ∀ (i : grid0.Coords) (v25 : BitVec 32) (k0_hw33 : k0_chk33 i v25), ∀ (k0_h2 : k0_cond2 i v25 = 1#1), ∀ a, (k0_off116 i) a + S1.size a ≤ S4128.size a := fun i v25 k0_hw33 k0_h2 => k0_hw33.2.2.2.2.2.2.2.2.2.2.2.2.2.2.2.2.2.2.2.2.1 k0_h2
theorem k0_off120_inb : ∀ (i : grid0.Coords) (v25 : BitVec 32) (k0_hw33 : k0_chk33 i v25), ∀ (k0_h2 : k0_cond2 i v25 = 1#1), ∀ a, (k0_off120 i) a + S1.size a ≤ S4128.size a := fun i v25 k0_hw33 k0_h2 => k0_hw33.2.2.2.2.2.2.2.2.2.2.2.2.2.2.2.2.2.2.2.2.2.1 k0_h2
theorem k0_off124_inb : ∀ (i : grid0.Coords) (v25 : BitVec 32) (k0_hw33 : k0_chk33 i v25), ∀ (k0_h2 : k0_cond2 i v25 = 1#1), ∀ a, (k0_off124 i) a + S1.size a ≤ S4128.size a := fun i v25 k0_hw33 k0_h2 => k0_hw33.2.2.2.2.2.2.2.2.2.2.2.2.2.2.2.2.2.2.2.2.2.2.1 k0_h2
theorem k0_off128_inb : ∀ (i : grid0.Coords) (v25 : BitVec 32) (k0_hw33 : k0_chk33 i v25), ∀ (k0_h2 : k0_cond2 i v25 = 1#1), ∀ a, (k0_off128 i) a + S1.size a ≤ S4128.size a := fun i v25 k0_hw33 k0_h2 => k0_hw33.2.2.2.2.2.2.2.2.2.2.2.2.2.2.2.2.2.2.2.2.2.2.2.1 k0_h2
theorem k0_off132_inb : ∀ (i : grid0.Coords) (v25 : BitVec 32) (k0_hw33 : k0_chk33 i v25), ∀ (k0_h2 : k0_cond2 i v25 = 1#1), ∀ a, (k0_off132 i) a + S1.size a ≤ S4128.size a := fun i v25 k0_hw33 k0_h2 => k0_hw33.2.2.2.2.2.2.2.2.2.2.2.2.2.2.2.2.2.2.2.2.2.2.2.2.1 k0_h2
theorem k0_off136_inb : ∀ (i : grid0.Coords) (v25 : BitVec 32) (k0_hw33 : k0_chk33 i v25), ∀ (k0_h2 : k0_cond2 i v25 = 1#1), ∀ a, (k0_off136 i) a + S1.size a ≤ S4128.size a := fun i v25 k0_hw33 k0_h2 => k0_hw33.2.2.2.2.2.2.2.2.2.2.2.2.2.2.2.2.2.2.2.2.2.2.2.2.2.1 k0_h2
theorem k0_off140_inb : ∀ (i : grid0.Coords) (v25 : BitVec 32) (k0_hw33 : k0_chk33 i v25), ∀ (k0_h2 : k0_cond2 i v25 = 1#1), ∀ a, (k0_off140 i) a + S1.size a ≤ S4128.size a := fun i v25 k0_hw33 k0_h2 => k0_hw33.2.2.2.2.2.2.2.2.2.2.2.2.2.2.2.2.2.2.2.2.2.2.2.2.2.2.1 k0_h2
theorem k0_off144_inb : ∀ (i : grid0.Coords) (v25 : BitVec 32) (k0_hw33 : k0_chk33 i v25), ∀ (k0_h2 : k0_cond2 i v25 = 1#1), ∀ a, (k0_off144 i) a + S1.size a ≤ S4128.size a := fun i v25 k0_hw33 k0_h2 => k0_hw33.2.2.2.2.2.2.2.2.2.2.2.2.2.2.2.2.2.2.2.2.2.2.2.2.2.2.2.1 k0_h2
theorem k0_off148_inb : ∀ (i : grid0.Coords) (v25 : BitVec 32) (k0_hw33 : k0_chk33 i v25), ∀ (k0_h2 : k0_cond2 i v25 = 1#1), ∀ a, (k0_off148 i) a + S1.size a ≤ S4128.size a := fun i v25 k0_hw33 k0_h2 => k0_hw33.2.2.2.2.2.2.2.2.2.2.2.2.2.2.2.2.2.2.2.2.2.2.2.2.2.2.2.2.1 k0_h2
theorem k0_off152_inb : ∀ (i : grid0.Coords) (v25 : BitVec 32) (k0_hw33 : k0_chk33 i v25), ∀ (k0_h2 : k0_cond2 i v25 = 1#1), ∀ a, (k0_off152 i) a + S1.size a ≤ S4128.size a := fun i v25 k0_hw33 k0_h2 => k0_hw33.2.2.2.2.2.2.2.2.2.2.2.2.2.2.2.2.2.2.2.2.2.2.2.2.2.2.2.2.2.1 k0_h2
theorem k0_off156_inb : ∀ (i : grid0.Coords) (v25 : BitVec 32) (k0_hw33 : k0_chk33 i v25), ∀ (k0_h2 : k0_cond2 i v25 = 1#1), ∀ a, (k0_off156 i) a + S1.size a ≤ S4128.size a := fun i v25 k0_hw33 k0_h2 => k0_hw33.2.2.2.2.2.2.2.2.2.2.2.2.2.2.2.2.2.2.2.2.2.2.2.2.2.2.2.2.2.2.1 k0_h2
theorem k0_off160_inb : ∀ (i : grid0.Coords) (v25 : BitVec 32) (k0_hw33 : k0_chk33 i v25), ∀ (k0_h2 : k0_cond2 i v25 = 1#1), ∀ a, (k0_off160 i) a + S1.size a ≤ S4128.size a := fun i v25 k0_hw33 k0_h2 => k0_hw33.2.2.2.2.2.2.2.2.2.2.2.2.2.2.2.2.2.2.2.2.2.2.2.2.2.2.2.2.2.2.2 k0_h2

def k0_mult64 (v361 : BitVec 32) : BitVec 32 :=
  v361

def k0_off161 (i : grid0.Coords) : Fin 1 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  ![v46.toNat]
def k0_off162 (i : grid0.Coords) : Fin 3 → Nat :=
  let c1_i32_21 : BitVec 32 := 1#32
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : BitVec 32 := Scalar.subi c1_i32_21 v15
  let c496_i32 : BitVec 32 := 496#32
  let c0_i32_123 : BitVec 32 := 0#32
  ![v46.toNat, 496, 0]
def k0_off163 (v361 : BitVec 32) : Fin 2 → Nat :=
  let v362 : BitVec 32 := v361
  let c0_i32_124 : BitVec 32 := 0#32
  ![v362.toNat, 0]

def k0_chk65 (i : grid0.Coords) (v25 : BitVec 32) (v361 : BitVec 32) : Prop :=
  (∀ (k0_h2 : k0_cond2 i v25 = 1#1), 16 ∣ (k0_mult64 v361).toNat) ∧
  (∀ (k0_h2 : k0_cond2 i v25 = 1#1), ∀ a, (k0_off163 v361) a + S16x1024.size a ≤ S50688x1024.size a) ∧
  (∀ (k0_h2 : k0_cond2 i v25 = 1#1), ∀ (hinb : ∀ a, (k0_off163 v361) a + S16x1024.size a ≤ S50688x1024.size a), (Rect.unit (s := S50688x1024) (k0_off163 v361) S16x1024.size hinb).WholeWords (EltTy.packing .bf16))
theorem k0_mult64_dvd : ∀ (i : grid0.Coords) (v25 : BitVec 32) (v361 : BitVec 32) (k0_hw65 : k0_chk65 i v25 v361), ∀ (k0_h2 : k0_cond2 i v25 = 1#1), 16 ∣ (k0_mult64 v361).toNat := fun i v25 v361 k0_hw65 k0_h2 => k0_hw65.1 k0_h2
theorem k0_off163_inb : ∀ (i : grid0.Coords) (v25 : BitVec 32) (v361 : BitVec 32) (k0_hw65 : k0_chk65 i v25 v361), ∀ (k0_h2 : k0_cond2 i v25 = 1#1), ∀ a, (k0_off163 v361) a + S16x1024.size a ≤ S50688x1024.size a := fun i v25 v361 k0_hw65 k0_h2 => k0_hw65.2.1 k0_h2
theorem k0_off163_wordsbf16 : ∀ (i : grid0.Coords) (v25 : BitVec 32) (v361 : BitVec 32) (k0_hw65 : k0_chk65 i v25 v361), ∀ (k0_h2 : k0_cond2 i v25 = 1#1), (Rect.unit (s := S50688x1024) (k0_off163 v361) S16x1024.size (k0_off163_inb i v25 v361 k0_hw65 k0_h2)).WholeWords (EltTy.packing .bf16) := fun i v25 v361 k0_hw65 k0_h2 => k0_hw65.2.2 k0_h2 (k0_off163_inb i v25 v361 k0_hw65 k0_h2)

def k0_off164 (i : grid0.Coords) : Fin 1 → Nat :=
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  ![v15.toNat]
def k0_off165 (i : grid0.Coords) : Fin 3 → Nat :=
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let c0_i32_21 : BitVec 32 := 0#32
  let c0_i32_22 : BitVec 32 := 0#32
  ![v15.toNat, 0, 0]
def k0_off166 (i : grid0.Coords) : Fin 3 → Nat :=
  let arg0 : BitVec 32 := BitVec.ofNat 32 (i 0).val
  let c2_i32 : BitVec 32 := 2#32
  let c0_i32_0 : BitVec 32 := 0#32
  let v6 : BitVec 1 := Scalar.cmpi .eq c2_i32 c0_i32_0
  let c1_i32_1 : BitVec 32 := 1#32
  let v7 : BitVec 32 := Scalar.select v6 c1_i32_1 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v46 : Index := Scalar.indexCast v15
  let c0 : Index := 0#32
  let c0_21 : Index := 0#32
  ![v46.toNat, 0, 0]
def k0_cond5 (v1 : BitVec 32) : BitVec 1 :=
  let c0_i32_17 : BitVec 32 := 0#32
  let v40 : BitVec 1 := Scalar.cmpi .sge v1 c0_i32_17
  let v41 : BitVec 32 := Scalar.extui v40
  let c0_i32_18 : BitVec 32 := 0#32
  let v42 : BitVec 1 := Scalar.cmpi .ne v41 c0_i32_18
  v42

def k0_cond6 (v1 : BitVec 32) : BitVec 1 :=
  let c0_i32_19 : BitVec 32 := 0#32
  let v43 : BitVec 1 := Scalar.cmpi .slt v1 c0_i32_19
  let v44 : BitVec 32 := Scalar.extui v43
  let c0_i32_20 : BitVec 32 := 0#32
  let v45 : BitVec 1 := Scalar.cmpi .ne v44 c0_i32_20
  v45

def cc0_transform_1 (k0_off1_inb : ∀ i : grid0.Coords, ∀ a, (k0_off1 i) a + S1.size a ≤ S129.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S129) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S129.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S129) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S129.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S129) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S129 : Shape := ⟨1, ![129]⟩
abbrev S4128 : Shape := ⟨1, ![4128]⟩
abbrev S50688x1024 : Shape := ⟨2, ![50688, 1024]⟩
abbrev S32x1024x512 : Shape := ⟨3, ![32, 1024, 512]⟩
abbrev S32x512x1024 : Shape := ⟨3, ![32, 512, 1024]⟩
abbrev S4128x1 : Shape := ⟨2, ![4128, 1]⟩
abbrev S16 : Shape := ⟨1, ![16]⟩
abbrev S1x16 : Shape := ⟨2, ![1, 16]⟩
abbrev S4128x16 : Shape := ⟨2, ![4128, 16]⟩
abbrev S66048 : Shape := ⟨1, ![66048]⟩
abbrev S66048x1 : Shape := ⟨2, ![66048, 1]⟩
abbrev S66048x1024 : Shape := ⟨2, ![66048, 1024]⟩
abbrev S129x512 : Shape := ⟨2, ![129, 512]⟩
abbrev S1x32 : Shape := ⟨2, ![1, 32]⟩
abbrev S66048x32 : Shape := ⟨2, ![66048, 32]⟩
abbrev S32x512x66048 : Shape := ⟨3, ![32, 512, 66048]⟩
abbrev S32x66048x512 : Shape := ⟨3, ![32, 66048, 512]⟩
abbrev S_ : Shape := ⟨0, ![]⟩
abbrev S32x66048x1024 : Shape := ⟨3, ![32, 66048, 1024]⟩
abbrev S32x66048 : Shape := ⟨2, ![32, 66048]⟩
abbrev S32x66048x1 : Shape := ⟨3, ![32, 66048, 1]⟩

abbrev nBuf : Space → Nat
  | .hbm => 47
  | .vmem => 0
  | .smem => 0
  | _ => 0

abbrev bufTy : (tb : Table) → Fin (tcTables nBuf tb) → BufTy
  | .hbm, ⟨0, _⟩ => ⟨S129, .i32⟩
  | .hbm, ⟨1, _⟩ => ⟨S129, .i32⟩
  | .hbm, ⟨2, _⟩ => ⟨S4128, .i32⟩
  | .hbm, ⟨3, _⟩ => ⟨S50688x1024, .bf16⟩
  | .hbm, ⟨4, _⟩ => ⟨S32x1024x512, .f32⟩
  | .hbm, ⟨5, _⟩ => ⟨S32x1024x512, .f32⟩
  | .hbm, ⟨6, _⟩ => ⟨S32x512x1024, .f32⟩
  | .hbm, ⟨7, _⟩ => ⟨S4128x1, .i32⟩
  | .hbm, ⟨8, _⟩ => ⟨S16, .i32⟩
  | .hbm, ⟨9, _⟩ => ⟨S1x16, .i32⟩
  | .hbm, ⟨10, _⟩ => ⟨S4128x16, .i32⟩
  | .hbm, ⟨11, _⟩ => ⟨S4128x16, .i32⟩
  | .hbm, ⟨12, _⟩ => ⟨S4128x16, .i32⟩
  | .hbm, ⟨13, _⟩ => ⟨S66048, .i32⟩
  | .hbm, ⟨14, _⟩ => ⟨S50688x1024, .f32⟩
  | .hbm, ⟨15, _⟩ => ⟨S66048x1, .i32⟩
  | .hbm, ⟨16, _⟩ => ⟨S66048x1024, .f32⟩
  | .hbm, ⟨17, _⟩ => ⟨S129x512, .i32⟩
  | .hbm, ⟨18, _⟩ => ⟨S66048, .i32⟩
  | .hbm, ⟨19, _⟩ => ⟨S66048x1, .i32⟩
  | .hbm, ⟨20, _⟩ => ⟨S1x32, .i32⟩
  | .hbm, ⟨21, _⟩ => ⟨S66048x32, .i32⟩
  | .hbm, ⟨22, _⟩ => ⟨S66048x32, .i32⟩
  | .hbm, ⟨23, _⟩ => ⟨S66048x32, .i1⟩
  | .hbm, ⟨24, _⟩ => ⟨S66048x32, .f32⟩
  | .hbm, ⟨25, _⟩ => ⟨S32x512x66048, .f32⟩
  | .hbm, ⟨26, _⟩ => ⟨S32x66048x512, .f32⟩
  | .hbm, ⟨27, _⟩ => ⟨S32x66048x512, .f32⟩
  | .hbm, ⟨28, _⟩ => ⟨S32x66048x512, .f32⟩
  | .hbm, ⟨29, _⟩ => ⟨S_, .f32⟩
  | .hbm, ⟨30, _⟩ => ⟨S32x66048x512, .f32⟩
  | .hbm, ⟨31, _⟩ => ⟨S32x66048x512, .f32⟩
  | .hbm, ⟨32, _⟩ => ⟨S_, .f32⟩
  | .hbm, ⟨33, _⟩ => ⟨S32x66048x512, .f32⟩
  | .hbm, ⟨34, _⟩ => ⟨S32x66048x512, .f32⟩
  | .hbm, ⟨35, _⟩ => ⟨S32x66048x512, .f32⟩
  | .hbm, ⟨36, _⟩ => ⟨S32x512x66048, .f32⟩
  | .hbm, ⟨37, _⟩ => ⟨S32x66048x512, .f32⟩
  | .hbm, ⟨38, _⟩ => ⟨S32x66048x512, .f32⟩
  | .hbm, ⟨39, _⟩ => ⟨S32x66048x1024, .f32⟩
  | .hbm, ⟨40, _⟩ => ⟨S32x66048, .f32⟩
  | .hbm, ⟨41, _⟩ => ⟨S32x66048x1, .f32⟩
  | .hbm, ⟨42, _⟩ => ⟨S32x66048x1024, .f32⟩
  | .hbm, ⟨43, _⟩ => ⟨S32x66048x1024, .f32⟩
  | .hbm, ⟨44, _⟩ => ⟨S_, .f32⟩
  | .hbm, ⟨45, _⟩ => ⟨S66048x1024, .f32⟩
  | .hbm, ⟨46, _⟩ => ⟨S66048x1024, .bf16⟩
  | _, _ => ⟨S129, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_v0 : Ref sig .tc := ⟨.hbm, 27, rfl⟩
abbrev main_call2_v1 : Ref sig .tc := ⟨.hbm, 28, rfl⟩
abbrev main_call2_cst : Ref sig .tc := ⟨.hbm, 29, rfl⟩
abbrev main_call2_v2 : Ref sig .tc := ⟨.hbm, 30, rfl⟩
abbrev main_call2_v3 : Ref sig .tc := ⟨.hbm, 31, rfl⟩
abbrev main_call2_cst_0 : Ref sig .tc := ⟨.hbm, 32, rfl⟩
abbrev main_call2_v4 : Ref sig .tc := ⟨.hbm, 33, rfl⟩
abbrev main_call2_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x4104 : Shape := ⟨2, ![1024, 4104]⟩
abbrev S8 : Shape := ⟨1, ![8]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S16384x1024 : Shape := ⟨2, ![16384, 1024]⟩
abbrev S1x1024 : Shape := ⟨2, ![1, 1024]⟩
abbrev S16384x512 : Shape := ⟨2, ![16384, 512]⟩
abbrev S8x512x2048 : Shape := ⟨3, ![8, 512, 2048]⟩
abbrev S8x8x2048 : Shape := ⟨3, ![8, 8, 2048]⟩
abbrev S16384x2048 : Shape := ⟨2, ![16384, 2048]⟩
abbrev S512x1024 : Shape := ⟨2, ![512, 1024]⟩
abbrev S512x512 : Shape := ⟨2, ![512, 512]⟩
abbrev S1x512x512 : Shape := ⟨3, ![1, 512, 512]⟩
abbrev S1x8x512 : Shape := ⟨3, ![1, 8, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S8x512 : Shape := ⟨2, ![8, 512]⟩

abbrev nBuf : Space → Nat
  | .hbm => 27
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S1024x2048, .f32⟩
  | .hbm, ⟨5, _⟩ => ⟨S1024x8, .f32⟩
  | .hbm, ⟨6, _⟩ => ⟨S1024x2048, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S16384x1024, .f32⟩
  | .hbm, ⟨15, _⟩ => ⟨S1x1024, .f32⟩
  | .hbm, ⟨16, _⟩ => ⟨S1024x2048, .bf16⟩
  | .hbm, ⟨17, _⟩ => ⟨S1024x128, .bf16⟩
  | .hbm, ⟨18, _⟩ => ⟨S1024x2048, .bf16⟩
  | .hbm, ⟨19, _⟩ => ⟨S16384x512, .f32⟩
  | .hbm, ⟨20, _⟩ => ⟨S16384x512, .bf16⟩
  | .hbm, ⟨21, _⟩ => ⟨S8x512x2048, .f32⟩
  | .hbm, ⟨22, _⟩ => ⟨S8x512x2048, .f32⟩
  | .hbm, ⟨23, _⟩ => ⟨S16384x512, .bf16⟩
  | .hbm, ⟨24, _⟩ => ⟨S16384x512, .bf16⟩
  | .hbm, ⟨25, _⟩ => ⟨S8x8x2048, .f32⟩
  | .hbm, ⟨26, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x2048, .bf16⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S1x8x512, .f32⟩
  | .local _ .vmem, ⟨20, _⟩ => ⟨S1x8x512, .f32⟩
  | .local _ .vmem, ⟨21, _⟩ => ⟨S512x2048, .bf16⟩
  | .local _ .vmem, ⟨22, _⟩ => ⟨S512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v11_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x2048x1024 : Shape := ⟨3, ![8, 2048, 1024]⟩
abbrev S1024 : Shape := ⟨1, ![1024]⟩
abbrev S1024x4104 : Shape := ⟨2, ![1024, 4104]⟩
abbrev S8 : Shape := ⟨1, ![8]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4104 : Shape := ⟨3, ![8, 2048, 4104]⟩
abbrev S8x2048x512 : Shape := ⟨3, ![8, 2048, 512]⟩
abbrev S8x2048x8 : Shape := ⟨3, ![8, 2048, 8]⟩
abbrev S8x2048x2048 : Shape := ⟨3, ![8, 2048, 2048]⟩
abbrev S1x1x8 : Shape := ⟨3, ![1, 1, 8]⟩
abbrev S16384x512 : Shape := ⟨2, ![16384, 512]⟩
abbrev S8x512x2048 : Shape := ⟨3, ![8, 512, 2048]⟩
abbrev S8x8x2048 : Shape := ⟨3, ![8, 8, 2048]⟩
abbrev S16384x2048 : Shape := ⟨2, ![16384, 2048]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x4104, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x8, .f32⟩
  | .hbm, ⟨26, _⟩ => ⟨S8x2048x2048, .f32⟩
  | .hbm, ⟨27, _⟩ => ⟨S1x1x8, .f32⟩
  | .hbm, ⟨28, _⟩ => ⟨S8x2048x8, .f32⟩
  | .hbm, ⟨29, _⟩ => ⟨S8x2048x8, .f32⟩
  | .hbm, ⟨30, _⟩ => ⟨S8x2048x8, .f32⟩
  | .hbm, ⟨31, _⟩ => ⟨S_, .f32⟩
  | .hbm, ⟨32, _⟩ => ⟨S8x2048x8, .f32⟩
  | .hbm, ⟨33, _⟩ => ⟨S8x2048x8, .f32⟩
  | .hbm, ⟨34, _⟩ => ⟨S8x2048x8, .f32⟩
  | .hbm, ⟨35, _⟩ => ⟨S8x2048x8, .f32⟩
  | .hbm, ⟨36, _⟩ => ⟨S8x2048x8, .i1⟩
  | .hbm, ⟨37, _⟩ => ⟨S8x2048x8, .f32⟩
  | .hbm, ⟨38, _⟩ => ⟨S8x2048x8, .f32⟩
  | .hbm, ⟨39, _⟩ => ⟨S8x2048x8, .f32⟩
  | .hbm, ⟨40, _⟩ => ⟨S8x2048x8, .f32⟩
  | .hbm, ⟨41, _⟩ => ⟨S8x2048x8, .f32⟩
  | .hbm, ⟨42, _⟩ => ⟨S8x2048x8, .f32⟩
  | .hbm, ⟨43, _⟩ => ⟨S8x2048x8, .f32⟩
  | .hbm, ⟨44, _⟩ => ⟨S8x2048x8, .f32⟩
  | .hbm, ⟨45, _⟩ => ⟨S8x2048x8, .f32⟩
  | .hbm, ⟨46, _⟩ => ⟨S16384x512, .f32⟩
  | .hbm, ⟨47, _⟩ => ⟨S_, .f32⟩
  | .hbm, ⟨48, _⟩ => ⟨S8x2048x512, .f32⟩
  | .hbm, ⟨49, _⟩ => ⟨S8x2048x512, .f32⟩
  | .hbm, ⟨50, _⟩ => ⟨S16384x512, .f32⟩
  | .hbm, ⟨51, _⟩ => ⟨S16384x512, .bf16⟩
  | .hbm, ⟨52, _⟩ => ⟨S8x512x2048, .f32⟩
  | .hbm, ⟨53, _⟩ => ⟨S8x512x2048, .f32⟩
  | .hbm, ⟨54, _⟩ => ⟨S16384x512, .f32⟩
  | .hbm, ⟨55, _⟩ => ⟨S16384x512, .bf16⟩
  | .hbm, ⟨56, _⟩ => ⟨S16384x512, .f32⟩
  | .hbm, ⟨57, _⟩ => ⟨S16384x512, .bf16⟩
  | .hbm, ⟨58, _⟩ => ⟨S8x8x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x2048x2048, .f32⟩
  | .hbm, ⟨66, _⟩ => ⟨S8x2048x2048, .f32⟩
  | .hbm, ⟨67, _⟩ => ⟨S16384x2048, .f32⟩
  | .hbm, ⟨68, _⟩ => ⟨S16384x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Kernel3.lean ====
abbrev S32x1x1024 : Shape := ⟨3, ![32, 1, 1024]⟩
abbrev S1024 : Shape := ⟨1, ![1024]⟩
abbrev S1024x4104 : Shape := ⟨2, ![1024, 4104]⟩
abbrev S8 : Shape := ⟨1, ![8]⟩
abbrev S4104x1024 : Shape := ⟨2, ![4104, 1024]⟩
abbrev S2048x1024 : Shape := ⟨2, ![2048, 1024]⟩
abbrev S8x1024 : Shape := ⟨2, ![8, 1024]⟩
abbrev S_ : Shape := ⟨0, ![]⟩
abbrev S128x1024 : Shape := ⟨2, ![128, 1024]⟩
abbrev S128 : Shape := ⟨1, ![128]⟩
abbrev S1x128 : Shape := ⟨2, ![1, 128]⟩
abbrev S32x1024 : Shape := ⟨2, ![32, 1024]⟩
abbrev S1x1024 : Shape := ⟨2, ![1, 1024]⟩
abbrev S32x2048 : Shape := ⟨2, ![32, 2048]⟩
abbrev S32x128 : Shape := ⟨2, ![32, 128]⟩
abbrev S512x1024 : Shape := ⟨2, ![512, 1024]⟩
abbrev S32x512 : Shape := ⟨2, ![32, 512]⟩
abbrev S32 : Shape := ⟨1, ![32]⟩
abbrev S32x1 : Shape := ⟨2, ![32, 1]⟩

abbrev nBuf : Space → Nat
  | .hbm => 20
  | .vmem => 13
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S4104x1024, .f32⟩
  | .hbm, ⟨5, _⟩ => ⟨S2048x1024, .f32⟩
  | .hbm, ⟨6, _⟩ => ⟨S2048x1024, .f32⟩
  | .hbm, ⟨7, _⟩ => ⟨S8x1024, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S32x1024, .f32⟩
  | .hbm, ⟨16, _⟩ => ⟨S1x1024, .f32⟩
  | .hbm, ⟨17, _⟩ => ⟨S32x2048, .f32⟩
  | .hbm, ⟨18, _⟩ => ⟨S32x128, .f32⟩
  | .hbm, ⟨19, _⟩ => ⟨S32x2048, .f32⟩
  | .local _ .vmem, ⟨0, _⟩ => ⟨S32x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S128x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S32x512, .f32⟩
  | .local _ .vmem, ⟨9, _⟩ => ⟨S32x512, .f32⟩
  | .local _ .vmem, ⟨10, _⟩ => ⟨S32x128, .f32⟩
  | .local _ .vmem, ⟨11, _⟩ => ⟨S32x512, .f32⟩
  | .local _ .vmem, ⟨12, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32x1x1024 : Shape := ⟨3, ![32, 1, 1024]⟩
abbrev S1024 : Shape := ⟨1, ![1024]⟩
abbrev S1024x4104 : Shape := ⟨2, ![1024, 4104]⟩
abbrev S8 : Shape := ⟨1, ![8]⟩
abbrev S32x1024 : Shape := ⟨2, ![32, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x4104 : Shape := ⟨2, ![32, 4104]⟩
abbrev S32x2048 : Shape := ⟨2, ![32, 2048]⟩
abbrev S32x8 : Shape := ⟨2, ![32, 8]⟩
abbrev S1x8 : Shape := ⟨2, ![1, 8]⟩
abbrev S32x128 : Shape := ⟨2, ![32, 128]⟩

abbrev nBuf : Space → Nat
  | .hbm => 55
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S32x4104, .f32⟩
  | .hbm, ⟨22, _⟩ => ⟨S32x2048, .f32⟩
  | .hbm, ⟨23, _⟩ => ⟨S32x8, .f32⟩
  | .hbm, ⟨24, _⟩ => ⟨S32x2048, .f32⟩
  | .hbm, ⟨25, _⟩ => ⟨S1x8, .f32⟩
  | .hbm, ⟨26, _⟩ => ⟨S32x8, .f32⟩
  | .hbm, ⟨27, _⟩ => ⟨S32x8, .f32⟩
  | .hbm, ⟨28, _⟩ => ⟨S_, .i32⟩
  | .hbm, ⟨29, _⟩ => ⟨S_, .f32⟩
  | .hbm, ⟨30, _⟩ => ⟨S32x128, .f32⟩
  | .hbm, ⟨31, _⟩ => ⟨S32x128, .f32⟩
  | .hbm, ⟨32, _⟩ => ⟨S_, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S32x128, .f32⟩
  | .hbm, ⟨37, _⟩ => ⟨S32x128, .i1⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S32x128, .f32⟩
  | .hbm, ⟨44, _⟩ => ⟨S32x128, .f32⟩
  | .hbm, ⟨45, _⟩ => ⟨S32x128, .f32⟩
  | .hbm, ⟨46, _⟩ => ⟨S32x128, .f32⟩
  | .hbm, ⟨47, _⟩ => ⟨S32x2048, .f32⟩
  | .hbm, ⟨48, _⟩ => ⟨S32x2048, .f32⟩
  | .hbm, ⟨49, _⟩ => ⟨S_, .f32⟩
  | .hbm, ⟨50, _⟩ => ⟨S32x2048, .f32⟩
  | .hbm, ⟨51, _⟩ => ⟨S32x2048, .f32⟩
  | .hbm, ⟨52, _⟩ => ⟨S_, .f32⟩
  | .hbm, ⟨53, _⟩ => ⟨S32x2048, .f32⟩
  | .hbm, ⟨54, _⟩ => ⟨S32x2048, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== Kernel4.lean ====
abbrev S32x1x1024 : Shape := ⟨3, ![32, 1, 1024]⟩
abbrev S32x512 : Shape := ⟨2, ![32, 512]⟩
abbrev S32x15x512 : Shape := ⟨3, ![32, 15, 512]⟩
abbrev S32x2048 : Shape := ⟨2, ![32, 2048]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S32 : Shape := ⟨1, ![32]⟩
abbrev S36 : Shape := ⟨1, ![36]⟩
abbrev S128 : Shape := ⟨1, ![128]⟩
abbrev S1x128 : Shape := ⟨2, ![1, 128]⟩
abbrev S32x1024 : Shape := ⟨2, ![32, 1024]⟩
abbrev S15x32x512 : Shape := ⟨3, ![15, 32, 512]⟩
abbrev S1x512 : Shape := ⟨2, ![1, 512]⟩
abbrev S1x1024 : Shape := ⟨2, ![1, 1024]⟩
abbrev S1536x1024 : Shape := ⟨2, ![1536, 1024]⟩
abbrev S32x128 : Shape := ⟨2, ![32, 128]⟩
abbrev S1x1x128 : Shape := ⟨3, ![1, 1, 128]⟩
abbrev S1x32x512 : Shape := ⟨3, ![1, 32, 512]⟩
abbrev S1x128x128 : Shape := ⟨3, ![1, 128, 128]⟩
abbrev S128x128 : Shape := ⟨2, ![128, 128]⟩
abbrev S32x1 : Shape := ⟨2, ![32, 1]⟩
abbrev S32x32 : Shape := ⟨2, ![32, 32]⟩
abbrev S8x128 : Shape := ⟨2, ![8, 128]⟩
abbrev S96x128 : Shape := ⟨2, ![96, 128]⟩
abbrev S1x32 : Shape := ⟨2, ![1, 32]⟩
abbrev S1536x32 : Shape := ⟨2, ![1536, 32]⟩

abbrev nBuf : Space → Nat
  | .hbm => 35
  | .vmem => 17
  | .smem => 0
  | _ => 0

abbrev bufTy : (tb : Table) → Fin (tcTables nBuf tb) → BufTy
  | .hbm, ⟨0, _⟩ => ⟨S32x1x1024, .f32⟩
  | .hbm, ⟨1, _⟩ => ⟨S32x512, .f32⟩
  | .hbm, ⟨2, _⟩ => ⟨S32x15x512, .f32⟩
  | .hbm, ⟨3, _⟩ => ⟨S32x512, .f32⟩
  | .hbm, ⟨4, _⟩ => ⟨S32x2048, .f32⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S4x1024x8, .f32⟩
  | .hbm, ⟨14, _⟩ => ⟨S4x8, .f32⟩
  | .hbm, ⟨15, _⟩ => ⟨S1024x4x8, .f32⟩
  | .hbm, ⟨16, _⟩ => ⟨S1024x32, .f32⟩
  | .hbm, ⟨17, _⟩ => ⟨S1024x36, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S32, .f32⟩
  | .hbm, ⟨22, _⟩ => ⟨S36, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S32x1024, .f32⟩
  | .hbm, ⟨28, _⟩ => ⟨S15x32x512, .f32⟩
  | .hbm, ⟨29, _⟩ => ⟨S1x512, .f32⟩
  | .hbm, ⟨30, _⟩ => ⟨S1x1024, .f32⟩
  | .hbm, ⟨31, _⟩ => ⟨S32x1024, .f32⟩
  | .hbm, ⟨32, _⟩ => ⟨S1536x1024, .bf16⟩
  | .hbm, ⟨33, _⟩ => ⟨S32x128, .f32⟩
  | .hbm, ⟨34, _⟩ => ⟨S1x1x128, .f32⟩
  | .local _ .vmem, ⟨0, _⟩ => ⟨S32x1024, .f32⟩
  | .local _ .vmem, ⟨1, _⟩ => ⟨S32x512, .f32⟩
  | .local _ .vmem, ⟨2, _⟩ => ⟨S15x32x512, .f32⟩
  | .local _ .vmem, ⟨3, _⟩ => ⟨S32x512, .f32⟩
  | .local _ .vmem, ⟨4, _⟩ => ⟨S32x2048, .f32⟩
  | .local _ .vmem, ⟨5, _⟩ => ⟨S4x128x128, .f32⟩
  | .local _ .vmem, ⟨6, _⟩ => ⟨S1x512, .f32⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | .local _ .vmem, ⟨10, _⟩ => ⟨S1x1024, .f32⟩
  | .local _ .vmem, ⟨11, _⟩ => ⟨S1024x128, .f32⟩
  | .local _ .vmem, ⟨12, _⟩ => ⟨S1x128, .f32⟩
  | .local _ .vmem, ⟨13, _⟩ => ⟨S32x1024, .f32⟩
  | .local _ .vmem, ⟨14, _⟩ => ⟨S1536x1024, .bf16⟩
  | .local _ .vmem, ⟨15, _⟩ => ⟨S32x128, .f32⟩
  | .local _ .vmem, ⟨16, _⟩ => ⟨S1x1x128, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_call1_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev main_v12_2 : Ref sig .tc := ⟨.hbm, 33, rfl⟩
abbrev main_v12_3 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15x32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1536x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Reference4Ideal.lean ====
abbrev S32x1x1024 : Shape := ⟨3, ![32, 1, 1024]⟩
abbrev S32x512 : Shape := ⟨2, ![32, 512]⟩
abbrev S32x15x512 : Shape := ⟨3, ![32, 15, 512]⟩
abbrev S32x2048 : Shape := ⟨2, ![32, 2048]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1x512 : Shape := ⟨3, ![32, 1, 512]⟩
abbrev S32x16x512 : Shape := ⟨3, ![32, 16, 512]⟩
abbrev S32x2x128 : Shape := ⟨3, ![32, 2, 128]⟩
abbrev S_ : Shape := ⟨0, ![]⟩
abbrev S32x128 : Shape := ⟨2, ![32, 128]⟩
abbrev S32x4x128 : Shape := ⟨3, ![32, 4, 128]⟩
abbrev S32x8x128 : Shape := ⟨3, ![32, 8, 128]⟩
abbrev S32x16x128 : Shape := ⟨3, ![32, 16, 128]⟩
abbrev S32x1x128 : Shape := ⟨3, ![32, 1, 128]⟩
abbrev S4x128x32 : Shape := ⟨3, ![4, 128, 32]⟩
abbrev S1x512 : Shape := ⟨2, ![1, 512]⟩
abbrev S32x1024 : Shape := ⟨2, ![32, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x512, .f32⟩
  | .hbm, ⟨2, _⟩ => ⟨S32x15x512, .f32⟩
  | .hbm, ⟨3, _⟩ => ⟨S32x512, .f32⟩
  | .hbm, ⟨4, _⟩ => ⟨S32x2048, .f32⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S4x1024x8, .f32⟩
  | .hbm, ⟨14, _⟩ => ⟨S4x8, .f32⟩
  | .hbm, ⟨15, _⟩ => ⟨S32x1x512, .f32⟩
  | .hbm, ⟨16, _⟩ => ⟨S32x16x512, .f32⟩
  | .hbm, ⟨17, _⟩ => ⟨S32x2x128, .f32⟩
  | .hbm, ⟨18, _⟩ => ⟨S_, .f32⟩
  | .hbm, ⟨19, _⟩ => ⟨S32x128, .f32⟩
  | .hbm, ⟨20, _⟩ => ⟨S_, .f32⟩
  | .hbm, ⟨21, _⟩ => ⟨S32x128, .f32⟩
  | .hbm, ⟨22, _⟩ => ⟨S32x128, .f32⟩
  | .hbm, ⟨23, _⟩ => ⟨S32x128, .f32⟩
  | .hbm, ⟨24, _⟩ => ⟨S32x128, .f32⟩
  | .hbm, ⟨25, _⟩ => ⟨S32x4x128, .f32⟩
  | .hbm, ⟨26, _⟩ => ⟨S_, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S32x128, .f32⟩
  | .hbm, ⟨33, _⟩ => ⟨S32x8x128, .f32⟩
  | .hbm, ⟨34, _⟩ => ⟨S_, .f32⟩
  | .hbm, ⟨35, _⟩ => ⟨S32x128, .f32⟩
  | .hbm, ⟨36, _⟩ => ⟨S_, .f32⟩
  | .hbm, ⟨37, _⟩ => ⟨S32x128, .f32⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S32x16x128, .f32⟩
  | .hbm, ⟨42, _⟩ => ⟨S_, .f32⟩
  | .hbm, ⟨43, _⟩ => ⟨S32x128, .f32⟩
  | .hbm, ⟨44, _⟩ => ⟨S_, .f32⟩
  | .hbm, ⟨45, _⟩ => ⟨S32x128, .f32⟩
  | .hbm, ⟨46, _⟩ => ⟨S32x128, .f32⟩
  | .hbm, ⟨47, _⟩ => ⟨S32x128, .f32⟩
  | .hbm, ⟨48, _⟩ => ⟨S32x128, .f32⟩
  | .hbm, ⟨49, _⟩ => ⟨S32x1x128, .f32⟩
  | .hbm, ⟨50, _⟩ => ⟨S32x1x128, .f32⟩
  | .hbm, ⟨51, _⟩ => ⟨S32x1x128, .f32⟩
  | .hbm, ⟨52, _⟩ => ⟨S32x1x128, .f32⟩
  | .hbm, ⟨53, _⟩ => ⟨S32x4x128, .f32⟩
  | .hbm, ⟨54, _⟩ => ⟨S4x128x32, .f32⟩
  | .hbm, ⟨55, _⟩ => ⟨S32x4x128, .f32⟩
  | .hbm, ⟨56, _⟩ => ⟨S32x512, .f32⟩
  | .hbm, ⟨57, _⟩ => ⟨S1x512, .f32⟩
  | .hbm, ⟨58, _⟩ => ⟨S32x512, .f32⟩
  | .hbm, ⟨59, _⟩ => ⟨S32x512, .f32⟩
  | .hbm, ⟨60, _⟩ => ⟨S32x1024, .f32⟩
  | .hbm, ⟨61, _⟩ => ⟨S32x1024, .f32⟩
  | .hbm, ⟨62, _⟩ => ⟨S32x1024, .f32⟩
  | .hbm, ⟨63, _⟩ => ⟨S32x1024, .f32⟩
  | .hbm, ⟨64, _⟩ => ⟨S32x1024, .f32⟩
  | .hbm, ⟨65, _⟩ => ⟨S32x1024, .f32⟩
  | .hbm, ⟨66, _⟩ => ⟨S32x1024, .f32⟩
  | .hbm, ⟨67, _⟩ => ⟨S32x1024, .f32⟩
  | .hbm, ⟨68, _⟩ => ⟨S32x1024, .f32⟩
  | .hbm, ⟨69, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Kernel5.lean ====
abbrev S32x1x1024 : Shape := ⟨3, ![32, 1, 1024]⟩
abbrev S1x32x15x512 : Shape := ⟨4, ![1, 32, 15, 512]⟩
abbrev S1024 : Shape := ⟨1, ![1024]⟩
abbrev S1024x4104 : Shape := ⟨2, ![1024, 4104]⟩
abbrev S8 : Shape := ⟨1, ![8]⟩
abbrev S4104x1024 : Shape := ⟨2, ![4104, 1024]⟩
abbrev S2048x1024 : Shape := ⟨2, ![2048, 1024]⟩
abbrev S8x1024 : Shape := ⟨2, ![8, 1024]⟩
abbrev S_ : Shape := ⟨0, ![]⟩
abbrev S128x1024 : Shape := ⟨2, ![128, 1024]⟩
abbrev S128 : Shape := ⟨1, ![128]⟩
abbrev S1x128 : Shape := ⟨2, ![1, 128]⟩
abbrev S32x1024 : Shape := ⟨2, ![32, 1024]⟩
abbrev S1x1024 : Shape := ⟨2, ![1, 1024]⟩
abbrev S32x2048 : Shape := ⟨2, ![32, 2048]⟩
abbrev S32x128 : Shape := ⟨2, ![32, 128]⟩
abbrev S512x1024 : Shape := ⟨2, ![512, 1024]⟩
abbrev S32x512 : Shape := ⟨2, ![32, 512]⟩
abbrev S32 : Shape := ⟨1, ![32]⟩
abbrev S32x1 : Shape := ⟨2, ![32, 1]⟩
abbrev S32x15x512 : Shape := ⟨3, ![32, 15, 512]⟩
abbrev S32x14x512 : Shape := ⟨3, ![32, 14, 512]⟩
abbrev S32x1x512 : Shape := ⟨3, ![32, 1, 512]⟩
abbrev S1x32x1x8x64 : Shape := ⟨5, ![1, 32, 1, 8, 64]⟩
abbrev S32x8 : Shape := ⟨2, ![32, 8]⟩
abbrev S1x32x1x8 : Shape := ⟨4, ![1, 32, 1, 8]⟩

abbrev nBuf : Space → Nat
  | .hbm => 33
  | .vmem => 13
  | .smem => 0
  | _ => 0

abbrev bufTy : (tb : Table) → Fin (tcTables nBuf tb) → BufTy
  | .hbm, ⟨0, _⟩ => ⟨S32x1x1024, .f32⟩
  | .hbm, ⟨1, _⟩ => ⟨S1x32x15x512, .f32⟩
  | .hbm, ⟨2, _⟩ => ⟨S1024, .f32⟩
  | .hbm, ⟨3, _⟩ => ⟨S1024x4104, .f32⟩
  | .hbm, ⟨4, _⟩ => ⟨S8, .f32⟩
  | .hbm, ⟨5, _⟩ => ⟨S4104x1024, .f32⟩
  | .hbm, ⟨6, _⟩ => ⟨S2048x1024, .f32⟩
  | .hbm, ⟨7, _⟩ => ⟨S2048x1024, .f32⟩
  | .hbm, ⟨8, _⟩ => ⟨S8x1024, .f32⟩
  | .hbm, ⟨9, _⟩ => ⟨S_, .i32⟩
  | .hbm, ⟨10, _⟩ => ⟨S_, .f32⟩
  | .hbm, ⟨11, _⟩ => ⟨S128x1024, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S32x1024, .f32⟩
  | .hbm, ⟨17, _⟩ => ⟨S1x1024, .f32⟩
  | .hbm, ⟨18, _⟩ => ⟨S32x2048, .f32⟩
  | .hbm, ⟨19, _⟩ => ⟨S32x128, .f32⟩
  | .hbm, ⟨20, _⟩ => ⟨S32x2048, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x15x512, .f32⟩
  | .hbm, ⟨25, _⟩ => ⟨S32x14x512, .f32⟩
  | .hbm, ⟨26, _⟩ => ⟨S32x1x512, .f32⟩
  | .hbm, ⟨27, _⟩ => ⟨S32x15x512, .f32⟩
  | .hbm, ⟨28, _⟩ => ⟨S1x32x1x8x64, .f32⟩
  | .hbm, ⟨29, _⟩ => ⟨S1x32x1x8x64, .f32⟩
  | .hbm, ⟨30, _⟩ => ⟨S32x8, .f32⟩
  | .hbm, ⟨31, _⟩ => ⟨S1x32x1x8, .f32⟩
  | .hbm, ⟨32, _⟩ => ⟨S1x32x15x512, .f32⟩
  | .local _ .vmem, ⟨0, _⟩ => ⟨S32x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S128x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S32x512, .f32⟩
  | .local _ .vmem, ⟨9, _⟩ => ⟨S32x512, .f32⟩
  | .local _ .vmem, ⟨10, _⟩ => ⟨S32x128, .f32⟩
  | .local _ .vmem, ⟨11, _⟩ => ⟨S32x512, .f32⟩
  | .local _ .vmem, ⟨12, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S32x1x1024 : Shape := ⟨3, ![32, 1, 1024]⟩
abbrev S1x32x15x512 : Shape := ⟨4, ![1, 32, 15, 512]⟩
abbrev S1024 : Shape := ⟨1, ![1024]⟩
abbrev S1024x4104 : Shape := ⟨2, ![1024, 4104]⟩
abbrev S8 : Shape := ⟨1, ![8]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x4104 : Shape := ⟨3, ![32, 1, 4104]⟩
abbrev S32x1x512 : Shape := ⟨3, ![32, 1, 512]⟩
abbrev S32x1x8 : Shape := ⟨3, ![32, 1, 8]⟩
abbrev S32x1x2048 : Shape := ⟨3, ![32, 1, 2048]⟩
abbrev S1x1x8 : Shape := ⟨3, ![1, 1, 8]⟩
abbrev S32x15x512 : Shape := ⟨3, ![32, 15, 512]⟩
abbrev S32x16x512 : Shape := ⟨3, ![32, 16, 512]⟩
abbrev S1x32x1x8x64 : Shape := ⟨5, ![1, 32, 1, 8, 64]⟩
abbrev S1x32x1x8 : Shape := ⟨4, ![1, 32, 1, 8]⟩

abbrev nBuf : Space → Nat
  | .hbm => 54
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x32x15x512, .f32⟩
  | .hbm, ⟨2, _⟩ => ⟨S1024, .f32⟩
  | .hbm, ⟨3, _⟩ => ⟨S1024x4104, .f32⟩
  | .hbm, ⟨4, _⟩ => ⟨S8, .f32⟩
  | .hbm, ⟨5, _⟩ => ⟨S32x1x1024, .f32⟩
  | .hbm, ⟨6, _⟩ => ⟨S_, .f32⟩
  | .hbm, ⟨7, _⟩ => ⟨S32x1, .f32⟩
  | .hbm, ⟨8, _⟩ => ⟨S32x1x1, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S32x1x1, .f32⟩
  | .hbm, ⟨16, _⟩ => ⟨S32x1x1024, .f32⟩
  | .hbm, ⟨17, _⟩ => ⟨S32x1x1024, .f32⟩
  | .hbm, ⟨18, _⟩ => ⟨S1x1x1024, .f32⟩
  | .hbm, ⟨19, _⟩ => ⟨S32x1x1024, .f32⟩
  | .hbm, ⟨20, _⟩ => ⟨S32x1x1024, .f32⟩
  | .hbm, ⟨21, _⟩ => ⟨S32x1x4104, .f32⟩
  | .hbm, ⟨22, _⟩ => ⟨S32x1x512, .f32⟩
  | .hbm, ⟨23, _⟩ => ⟨S32x1x512, .f32⟩
  | .hbm, ⟨24, _⟩ => ⟨S32x1x512, .f32⟩
  | .hbm, ⟨25, _⟩ => ⟨S32x1x512, .f32⟩
  | .hbm, ⟨26, _⟩ => ⟨S32x1x8, .f32⟩
  | .hbm, ⟨27, _⟩ => ⟨S32x1x2048, .f32⟩
  | .hbm, ⟨28, _⟩ => ⟨S1x1x8, .f32⟩
  | .hbm, ⟨29, _⟩ => ⟨S32x1x8, .f32⟩
  | .hbm, ⟨30, _⟩ => ⟨S32x1x8, .f32⟩
  | .hbm, ⟨31, _⟩ => ⟨S32x1x8, .f32⟩
  | .hbm, ⟨32, _⟩ => ⟨S_, .f32⟩
  | .hbm, ⟨33, _⟩ => ⟨S32x1x8, .f32⟩
  | .hbm, ⟨34, _⟩ => ⟨S32x1x8, .f32⟩
  | .hbm, ⟨35, _⟩ => ⟨S32x1x8, .f32⟩
  | .hbm, ⟨36, _⟩ => ⟨S32x1x8, .f32⟩
  | .hbm, ⟨37, _⟩ => ⟨S32x1x8, .i1⟩
  | .hbm, ⟨38, _⟩ => ⟨S32x1x8, .f32⟩
  | .hbm, ⟨39, _⟩ => ⟨S32x1x8, .f32⟩
  | .hbm, ⟨40, _⟩ => ⟨S32x1x8, .f32⟩
  | .hbm, ⟨41, _⟩ => ⟨S32x1x8, .f32⟩
  | .hbm, ⟨42, _⟩ => ⟨S32x1x8, .f32⟩
  | .hbm, ⟨43, _⟩ => ⟨S32x1x8, .f32⟩
  | .hbm, ⟨44, _⟩ => ⟨S32x1x8, .f32⟩
  | .hbm, ⟨45, _⟩ => ⟨S32x1x8, .f32⟩
  | .hbm, ⟨46, _⟩ => ⟨S32x1x8, .f32⟩
  | .hbm, ⟨47, _⟩ => ⟨S32x15x512, .f32⟩
  | .hbm, ⟨48, _⟩ => ⟨S32x16x512, .f32⟩
  | .hbm, ⟨49, _⟩ => ⟨S1x32x1x8x64, .f32⟩
  | .hbm, ⟨50, _⟩ => ⟨S1x32x1x8x64, .f32⟩
  | .hbm, ⟨51, _⟩ => ⟨S1x32x1x8, .f32⟩
  | .hbm, ⟨52, _⟩ => ⟨S32x15x512, .f32⟩
  | .hbm, ⟨53, _⟩ => ⟨S1x32x15x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== Kernel6.lean ====
abbrev S64x2048 : Shape := ⟨2, ![64, 2048]⟩

abbrev nBuf : Space → Nat
  | .hbm => 2
  | .vmem => 2
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .local _ .vmem, ⟨0, _⟩ => ⟨S64x2048, .f32⟩
  | .local _ .vmem, ⟨1, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference6Ideal.lean ====
abbrev S64x2048 : Shape := ⟨2, ![64, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S64x1x2048 : Shape := ⟨3, ![64, 1, 2048]⟩
abbrev S_ : Shape := ⟨0, ![]⟩
abbrev S64x2048x2048 : Shape := ⟨3, ![64, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .i32⟩
  | .hbm, ⟨2, _⟩ => ⟨S1x2048, .i32⟩
  | .hbm, ⟨3, _⟩ => ⟨S2048x1, .i32⟩
  | .hbm, ⟨4, _⟩ => ⟨S2048x2048, .i32⟩
  | .hbm, ⟨5, _⟩ => ⟨S2048x2048, .i32⟩
  | .hbm, ⟨6, _⟩ => ⟨S2048x2048, .i1⟩
  | .hbm, ⟨7, _⟩ => ⟨S64x1x2048, .f32⟩
  | .hbm, ⟨8, _⟩ => ⟨S_, .f32⟩
  | .hbm, ⟨9, _⟩ => ⟨S_, .f32⟩
  | .hbm, ⟨10, _⟩ => ⟨S64x2048x2048, .i1⟩
  | .hbm, ⟨11, _⟩ => ⟨S64x2048x2048, .f32⟩
  | .hbm, ⟨12, _⟩ => ⟨S64x2048x2048, .f32⟩
  | .hbm, ⟨13, _⟩ => ⟨S64x2048x2048, .f32⟩
  | .hbm, ⟨14, _⟩ => ⟨S_, .f32⟩
  | .hbm, ⟨15, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel7.lean ====
abbrev S8x2048x1024 : Shape := ⟨3, ![8, 2048, 1024]⟩
abbrev S1024 : Shape := ⟨1, ![1024]⟩
abbrev S1024x4104 : Shape := ⟨2, ![1024, 4104]⟩
abbrev S8 : Shape := ⟨1, ![8]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S16384x1024 : Shape := ⟨2, ![16384, 1024]⟩
abbrev S1x1024 : Shape := ⟨2, ![1, 1024]⟩
abbrev S16384x512 : Shape := ⟨2, ![16384, 512]⟩
abbrev S8x512x2048 : Shape := ⟨3, ![8, 512, 2048]⟩
abbrev S8x8x2048 : Shape := ⟨3, ![8, 8, 2048]⟩
abbrev S16384x2048 : Shape := ⟨2, ![16384, 2048]⟩
abbrev S512x1024 : Shape := ⟨2, ![512, 1024]⟩
abbrev S512x512 : Shape := ⟨2, ![512, 512]⟩
abbrev S1x512x512 : Shape := ⟨3, ![1, 512, 512]⟩
abbrev S1x8x512 : Shape := ⟨3, ![1, 8, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S8x512 : Shape := ⟨2, ![8, 512]⟩
abbrev S8x2048x512 : Shape := ⟨3, ![8, 2048, 512]⟩
abbrev S8x15x512 : Shape := ⟨3, ![8, 15, 512]⟩
abbrev S8x8x64x2048 : Shape := ⟨4, ![8, 8, 64, 2048]⟩
abbrev S8x2048x8x64 : Shape := ⟨4, ![8, 2048, 8, 64]⟩
abbrev S1x8x2048x8x64 : Shape := ⟨5, ![1, 8, 2048, 8, 64]⟩
abbrev S8x2048x8 : Shape := ⟨3, ![8, 2048, 8]⟩
abbrev S1x8x2048x8 : Shape := ⟨4, ![1, 8, 2048, 8]⟩
abbrev S1x8x15x512 : Shape := ⟨4, ![1, 8, 15, 512]⟩

abbrev nBuf : Space → Nat
  | .hbm => 38
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S1024x2048, .f32⟩
  | .hbm, ⟨5, _⟩ => ⟨S1024x8, .f32⟩
  | .hbm, ⟨6, _⟩ => ⟨S1024x2048, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S16384x1024, .f32⟩
  | .hbm, ⟨15, _⟩ => ⟨S1x1024, .f32⟩
  | .hbm, ⟨16, _⟩ => ⟨S1024x2048, .bf16⟩
  | .hbm, ⟨17, _⟩ => ⟨S1024x128, .bf16⟩
  | .hbm, ⟨18, _⟩ => ⟨S1024x2048, .bf16⟩
  | .hbm, ⟨19, _⟩ => ⟨S16384x512, .f32⟩
  | .hbm, ⟨20, _⟩ => ⟨S16384x512, .bf16⟩
  | .hbm, ⟨21, _⟩ => ⟨S8x512x2048, .f32⟩
  | .hbm, ⟨22, _⟩ => ⟨S8x512x2048, .f32⟩
  | .hbm, ⟨23, _⟩ => ⟨S16384x512, .bf16⟩
  | .hbm, ⟨24, _⟩ => ⟨S16384x512, .bf16⟩
  | .hbm, ⟨25, _⟩ => ⟨S8x8x2048, .f32⟩
  | .hbm, ⟨26, _⟩ => ⟨S16384x2048, .bf16⟩
  | .hbm, ⟨27, _⟩ => ⟨S8x2048x512, .f32⟩
  | .hbm, ⟨28, _⟩ => ⟨S8x15x512, .f32⟩
  | .hbm, ⟨29, _⟩ => ⟨S8x8x64x2048, .f32⟩
  | .hbm, ⟨30, _⟩ => ⟨S8x2048x8x64, .f32⟩
  | .hbm, ⟨31, _⟩ => ⟨S1x8x2048x8x64, .f32⟩
  | .hbm, ⟨32, _⟩ => ⟨S8x8x64x2048, .f32⟩
  | .hbm, ⟨33, _⟩ => ⟨S8x2048x8x64, .f32⟩
  | .hbm, ⟨34, _⟩ => ⟨S1x8x2048x8x64, .f32⟩
  | .hbm, ⟨35, _⟩ => ⟨S8x2048x8, .f32⟩
  | .hbm, ⟨36, _⟩ => ⟨S1x8x2048x8, .f32⟩
  | .hbm, ⟨37, _⟩ => ⟨S1x8x15x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x2048, .bf16⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S1x8x512, .f32⟩
  | .local _ .vmem, ⟨20, _⟩ => ⟨S1x8x512, .f32⟩
  | .local _ .vmem, ⟨21, _⟩ => ⟨S512x2048, .bf16⟩
  | .local _ .vmem, ⟨22, _⟩ => ⟨S512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v11_7 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S8x2048x1024 : Shape := ⟨3, ![8, 2048, 1024]⟩
abbrev S1024 : Shape := ⟨1, ![1024]⟩
abbrev S1024x4104 : Shape := ⟨2, ![1024, 4104]⟩
abbrev S8 : Shape := ⟨1, ![8]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4104 : Shape := ⟨3, ![8, 2048, 4104]⟩
abbrev S8x2048x512 : Shape := ⟨3, ![8, 2048, 512]⟩
abbrev S8x2048x8 : Shape := ⟨3, ![8, 2048, 8]⟩
abbrev S8x2048x2048 : Shape := ⟨3, ![8, 2048, 2048]⟩
abbrev S1x1x8 : Shape := ⟨3, ![1, 1, 8]⟩
abbrev S1x8x2048x8x64 : Shape := ⟨5, ![1, 8, 2048, 8, 64]⟩
abbrev S1x8x2048x8 : Shape := ⟨4, ![1, 8, 2048, 8]⟩
abbrev S8x15x512 : Shape := ⟨3, ![8, 15, 512]⟩
abbrev S1x8x15x512 : Shape := ⟨4, ![1, 8, 15, 512]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x4104, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x8, .f32⟩
  | .hbm, ⟨26, _⟩ => ⟨S8x2048x2048, .f32⟩
  | .hbm, ⟨27, _⟩ => ⟨S1x1x8, .f32⟩
  | .hbm, ⟨28, _⟩ => ⟨S8x2048x8, .f32⟩
  | .hbm, ⟨29, _⟩ => ⟨S8x2048x8, .f32⟩
  | .hbm, ⟨30, _⟩ => ⟨S8x2048x8, .f32⟩
  | .hbm, ⟨31, _⟩ => ⟨S_, .f32⟩
  | .hbm, ⟨32, _⟩ => ⟨S8x2048x8, .f32⟩
  | .hbm, ⟨33, _⟩ => ⟨S8x2048x8, .f32⟩
  | .hbm, ⟨34, _⟩ => ⟨S8x2048x8, .f32⟩
  | .hbm, ⟨35, _⟩ => ⟨S8x2048x8, .f32⟩
  | .hbm, ⟨36, _⟩ => ⟨S8x2048x8, .i1⟩
  | .hbm, ⟨37, _⟩ => ⟨S8x2048x8, .f32⟩
  | .hbm, ⟨38, _⟩ => ⟨S8x2048x8, .f32⟩
  | .hbm, ⟨39, _⟩ => ⟨S8x2048x8, .f32⟩
  | .hbm, ⟨40, _⟩ => ⟨S8x2048x8, .f32⟩
  | .hbm, ⟨41, _⟩ => ⟨S8x2048x8, .f32⟩
  | .hbm, ⟨42, _⟩ => ⟨S8x2048x8, .f32⟩
  | .hbm, ⟨43, _⟩ => ⟨S8x2048x8, .f32⟩
  | .hbm, ⟨44, _⟩ => ⟨S8x2048x8, .f32⟩
  | .hbm, ⟨45, _⟩ => ⟨S8x2048x8, .f32⟩
  | .hbm, ⟨46, _⟩ => ⟨S1x8x2048x8x64, .f32⟩
  | .hbm, ⟨47, _⟩ => ⟨S1x8x2048x8x64, .f32⟩
  | .hbm, ⟨48, _⟩ => ⟨S1x8x2048x8, .f32⟩
  | .hbm, ⟨49, _⟩ => ⟨S8x15x512, .f32⟩
  | .hbm, ⟨50, _⟩ => ⟨S1x8x15x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Kernel8.lean ====
abbrev S8x2048x1024 : Shape := ⟨3, ![8, 2048, 1024]⟩
abbrev S16384x512 : Shape := ⟨2, ![16384, 512]⟩
abbrev S16384x2048 : Shape := ⟨2, ![16384, 2048]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S1536x1024 : Shape := ⟨2, ![1536, 1024]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S32 : Shape := ⟨1, ![32]⟩
abbrev S36 : Shape := ⟨1, ![36]⟩
abbrev S128 : Shape := ⟨1, ![128]⟩
abbrev S1x128 : Shape := ⟨2, ![1, 128]⟩
abbrev S16384x1024 : Shape := ⟨2, ![16384, 1024]⟩
abbrev S1x512 : Shape := ⟨2, ![1, 512]⟩
abbrev S1x1024 : Shape := ⟨2, ![1, 1024]⟩
abbrev S50688x1024 : Shape := ⟨2, ![50688, 1024]⟩
abbrev S16384x128 : Shape := ⟨2, ![16384, 128]⟩
abbrev S32x1x128 : Shape := ⟨3, ![32, 1, 128]⟩
abbrev S512x512 : Shape := ⟨2, ![512, 512]⟩
abbrev S16x512 : Shape := ⟨2, ![16, 512]⟩
abbrev S512x2048 : Shape := ⟨2, ![512, 2048]⟩
abbrev S512x128 : Shape := ⟨2, ![512, 128]⟩
abbrev S1x1x128 : Shape := ⟨3, ![1, 1, 128]⟩
abbrev S528x512 : Shape := ⟨2, ![528, 512]⟩
abbrev S512x1 : Shape := ⟨2, ![512, 1]⟩
abbrev S1x128x128 : Shape := ⟨3, ![1, 128, 128]⟩
abbrev S128x128 : Shape := ⟨2, ![128, 128]⟩
abbrev S8x128 : Shape := ⟨2, ![8, 128]⟩
abbrev S128x512 : Shape := ⟨2, ![128, 512]⟩
abbrev S8x512 : Shape := ⟨2, ![8, 512]⟩
abbrev S1536x512 : Shape := ⟨2, ![1536, 512]⟩

abbrev nBuf : Space → Nat
  | .hbm => 39
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .f32⟩
  | .hbm, ⟨2, _⟩ => ⟨S16384x512, .bf16⟩
  | .hbm, ⟨3, _⟩ => ⟨S16384x2048, .bf16⟩
  | .hbm, ⟨4, _⟩ => ⟨S4x128x128, .f32⟩
  | .hbm, ⟨5, _⟩ => ⟨S512, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S4x1024x8, .f32⟩
  | .hbm, ⟨13, _⟩ => ⟨S4x8, .f32⟩
  | .hbm, ⟨14, _⟩ => ⟨S1536x1024, .bf16⟩
  | .hbm, ⟨15, _⟩ => ⟨S1024x4x8, .f32⟩
  | .hbm, ⟨16, _⟩ => ⟨S1024x32, .f32⟩
  | .hbm, ⟨17, _⟩ => ⟨S1024x36, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S32, .f32⟩
  | .hbm, ⟨22, _⟩ => ⟨S36, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S16384x1024, .f32⟩
  | .hbm, ⟨28, _⟩ => ⟨S4x128x128, .bf16⟩
  | .hbm, ⟨29, _⟩ => ⟨S1x512, .f32⟩
  | .hbm, ⟨30, _⟩ => ⟨S512x1024, .bf16⟩
  | .hbm, ⟨31, _⟩ => ⟨S512x1024, .bf16⟩
  | .hbm, ⟨32, _⟩ => ⟨S1024x1024, .bf16⟩
  | .hbm, ⟨33, _⟩ => ⟨S1x1024, .f32⟩
  | .hbm, ⟨34, _⟩ => ⟨S1024x128, .bf16⟩
  | .hbm, ⟨35, _⟩ => ⟨S16384x1024, .f32⟩
  | .hbm, ⟨36, _⟩ => ⟨S50688x1024, .bf16⟩
  | .hbm, ⟨37, _⟩ => ⟨S16384x128, .f32⟩
  | .hbm, ⟨38, _⟩ => ⟨S32x1x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S16x512, .f32⟩
  | .local _ .vmem, ⟨5, _⟩ => ⟨S16x512, .f32⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S4x128x128, .bf16⟩
  | .local _ .vmem, ⟨11, _⟩ => ⟨S1x512, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x128, .bf16⟩
  | .local _ .vmem, ⟨17, _⟩ => ⟨S1x128, .f32⟩
  | .local _ .vmem, ⟨18, _⟩ => ⟨S512x1024, .f32⟩
  | .local _ .vmem, ⟨19, _⟩ => ⟨S512x1024, .f32⟩
  | .local _ .vmem, ⟨20, _⟩ => ⟨S1536x1024, .bf16⟩
  | .local _ .vmem, ⟨21, _⟩ => ⟨S1536x1024, .bf16⟩
  | .local _ .vmem, ⟨22, _⟩ => ⟨S512x128, .f32⟩
  | .local _ .vmem, ⟨23, _⟩ => ⟨S512x128, .f32⟩
  | .local _ .vmem, ⟨24, _⟩ => ⟨S1x1x128, .f32⟩
  | .local _ .vmem, ⟨25, _⟩ => ⟨S1x1x128, .f32⟩
  | .local _ .vmem, ⟨26, _⟩ => ⟨S528x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_call1_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v16_2 : Ref sig .tc := ⟨.hbm, 37, rfl⟩
abbrev main_v16_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1536x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference8Ideal.lean ====
abbrev S8x2048x1024 : Shape := ⟨3, ![8, 2048, 1024]⟩
abbrev S16384x512 : Shape := ⟨2, ![16384, 512]⟩
abbrev S16384x2048 : Shape := ⟨2, ![16384, 2048]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S1536x1024 : Shape := ⟨2, ![1536, 1024]⟩
abbrev S8x2048x512 : Shape := ⟨3, ![8, 2048, 512]⟩
abbrev S_ : Shape := ⟨0, ![]⟩
abbrev S8x15x512 : Shape := ⟨3, ![8, 15, 512]⟩
abbrev S8x2063x512 : Shape := ⟨3, ![8, 2063, 512]⟩
abbrev S2048 : Shape := ⟨1, ![2048]⟩
abbrev S8x2048x128 : Shape := ⟨3, ![8, 2048, 128]⟩
abbrev S1x2048x1 : Shape := ⟨3, ![1, 2048, 1]⟩
abbrev S8x2048x1x128 : Shape := ⟨4, ![8, 2048, 1, 128]⟩
abbrev S8x2048x4x128 : Shape := ⟨4, ![8, 2048, 4, 128]⟩
abbrev S16384x4x128 : Shape := ⟨3, ![16384, 4, 128]⟩
abbrev S4x128x16384 : Shape := ⟨3, ![4, 128, 16384]⟩
abbrev S1x512 : Shape := ⟨2, ![1, 512]⟩
abbrev S16384x1024 : Shape := ⟨2, ![16384, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .f32⟩
  | .hbm, ⟨2, _⟩ => ⟨S16384x512, .bf16⟩
  | .hbm, ⟨3, _⟩ => ⟨S16384x2048, .bf16⟩
  | .hbm, ⟨4, _⟩ => ⟨S4x128x128, .f32⟩
  | .hbm, ⟨5, _⟩ => ⟨S512, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S4x1024x8, .f32⟩
  | .hbm, ⟨13, _⟩ => ⟨S4x8, .f32⟩
  | .hbm, ⟨14, _⟩ => ⟨S1536x1024, .bf16⟩
  | .hbm, ⟨15, _⟩ => ⟨S8x2048x512, .f32⟩
  | .hbm, ⟨16, _⟩ => ⟨S_, .f32⟩
  | .hbm, ⟨17, _⟩ => ⟨S8x15x512, .f32⟩
  | .hbm, ⟨18, _⟩ => ⟨S8x2063x512, .f32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .f32⟩
  | .hbm, ⟨30, _⟩ => ⟨S8x2048x128, .f32⟩
  | .hbm, ⟨31, _⟩ => ⟨S1x2048x1, .f32⟩
  | .hbm, ⟨32, _⟩ => ⟨S8x2048x128, .f32⟩
  | .hbm, ⟨33, _⟩ => ⟨S8x2048x128, .f32⟩
  | .hbm, ⟨34, _⟩ => ⟨S8x2048x512, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .f32⟩
  | .hbm, ⟨42, _⟩ => ⟨S8x2048x128, .f32⟩
  | .hbm, ⟨43, _⟩ => ⟨S1x2048x1, .f32⟩
  | .hbm, ⟨44, _⟩ => ⟨S8x2048x128, .f32⟩
  | .hbm, ⟨45, _⟩ => ⟨S8x2048x128, .f32⟩
  | .hbm, ⟨46, _⟩ => ⟨S8x2048x512, .f32⟩
  | .hbm, ⟨47, _⟩ => ⟨S8x2048x512, .f32⟩
  | .hbm, ⟨48, _⟩ => ⟨S8x2048x512, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S8x2048x512, .f32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .f32⟩
  | .hbm, ⟨58, _⟩ => ⟨S8x2048x128, .f32⟩
  | .hbm, ⟨59, _⟩ => ⟨S1x2048x1, .f32⟩
  | .hbm, ⟨60, _⟩ => ⟨S8x2048x128, .f32⟩
  | .hbm, ⟨61, _⟩ => ⟨S8x2048x128, .f32⟩
  | .hbm, ⟨62, _⟩ => ⟨S8x2048x512, .f32⟩
  | .hbm, ⟨63, _⟩ => ⟨S8x2048x512, .f32⟩
  | .hbm, ⟨64, _⟩ => ⟨S8x2048x512, .f32⟩
  | .hbm, ⟨65, _⟩ => ⟨S8x2048x512, .f32⟩
  | .hbm, ⟨66, _⟩ => ⟨S8x2048x512, .f32⟩
  | .hbm, ⟨67, _⟩ => ⟨S8x2048x512, .f32⟩
  | .hbm, ⟨68, _⟩ => ⟨S8x2048x512, .f32⟩
  | .hbm, ⟨69, _⟩ => ⟨S8x2048x512, .f32⟩
  | .hbm, ⟨70, _⟩ => ⟨S8x2048x512, .f32⟩
  | .hbm, ⟨71, _⟩ => ⟨S8x2048x512, .f32⟩
  | .hbm, ⟨72, _⟩ => ⟨S8x2048x512, .f32⟩
  | .hbm, ⟨73, _⟩ => ⟨S8x2048x512, .f32⟩
  | .hbm, ⟨74, _⟩ => ⟨S8x2048x512, .f32⟩
  | .hbm, ⟨75, _⟩ => ⟨S8x2048x512, .f32⟩
  | .hbm, ⟨76, _⟩ => ⟨S8x2048x512, .f32⟩
  | .hbm, ⟨77, _⟩ => ⟨S8x2048x512, .f32⟩
  | .hbm, ⟨78, _⟩ => ⟨S_, .i32⟩
  | .hbm, ⟨79, _⟩ => ⟨S2048, .i32⟩
  | .hbm, ⟨80, _⟩ => ⟨S2048, .i32⟩
  | .hbm, ⟨81, _⟩ => ⟨S2048, .f32⟩
  | .hbm, ⟨82, _⟩ => ⟨S8x2048x128, .f32⟩
  | .hbm, ⟨83, _⟩ => ⟨S1x2048x1, .f32⟩
  | .hbm, ⟨84, _⟩ => ⟨S8x2048x128, .f32⟩
  | .hbm, ⟨85, _⟩ => ⟨S8x2048x128, .f32⟩
  | .hbm, ⟨86, _⟩ => ⟨S8x2048x1x128, .f32⟩
  | .hbm, ⟨87, _⟩ => ⟨S8x2048x1x128, .f32⟩
  | .hbm, ⟨88, _⟩ => ⟨S8x2048x1x128, .f32⟩
  | .hbm, ⟨89, _⟩ => ⟨S8x2048x1x128, .f32⟩
  | .hbm, ⟨90, _⟩ => ⟨S8x2048x4x128, .f32⟩
  | .hbm, ⟨91, _⟩ => ⟨S8x2048x4x128, .f32⟩
  | .hbm, ⟨92, _⟩ => ⟨S8x2048x4x128, .f32⟩
  | .hbm, ⟨93, _⟩ => ⟨S16384x4x128, .f32⟩
  | .hbm, ⟨94, _⟩ => ⟨S4x128x16384, .f32⟩
  | .hbm, ⟨95, _⟩ => ⟨S16384x4x128, .f32⟩
  | .hbm, ⟨96, _⟩ => ⟨S16384x512, .f32⟩
  | .hbm, ⟨97, _⟩ => ⟨S1x512, .f32⟩
  | .hbm, ⟨98, _⟩ => ⟨S16384x512, .f32⟩
  | .hbm, ⟨99, _⟩ => ⟨S16384x512, .f32⟩
  | .hbm, ⟨100, _⟩ => ⟨S16384x2048, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x512, .f32⟩
  | .hbm, ⟨106, _⟩ => ⟨S16384x1024, .f32⟩
  | .hbm, ⟨107, _⟩ => ⟨S16384x1024, .f32⟩
  | .hbm, ⟨108, _⟩ => ⟨S16384x1024, .f32⟩
  | .hbm, ⟨109, _⟩ => ⟨S16384x1024, .f32⟩
  | .hbm, ⟨110, _⟩ => ⟨S16384x1024, .f32⟩
  | .hbm, ⟨111, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_3 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩

abbrev nD : Nat := 1
abbrev τ : Topo := Topo.v7x

variable {F : FTy → Type} [FloatOps F]
-- ==== Proof.Fetch.lean ====
/-
  The rows a tile of tokens is gathered from, and the state of the kernel's own copies.

  A tile is 512 rows, fetched as 32 copies of 16 consecutive rows each into one of the two halves ("slots") of the
  scratch buffer; all 32 copies of a slot complete on the slot's semaphore cell. This file names the element sets the
  copies touch, what each copy delivers, and the three states of a slot: idle, being issued, in flight.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Transfers
public import Idealize.ShloMosaic.Lib.Tactic
public import Idealize.ShloMosaic.Lib.ValueLayout

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

/-! ## The element sets -/

/-- Rows `r, …, r + 15` of the array of token rows. -/
def srcSet (r : ℕ) : Finset S50688x1024.Idx :=
  Finset.univ.filter fun x => r ≤ (x 0).val ∧ (x 0).val < r + 16

/-- Rows `16 k, …, 16 k + 15` of slot `s` of the scratch buffer. -/
def dstSet (s k : ℕ) : Finset S2x512x1024.Idx :=
  Finset.univ.filter fun x => (x 0).val = s ∧ 16 * k ≤ (x 1).val ∧ (x 1).val < 16 * k + 16

/-- The whole of slot `s`. -/
def slotSet (s : ℕ) : Finset S2x512x1024.Idx := Finset.univ.filter fun x => (x 0).val = s

theorem slotSet_eq [DecidableEq S2x512x1024.Idx] (s : ℕ) : (Finset.univ : Finset (Fin 32)).biUnion (fun k => dstSet s k.val) = slotSet s := by
  ext x
  simp only [Finset.mem_biUnion, dstSet, slotSet, Finset.mem_filter, Finset.mem_univ, true_and]
  constructor
  · rintro ⟨k, h, _⟩; exact h
  · intro h
    have hx : (x 1).val < 512 := (x 1).isLt
    exact ⟨⟨(x 1).val / 16, by omega⟩, h, by show 16 * ((x 1).val / 16) ≤ _; omega, by show _ < 16 * ((x 1).val / 16) + 16; omega⟩

theorem dstSet_disjoint (s : ℕ) (k k' : Fin 32) (h : k ≠ k') : Disjoint (dstSet s k.val) (dstSet s k'.val) := by
  rw [Finset.disjoint_left]
  intro x hx hx'
  simp only [dstSet, Finset.mem_filter, Finset.mem_univ, true_and] at hx hx'
  exact h (Fin.ext (by omega))

theorem slotSet_disjoint : Disjoint (slotSet 0) (slotSet 1) := by
  rw [Finset.disjoint_left]
  intro x hx hx'
  simp only [slotSet, Finset.mem_filter, Finset.mem_univ, true_and] at hx hx'
  omega

theorem slotSet_union : slotSet 0 ∪ slotSet 1 = Finset.univ := by
  ext x
  have hx : (x 0).val < 2 := (x 0).isLt
  simp only [slotSet, Finset.mem_union, Finset.mem_filter, Finset.mem_univ, true_and, iff_true]
  omega

/-! ## The views of one copy -/

/-- The 16 rows of the array of token rows that start at row `r`, as the kernel slices them. -/
theorem set_src (off : Fin 2 → ℕ) (r : ℕ) (h : off = ![r, 0]) (hb : ∀ a, off a + S16x1024.size a ≤ S50688x1024.size a) (hs) :
    ((Memref.whole main_arg3).slice (Rect.unit (s := S50688x1024) off S16x1024.size hb) hs).view.set = srcSet r := by
  subst h
  refine (View.set_slice_whole main_arg3 (Rect.unit (s := S50688x1024) ![r, 0] S16x1024.size hb)).trans ?_
  ext x
  rw [show (x ∈ (Rect.unit (s := S50688x1024) ![r, 0] S16x1024.size hb).set) ↔ _ from Rect.mem_set_unit]
  simp only [srcSet, Finset.mem_filter, Finset.mem_univ, true_and]
  rw [Fin.forall_fin_two]
  have hx : (x 1).val < 1024 := (x 1).isLt
  constructor
  · exact fun h => h.1
  · exact fun h => ⟨h, Nat.zero_le _, by show _ < 0 + 1024; omega⟩

/-- Rows `16 k, …` of slot `s` of the scratch buffer, as the kernel slices and squeezes them. -/
theorem set_dst (off : Fin 3 → ℕ) (s k : ℕ) (h : off = ![s, 16 * k, 0]) (hb : ∀ a, off a + S1x16x1024.size a ≤ S2x512x1024.size a) (hs) (hq) :
    (((Memref.whole cc0_scratch0).slice (Rect.unit (s := S2x512x1024) off S1x16x1024.size hb) hs).squeeze S16x1024 hq).view.set = dstSet s k := by
  subst h
  refine (View.set_reshape _ hq.numel_eq).trans
    ((View.set_slice_whole cc0_scratch0 (Rect.unit (s := S2x512x1024) ![s, 16 * k, 0] S1x16x1024.size hb)).trans ?_)
  ext x
  rw [show (x ∈ (Rect.unit (s := S2x512x1024) ![s, 16 * k, 0] S1x16x1024.size hb).set) ↔ _ from Rect.mem_set_unit]
  simp only [dstSet, Finset.mem_filter, Finset.mem_univ, true_and]
  rw [Fin.forall_fin_succ, Fin.forall_fin_two]
  have hx : (x 2).val < 1024 := (x 2).isLt
  constructor
  · rintro ⟨⟨h0, h1⟩, ⟨h2, h3⟩, _⟩
    exact ⟨by have : (x 0).val < s + 1 := h1
              have : s ≤ (x 0).val := h0
              omega, h2, h3⟩
  · rintro ⟨h0, h1, h2⟩
    exact ⟨⟨by show s ≤ _; omega, by show _ < s + 1; omega⟩, ⟨h1, h2⟩, Nat.zero_le _, by show (x 2).val < 0 + 1024; omega⟩

/-! ## What the copies carry -/

variable (ts : S4128.Idx → BitVec 32) (fxs : S50688x1024.Idx → Elt F .bf16)

/-- Word `n` of the table of source rows. -/
def word (n : ℕ) : BitVec 32 := ts (ix1 (⟨min n 4127, by omega⟩ : Fin 4128))

/-- The first row of the `k`-th copy of tile `t`. -/
def row (t k : ℕ) : ℕ := (word ts (32 * t + k)).toNat

/-- Row `y` of tile `t`: the token row it is gathered from. -/
def tokenOf (t y : ℕ) : ℕ := min (row ts t (y / 16) + y % 16) 50687

/-- The scratch buffer once tile `t` has been gathered into one of its slots (whichever slot). -/
def gathered (t : ℕ) : S2x512x1024.Idx → Elt F .bf16 :=
  fun x => fxs (ix2 (⟨tokenOf ts t (x 1).val, by unfold tokenOf; omega⟩ : Fin 50688) (x 2))

/-- The copy of rows `row t k, …` to rows `16 k, …` of slot `s` leaves the gathered tile there. -/
theorem copied (s t k : ℕ) (hk : k < 32) (hr : row ts t k ≤ 50672)
    (offd : Fin 3 → ℕ) (hd : offd = ![s, 16 * k, 0]) (hbd : ∀ a, offd a + S1x16x1024.size a ≤ S2x512x1024.size a) (hsd) (hq)
    (offs : Fin 2 → ℕ) (he : offs = ![row ts t k, 0]) (hbs : ∀ a, offs a + S16x1024.size a ≤ S50688x1024.size a) (hss)
    (f : S2x512x1024.Idx → Elt F .bf16) (i : S2x512x1024.Idx) (hi : i ∈ dstSet s k) :
    (((Memref.whole cc0_scratch0).slice (Rect.unit (s := S2x512x1024) offd S1x16x1024.size hbd) hsd).squeeze S16x1024 hq).view.write (Elt F) f
      (((Memref.whole main_arg3).slice (Rect.unit (s := S50688x1024) offs S16x1024.size hbs) hss).view.read (Elt F) fxs) Finset.univ i
      = gathered ts fxs t i := by
  subst hd he
  simp only [dstSet, Finset.mem_filter, Finset.mem_univ, true_and] at hi
  have e : (((Memref.whole cc0_scratch0).slice (Rect.unit (s := S2x512x1024) ![s, 16 * k, 0] S1x16x1024.size hbd) hsd).squeeze S16x1024 hq).view.emb
      (ix2 (⟨(i 1).val - 16 * k, by omega⟩ : Fin 16) (i 2)) = i := by
    show ((Rect.unit (s := S2x512x1024) ![s, 16 * k, 0] S1x16x1024.size hbd).emb (Shape.reshapeEquiv _ _)) = i
    rw [show Shape.reshapeEquiv hq.numel_eq (ix2 (⟨(i 1).val - 16 * k, by omega⟩ : Fin 16) (i 2))
        = ix3 (⟨0, Nat.one_pos⟩ : Fin 1) (⟨(i 1).val - 16 * k, by omega⟩ : Fin 16) (i 2) from ValueIdx.reshapeEquiv_ix2_1ab _ _ _]
    funext a
    apply Fin.ext
    fin_cases a
    · show s + 1 * 0 = (i 0).val; omega
    · show 16 * k + 1 * ((i 1).val - 16 * k) = (i 1).val; omega
    · show 0 + 1 * (i 2).val = (i 2).val; omega
  rw [← e, View.write_emb_of_mem _ _ (Finset.mem_univ _)]
  conv_rhs => rw [e]
  rw [View.read_apply]
  show fxs _ = fxs _
  congr 1
  funext a
  apply Fin.ext
  have h1 : (i 1).val / 16 = k := by omega
  have h2 : (i 1).val % 16 = (i 1).val - 16 * k := by omega
  fin_cases a
  · show row ts t k + 1 * ((i 1).val - 16 * k) = tokenOf ts t (i 1).val
    unfold tokenOf
    rw [h1, h2]; omega
  · show 0 + 1 * (i 2).val = (i 2).val; omega

/-! ## The states of a slot -/

/-- The semaphore cell the copies into slot `s` complete on. -/
def slotSem (s : Fin 2) : DmaSem sig :=
  ((cc0_scratch4.slice (Rect.unit (s := S2) ![s.val] S1.size (by intro a; fin_cases a; show s.val + 1 ≤ 2; omega))).squeeze S_ squeezes_S1_S_).sem

variable (c : Dev nD)

/-- The share of the array of token rows that copy `k` into slot `s` reads through. -/
def readShare (s : Fin 2) (k : Fin 32) : PosShare TreeShare := Transfers.shareTokN fullShare (32 * s.val + k.val)

/-- What copy `k` of tile `t` into slot `s` leaves: its 16 rows of the slot, and the rows it read. -/
def Delivery (s : Fin 2) (t : ℕ) (k : Fin 32) : sProp 𝕄 :=
  iprop(((c : Thread nD τ).loc cc0_scratch0 ↦[dstSet s.val k.val]{fullShare} gathered ts fxs t)
    ∗ ((c : Thread nD τ).loc main_arg3 ↦[srcSet (row ts t k.val)]{readShare s k} fxs))

instance (s : Fin 2) (t : ℕ) (k : Fin 32) : Storable (upEmb : UEmb _ 𝕄) (Delivery ts fxs c s t k) := by
  unfold Delivery; infer_instance

/-- The amount one copy of 16 rows adds to its cell. -/
def copyCredit : ℕ := cc0_scratch0.dmaCredit S16x1024 .bf16

/-- Slot `s` with no copy under way: its cell at zero, its 32 read shares, its rows at any contents. -/
def Idle (s : Fin 2) : sProp 𝕄 :=
  iprop(semVal ((c : Thread nD τ), .dma (slotSem s)) 0
    ∗ bigSep Finset.univ (fun k : Fin 32 => ((c : Thread nD τ).loc main_arg3 ↦{readShare s k} fxs))
    ∗ ∃ f, (c : Thread nD τ).loc cc0_scratch0 ↦[slotSet s.val]{fullShare} f)

/-- Slot `s` with the first `j` of tile `t`'s copies issued. -/
def Issued (s : Fin 2) (t j : ℕ) : sProp 𝕄 :=
  iprop(Batch (countersEmb (U := Pipeline.UD sig nD τ)) (c : Thread nD τ) (.dma (slotSem s)) () copyCredit (Delivery ts fxs c s t) j 0
    ∗ bigSep (issued j) (fun k : Fin 32 => ((c : Thread nD τ).loc main_arg3 ↦[Finset.univ \ srcSet (row ts t k.val)]{readShare s k} fxs))
    ∗ bigSep (pending j) (fun k : Fin 32 => iprop(((c : Thread nD τ).loc main_arg3 ↦{readShare s k} fxs)
        ∗ ∃ f, (c : Thread nD τ).loc cc0_scratch0 ↦[dstSet s.val k.val]{fullShare} f)))

/-- A family of pairs is the pair of the families. -/
theorem family_pair {I : Type} (S : Finset I) (Φ Ψ : I → sProp 𝕄) :
    bigSep S (fun i => iprop(Φ i ∗ Ψ i)) ⊣⊢ iprop(bigSep S Φ ∗ bigSep S Ψ) :=
  ⟨Entails.of_eq (bigSep_sep S Φ Ψ), Entails.of_eq (bigSep_sep S Φ Ψ).symm⟩

/-- A family, member by member. -/
theorem family_mono {I : Type} {S : Finset I} {Φ Ψ : I → sProp 𝕄} (h : ∀ i, Φ i ⊢ Ψ i) : bigSep S Φ ⊢ bigSep S Ψ :=
  bigSep_mono fun i _ => h i

/-- The first of the copies not yet issued, apart from the others. -/
theorem pending_next {j : ℕ} (hj : j < 32) (Φ : Fin 32 → sProp 𝕄) :
    bigSep (pending j) Φ ⊢ iprop(Φ ⟨j, hj⟩ ∗ bigSep (pending (j + 1)) Φ) :=
  Entails.of_eq (by rw [pending_succ hj, bigSep_insert (not_mem_pending_succ hj)]; rfl)

/-- One more copy among those issued. -/
theorem issued_next {j : ℕ} (hj : j < 32) (Φ : Fin 32 → sProp 𝕄) :
    iprop(Φ ⟨j, hj⟩ ∗ bigSep (issued j) Φ) ⊢ bigSep (issued (j + 1)) Φ :=
  Entails.of_eq (by rw [issued_succ hj, bigSep_insert (not_mem_issued hj)]; rfl)

/-- The rows of a slot, copy by copy. -/
theorem slot_rows (s : ℕ) (f : S2x512x1024.Idx → Elt F .bf16) :
    ((c : Thread nD τ).loc cc0_scratch0 ↦[slotSet s]{fullShare} f : sProp 𝕄)
      = bigSep Finset.univ fun k : Fin 32 => ((c : Thread nD τ).loc cc0_scratch0 ↦[dstSet s k.val]{fullShare} f) := by
  have h := pointsTo_biUnion (ℓ := (c : Thread nD τ).loc cc0_scratch0) (q := fullShare) (f := f)
    (Ix := Unit) (Name := ℕ) (U := Pipeline.UD sig nD τ) (Lvl := ℕ)
    Finset.univ (fun k : Fin 32 => dstSet s k.val) fun k _ k' _ h => dstSet_disjoint s k k' h
  rw [← h]
  congr 1
  exact (@slotSet_eq _ s).symm

/-- An idle slot is one with no copy issued. -/
theorem issued_start (s : Fin 2) (t : ℕ) {E : Set ℕ} :
    (Idle fxs c s : sProp 𝕄) ⊢ |={E}=> Issued ts fxs c s t 0 := by
  unfold Idle Issued
  rw [issued_zero, bigSep_empty, pending_zero]
  iintro ⟨Hv, Hx, %f, Hb⟩
  imod (batch_alloc' (Lvl := ℕ) (countersEmb (U := Pipeline.UD sig nD τ)) (c : Thread nD τ) () copyCredit (Delivery ts fxs c s t)) $$ Hv with HB
  imodintro
  isplitl [HB]; · iexact HB
  isplitr; · iempintro
  ihave Hb' := (Entails.of_eq (slot_rows c s.val f)) $$ Hb
  ihave H := (family_pair Finset.univ _ _).2 $$ [Hx Hb']
  · isplitl [Hx]; · iexact Hx
    iexact Hb'
  iapply (family_mono fun k => ?_) $$ H
  iintro ⟨Hx, Hd⟩
  isplitl [Hx]; · iexact Hx
  iexists f; iexact Hd

/-- One copy issued: the kernel's next copy of tile `t`, whose offsets are what they should be, takes slot `s` from `j`
    copies issued to `j + 1`. -/
theorem wp_issue {Λ : Labels} {defs : Defs nD τ sig (Elt F) Λ} (𝒱 : Variants) {α : Type} {Q : α → sProp 𝕄}
    (s : Fin 2) (t j : ℕ) (hj : j < 32) (hr : row ts t j ≤ 50672)
    (offd : Fin 3 → ℕ) (hd : offd = ![s.val, 16 * j, 0]) (hbd : ∀ a, offd a + S1x16x1024.size a ≤ S2x512x1024.size a) (hsd) (hq)
    (offs : Fin 2 → ℕ) (he : offs = ![row ts t j, 0]) (hbs : ∀ a, offs a + S16x1024.size a ≤ S50688x1024.size a) (hss)
    (offm : Fin 1 → ℕ) (hm : offm = ![s.val]) (hbm : ∀ a, offm a + S1.size a ≤ S2.size a) (hqm)
    (hsrc) (hdst) (hsem) (k : PUnit → Prog (TpuEff nD τ sig (Elt F) Λ .tc) α) :
    (Issued ts fxs c s t j : sProp 𝕄)
      ⊢ iprop((Issued ts fxs c s t (j + 1) -∗ wp frame (wpE defs 𝒱 (c : Thread nD τ) none) Set.univ (k ⟨⟩) Q)
          -∗ wp frame (wpE defs 𝒱 (c : Thread nD τ) none) Set.univ
              (.op (.enqueueDma ((Memref.whole main_arg3).slice (Rect.unit (s := S50688x1024) offs S16x1024.size hbs) hss)
                (.here (((Memref.whole cc0_scratch0).slice (Rect.unit (s := S2x512x1024) offd S1x16x1024.size hbd) hsd).squeeze S16x1024 hq))
                (.dma ((cc0_scratch4.slice (Rect.unit (s := S2) offm S1.size hbm)).squeeze S_ hqm).sem) hsrc hdst hsem) k) Q) := by
  subst hd he hm
  have hset := set_src ![row ts t j, 0] (row ts t j) rfl hbs hss
  have hsetd := set_dst ![s.val, 16 * j, 0] s.val j rfl hbd hsd hq
  unfold Issued
  iintro ⟨HB, Hi, Hp⟩ Hk
  ihave Hp := (pending_next hj _) $$ Hp
  icases Hp with ⟨⟨Hx, %f, Hd⟩, Hp⟩
  ihave Hx := (pointsTo_split_subset (Finset.subset_univ (srcSet (row ts t j)))).1 $$ Hx
  icases Hx with ⟨Hx, Hrest⟩
  iapply (wp_dmaBatch (countersEmb (U := Pipeline.UD sig nD τ)) 𝒱 (c : Thread nD τ) none
    (src := (Memref.whole main_arg3).slice (Rect.unit (s := S50688x1024) ![row ts t j, 0] S16x1024.size hbs) hss)
    (dst := ((Memref.whole cc0_scratch0).slice (Rect.unit (s := S2x512x1024) ![s.val, 16 * j, 0] S1x16x1024.size hbd) hsd).squeeze S16x1024 hq)
    (sm := .dma (slotSem s)) (q := readShare s ⟨j, hj⟩) (fs := fxs) (fd := f) (D := Delivery ts fxs c s t) (j := j)
    () copyCredit rfl (Sd := dstSet s.val j) (le_of_eq hsetd) hj (Nat.zero_le _) ?_) $$ [Hx Hd HB]
  · unfold Delivery
    iintro ⟨Hd, Hx⟩
    isplitl [Hd]
    · iapply (Entails.of_eq (pointsTo_congr fun i hi => copied ts fxs s.val t j hj hr _ rfl hbd hsd hq _ rfl hbs hss f i hi)) $$ Hd
    · rw [hset]; iexact Hx
  · isplitl [Hx]; · rw [hset]; iexact Hx
    isplitl [Hd]; · iexact Hd
    iexact HB
  iintro HB
  iapply Hk
  isplitl [HB]; · iexact HB
  isplitr [Hp]
  · iapply (issued_next hj _)
    isplitl [Hrest] <;> iassumption
  · iexact Hp

/-- The wait on a slot all of whose copies are issued hands back the slot holding the gathered tile, the read shares
    whole, and the cell at zero. -/
theorem wp_collect {Λ : Labels} {defs : Defs nD τ sig (Elt F) Λ} (𝒱 : Variants) {α : Type} {Q : α → sProp 𝕄}
    (s : Fin 2) (t : ℕ) (W : Waits sig Unit) (srcw : Memref sig .tc .hbm S512x1024 .bf16)
    (offd : Fin 3 → ℕ) (hbd : ∀ a, offd a + S1x512x1024.size a ≤ S2x512x1024.size a) (hsd) (hq)
    (offm : Fin 1 → ℕ) (hm : offm = ![s.val]) (hbm : ∀ a, offm a + S1.size a ≤ S2.size a) (hqm)
    (hsrc) (hdst) (k : PUnit → Prog (TpuEff nD τ sig (Elt F) Λ .tc) α) :
    iprop(Issued ts fxs c s t 32 ∗ owes (c : Thread nD τ) 0 W)
      ⊢ iprop((iprop((semVal ((c : Thread nD τ), .dma (slotSem s)) 0
              ∗ bigSep Finset.univ (fun k : Fin 32 => ((c : Thread nD τ).loc main_arg3 ↦{readShare s k} fxs))
              ∗ ((c : Thread nD τ).loc cc0_scratch0 ↦[slotSet s.val]{fullShare} gathered ts fxs t))
              ∗ owes (c : Thread nD τ) 0 (insert (SemLoc.dma (slotSem s), ()) W))
            -∗ wp frame (wpE defs 𝒱 (c : Thread nD τ) none) Set.univ (k ⟨⟩) Q)
          -∗ wp frame (wpE defs 𝒱 (c : Thread nD τ) none) Set.univ
              (.op (.waitDma2 ((cc0_scratch4.slice (Rect.unit (s := S2) offm S1.size hbm)).squeeze S_ hqm).sem srcw
                (((Memref.whole cc0_scratch0).slice (Rect.unit (s := S2x512x1024) offd S1x512x1024.size hbd) hsd).squeeze S512x1024 hq)
                hsrc hdst) k) Q) := by
  subst hm
  unfold Issued
  iintro ⟨⟨HB, Hi, -⟩, How⟩ Hk
  iapply (wp_waitBatchAll (countersEmb (U := Pipeline.UD sig nD τ)) 𝒱 (c : Thread nD τ) none (sem := slotSem s)
    (dstw := ((Memref.whole cc0_scratch0).slice (Rect.unit (s := S2x512x1024) offd S1x512x1024.size hbd) hsd).squeeze S512x1024 hq)
    () (J := copyCredit * 32) rfl (by decide) (D := Delivery ts fxs c s t) (u := 0) (Nat.zero_add _)) $$ [HB How]
  · isplitl [HB]; · iexact HB
    iexact How
  iintro ⟨HD, Hv, How⟩
  iapply Hk
  isplitr [How]
  · isplitl [Hv]; · iexact Hv
    unfold Delivery
    ihave HD := (family_pair Finset.univ _ _).1 $$ HD
    icases HD with ⟨Hd, Hx⟩
    isplitl [Hx Hi]
    · rw [show issued (m := 32) 32 = Finset.univ by ext k; simp [issued]]
      ihave H := (family_pair Finset.univ _ _).2 $$ [Hx Hi]
      · isplitl [Hx]; · iexact Hx
        iexact Hi
      iapply (family_mono fun k : Fin 32 => (pointsTo_split_subset (Finset.subset_univ (srcSet (row ts t k.val)))).2) $$ H
    · iapply (Entails.of_eq (slot_rows c s.val _).symm) $$ Hd
  · iexact How

end Cert.KernelIdeal.Hand
-- ==== Proof.Words.lean ====
/-
  The kernel's reads of its tables in scalar memory, and the facts it assumes of a source row it has read.
-/
module

public import proofs.«01_k».proof.Proof.Fetch

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers

variable {F : FTy → Type} [FloatOps F]

local notation "𝕄" => MT nD τ sig Unit (Elt F) ℕ (Pipeline.UD sig nD τ) ℕ

/-- What the kernel assumes of a source row `w` it has read: a multiple of 16, in range with the 15 rows after it. -/
theorem rowOk (w : BitVec 32) (h16 : 16 ∣ w.toNat) (hw : w.toNat ≤ 50672) (P : Prop) :
    (P → 16 ∣ w.toNat) ∧ (P → ∀ a, (![w.toNat, 0] : Fin 2 → ℕ) a + S16x1024.size a ≤ S50688x1024.size a)
      ∧ (P → ∀ (hb : ∀ a, (![w.toNat, 0] : Fin 2 → ℕ) a + S16x1024.size a ≤ S50688x1024.size a),
          (Rect.unit (s := S50688x1024) ![w.toNat, 0] S16x1024.size hb).WholeWords (EltTy.packing .bf16)) := by
  refine ⟨fun _ => h16, fun _ a => ?_, fun _ hb => ?_⟩
  · fin_cases a
    · show w.toNat + 16 ≤ 50688; omega
    · show 0 + 1024 ≤ 1024; omega
  · refine .inl (.inr ⟨by decide, rfl, .inl ⟨?_, ?_⟩⟩)
    · show 2 ∣ w.toNat; omega
    · show 2 ∣ 16; decide

variable (c : Dev nD)

section
variable {Λ : Labels} {defs : Defs nD τ sig (Elt F) Λ} (𝒱 : Variants) {α : Type}

/-- The one word at position `n` of a table of `N` words. -/
theorem read_word {N : ℕ} (m : Memref sig .tc .smem ⟨1, ![N]⟩ .i32) (n : ℕ) (hn : n < N)
    (hb : ∀ a, (![n] : Fin 1 → ℕ) a + S1.size a ≤ (⟨1, ![N]⟩ : Shape).size a) (f : m.view.ty.Contents (Elt F)) :
    (m.access (Rect.unit (s := ⟨1, ![N]⟩) ![n] S1.size hb)).read (Elt F) f = fun _ => m.view.read (Elt F) f (ix1 (⟨n, hn⟩ : Fin N)) := by
  funext x
  show m.view.read (Elt F) f ((Rect.unit (s := ⟨1, ![N]⟩) ![n] S1.size hb).emb x) = _
  congr 1
  funext a
  apply Fin.ext
  have hx : (x 0).val < 1 := (x 0).isLt
  fin_cases a
  show n + 1 * (x 0).val = n
  omega

/-- The read of a word of the table of source rows. -/
theorem wp_word {Q : α → sProp 𝕄} (ts : S4128.Idx → BitVec 32) (q : PosShare TreeShare) (n : ℕ) (hn : n < 4128)
    (off : Fin 1 → ℕ) (h : off = ![n]) (hb : ∀ a, off a + S1.size a ≤ S4128.size a) (hl)
    (k : (S1.Idx → Elt F .i32) → Prog (TpuEff nD τ sig (Elt F) Λ .tc) α) :
    ((c : Thread nD τ).loc main_arg2 ↦{q} ts : sProp 𝕄)
      ⊢ iprop((((c : Thread nD τ).loc main_arg2 ↦{q} ts)
            -∗ wp frame (wpE defs 𝒱 (c : Thread nD τ) none) Set.univ (k fun _ => word ts n) Q)
          -∗ wp frame (wpE defs 𝒱 (c : Thread nD τ) none) Set.univ
              (.op (.load (Memref.whole main_arg2) (Rect.unit (s := S4128) off S1.size hb).toLoadRect hl) k) Q) := by
  subst h
  iintro H Hk
  iapply (wp_load_rect 𝒱 (c : Thread nD τ) none Set.univ (m := Memref.whole main_arg2)
    (r := Rect.unit (s := S4128) ![n] S1.size hb) (Finset.subset_univ _)) $$ H
  iintro H
  have e : ((Memref.whole main_arg2).access (Rect.unit (s := S4128) ![n] S1.size hb)).read (Elt F) ts = fun _ => word ts n := by
    rw [read_word (F := F) (Memref.whole main_arg2) n hn hb ts]
    funext _
    exact congrArg (fun z => ts (ix1 z)) (Fin.ext (show n = min n 4127 by omega))
  rw [e]
  iapply Hk $$ H

/-- Word `n` of a table with one word per tile. -/
def entry (te : S129.Idx → BitVec 32) (n : ℕ) : BitVec 32 := te (ix1 (⟨min n 128, by omega⟩ : Fin 129))

/-- The read of a word of the table of the tiles' experts. -/
theorem wp_entry {Q : α → sProp 𝕄} (te : S129.Idx → BitVec 32) (q : PosShare TreeShare) (n : ℕ) (hn : n < 129)
    (off : Fin 1 → ℕ) (h : off = ![n]) (hb : ∀ a, off a + S1.size a ≤ S129.size a) (hl)
    (k : (S1.Idx → Elt F .i32) → Prog (TpuEff nD τ sig (Elt F) Λ .tc) α) :
    ((c : Thread nD τ).loc main_arg0 ↦{q} te : sProp 𝕄)
      ⊢ iprop((((c : Thread nD τ).loc main_arg0 ↦{q} te)
            -∗ wp frame (wpE defs 𝒱 (c : Thread nD τ) none) Set.univ (k fun _ => entry te n) Q)
          -∗ wp frame (wpE defs 𝒱 (c : Thread nD τ) none) Set.univ
              (.op (.load (Memref.whole main_arg0) (Rect.unit (s := S129) off S1.size hb).toLoadRect hl) k) Q) := by
  subst h
  iintro H Hk
  iapply (wp_load_rect 𝒱 (c : Thread nD τ) none Set.univ (m := Memref.whole main_arg0)
    (r := Rect.unit (s := S129) ![n] S1.size hb) (Finset.subset_univ _)) $$ H
  iintro H
  have e : ((Memref.whole main_arg0).access (Rect.unit (s := S129) ![n] S1.size hb)).read (Elt F) te = fun _ => entry te n := by
    rw [read_word (F := F) (Memref.whole main_arg0) n hn hb te]
    funext _
    exact congrArg (fun z => te (ix1 z)) (Fin.ext (show n = min n 128 by omega))
  rw [e]
  iapply Hk $$ H

end

end Cert.KernelIdeal.Hand
-- ==== Proof.Offsets.lean ====
/-
  The kernel's index arithmetic in closed form: which slot a grid point reads and which it fetches into, which words of
  the tables it reads, and what its conditions say.
-/
module

public import proofs.«01_k».proof.Proof.Words

@[expose] public section

noncomputable section

namespace Cert.KernelIdeal.Hand

open Cert.KernelIdeal Cert.KernelIdeal.Gen
open Idealize.ShloMosaic Idealize.ShloMosaic.TcCoe
open Idealize.ShloMosaic.ValueIdx (ix1 ix2 ix3)

/-- A tile whose table entry is not negative has an expert; the others are padding. -/
def Live (w : BitVec 32) : Prop := 0 ≤ w.toInt

instance (w : BitVec 32) : Decidable (Live w) := by unfold Live; infer_instance

/-- The slot tile `t` is gathered into. -/
def slot (t : ℕ) : Fin 2 := ⟨t % 2, by omega⟩

/-- The kernel's slot word at point `n`: `n` modulo 2, as the kernel computes it. -/
def slotWord (n : ℕ) : BitVec 32 :=
  let arg0 : BitVec 32 := BitVec.ofNat 32 n
  let v6 : BitVec 1 := Scalar.cmpi .eq 2#32 0#32
  let v7 : BitVec 32 := Scalar.select v6 1#32 2#32
  let v8 : BitVec 32 := Scalar.remsi arg0 v7
  let v10 : BitVec 1 := Scalar.cmpi .slt v8 0#32
  let v11 : BitVec 1 := Scalar.cmpi .slt v7 0#32
  let v12 : BitVec 1 := Scalar.xori v10 v11
  let v9 : BitVec 1 := Scalar.cmpi .ne v8 0#32
  let v13 : BitVec 1 := Scalar.andi v12 v9
  let v14 : BitVec 32 := Scalar.addi v8 v7
  Scalar.select v13 v14 v8

theorem slotWord_eq : ∀ n : Fin 129, (slotWord n.val).toNat = n.val % 2 := by decide +kernel

theorem otherSlot_eq : ∀ n : Fin 129, (Scalar.subi 1#32 (slotWord n.val)).toNat = (n.val + 1) % 2 := by decide +kernel

/-- The word of the table of source rows that copy `k` of the next tile reads. -/
theorem nextWord_eq : ∀ n : Fin 128, ∀ k : Fin 32,
    (Scalar.indexCast (Scalar.addi (Scalar.muli (Scalar.addi (BitVec.ofNat 32 n.val) 1#32) 32#32) (BitVec.ofNat 32 k.val))).toNat
      = 32 * (n.val + 1) + k.val := by decide +kernel

/-- The slot of the tile after `i`. -/
theorem off_other (i : grid0.Coords) : (![(Scalar.subi 1#32 (slotWord (i 0).val)).toNat] : Fin 1 → ℕ) = ![(slot ((i 0).val + 1)).val] :=
  congrArg (fun n => ![n]) (otherSlot_eq (i 0))

/-- Rows `16 k, …` of the slot of the tile after `i`. -/
theorem off_other_rows (i : grid0.Coords) (k : ℕ) :
    (![(Scalar.subi 1#32 (slotWord (i 0).val)).toNat, 16 * k, 0] : Fin 3 → ℕ) = ![(slot ((i 0).val + 1)).val, 16 * k, 0] :=
  congrArg (fun n => ![n, 16 * k, 0]) (otherSlot_eq (i 0))

theorem off164 (i : grid0.Coords) : k0_off164 i = ![(slot (i 0).val).val] := congrArg (fun n => ![n]) (slotWord_eq (i 0))
theorem off165 (i : grid0.Coords) : k0_off165 i = ![(slot (i 0).val).val, 0, 0] := congrArg (fun n => ![n, 0, 0]) (slotWord_eq (i 0))
theorem off166 (i : grid0.Coords) : k0_off166 i = ![(slot (i 0).val).val, 0, 0] := congrArg (fun n => ![n, 0, 0]) (slotWord_eq (i 0))
theorem off1 (i : grid0.Coords) : k0_off1 i = ![(i 0).val] := by
  have h : ∀ n : Fin 129, (Scalar.indexCast (BitVec.ofNat 32 n.val)).toNat = n.val := by decide +kernel
  exact congrArg (fun n => ![n]) (h (i 0))

theorem off2 (i : grid0.Coords) : k0_off2 i = ![(i 0).val - 1] := by
  have h : ∀ n : Fin 129, (Scalar.indexCast (Scalar.maxsi (Scalar.subi (BitVec.ofNat 32 n.val) 1#32) 0#32)).toNat = n.val - 1 := by
    decide +kernel
  exact congrArg (fun n => ![n]) (h (i 0))

theorem off35 (i : grid0.Coords) : k0_off35 i = ![min ((i 0).val + 1) 128] := by
  have h : ∀ n : Fin 129, (Scalar.indexCast (Scalar.minsi (Scalar.addi (BitVec.ofNat 32 n.val) 1#32) 128#32)).toNat = min (n.val + 1) 128 := by
    decide +kernel
  exact congrArg (fun n => ![n]) (h (i 0))

/-- The word that copy `k` of the next tile reads, at a point that is not the last. -/
theorem off_word (i : grid0.Coords) (hi : (i 0).val < 128) (k : Fin 32) :
    (![(Scalar.indexCast (Scalar.addi (Scalar.muli (Scalar.addi (BitVec.ofNat 32 (i 0).val) 1#32) 32#32) (BitVec.ofNat 32 k.val))).toNat]
      : Fin 1 → ℕ) = ![32 * ((i 0).val + 1) + k.val] :=
  congrArg (fun n => ![n]) (nextWord_eq ⟨(i 0).val, hi⟩ k)

/-! ## The conditions -/

/-- "`w ≥ 0`", as a word. -/
theorem sge_live (w : BitVec 32) : Scalar.cmpi .sge w 0#32 = BitVec.ofBool (decide (Live w)) := by
  show BitVec.ofBool ((0#32).sle w) = _
  congr 1

/-- "`w < 0`", as a word. -/
theorem slt_live (w : BitVec 32) : Scalar.cmpi .slt w 0#32 = BitVec.ofBool (decide (¬ Live w)) := by
  show BitVec.ofBool (w.slt 0#32) = _
  congr 1
  rw [Bool.eq_iff_iff, BitVec.slt_iff_toInt_lt, decide_eq_true_iff]
  exact not_le.symm

/-- The kernel fetches the tile of point 0 at point 0 itself, if it has an expert. -/
theorem cond1_iff (i : grid0.Coords) (w : BitVec 32) : k0_cond1 i w = 1#1 ↔ (i 0).val = 0 ∧ Live w := by
  have h : ∀ n : Fin 129, ∀ b : Bool, Scalar.cmpi .ne (Scalar.extui
      (Scalar.andi (Scalar.cmpi .eq (BitVec.ofNat 32 n.val) 0#32) (BitVec.ofBool b))) 0#32 = 1#1 ↔ n.val = 0 ∧ b = true := by decide +kernel
  have e := h (i 0) (decide (Live w))
  rw [← sge_live, decide_eq_true_iff] at e
  exact e

/-- It fetches the next tile, if there is one and it has an expert. -/
theorem cond2_iff (i : grid0.Coords) (w : BitVec 32) : k0_cond2 i w = 1#1 ↔ (i 0).val < 128 ∧ Live w := by
  have h : ∀ n : Fin 129, ∀ b : Bool, Scalar.cmpi .ne (Scalar.extui
      (Scalar.andi (Scalar.cmpi .slt (BitVec.ofNat 32 n.val) 128#32) (BitVec.ofBool b))) 0#32 = 1#1 ↔ n.val < 128 ∧ b = true := by decide +kernel
  have e := h (i 0) (decide (Live w))
  rw [← sge_live, decide_eq_true_iff] at e
  exact e

/-- A test of one bit, as the kernel makes it. -/
theorem bit_iff (b : Bool) : Scalar.cmpi .ne (Scalar.extui (BitVec.ofBool b)) 0#32 = 1#1 ↔ b = true := by
  revert b; decide +kernel

theorem cond5_iff (w : BitVec 32) : k0_cond5 w = 1#1 ↔ Live w := by
  have e := bit_iff (decide (Live w))
  rw [← sge_live, decide_eq_true_iff] at e
  exact e

theorem cond6_iff (w : BitVec 32) : k0_cond6 w = 1#1 ↔ ¬ Live w := by
  have e := bit_iff (decide (¬ Live w))
  rw [← slt_live, decide_eq_true_iff] at e
  exact e

/-- The wait's condition: the tile has an expert. -/
theorem wait_iff (w : BitVec 32) : Scalar.cmpi .ne (Scalar.extui (Scalar.cmpi .sge w 0#32)) 0#32 = 1#1 ↔ Live w := cond5_iff w

/-- The weights are taken anew at point 0 and whenever the expert changes, if the tile has one. -/
theorem fresh_iff (i : grid0.Coords) (w w' : BitVec 32) :
    Scalar.cmpi .ne (Scalar.extui (Scalar.andi (Scalar.cmpi .sge w 0#32)
        (Scalar.ori (Scalar.cmpi .eq (BitVec.ofNat 32 (i 0).val) 0#32) (Scalar.cmpi .ne w w')))) 0#32 = 1#1
      ↔ Live w ∧ ((i 0).val = 0 ∨ w ≠ w') := by
  have h : ∀ n : Fin 129, ∀ b b' : Bool, Scalar.cmpi .ne (Scalar.extui (Scalar.andi (BitVec.ofBool b)
      (Scalar.ori (Scalar.cmpi .eq (BitVec.ofNat 32 n.val) 0#32) (BitVec.ofBool b')))) 0#32 = 1#1
        ↔ b = true ∧ (n.val = 0 ∨ b' = true) := by decide +kernel
  have e := h (i 0) (decide (Live w)) (w != w')
  rw [← sge_live, decide_eq_true_iff, bne_iff_ne] at e
  exact e

end Cert.KernelIdeal.Hand
-- ==== Proof.Copy.lean ====
/-
  One copy of 16 rows as the kernel makes it: the read of its source row, the facts assumed of it, the issue.
-/
module

public import proofs.«01_k».proof.Proof.Offsets

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

/-- The program has no loop to bound. -/
abbrev 𝒱₀ : Variants := Variants.none

/-- Tile `t`'s 32 source rows are in range and multiples of 16. -/
def Routed (ts : S4128.Idx → BitVec 32) (t : ℕ) : Prop := ∀ k < 32, row ts t k ≤ 50672 ∧ 16 ∣ row ts t k

/-- The table of source rows beside slot `s` with `j` of tile `t`'s copies issued. -/
def Fetching (ts : S4128.Idx → BitVec 32) (fxs : S50688x1024.Idx → Elt F .bf16) (c : Dev nD) (q : PosShare TreeShare)
    (s : Fin 2) (t j : ℕ) : sProp 𝕄 :=
  iprop(((c : Thread nD τ).loc main_arg2 ↦{q} ts) ∗ Issued ts fxs c s t j)

variable (ts : S4128.Idx → BitVec 32) (fxs : S50688x1024.Idx → Elt F .bf16) (c : Dev nD) (q : PosShare TreeShare)
/-- One copy, from the read of its source row to its issue: the word read is the copy's source row, what the kernel assumes
    of it holds, and the copy's offsets are what they should be. -/
theorem wp_copy {Λ : Labels} {defs : Defs nD τ sig (Elt F) Λ} {α : Type} {Q : α → sProp 𝕄}
    (s : Fin 2) (t j : ℕ) (hj : j < 32) (ht : t < 129) (hr : Routed ts t)
    (offw : Fin 1 → ℕ) (hw : offw = ![32 * t + j]) (hbw : ∀ a, offw a + S1.size a ≤ S4128.size a) (hl)
    (chk : (S1.Idx → Elt F .i32) → Prop) (dec : ∀ x, Decidable (chk x)) (hchk : chk fun _ => word ts (32 * t + j))
    (offd : Fin 3 → ℕ) (hd : offd = ![s.val, 16 * j, 0]) (hbd : ∀ a, offd a + S1x16x1024.size a ≤ S2x512x1024.size a) (hsd) (hq)
    (offs : (S1.Idx → Elt F .i32) → Fin 2 → ℕ) (he : offs (fun _ => word ts (32 * t + j)) = ![row ts t j, 0])
    (hbs : ∀ x, PLift (chk x) → ∀ a, offs x a + S16x1024.size a ≤ S50688x1024.size a) (hss : ∀ x (h : PLift (chk x)), _)
    (offm : Fin 1 → ℕ) (hm : offm = ![s.val]) (hbm : ∀ a, offm a + S1.size a ≤ S2.size a) (hqm)
    (hsrc : ∀ x (h : PLift (chk x)), ((Memref.whole main_arg3).slice (Rect.unit (s := S50688x1024) (offs x) S16x1024.size (hbs x h)) (hss x h)).view.WordExact)
    (hdst : (((Memref.whole cc0_scratch0).slice (Rect.unit (s := S2x512x1024) offd S1x16x1024.size hbd) hsd).squeeze S16x1024 hq).view.WordExact)
    (hsem : DmaTarget.Typed (nD := nD) (τ := τ) (sig := sig) (p := .tc) (s := S16x1024) (e := .bf16) (sp' := cc0_scratch0.space) main_arg3.space (.dma ((cc0_scratch4.slice (Rect.unit (s := S2) offm S1.size hbm)).squeeze S_ hqm).sem)
      (.here (((Memref.whole cc0_scratch0).slice (Rect.unit (s := S2x512x1024) offd S1x16x1024.size hbd) hsd).squeeze S16x1024 hq)))
    (k : ∀ x, PLift (chk x) → PUnit → Prog (TpuEff nD τ sig (Elt F) Λ .tc) α) :
    (Fetching ts fxs c q s t j : sProp 𝕄)
      ⊢ iprop((Fetching ts fxs c q s t (j + 1) -∗ wp frame (wpE defs 𝒱₀ (c : Thread nD τ) none) Set.univ (k _ ⟨hchk⟩ ⟨⟩) Q)
          -∗ wp frame (wpE defs 𝒱₀ (c : Thread nD τ) none) Set.univ
              (.op (.load (Memref.whole main_arg2) (Rect.unit (s := S4128) offw S1.size hbw).toLoadRect hl) fun x =>
                .op (.assume (chk x) (dec x)) fun h =>
                  .op (.enqueueDma ((Memref.whole main_arg3).slice (Rect.unit (s := S50688x1024) (offs x) S16x1024.size (hbs x h)) (hss x h))
                    (.here (((Memref.whole cc0_scratch0).slice (Rect.unit (s := S2x512x1024) offd S1x16x1024.size hbd) hsd).squeeze S16x1024 hq))
                    (.dma ((cc0_scratch4.slice (Rect.unit (s := S2) offm S1.size hbm)).squeeze S_ hqm).sem) (hsrc x h) hdst hsem)
                    (k x h)) Q) := by
  unfold Fetching
  iintro ⟨Ht, Hi⟩ Hk
  iapply (wp_word c 𝒱₀ ts q (32 * t + j) (by omega) _ hw) $$ Ht
  iintro Ht
  iapply (wp_assume 𝒱₀ (c : Thread nD τ) none Set.univ hchk)
  iapply (wp_issue ts fxs c 𝒱₀ s t j hj (hr j hj).1 _ hd _ _ _ _ he _ _ _ hm) $$ Hi
  iintro Hi
  iapply Hk
  isplitl [Ht] <;> iassumption

/-- What the kernel assumes of the source row of copy `j` of tile `t`. -/
theorem routed_ok {ts : S4128.Idx → BitVec 32} {t : ℕ} (hr : Routed ts t) (j : ℕ) (hj : j < 32) (P : Prop) :
    (P → 16 ∣ (word ts (32 * t + j)).toNat)
      ∧ (P → ∀ a, (![(word ts (32 * t + j)).toNat, 0] : Fin 2 → ℕ) a + S16x1024.size a ≤ S50688x1024.size a)
      ∧ (P → ∀ (hb : ∀ a, (![(word ts (32 * t + j)).toNat, 0] : Fin 2 → ℕ) a + S16x1024.size a ≤ S50688x1024.size a),
          (Rect.unit (s := S50688x1024) ![(word ts (32 * t + j)).toNat, 0] S16x1024.size hb).WholeWords (EltTy.packing .bf16)) :=
  rowOk _ (hr j hj).2 (hr j hj).1 P

/-- The read of the source row of a copy still to be issued. -/
theorem wp_peek {Λ : Labels} {defs : Defs nD τ sig (Elt F) Λ} {α : Type} {Q : α → sProp 𝕄}
    (s : Fin 2) (t j : ℕ) (hj : j < 32) (ht : t < 129)
    (offw : Fin 1 → ℕ) (hw : offw = ![32 * t + j]) (hbw : ∀ a, offw a + S1.size a ≤ S4128.size a) (hl)
    (k : (S1.Idx → Elt F .i32) → Prog (TpuEff nD τ sig (Elt F) Λ .tc) α) :
    (Fetching ts fxs c q s t j : sProp 𝕄)
      ⊢ iprop((Fetching ts fxs c q s t j -∗ wp frame (wpE defs 𝒱₀ (c : Thread nD τ) none) Set.univ (k fun _ => word ts (32 * t + j)) Q)
          -∗ wp frame (wpE defs 𝒱₀ (c : Thread nD τ) none) Set.univ
              (.op (.load (Memref.whole main_arg2) (Rect.unit (s := S4128) offw S1.size hbw).toLoadRect hl) k) Q) := by
  unfold Fetching
  iintro ⟨Ht, Hi⟩ Hk
  iapply (wp_word c 𝒱₀ ts q (32 * t + j) (by omega) _ hw) $$ Ht
  iintro Ht
  iapply Hk
  isplitl [Ht] <;> iassumption

/-- The issue of a copy whose source row has been read. -/
theorem wp_send {Λ : Labels} {defs : Defs nD τ sig (Elt F) Λ} {α : Type} {Q : α → sProp 𝕄}
    (s : Fin 2) (t j : ℕ) (hj : j < 32) (hr : Routed ts t)
    (offd : Fin 3 → ℕ) (hd : offd = ![s.val, 16 * j, 0]) (hbd : ∀ a, offd a + S1x16x1024.size a ≤ S2x512x1024.size a) (hsd) (hq)
    (offs : Fin 2 → ℕ) (he : offs = ![row ts t j, 0]) (hbs : ∀ a, offs a + S16x1024.size a ≤ S50688x1024.size a) (hss)
    (offm : Fin 1 → ℕ) (hm : offm = ![s.val]) (hbm : ∀ a, offm a + S1.size a ≤ S2.size a) (hqm)
    (hsrc) (hdst) (hsem) (k : PUnit → Prog (TpuEff nD τ sig (Elt F) Λ .tc) α) :
    (Fetching ts fxs c q s t j : sProp 𝕄)
      ⊢ iprop((Fetching ts fxs c q s t (j + 1) -∗ wp frame (wpE defs 𝒱₀ (c : Thread nD τ) none) Set.univ (k ⟨⟩) Q)
          -∗ wp frame (wpE defs 𝒱₀ (c : Thread nD τ) none) Set.univ
              (.op (.enqueueDma ((Memref.whole main_arg3).slice (Rect.unit (s := S50688x1024) offs S16x1024.size hbs) hss)
                (.here (((Memref.whole cc0_scratch0).slice (Rect.unit (s := S2x512x1024) offd S1x16x1024.size hbd) hsd).squeeze S16x1024 hq))
                (.dma ((cc0_scratch4.slice (Rect.unit (s := S2) offm S1.size hbm)).squeeze S_ hqm).sem) hsrc hdst hsem) k) Q) := by
  unfold Fetching
  iintro ⟨Ht, Hi⟩ Hk
  iapply (wp_issue ts fxs c 𝒱₀ s t j hj (hr j hj).1 _ hd _ _ _ _ he _ _ _ hm) $$ Hi
  iintro Hi
  iapply Hk
  isplitl [Ht] <;> iassumption

/-- A run that has returned. -/
theorem wp_done {α : Type} (a : α) {Q : α → sProp 𝕄} :
    (Q a : sProp 𝕄) ⊢ wp frame (wpE (defs₀ (F := F)) 𝒱₀ (c : Thread nD τ) none) Set.univ (.ret a) Q := by
  rw [wp_ret]
  iintro H
  imodintro
  iexact H

/-- A run of the kernel's body, or of a part of it. -/
abbrev runs {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A part of the body at the program's own tables, arrays and scratch buffers, whatever buffers its windows are staged in. -/
abbrev atBufs {β : Type 1}
    (p : ∀ (arg1 : Memref sig .tc .smem S129 .i32), arg1.IsWhole → ∀ (arg2 : Memref sig .tc .smem S129 .i32), arg2.IsWhole →
      ∀ (arg3 : Memref sig .tc .smem S4128 .i32), arg3.IsWhole → ∀ (arg4 : Memref sig .tc .hbm S50688x1024 .bf16), arg4.IsWhole →
      ∀ (arg5 : Memref sig .tc .vmem S1x1024x512 .f32), arg5.IsWhole → ∀ (arg6 : Memref sig .tc .vmem S1x1024x512 .f32), arg6.IsWhole →
      ∀ (arg7 : Memref sig .tc .vmem S1x512x1024 .f32), arg7.IsWhole → ∀ (arg8 : Memref sig .tc .vmem S512x1024 .bf16), arg8.IsWhole →
      ∀ (arg9 : Memref sig .tc .vmem S2x512x1024 .bf16), arg9.IsWhole → ∀ (arg10 : Memref sig .tc .vmem S1024x512 .bf16), arg10.IsWhole →
      ∀ (arg11 : Memref sig .tc .vmem S1024x512 .bf16), arg11.IsWhole → ∀ (arg12 : Memref sig .tc .vmem S512x1024 .bf16), arg12.IsWhole →
      DmaSems sig S2 → β)
    (arg5 arg6 : Memref sig .tc .vmem S1x1024x512 .f32) (harg5 : arg5.IsWhole) (harg6 : arg6.IsWhole)
    (arg7 : Memref sig .tc .vmem S1x512x1024 .f32) (harg7 : arg7.IsWhole) (arg8 : Memref sig .tc .vmem S512x1024 .bf16) (harg8 : arg8.IsWhole) : β :=
  p (Memref.whole main_arg0) (Memref.isWhole_whole _) (Memref.whole main_arg1) (Memref.isWhole_whole _) (Memref.whole main_arg2) (Memref.isWhole_whole _)
    (Memref.whole main_arg3) (Memref.isWhole_whole _) arg5 harg5 arg6 harg6 arg7 harg7 arg8 harg8 (Memref.whole cc0_scratch0) (Memref.isWhole_whole _)
    (Memref.whole cc0_scratch1) (Memref.isWhole_whole _) (Memref.whole cc0_scratch2) (Memref.isWhole_whole _) (Memref.whole cc0_scratch3)
    (Memref.isWhole_whole _) cc0_scratch4

end Cert.KernelIdeal.Hand
-- ==== Proof.First.lean ====
/-
  The kernel's first fetch: at point 0, the 32 copies of tile 0 into slot 0, four in each part of the body.
-/
module

public import proofs.«01_k».proof.Proof.Copy

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (ts : S4128.Idx → BitVec 32) (fxs : S50688x1024.Idx → Elt F .bf16) (c : Dev nD) (q : PosShare TreeShare)
variable (i : grid0.Coords) (arg5 arg6 : Memref sig .tc .vmem S1x1024x512 .f32) (harg5 : arg5.IsWhole) (harg6 : arg6.IsWhole)
  (arg7 : Memref sig .tc .vmem S1x512x1024 .f32) (harg7 : arg7.IsWhole) (arg8 : Memref sig .tc .vmem S512x1024 .bf16) (harg8 : arg8.IsWhole)

/-- Copies 0 to 3. -/
theorem part1 (hr : Routed ts 0) (v1 : BitVec 32) (h1 : k0_cond1 i v1 = 1#1) :
    (Fetching ts fxs c q 0 0 0 : sProp 𝕄)
      ⊢ runs c (atBufs (k0_part1 i) arg5 arg6 harg5 harg6 arg7 harg7 arg8 harg8 v1 h1) fun _ => Fetching ts fxs c q 0 0 4 := by
  unfold runs atBufs
  rw [k0_part1_eq_skeleton]
  unfold k0_part1_skel
  simp only [smemLoad, smemLoadElt, Prog.lift, Prog.bind_op, Prog.bind_ret, Prog.pure_eq_ret, Prog.bind_assoc]
  iintro H
  iapply (wp_copy ts fxs c q 0 0 0 (by decide) (by decide) hr _ rfl _ _ _ _ (routed_ok hr 0 (by decide) _) _ rfl _ _ _ _ rfl _ _ _ rfl) $$ H
  iintro H
  iapply (wp_copy ts fxs c q 0 0 1 (by decide) (by decide) hr _ rfl _ _ _ _ (routed_ok hr 1 (by decide) _) _ rfl _ _ _ _ rfl _ _ _ rfl) $$ H
  iintro H
  iapply (wp_copy ts fxs c q 0 0 2 (by decide) (by decide) hr _ rfl _ _ _ _ (routed_ok hr 2 (by decide) _) _ rfl _ _ _ _ rfl _ _ _ rfl) $$ H
  iintro H
  iapply (wp_copy ts fxs c q 0 0 3 (by decide) (by decide) hr _ rfl _ _ _ _ (routed_ok hr 3 (by decide) _) _ rfl _ _ _ _ rfl _ _ _ rfl) $$ H
  iintro H
  iapply (wp_done c _) $$ H

/-- Copies 4 to 7. -/
theorem part2 (hr : Routed ts 0) (v1 : BitVec 32) (h1 : k0_cond1 i v1 = 1#1) :
    (Fetching ts fxs c q 0 0 4 : sProp 𝕄)
      ⊢ runs c (atBufs (k0_part2 i) arg5 arg6 harg5 harg6 arg7 harg7 arg8 harg8 v1 h1) fun _ => Fetching ts fxs c q 0 0 8 := by
  unfold runs atBufs
  rw [k0_part2_eq_skeleton]
  unfold k0_part2_skel
  simp only [smemLoad, smemLoadElt, Prog.lift, Prog.bind_op, Prog.bind_ret, Prog.pure_eq_ret, Prog.bind_assoc]
  iintro H
  iapply (wp_copy ts fxs c q 0 0 4 (by decide) (by decide) hr _ rfl _ _ _ _ (routed_ok hr 4 (by decide) _) _ rfl _ _ _ _ rfl _ _ _ rfl) $$ H
  iintro H
  iapply (wp_copy ts fxs c q 0 0 5 (by decide) (by decide) hr _ rfl _ _ _ _ (routed_ok hr 5 (by decide) _) _ rfl _ _ _ _ rfl _ _ _ rfl) $$ H
  iintro H
  iapply (wp_copy ts fxs c q 0 0 6 (by decide) (by decide) hr _ rfl _ _ _ _ (routed_ok hr 6 (by decide) _) _ rfl _ _ _ _ rfl _ _ _ rfl) $$ H
  iintro H
  iapply (wp_copy ts fxs c q 0 0 7 (by decide) (by decide) hr _ rfl _ _ _ _ (routed_ok hr 7 (by decide) _) _ rfl _ _ _ _ rfl _ _ _ rfl) $$ H
  iintro H
  iapply (wp_done c _) $$ H

/-- Copies 8 to 11. -/
theorem part3 (hr : Routed ts 0) (v1 : BitVec 32) (h1 : k0_cond1 i v1 = 1#1) :
    (Fetching ts fxs c q 0 0 8 : sProp 𝕄)
      ⊢ runs c (atBufs (k0_part3 i) arg5 arg6 harg5 harg6 arg7 harg7 arg8 harg8 v1 h1) fun _ => Fetching ts fxs c q 0 0 12 := by
  unfold runs atBufs
  rw [k0_part3_eq_skeleton]
  unfold k0_part3_skel
  simp only [smemLoad, smemLoadElt, Prog.lift, Prog.bind_op, Prog.bind_ret, Prog.pure_eq_ret, Prog.bind_assoc]
  iintro H
  iapply (wp_copy ts fxs c q 0 0 8 (by decide) (by decide) hr _ rfl _ _ _ _ (routed_ok hr 8 (by decide) _) _ rfl _ _ _ _ rfl _ _ _ rfl) $$ H
  iintro H
  iapply (wp_copy ts fxs c q 0 0 9 (by decide) (by decide) hr _ rfl _ _ _ _ (routed_ok hr 9 (by decide) _) _ rfl _ _ _ _ rfl _ _ _ rfl) $$ H
  iintro H
  iapply (wp_copy ts fxs c q 0 0 10 (by decide) (by decide) hr _ rfl _ _ _ _ (routed_ok hr 10 (by decide) _) _ rfl _ _ _ _ rfl _ _ _ rfl) $$ H
  iintro H
  iapply (wp_copy ts fxs c q 0 0 11 (by decide) (by decide) hr _ rfl _ _ _ _ (routed_ok hr 11 (by decide) _) _ rfl _ _ _ _ rfl _ _ _ rfl) $$ H
  iintro H
  iapply (wp_done c _) $$ H

/-- Copies 12 to 15. -/
theorem part4 (hr : Routed ts 0) (v1 : BitVec 32) (h1 : k0_cond1 i v1 = 1#1) :
    (Fetching ts fxs c q 0 0 12 : sProp 𝕄)
      ⊢ runs c (atBufs (k0_part4 i) arg5 arg6 harg5 harg6 arg7 harg7 arg8 harg8 v1 h1) fun _ => Fetching ts fxs c q 0 0 16 := by
  unfold runs atBufs
  rw [k0_part4_eq_skeleton]
  unfold k0_part4_skel
  simp only [smemLoad, smemLoadElt, Prog.lift, Prog.bind_op, Prog.bind_ret, Prog.pure_eq_ret, Prog.bind_assoc]
  iintro H
  iapply (wp_copy ts fxs c q 0 0 12 (by decide) (by decide) hr _ rfl _ _ _ _ (routed_ok hr 12 (by decide) _) _ rfl _ _ _ _ rfl _ _ _ rfl) $$ H
  iintro H
  iapply (wp_copy ts fxs c q 0 0 13 (by decide) (by decide) hr _ rfl _ _ _ _ (routed_ok hr 13 (by decide) _) _ rfl _ _ _ _ rfl _ _ _ rfl) $$ H
  iintro H
  iapply (wp_copy ts fxs c q 0 0 14 (by decide) (by decide) hr _ rfl _ _ _ _ (routed_ok hr 14 (by decide) _) _ rfl _ _ _ _ rfl _ _ _ rfl) $$ H
  iintro H
  iapply (wp_copy ts fxs c q 0 0 15 (by decide) (by decide) hr _ rfl _ _ _ _ (routed_ok hr 15 (by decide) _) _ rfl _ _ _ _ rfl _ _ _ rfl) $$ H
  iintro H
  iapply (wp_done c _) $$ H

/-- Copies 16 to 19. -/
theorem part5 (hr : Routed ts 0) (v1 : BitVec 32) (h1 : k0_cond1 i v1 = 1#1) :
    (Fetching ts fxs c q 0 0 16 : sProp 𝕄)
      ⊢ runs c (atBufs (k0_part5 i) arg5 arg6 harg5 harg6 arg7 harg7 arg8 harg8 v1 h1) fun _ => Fetching ts fxs c q 0 0 20 := by
  unfold runs atBufs
  rw [k0_part5_eq_skeleton]
  unfold k0_part5_skel
  simp only [smemLoad, smemLoadElt, Prog.lift, Prog.bind_op, Prog.bind_ret, Prog.pure_eq_ret, Prog.bind_assoc]
  iintro H
  iapply (wp_copy ts fxs c q 0 0 16 (by decide) (by decide) hr _ rfl _ _ _ _ (routed_ok hr 16 (by decide) _) _ rfl _ _ _ _ rfl _ _ _ rfl) $$ H
  iintro H
  iapply (wp_copy ts fxs c q 0 0 17 (by decide) (by decide) hr _ rfl _ _ _ _ (routed_ok hr 17 (by decide) _) _ rfl _ _ _ _ rfl _ _ _ rfl) $$ H
  iintro H
  iapply (wp_copy ts fxs c q 0 0 18 (by decide) (by decide) hr _ rfl _ _ _ _ (routed_ok hr 18 (by decide) _) _ rfl _ _ _ _ rfl _ _ _ rfl) $$ H
  iintro H
  iapply (wp_copy ts fxs c q 0 0 19 (by decide) (by decide) hr _ rfl _ _ _ _ (routed_ok hr 19 (by decide) _) _ rfl _ _ _ _ rfl _ _ _ rfl) $$ H
  iintro H
  iapply (wp_done c _) $$ H

/-- Copies 20 to 23. -/
theorem part6 (hr : Routed ts 0) (v1 : BitVec 32) (h1 : k0_cond1 i v1 = 1#1) :
    (Fetching ts fxs c q 0 0 20 : sProp 𝕄)
      ⊢ runs c (atBufs (k0_part6 i) arg5 arg6 harg5 harg6 arg7 harg7 arg8 harg8 v1 h1) fun _ => Fetching ts fxs c q 0 0 24 := by
  unfold runs atBufs
  rw [k0_part6_eq_skeleton]
  unfold k0_part6_skel
  simp only [smemLoad, smemLoadElt, Prog.lift, Prog.bind_op, Prog.bind_ret, Prog.pure_eq_ret, Prog.bind_assoc]
  iintro H
  iapply (wp_copy ts fxs c q 0 0 20 (by decide) (by decide) hr _ rfl _ _ _ _ (routed_ok hr 20 (by decide) _) _ rfl _ _ _ _ rfl _ _ _ rfl) $$ H
  iintro H
  iapply (wp_copy ts fxs c q 0 0 21 (by decide) (by decide) hr _ rfl _ _ _ _ (routed_ok hr 21 (by decide) _) _ rfl _ _ _ _ rfl _ _ _ rfl) $$ H
  iintro H
  iapply (wp_copy ts fxs c q 0 0 22 (by decide) (by decide) hr _ rfl _ _ _ _ (routed_ok hr 22 (by decide) _) _ rfl _ _ _ _ rfl _ _ _ rfl) $$ H
  iintro H
  iapply (wp_copy ts fxs c q 0 0 23 (by decide) (by decide) hr _ rfl _ _ _ _ (routed_ok hr 23 (by decide) _) _ rfl _ _ _ _ rfl _ _ _ rfl) $$ H
  iintro H
  iapply (wp_done c _) $$ H

/-- Copies 24 to 27. -/
theorem part7 (hr : Routed ts 0) (v1 : BitVec 32) (h1 : k0_cond1 i v1 = 1#1) :
    (Fetching ts fxs c q 0 0 24 : sProp 𝕄)
      ⊢ runs c (atBufs (k0_part7 i) arg5 arg6 harg5 harg6 arg7 harg7 arg8 harg8 v1 h1) fun _ => Fetching ts fxs c q 0 0 28 := by
  unfold runs atBufs
  rw [k0_part7_eq_skeleton]
  unfold k0_part7_skel
  simp only [smemLoad, smemLoadElt, Prog.lift, Prog.bind_op, Prog.bind_ret, Prog.pure_eq_ret, Prog.bind_assoc]
  iintro H
  iapply (wp_copy ts fxs c q 0 0 24 (by decide) (by decide) hr _ rfl _ _ _ _ (routed_ok hr 24 (by decide) _) _ rfl _ _ _ _ rfl _ _ _ rfl) $$ H
  iintro H
  iapply (wp_copy ts fxs c q 0 0 25 (by decide) (by decide) hr _ rfl _ _ _ _ (routed_ok hr 25 (by decide) _) _ rfl _ _ _ _ rfl _ _ _ rfl) $$ H
  iintro H
  iapply (wp_copy ts fxs c q 0 0 26 (by decide) (by decide) hr _ rfl _ _ _ _ (routed_ok hr 26 (by decide) _) _ rfl _ _ _ _ rfl _ _ _ rfl) $$ H
  iintro H
  iapply (wp_copy ts fxs c q 0 0 27 (by decide) (by decide) hr _ rfl _ _ _ _ (routed_ok hr 27 (by decide) _) _ rfl _ _ _ _ rfl _ _ _ rfl) $$ H
  iintro H
  iapply (wp_done c _) $$ H

/-- Copies 28 to 31. -/
theorem part8 (hr : Routed ts 0) (v1 : BitVec 32) (h1 : k0_cond1 i v1 = 1#1) :
    (Fetching ts fxs c q 0 0 28 : sProp 𝕄)
      ⊢ runs c (atBufs (k0_part8 i) arg5 arg6 harg5 harg6 arg7 harg7 arg8 harg8 v1 h1) fun _ => Fetching ts fxs c q 0 0 32 := by
  unfold runs atBufs
  rw [k0_part8_eq_skeleton]
  unfold k0_part8_skel
  simp only [smemLoad, smemLoadElt, Prog.lift, Prog.bind_op, Prog.bind_ret, Prog.pure_eq_ret, Prog.bind_assoc]
  iintro H
  iapply (wp_copy ts fxs c q 0 0 28 (by decide) (by decide) hr _ rfl _ _ _ _ (routed_ok hr 28 (by decide) _) _ rfl _ _ _ _ rfl _ _ _ rfl) $$ H
  iintro H
  iapply (wp_copy ts fxs c q 0 0 29 (by decide) (by decide) hr _ rfl _ _ _ _ (routed_ok hr 29 (by decide) _) _ rfl _ _ _ _ rfl _ _ _ rfl) $$ H
  iintro H
  iapply (wp_copy ts fxs c q 0 0 30 (by decide) (by decide) hr _ rfl _ _ _ _ (routed_ok hr 30 (by decide) _) _ rfl _ _ _ _ rfl _ _ _ rfl) $$ H
  iintro H
  iapply (wp_copy ts fxs c q 0 0 31 (by decide) (by decide) hr _ rfl _ _ _ _ (routed_ok hr 31 (by decide) _) _ rfl _ _ _ _ rfl _ _ _ rfl) $$ H
  iintro H
  iapply (wp_done c _) $$ H

end Cert.KernelIdeal.Hand
-- ==== Proof.Next.lean ====
/-
  The fetch of the next tile: at every point but the last, the 32 copies of the next tile, if it has an expert, into the
  slot this point's tile is not in.
-/
module

public import proofs.«01_k».proof.Proof.Copy

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (ts : S4128.Idx → BitVec 32) (fxs : S50688x1024.Idx → Elt F .bf16) (c : Dev nD) (q : PosShare TreeShare)
variable (i : grid0.Coords) (arg5 arg6 : Memref sig .tc .vmem S1x1024x512 .f32) (harg5 : arg5.IsWhole) (harg6 : arg6.IsWhole)
  (arg7 : Memref sig .tc .vmem S1x512x1024 .f32) (harg7 : arg7.IsWhole) (arg8 : Memref sig .tc .vmem S512x1024 .bf16) (harg8 : arg8.IsWhole)

/-- Copies 0 to 2. -/
theorem part9 (hi : (i 0).val < 128) (hr : Routed ts ((i 0).val + 1)) (v25 : BitVec 32) (hw : k0_chk33 i v25)
    (h2 : k0_cond2 i v25 = 1#1) (arg0 v15 : BitVec 32) :
    (Fetching ts fxs c q (slot ((i 0).val + 1)) ((i 0).val + 1) 0 : sProp 𝕄)
      ⊢ runs c (atBufs (k0_part9 (F := F) i) arg5 arg6 harg5 harg6 arg7 harg7 arg8 harg8 arg0 v15 v25 hw h2) fun _ => Fetching ts fxs c q (slot ((i 0).val + 1)) ((i 0).val + 1) 3 := by
  unfold runs atBufs
  rw [k0_part9_eq_skeleton]
  unfold k0_part9_skel
  simp only [smemLoad, smemLoadElt, Prog.lift, Prog.bind_op, Prog.bind_ret, Prog.pure_eq_ret, Prog.bind_assoc]
  iintro H
  iapply (wp_copy ts fxs c q _ _ 0 (by decide) (by omega) hr _ (off_word i hi 0) _ _ _ _ (routed_ok hr 0 (by decide) _) _ (off_other_rows i 0) _ _ _ _ rfl _ _ _ (off_other i)) $$ H
  iintro H
  iapply (wp_copy ts fxs c q _ _ 1 (by decide) (by omega) hr _ (off_word i hi 1) _ _ _ _ (routed_ok hr 1 (by decide) _) _ (off_other_rows i 1) _ _ _ _ rfl _ _ _ (off_other i)) $$ H
  iintro H
  iapply (wp_copy ts fxs c q _ _ 2 (by decide) (by omega) hr _ (off_word i hi 2) _ _ _ _ (routed_ok hr 2 (by decide) _) _ (off_other_rows i 2) _ _ _ _ rfl _ _ _ (off_other i)) $$ H
  iintro H
  iapply (wp_done c _) $$ H

/-- Copies 3 to 5; the source row of copy 6 read. -/
theorem part10 (hi : (i 0).val < 128) (hr : Routed ts ((i 0).val + 1)) (v25 : BitVec 32) (hw : k0_chk33 i v25)
    (h2 : k0_cond2 i v25 = 1#1) (v47 : BitVec 32) :
    (Fetching ts fxs c q (slot ((i 0).val + 1)) ((i 0).val + 1) 3 : sProp 𝕄)
      ⊢ runs c (atBufs (k0_part10 (F := F) i) arg5 arg6 harg5 harg6 arg7 harg7 arg8 harg8 v25 hw h2 v47) fun r =>
        iprop(⌜r.1 = word ts (32 * ((i 0).val + 1) + 6)⌝ ∗ Fetching ts fxs c q (slot ((i 0).val + 1)) ((i 0).val + 1) 6) := by
  unfold runs atBufs
  rw [k0_part10_eq_skeleton]
  unfold k0_part10_skel
  simp only [smemLoad, smemLoadElt, Prog.lift, Prog.bind_op, Prog.bind_ret, Prog.pure_eq_ret, Prog.bind_assoc]
  iintro H
  iapply (wp_copy ts fxs c q _ _ 3 (by decide) (by omega) hr _ (off_word i hi 3) _ _ _ _ (routed_ok hr 3 (by decide) _) _ (off_other_rows i 3) _ _ _ _ rfl _ _ _ (off_other i)) $$ H
  iintro H
  iapply (wp_copy ts fxs c q _ _ 4 (by decide) (by omega) hr _ (off_word i hi 4) _ _ _ _ (routed_ok hr 4 (by decide) _) _ (off_other_rows i 4) _ _ _ _ rfl _ _ _ (off_other i)) $$ H
  iintro H
  iapply (wp_copy ts fxs c q _ _ 5 (by decide) (by omega) hr _ (off_word i hi 5) _ _ _ _ (routed_ok hr 5 (by decide) _) _ (off_other_rows i 5) _ _ _ _ rfl _ _ _ (off_other i)) $$ H
  iintro H
  iapply (wp_peek ts fxs c q _ _ 6 (by decide) (by omega) _ (off_word i hi 6)) $$ H
  iintro H
  iapply (wp_assume 𝒱₀ (c : Thread nD τ) none Set.univ (routed_ok hr 6 (by decide) _))
  iapply (wp_done c _)
  isplitr
  · ipureintro; rfl
  · iexact H

/-- Copies 6 to 9; the source row of copy 10 read. -/
theorem part11 (hi : (i 0).val < 128) (hr : Routed ts ((i 0).val + 1)) (v25 : BitVec 32) (hw : k0_chk33 i v25)
    (h2 : k0_cond2 i v25 = 1#1) (v47 : BitVec 32) (w : BitVec 32) (hv : w = word ts (32 * ((i 0).val + 1) + 6)) (hc : k0_chk40 i v25 w) :
    (Fetching ts fxs c q (slot ((i 0).val + 1)) ((i 0).val + 1) 6 : sProp 𝕄)
      ⊢ runs c (atBufs (k0_part11 (F := F) i) arg5 arg6 harg5 harg6 arg7 harg7 arg8 harg8 v25 hw h2 v47 w hc) fun r =>
        iprop(⌜r = word ts (32 * ((i 0).val + 1) + 10)⌝ ∗ Fetching ts fxs c q (slot ((i 0).val + 1)) ((i 0).val + 1) 10) := by
  subst hv
  unfold runs atBufs
  rw [k0_part11_eq_skeleton]
  unfold k0_part11_skel
  simp only [smemLoad, smemLoadElt, Prog.lift, Prog.bind_op, Prog.bind_ret, Prog.pure_eq_ret, Prog.bind_assoc]
  iintro H
  iapply (wp_send ts fxs c q _ _ 6 (by decide) hr _ (off_other_rows i 6) _ _ _ _ rfl _ _ _ (off_other i)) $$ H
  iintro H
  iapply (wp_copy ts fxs c q _ _ 7 (by decide) (by omega) hr _ (off_word i hi 7) _ _ _ _ (routed_ok hr 7 (by decide) _) _ (off_other_rows i 7) _ _ _ _ rfl _ _ _ (off_other i)) $$ H
  iintro H
  iapply (wp_copy ts fxs c q _ _ 8 (by decide) (by omega) hr _ (off_word i hi 8) _ _ _ _ (routed_ok hr 8 (by decide) _) _ (off_other_rows i 8) _ _ _ _ rfl _ _ _ (off_other i)) $$ H
  iintro H
  iapply (wp_copy ts fxs c q _ _ 9 (by decide) (by omega) hr _ (off_word i hi 9) _ _ _ _ (routed_ok hr 9 (by decide) _) _ (off_other_rows i 9) _ _ _ _ rfl _ _ _ (off_other i)) $$ H
  iintro H
  iapply (wp_peek ts fxs c q _ _ 10 (by decide) (by omega) _ (off_word i hi 10)) $$ H
  iintro H
  iapply (wp_done c _)
  isplitr
  · ipureintro; rfl
  · iexact H

/-- Copies 10 to 12; the source row of copy 13 read. -/
theorem part12 (hi : (i 0).val < 128) (hr : Routed ts ((i 0).val + 1)) (v25 : BitVec 32) (hw : k0_chk33 i v25)
    (h2 : k0_cond2 i v25 = 1#1) (v47 : BitVec 32) (w : BitVec 32) (hv : w = word ts (32 * ((i 0).val + 1) + 10)) :
    (Fetching ts fxs c q (slot ((i 0).val + 1)) ((i 0).val + 1) 10 : sProp 𝕄)
      ⊢ runs c (atBufs (k0_part12 (F := F) i) arg5 arg6 harg5 harg6 arg7 harg7 arg8 harg8 v25 hw h2 v47 w) fun r =>
        iprop(⌜r.1 = word ts (32 * ((i 0).val + 1) + 13)⌝ ∗ Fetching ts fxs c q (slot ((i 0).val + 1)) ((i 0).val + 1) 13) := by
  subst hv
  unfold runs atBufs
  rw [k0_part12_eq_skeleton]
  unfold k0_part12_skel
  simp only [smemLoad, smemLoadElt, Prog.lift, Prog.bind_op, Prog.bind_ret, Prog.pure_eq_ret, Prog.bind_assoc]
  iintro H
  iapply (wp_assume 𝒱₀ (c : Thread nD τ) none Set.univ (routed_ok hr 10 (by decide) _))
  iapply (wp_send ts fxs c q _ _ 10 (by decide) hr _ (off_other_rows i 10) _ _ _ _ rfl _ _ _ (off_other i)) $$ H
  iintro H
  iapply (wp_copy ts fxs c q _ _ 11 (by decide) (by omega) hr _ (off_word i hi 11) _ _ _ _ (routed_ok hr 11 (by decide) _) _ (off_other_rows i 11) _ _ _ _ rfl _ _ _ (off_other i)) $$ H
  iintro H
  iapply (wp_copy ts fxs c q _ _ 12 (by decide) (by omega) hr _ (off_word i hi 12) _ _ _ _ (routed_ok hr 12 (by decide) _) _ (off_other_rows i 12) _ _ _ _ rfl _ _ _ (off_other i)) $$ H
  iintro H
  iapply (wp_peek ts fxs c q _ _ 13 (by decide) (by omega) _ (off_word i hi 13)) $$ H
  iintro H
  iapply (wp_assume 𝒱₀ (c : Thread nD τ) none Set.univ (routed_ok hr 13 (by decide) _))
  iapply (wp_done c _)
  isplitr
  · ipureintro; rfl
  · iexact H

/-- Copies 13 to 16; the source row of copy 17 read. -/
theorem part13 (hi : (i 0).val < 128) (hr : Routed ts ((i 0).val + 1)) (v25 : BitVec 32) (hw : k0_chk33 i v25)
    (h2 : k0_cond2 i v25 = 1#1) (v47 : BitVec 32) (w : BitVec 32) (hv : w = word ts (32 * ((i 0).val + 1) + 13)) (hc : k0_chk47 i v25 w) :
    (Fetching ts fxs c q (slot ((i 0).val + 1)) ((i 0).val + 1) 13 : sProp 𝕄)
      ⊢ runs c (atBufs (k0_part13 (F := F) i) arg5 arg6 harg5 harg6 arg7 harg7 arg8 harg8 v25 hw h2 v47 w hc) fun r =>
        iprop(⌜r.1 = word ts (32 * ((i 0).val + 1) + 17)⌝ ∗ Fetching ts fxs c q (slot ((i 0).val + 1)) ((i 0).val + 1) 17) := by
  subst hv
  unfold runs atBufs
  rw [k0_part13_eq_skeleton]
  unfold k0_part13_skel
  simp only [smemLoad, smemLoadElt, Prog.lift, Prog.bind_op, Prog.bind_ret, Prog.pure_eq_ret, Prog.bind_assoc]
  iintro H
  iapply (wp_send ts fxs c q _ _ 13 (by decide) hr _ (off_other_rows i 13) _ _ _ _ rfl _ _ _ (off_other i)) $$ H
  iintro H
  iapply (wp_copy ts fxs c q _ _ 14 (by decide) (by omega) hr _ (off_word i hi 14) _ _ _ _ (routed_ok hr 14 (by decide) _) _ (off_other_rows i 14) _ _ _ _ rfl _ _ _ (off_other i)) $$ H
  iintro H
  iapply (wp_copy ts fxs c q _ _ 15 (by decide) (by omega) hr _ (off_word i hi 15) _ _ _ _ (routed_ok hr 15 (by decide) _) _ (off_other_rows i 15) _ _ _ _ rfl _ _ _ (off_other i)) $$ H
  iintro H
  iapply (wp_copy ts fxs c q _ _ 16 (by decide) (by omega) hr _ (off_word i hi 16) _ _ _ _ (routed_ok hr 16 (by decide) _) _ (off_other_rows i 16) _ _ _ _ rfl _ _ _ (off_other i)) $$ H
  iintro H
  iapply (wp_peek ts fxs c q _ _ 17 (by decide) (by omega) _ (off_word i hi 17)) $$ H
  iintro H
  iapply (wp_assume 𝒱₀ (c : Thread nD τ) none Set.univ (routed_ok hr 17 (by decide) _))
  iapply (wp_done c _)
  isplitr
  · ipureintro; rfl
  · iexact H

/-- Copies 17 to 19; the source row of copy 20 read. -/
theorem part14 (hi : (i 0).val < 128) (hr : Routed ts ((i 0).val + 1)) (v25 : BitVec 32) (hw : k0_chk33 i v25)
    (h2 : k0_cond2 i v25 = 1#1) (v47 : BitVec 32) (w : BitVec 32) (hv : w = word ts (32 * ((i 0).val + 1) + 17)) (hc : k0_chk51 i v25 w) :
    (Fetching ts fxs c q (slot ((i 0).val + 1)) ((i 0).val + 1) 17 : sProp 𝕄)
      ⊢ runs c (atBufs (k0_part14 (F := F) i) arg5 arg6 harg5 harg6 arg7 harg7 arg8 harg8 v25 hw h2 v47 w hc) fun r =>
        iprop(⌜r.1 = word ts (32 * ((i 0).val + 1) + 20)⌝ ∗ Fetching ts fxs c q (slot ((i 0).val + 1)) ((i 0).val + 1) 20) := by
  subst hv
  unfold runs atBufs
  rw [k0_part14_eq_skeleton]
  unfold k0_part14_skel
  simp only [smemLoad, smemLoadElt, Prog.lift, Prog.bind_op, Prog.bind_ret, Prog.pure_eq_ret, Prog.bind_assoc]
  iintro H
  iapply (wp_send ts fxs c q _ _ 17 (by decide) hr _ (off_other_rows i 17) _ _ _ _ rfl _ _ _ (off_other i)) $$ H
  iintro H
  iapply (wp_copy ts fxs c q _ _ 18 (by decide) (by omega) hr _ (off_word i hi 18) _ _ _ _ (routed_ok hr 18 (by decide) _) _ (off_other_rows i 18) _ _ _ _ rfl _ _ _ (off_other i)) $$ H
  iintro H
  iapply (wp_copy ts fxs c q _ _ 19 (by decide) (by omega) hr _ (off_word i hi 19) _ _ _ _ (routed_ok hr 19 (by decide) _) _ (off_other_rows i 19) _ _ _ _ rfl _ _ _ (off_other i)) $$ H
  iintro H
  iapply (wp_peek ts fxs c q _ _ 20 (by decide) (by omega) _ (off_word i hi 20)) $$ H
  iintro H
  iapply (wp_assume 𝒱₀ (c : Thread nD τ) none Set.univ (routed_ok hr 20 (by decide) _))
  iapply (wp_done c _)
  isplitr
  · ipureintro; rfl
  · iexact H

/-- Copies 20 to 23; the source row of copy 24 read. -/
theorem part15 (hi : (i 0).val < 128) (hr : Routed ts ((i 0).val + 1)) (v25 : BitVec 32) (hw : k0_chk33 i v25)
    (h2 : k0_cond2 i v25 = 1#1) (v47 : BitVec 32) (w : BitVec 32) (hv : w = word ts (32 * ((i 0).val + 1) + 20)) (hc : k0_chk54 i v25 w) :
    (Fetching ts fxs c q (slot ((i 0).val + 1)) ((i 0).val + 1) 20 : sProp 𝕄)
      ⊢ runs c (atBufs (k0_part15 (F := F) i) arg5 arg6 harg5 harg6 arg7 harg7 arg8 harg8 v25 hw h2 v47 w hc) fun r =>
        iprop(⌜r.1 = word ts (32 * ((i 0).val + 1) + 24)⌝ ∗ Fetching ts fxs c q (slot ((i 0).val + 1)) ((i 0).val + 1) 24) := by
  subst hv
  unfold runs atBufs
  rw [k0_part15_eq_skeleton]
  unfold k0_part15_skel
  simp only [smemLoad, smemLoadElt, Prog.lift, Prog.bind_op, Prog.bind_ret, Prog.pure_eq_ret, Prog.bind_assoc]
  iintro H
  iapply (wp_send ts fxs c q _ _ 20 (by decide) hr _ (off_other_rows i 20) _ _ _ _ rfl _ _ _ (off_other i)) $$ H
  iintro H
  iapply (wp_copy ts fxs c q _ _ 21 (by decide) (by omega) hr _ (off_word i hi 21) _ _ _ _ (routed_ok hr 21 (by decide) _) _ (off_other_rows i 21) _ _ _ _ rfl _ _ _ (off_other i)) $$ H
  iintro H
  iapply (wp_copy ts fxs c q _ _ 22 (by decide) (by omega) hr _ (off_word i hi 22) _ _ _ _ (routed_ok hr 22 (by decide) _) _ (off_other_rows i 22) _ _ _ _ rfl _ _ _ (off_other i)) $$ H
  iintro H
  iapply (wp_copy ts fxs c q _ _ 23 (by decide) (by omega) hr _ (off_word i hi 23) _ _ _ _ (routed_ok hr 23 (by decide) _) _ (off_other_rows i 23) _ _ _ _ rfl _ _ _ (off_other i)) $$ H
  iintro H
  iapply (wp_peek ts fxs c q _ _ 24 (by decide) (by omega) _ (off_word i hi 24)) $$ H
  iintro H
  iapply (wp_assume 𝒱₀ (c : Thread nD τ) none Set.univ (routed_ok hr 24 (by decide) _))
  iapply (wp_done c _)
  isplitr
  · ipureintro; rfl
  · iexact H

/-- Copies 24 to 27. -/
theorem part16 (hi : (i 0).val < 128) (hr : Routed ts ((i 0).val + 1)) (v25 : BitVec 32) (hw : k0_chk33 i v25)
    (h2 : k0_cond2 i v25 = 1#1) (v47 : BitVec 32) (w : BitVec 32) (hv : w = word ts (32 * ((i 0).val + 1) + 24)) (hc : k0_chk58 i v25 w) :
    (Fetching ts fxs c q (slot ((i 0).val + 1)) ((i 0).val + 1) 24 : sProp 𝕄)
      ⊢ runs c (atBufs (k0_part16 (F := F) i) arg5 arg6 harg5 harg6 arg7 harg7 arg8 harg8 v25 hw h2 v47 w hc) fun _ => Fetching ts fxs c q (slot ((i 0).val + 1)) ((i 0).val + 1) 28 := by
  subst hv
  unfold runs atBufs
  rw [k0_part16_eq_skeleton]
  unfold k0_part16_skel
  simp only [smemLoad, smemLoadElt, Prog.lift, Prog.bind_op, Prog.bind_ret, Prog.pure_eq_ret, Prog.bind_assoc]
  iintro H
  iapply (wp_send ts fxs c q _ _ 24 (by decide) hr _ (off_other_rows i 24) _ _ _ _ rfl _ _ _ (off_other i)) $$ H
  iintro H
  iapply (wp_copy ts fxs c q _ _ 25 (by decide) (by omega) hr _ (off_word i hi 25) _ _ _ _ (routed_ok hr 25 (by decide) _) _ (off_other_rows i 25) _ _ _ _ rfl _ _ _ (off_other i)) $$ H
  iintro H
  iapply (wp_copy ts fxs c q _ _ 26 (by decide) (by omega) hr _ (off_word i hi 26) _ _ _ _ (routed_ok hr 26 (by decide) _) _ (off_other_rows i 26) _ _ _ _ rfl _ _ _ (off_other i)) $$ H
  iintro H
  iapply (wp_copy ts fxs c q _ _ 27 (by decide) (by omega) hr _ (off_word i hi 27) _ _ _ _ (routed_ok hr 27 (by decide) _) _ (off_other_rows i 27) _ _ _ _ rfl _ _ _ (off_other i)) $$ H
  iintro H
  iapply (wp_done c _) $$ H

/-- Copies 28 to 30; the source row of copy 31 read. -/
theorem part17 (hi : (i 0).val < 128) (hr : Routed ts ((i 0).val + 1)) (v25 : BitVec 32) (hw : k0_chk33 i v25)
    (h2 : k0_cond2 i v25 = 1#1) (v47 : BitVec 32) :
    (Fetching ts fxs c q (slot ((i 0).val + 1)) ((i 0).val + 1) 28 : sProp 𝕄)
      ⊢ runs c (atBufs (k0_part17 (F := F) i) arg5 arg6 harg5 harg6 arg7 harg7 arg8 harg8 v25 hw h2 v47) fun r =>
        iprop(⌜r.1 = word ts (32 * ((i 0).val + 1) + 31)⌝ ∗ Fetching ts fxs c q (slot ((i 0).val + 1)) ((i 0).val + 1) 31) := by
  unfold runs atBufs
  rw [k0_part17_eq_skeleton]
  unfold k0_part17_skel
  simp only [smemLoad, smemLoadElt, Prog.lift, Prog.bind_op, Prog.bind_ret, Prog.pure_eq_ret, Prog.bind_assoc]
  iintro H
  iapply (wp_copy ts fxs c q _ _ 28 (by decide) (by omega) hr _ (off_word i hi 28) _ _ _ _ (routed_ok hr 28 (by decide) _) _ (off_other_rows i 28) _ _ _ _ rfl _ _ _ (off_other i)) $$ H
  iintro H
  iapply (wp_copy ts fxs c q _ _ 29 (by decide) (by omega) hr _ (off_word i hi 29) _ _ _ _ (routed_ok hr 29 (by decide) _) _ (off_other_rows i 29) _ _ _ _ rfl _ _ _ (off_other i)) $$ H
  iintro H
  iapply (wp_copy ts fxs c q _ _ 30 (by decide) (by omega) hr _ (off_word i hi 30) _ _ _ _ (routed_ok hr 30 (by decide) _) _ (off_other_rows i 30) _ _ _ _ rfl _ _ _ (off_other i)) $$ H
  iintro H
  iapply (wp_peek ts fxs c q _ _ 31 (by decide) (by omega) _ (off_word i hi 31)) $$ H
  iintro H
  iapply (wp_assume 𝒱₀ (c : Thread nD τ) none Set.univ (routed_ok hr 31 (by decide) _))
  iapply (wp_done c _)
  isplitr
  · ipureintro; rfl
  · iexact H

end Cert.KernelIdeal.Hand
-- ==== Proof.Turn.lean ====
/-
  One point's turn: the fetches it starts and the wait for its own tile.
-/
module

public import proofs.«01_k».proof.Proof.First
public import proofs.«01_k».proof.Proof.Next

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (te : S129.Idx → BitVec 32) (ts : S4128.Idx → BitVec 32) (fxs : S50688x1024.Idx → Elt F .bf16) (c : Dev nD) (q : PosShare TreeShare)
variable (i : grid0.Coords) (arg5 arg6 : Memref sig .tc .vmem S1x1024x512 .f32) (harg5 : arg5.IsWhole) (harg6 : arg6.IsWhole)
  (arg7 : Memref sig .tc .vmem S1x512x1024 .f32) (harg7 : arg7.IsWhole) (arg8 : Memref sig .tc .vmem S512x1024 .bf16) (harg8 : arg8.IsWhole)

/-- A run that goes on after a part of it. -/
theorem runs_seq {α β : Type} {p : Prog (TpuEff nD τ sig (Elt F) Λ₀ .tc) α} {k : α → Prog (TpuEff nD τ sig (Elt F) Λ₀ .tc) β}
    {P : sProp 𝕄} {Q' : α → sProp 𝕄} {Q : β → sProp 𝕄} (h : P ⊢ runs c p Q') :
    P ⊢ iprop((∀ a, Q' a -∗ runs c (k a) Q) -∗ runs c (p >>= k) Q) := by
  unfold runs
  rw [wp_bind]
  iintro HP Hk
  ihave Hp := h $$ HP
  iapply (wp_wand frame (wpE (defs₀ (F := F)) 𝒱₀ (c : Thread nD τ) none) Set.univ) $$ Hp
  iexact Hk

/-- The slot of tile `t` when its point begins: all of its copies issued by the point before, or idle. -/
def Due (t : ℕ) : sProp 𝕄 :=
  if 0 < t ∧ t < 129 ∧ Live (entry te t) then Issued ts fxs c (slot t) t 32 else Idle fxs c (slot t)

/-- The slot of tile `t` once its copies are issued. -/
def Underway (t : ℕ) : sProp 𝕄 := if Live (entry te t) then Issued ts fxs c (slot t) t 32 else Idle fxs c (slot t)

/-- The slot of tile `t` once its copies have arrived. -/
def Arrived (t : ℕ) : sProp 𝕄 :=
  if Live (entry te t) then
    iprop(semVal ((c : Thread nD τ), .dma (slotSem (slot t))) 0
      ∗ bigSep Finset.univ (fun k : Fin 32 => ((c : Thread nD τ).loc main_arg3 ↦{readShare (slot t) k} fxs))
      ∗ ((c : Thread nD τ).loc cc0_scratch0 ↦[slotSet (slot t).val]{fullShare} gathered ts fxs t))
  else Idle fxs c (slot t)

/-- The first fetch, at point 0 if its tile has an expert. -/
theorem wp_first {α : Type} {Q : α → sProp 𝕄} (hr : Live (entry te (i 0).val) → Routed ts (i 0).val) {v1 : BitVec 32} (h1 : v1 = entry te (i 0).val)
    (k : Prog (TpuEff nD τ sig (Elt F) Λ₀ .tc) α) :
    iprop(((c : Thread nD τ).loc main_arg2 ↦{q} ts) ∗ Due te ts fxs c (i 0).val : sProp 𝕄)
      ⊢ iprop((((c : Thread nD τ).loc main_arg2 ↦{q} ts) ∗ Underway te ts fxs c (i 0).val -∗ runs c k Q)
          -∗ runs c (if h : k0_cond1 i v1 = 1#1 then
              atBufs (k0_part1 i) arg5 arg6 harg5 harg6 arg7 harg7 arg8 harg8 v1 h >>= fun _ =>
              atBufs (k0_part2 i) arg5 arg6 harg5 harg6 arg7 harg7 arg8 harg8 v1 h >>= fun _ =>
              atBufs (k0_part3 i) arg5 arg6 harg5 harg6 arg7 harg7 arg8 harg8 v1 h >>= fun _ =>
              atBufs (k0_part4 i) arg5 arg6 harg5 harg6 arg7 harg7 arg8 harg8 v1 h >>= fun _ =>
              atBufs (k0_part5 i) arg5 arg6 harg5 harg6 arg7 harg7 arg8 harg8 v1 h >>= fun _ =>
              atBufs (k0_part6 i) arg5 arg6 harg5 harg6 arg7 harg7 arg8 harg8 v1 h >>= fun _ =>
              atBufs (k0_part7 i) arg5 arg6 harg5 harg6 arg7 harg7 arg8 harg8 v1 h >>= fun _ =>
              atBufs (k0_part8 i) arg5 arg6 harg5 harg6 arg7 harg7 arg8 harg8 v1 h >>= fun _ => k
            else k) Q) := by
  subst h1
  by_cases h : k0_cond1 i (entry te (i 0).val) = 1#1
  · rw [dif_pos h]
    obtain ⟨h0, hl⟩ := (cond1_iff i _).1 h
    have hr0 : Routed ts 0 := h0 ▸ hr hl
    have e : Due te ts fxs c (i 0).val = (Idle fxs c 0 : sProp 𝕄) := by
      unfold Due; rw [if_neg (by omega), h0]; rfl
    have e' : Underway te ts fxs c (i 0).val = (Issued ts fxs c 0 0 32 : sProp 𝕄) := by
      unfold Underway; rw [if_pos hl, h0]; rfl
    rw [e, e']
    iintro ⟨Ht, Hi⟩ Hk
    unfold runs
    iapply (fupd_wp frame (wpE (defs₀ (F := F)) 𝒱₀ (c : Thread nD τ) none) Set.univ)
    imod (issued_start ts fxs c 0 0) $$ Hi with Hi
    imodintro
    ihave H : Fetching ts fxs c q 0 0 0 $$ [Ht Hi]
    · unfold Fetching; isplitl [Ht] <;> iassumption
    iapply (runs_seq c (part1 ts fxs c q i _ _ _ _ _ _ _ _ hr0 _ h)) $$ H; iintro %_ H
    iapply (runs_seq c (part2 ts fxs c q i _ _ _ _ _ _ _ _ hr0 _ h)) $$ H; iintro %_ H
    iapply (runs_seq c (part3 ts fxs c q i _ _ _ _ _ _ _ _ hr0 _ h)) $$ H; iintro %_ H
    iapply (runs_seq c (part4 ts fxs c q i _ _ _ _ _ _ _ _ hr0 _ h)) $$ H; iintro %_ H
    iapply (runs_seq c (part5 ts fxs c q i _ _ _ _ _ _ _ _ hr0 _ h)) $$ H; iintro %_ H
    iapply (runs_seq c (part6 ts fxs c q i _ _ _ _ _ _ _ _ hr0 _ h)) $$ H; iintro %_ H
    iapply (runs_seq c (part7 ts fxs c q i _ _ _ _ _ _ _ _ hr0 _ h)) $$ H; iintro %_ H
    iapply (runs_seq c (part8 ts fxs c q i _ _ _ _ _ _ _ _ hr0 _ h)) $$ H; iintro %_ H
    unfold Fetching
    iapply Hk $$ H
  · rw [dif_neg h]
    have hn := fun a => h ((cond1_iff i _).2 a)
    have e : Due te ts fxs c (i 0).val = (Underway te ts fxs c (i 0).val : sProp 𝕄) := by
      unfold Due Underway
      have h129 : (i 0).val < 129 := (i 0).isLt
      by_cases hl : Live (entry te (i 0).val)
      · have h0 : 0 < (i 0).val := Nat.pos_of_ne_zero fun h0 => hn ⟨h0, hl⟩
        rw [if_pos ⟨h0, h129, hl⟩, if_pos hl]
      · rw [if_neg fun a => hl a.2.2, if_neg hl]
    rw [e]
    iintro H Hk
    iapply Hk $$ H

/-- The wait for the point's own tile, if it has an expert. -/
theorem wp_wait {α : Type} (W : Waits sig Unit) {v1 : BitVec 32} (h1 : v1 = entry te (i 0).val) (srcw : Memref sig .tc .hbm S512x1024 .bf16)
    (hbd) (hsd) (hq) (hbm) (hqm) (hsrc) (hdst) (R : α) :
    iprop(Underway te ts fxs c (i 0).val ∗ owes (c : Thread nD τ) 0 W : sProp 𝕄)
      ⊢ runs c (if Scalar.cmpi .ne (Scalar.extui (Scalar.cmpi .sge v1 0#32)) 0#32 = 1#1 then
          .op (.waitDma2 ((cc0_scratch4.slice (Rect.unit (s := S2) (k0_off164 i) S1.size hbm)).squeeze S_ hqm).sem srcw
                (((Memref.whole cc0_scratch0).slice (Rect.unit (s := S2x512x1024) (k0_off165 i) S1x512x1024.size hbd) hsd).squeeze S512x1024 hq)
                hsrc hdst) fun _ => .ret R
        else .ret R) fun r => iprop(⌜r = R⌝ ∗ Arrived te ts fxs c (i 0).val ∗ ∃ W, owes (c : Thread nD τ) 0 W) := by
  subst h1
  by_cases hl : Live (entry te (i 0).val)
  · rw [if_pos ((wait_iff _).2 hl)]
    unfold Underway Arrived
    rw [if_pos hl, if_pos hl]
    iintro H
    iapply (wp_collect ts fxs c 𝒱₀ (slot (i 0).val) (i 0).val W srcw _ _ _ _ _ (off164 i)) $$ H
    iintro ⟨H, Hw⟩
    iapply (wp_done c _)
    isplitr; · ipureintro; rfl
    isplitl [H]; · iexact H
    iexists _
    iexact Hw
  · rw [if_neg fun a => hl ((wait_iff _).1 a)]
    unfold Underway Arrived
    rw [if_neg hl, if_neg hl]
    iintro ⟨H, Hw⟩
    iapply (wp_done c _)
    isplitr; · ipureintro; rfl
    isplitl [H]; · iexact H
    iexists _
    iexact Hw

/-- The words the next fetch reads are in the table. -/
theorem words_in (i : grid0.Coords) (w : BitVec 32) : k0_chk33 i w := by
  have hb : ∀ k : Fin 32, k0_cond2 i w = 1#1 → ∀ a,
      (![(Scalar.indexCast (Scalar.addi (Scalar.muli (Scalar.addi (BitVec.ofNat 32 (i 0).val) 1#32) 32#32) (BitVec.ofNat 32 k.val))).toNat]
        : Fin 1 → ℕ) a + S1.size a ≤ S4128.size a := by
    intro k h a
    have hi := ((cond2_iff i w).1 h).1
    have hk := k.isLt
    rw [off_word i hi k]
    fin_cases a
    show 32 * ((i 0).val + 1) + k.val + 1 ≤ 4128
    omega
  exact ⟨hb 0, hb 1, hb 2, hb 3, hb 4, hb 5, hb 6, hb 7, hb 8, hb 9, hb 10, hb 11, hb 12, hb 13, hb 14, hb 15, hb 16, hb 17, hb 18, hb 19, hb 20, hb 21, hb 22, hb 23, hb 24, hb 25, hb 26, hb 27, hb 28, hb 29, hb 30, hb 31⟩

/-- A point's turn: it starts what it has to fetch and waits for its own tile. -/
theorem turn (hr : ∀ t < 129, Live (entry te t) → Routed ts t) (W : Waits sig Unit) (q' : PosShare TreeShare) :
    iprop(((c : Thread nD τ).loc main_arg0 ↦{q'} te) ∗ ((c : Thread nD τ).loc main_arg2 ↦{q} ts) ∗ Due te ts fxs c (i 0).val
        ∗ Idle fxs c (slot ((i 0).val + 1)) ∗ owes (c : Thread nD τ) 0 W : sProp 𝕄)
      ⊢ runs c (atBufs (k0_part18 (F := F) i) arg5 arg6 harg5 harg6 arg7 harg7 arg8 harg8) fun r =>
        iprop(⌜r = ⟨entry te (i 0).val, entry te ((i 0).val - 1), slotWord (i 0).val, Scalar.cmpi .sge (entry te (i 0).val) 0#32,
            Scalar.cmpi .eq (BitVec.ofNat 32 (i 0).val) 0#32⟩⌝
          ∗ (((c : Thread nD τ).loc main_arg0 ↦{q'} te) ∗ ((c : Thread nD τ).loc main_arg2 ↦{q} ts) ∗ Due te ts fxs c ((i 0).val + 1))
          ∗ Arrived te ts fxs c (i 0).val ∗ ∃ W, owes (c : Thread nD τ) 0 W) := by
  have h129 : (i 0).val < 129 := (i 0).isLt
  unfold runs atBufs
  rw [k0_part18_eq_skeleton]
  unfold k0_part18_skel
  simp only [smemLoad, smemLoadElt, Prog.lift, Prog.bind_op, Prog.bind_ret, Prog.pure_eq_ret, Prog.bind_assoc]
  iintro ⟨He, Ht, Hd, Hn, Hw⟩
  iapply (wp_entry c 𝒱₀ te q' (i 0).val h129 _ (off1 i)) $$ He
  iintro He
  iapply (wp_entry c 𝒱₀ te q' ((i 0).val - 1) (by omega) _ (off2 i)) $$ He
  iintro He
  iapply (wp_first te ts fxs c q i arg5 arg6 harg5 harg6 arg7 harg7 arg8 harg8 (hr _ h129) rfl) $$ [Ht Hd]
  · isplitl [Ht] <;> iassumption
  iintro ⟨Ht, Hd⟩
  iapply (wp_entry c 𝒱₀ te q' (min ((i 0).val + 1) 128) (by omega) _ (off35 i)) $$ He
  iintro He
  iapply (wp_assume 𝒱₀ (c : Thread nD τ) none Set.univ (words_in i _))
  by_cases h : k0_cond2 i (entry te (min ((i 0).val + 1) 128)) = 1#1
  · rw [dif_pos h]
    obtain ⟨hi, hl⟩ := (cond2_iff i _).1 h
    have hm : min ((i 0).val + 1) 128 = (i 0).val + 1 := by omega
    have hl1 : Live (entry te ((i 0).val + 1)) := hm ▸ hl
    have hr1 : Routed ts ((i 0).val + 1) := hr _ (by omega) hl1
    have e : Due te ts fxs c ((i 0).val + 1) = (Issued ts fxs c (slot ((i 0).val + 1)) ((i 0).val + 1) 32 : sProp 𝕄) := by
      unfold Due; rw [if_pos ⟨by omega, by omega, hl1⟩]
    rw [e]
    iapply (fupd_wp frame (wpE (defs₀ (F := F)) 𝒱₀ (c : Thread nD τ) none) Set.univ)
    imod (issued_start ts fxs c (slot ((i 0).val + 1)) ((i 0).val + 1)) $$ Hn with Hn
    imodintro
    ihave H : Fetching ts fxs c q (slot ((i 0).val + 1)) ((i 0).val + 1) 0 $$ [Ht Hn]
    · unfold Fetching; isplitl [Ht] <;> iassumption
    iapply (runs_seq c (part9 ts fxs c q i _ _ _ _ _ _ _ _ hi hr1 _ _ h _ _)) $$ H
    iintro %v47 H
    iapply (runs_seq c (part10 ts fxs c q i _ _ _ _ _ _ _ _ hi hr1 _ _ h _)) $$ H
    iintro %r ⟨%hv, H⟩
    obtain ⟨w, hc⟩ := r
    dsimp only at hv ⊢
    iapply (runs_seq c (part11 ts fxs c q i _ _ _ _ _ _ _ _ hi hr1 _ _ h _ _ hv _)) $$ H
    iintro %w ⟨%hv, H⟩
    iapply (runs_seq c (part12 ts fxs c q i _ _ _ _ _ _ _ _ hi hr1 _ _ h _ _ hv)) $$ H
    iintro %r ⟨%hv, H⟩
    obtain ⟨w, hc⟩ := r
    dsimp only at hv ⊢
    iapply (runs_seq c (part13 ts fxs c q i _ _ _ _ _ _ _ _ hi hr1 _ _ h _ _ hv _)) $$ H
    iintro %r ⟨%hv, H⟩
    obtain ⟨w, hc⟩ := r
    dsimp only at hv ⊢
    iapply (runs_seq c (part14 ts fxs c q i _ _ _ _ _ _ _ _ hi hr1 _ _ h _ _ hv _)) $$ H
    iintro %r ⟨%hv, H⟩
    obtain ⟨w, hc⟩ := r
    dsimp only at hv ⊢
    iapply (runs_seq c (part15 ts fxs c q i _ _ _ _ _ _ _ _ hi hr1 _ _ h _ _ hv _)) $$ H
    iintro %r ⟨%hv, H⟩
    obtain ⟨w, hc⟩ := r
    dsimp only at hv ⊢
    iapply (runs_seq c (part16 ts fxs c q i _ _ _ _ _ _ _ _ hi hr1 _ _ h _ _ hv _)) $$ H
    iintro %_ H
    iapply (runs_seq c (part17 ts fxs c q i _ _ _ _ _ _ _ _ hi hr1 _ _ h _)) $$ H
    iintro %r ⟨%hv, H⟩
    obtain ⟨w, hc⟩ := r
    dsimp only at hv ⊢
    subst hv
    unfold runs
    iapply (wp_send ts fxs c q _ _ 31 (by decide) hr1 _ (off_other_rows i 31) _ _ _ _ rfl _ _ _ (off_other i)) $$ H
    iintro H
    unfold Fetching
    icases H with ⟨Ht, Hn⟩
    iapply (wp_wand frame (wpE (defs₀ (F := F)) 𝒱₀ (c : Thread nD τ) none) Set.univ) $$ [Hd Hw]
    · iapply (wp_wait te ts fxs c i W rfl) $$ [Hd Hw]
      isplitl [Hd] <;> iassumption
    iintro %r ⟨%e, Ha, Hw⟩
    isplitr; · ipureintro; exact e
    isplitl [He Ht Hn]
    · isplitl [He]; · iexact He
      isplitl [Ht] <;> iassumption
    isplitl [Ha] <;> iassumption
  · rw [dif_neg h]
    have e : Due te ts fxs c ((i 0).val + 1) = (Idle fxs c (slot ((i 0).val + 1)) : sProp 𝕄) := by
      unfold Due
      rw [if_neg]
      rintro ⟨-, hi, hl⟩
      have hm : min ((i 0).val + 1) 128 = (i 0).val + 1 := by omega
      exact h ((cond2_iff i _).2 ⟨by omega, hm.symm ▸ hl⟩)
    rw [e]
    iapply (wp_wand frame (wpE (defs₀ (F := F)) 𝒱₀ (c : Thread nD τ) none) Set.univ) $$ [Hd Hw]
    · iapply (wp_wait te ts fxs c i W rfl) $$ [Hd Hw]
      isplitl [Hd] <;> iassumption
    iintro %r ⟨%e, Ha, Hw⟩
    isplitr; · ipureintro; exact e
    isplitl [He Ht Hn]
    · isplitl [He]; · iexact He
      isplitl [Ht] <;> iassumption
    isplitl [Ha] <;> iassumption

end Cert.KernelIdeal.Hand
-- ==== Proof.Body.lean ====
/-
  One point of the kernel: its turn, the weights taken when the expert changes, and the tile's block of the result.
-/
module

public import proofs.«01_k».proof.Proof.Turn

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

section
variable (c : Dev nD)

/-- A run with a step taken only if `p`. -/
theorem wp_either {α : Type} {p : Prop} [Decidable p] {A : p → Prog (TpuEff nD τ sig (Elt F) Λ₀ .tc) α} {K : Prog (TpuEff nD τ sig (Elt F) Λ₀ .tc) α}
    {P P' : sProp 𝕄} {Q : α → sProp 𝕄} (h1 : ∀ h : p, P ⊢ iprop((P' -∗ runs c K Q) -∗ runs c (A h) Q)) (h2 : ¬ p → P ⊢ P') :
    P ⊢ iprop((P' -∗ runs c K Q) -∗ runs c (if h : p then A h else K) Q) := by
  by_cases h : p
  · rw [dif_pos h]; exact h1 h
  · rw [dif_neg h]
    iintro H Hk
    ihave H := (h2 h) $$ H
    iapply Hk $$ H

/-- The read of a whole buffer. -/
theorem wp_get {α : Type} {Q : α → sProp 𝕄} {sp : CoreSpace} {s : Shape} {e : EltTy} (m : Memref sig .tc sp s e)
    (off : Fin s.rank → ℕ) (h0 : off = fun _ => 0) (hb : ∀ a, off a + s.size a ≤ s.size a) (hl) (X : s.Idx → Elt F e)
    (k : (s.Idx → Elt F e) → Prog (TpuEff nD τ sig (Elt F) Λ₀ .tc) α) :
    (owns (c : Thread nD τ) m fullShare X : sProp 𝕄)
      ⊢ iprop((owns (c : Thread nD τ) m fullShare X -∗ runs c (k X) Q)
          -∗ runs c (.op (.load m (Rect.unit (s := s) off s.size hb).toLoadRect hl) k) Q) := by
  subst h0
  unfold owns
  iintro ⟨%f, %hf, H⟩ Hk
  iapply (wp_load_rect 𝒱₀ (c : Thread nD τ) none Set.univ (m := m) (r := Rect.unit (s := s) (fun _ => 0) s.size hb)
    (View.set_slice_subset _ _)) $$ H
  iintro H
  have e : (m.access (Rect.unit (s := s) (fun _ => 0) s.size hb)).read (Elt F) f = X := by
    rw [← hf]
    funext x
    show m.view.read (Elt F) f ((Rect.whole s).emb x) = _
    rw [Rect.emb_whole_apply]
  rw [e]
  iapply Hk
  iexists f
  isplitr; · ipureintro; exact hf
  iexact H

/-- The write of a whole buffer. -/
theorem wp_put {α : Type} {Q : α → sProp 𝕄} {sp : CoreSpace} {s : Shape} {e : EltTy} (m : Memref sig .tc sp s e)
    (off : Fin s.rank → ℕ) (h0 : off = fun _ => 0) (hb : ∀ a, off a + s.size a ≤ s.size a) (hx) (hm) (X w : s.Idx → Elt F e)
    (k : PUnit → Prog (TpuEff nD τ sig (Elt F) Λ₀ .tc) α) :
    (owns (c : Thread nD τ) m fullShare X : sProp 𝕄)
      ⊢ iprop((owns (c : Thread nD τ) m fullShare w -∗ runs c (k ⟨⟩) Q)
          -∗ runs c (.op (.store m (Rect.unit (s := s) off s.size hb) w Finset.univ hx hm) k) Q) := by
  subst h0
  unfold owns
  iintro ⟨%f, %hf, H⟩ Hk
  iapply (wp_store 𝒱₀ (c : Thread nD τ) none Set.univ (m := m) (r := Rect.unit (s := s) (fun _ => 0) s.size hb) (Mk := Finset.univ)
    (View.set_slice_subset _ _)) $$ H
  iintro H
  iapply Hk
  iexists _
  isplitr
  swap
  · iexact H
  · ipureintro
    funext x
    have e := View.read_slice_write_emb (v := m.view) (Val := Elt F) (Rect.whole s) f w (Finset.mem_univ x)
    rw [Rect.emb_whole_apply] at e
    exact e

end

theorem zeros2 : (![0, 0] : Fin 2 → ℕ) = fun _ => 0 := by funext a; fin_cases a <;> rfl
theorem zeros3 : (![0, 0, 0] : Fin 3 → ℕ) = fun _ => 0 := by funext a; fin_cases a <;> rfl

/-- The block of a stack of 32 matrices at an expert. -/
def blockAt {a b : ℕ} (fw : (⟨3, ![32, a, b]⟩ : Shape).Idx → Elt F .f32) (w : BitVec 32) : (⟨3, ![1, a, b]⟩ : Shape).Idx → Elt F .f32 :=
  fun x => fw (ix3 (⟨min w.toNat 31, by omega⟩ : Fin 32) (x 1) (x 2))

/-- The rows gathered for tile `t`. -/
def tile (ts : S4128.Idx → BitVec 32) (fxs : S50688x1024.Idx → Elt F .bf16) (t : ℕ) : S1x512x1024.Idx → Elt F .bf16 :=
  fun x => fxs (ix2 (⟨tokenOf ts t (x 1).val, by unfold tokenOf; omega⟩ : Fin 50688) (x 2))

variable (te : S129.Idx → BitVec 32) (ts : S4128.Idx → BitVec 32) (fxs : S50688x1024.Idx → Elt F .bf16) (c : Dev nD) (q : PosShare TreeShare)
variable (i : grid0.Coords) (arg5 arg6 : Memref sig .tc .vmem S1x1024x512 .f32) (harg5 : arg5.IsWhole) (harg6 : arg6.IsWhole)
  (arg7 : Memref sig .tc .vmem S1x512x1024 .f32) (harg7 : arg7.IsWhole) (arg8 : Memref sig .tc .vmem S512x1024 .bf16) (harg8 : arg8.IsWhole)

/-- The read of the point's slot. -/
theorem wp_tile {α : Type} {Q : α → sProp 𝕄} (t : ℕ) (off : Fin 3 → ℕ) (h : off = ![(slot t).val, 0, 0])
    (hb : ∀ a, off a + S1x512x1024.size a ≤ S2x512x1024.size a) (hl)
    (k : (S1x512x1024.Idx → Elt F .bf16) → Prog (TpuEff nD τ sig (Elt F) Λ₀ .tc) α) :
    ((c : Thread nD τ).loc cc0_scratch0 ↦[slotSet (slot t).val]{fullShare} gathered ts fxs t : sProp 𝕄)
      ⊢ iprop((((c : Thread nD τ).loc cc0_scratch0 ↦[slotSet (slot t).val]{fullShare} gathered ts fxs t) -∗ runs c (k (tile ts fxs t)) Q)
          -∗ runs c (.op (.load (Memref.whole cc0_scratch0) (Rect.unit (s := S2x512x1024) off S1x512x1024.size hb).toLoadRect hl) k) Q) := by
  subst h
  iintro H Hk
  iapply (wp_load_rect 𝒱₀ (c : Thread nD τ) none Set.univ (m := Memref.whole cc0_scratch0)
    (r := Rect.unit (s := S2x512x1024) ![(slot t).val, 0, 0] S1x512x1024.size hb) ?_) $$ H
  · intro x hx
    have hx' : x ∈ (Rect.unit (s := S2x512x1024) ![(slot t).val, 0, 0] S1x512x1024.size hb).set := by
      rw [← View.set_slice_whole cc0_scratch0]; exact hx
    have h0 := (Rect.mem_set_unit.1 hx') 0
    have h1 : (slot t).val ≤ (x 0).val := h0.1
    have h2 : (x 0).val < (slot t).val + 1 := h0.2
    simp only [slotSet, Finset.mem_filter, Finset.mem_univ, true_and]
    omega
  iintro H
  have e : ((Memref.whole cc0_scratch0).access (Rect.unit (s := S2x512x1024) ![(slot t).val, 0, 0] S1x512x1024.size hb)).read (Elt F)
      (gathered ts fxs t) = tile ts fxs t := by
    funext x
    show gathered ts fxs t ((Rect.unit (s := S2x512x1024) ![(slot t).val, 0, 0] S1x512x1024.size hb).emb x) = _
    have e1 : (((Rect.unit (s := S2x512x1024) ![(slot t).val, 0, 0] S1x512x1024.size hb).emb x) 1) = x 1 :=
      Fin.ext (show 0 + 1 * (x 1).val = (x 1).val by omega)
    have e2 : (((Rect.unit (s := S2x512x1024) ![(slot t).val, 0, 0] S1x512x1024.size hb).emb x) 2) = x 2 :=
      Fin.ext (show 0 + 1 * (x 2).val = (x 2).val by omega)
    exact congrArg₂ (fun a b => fxs (ix2 a b)) (Fin.ext (congrArg (fun y : Fin 512 => tokenOf ts t y.val) e1)) e2
  rw [e]
  iapply Hk $$ H

variable (f1 f2 : S32x1024x512.Idx → Elt F .f32) (f3 : S32x512x1024.Idx → Elt F .f32)

/-- The scratch buffers of the weights hold expert `w`'s, rounded to bf16. -/
def Holding (w : BitVec 32) : sProp 𝕄 :=
  iprop(owns (c : Thread nD τ) (Memref.whole cc0_scratch1) fullShare (k0_pay1 (blockAt f1 w))
    ∗ owns (c : Thread nD τ) (Memref.whole cc0_scratch2) fullShare (k0_pay2 (blockAt f2 w))
    ∗ owns (c : Thread nD τ) (Memref.whole cc0_scratch3) fullShare (k0_pay3 (blockAt f3 w)))

/-- They hold something. -/
def HoldingAny : sProp 𝕄 :=
  iprop((∃ X, owns (c : Thread nD τ) (Memref.whole cc0_scratch1) fullShare X)
    ∗ (∃ X, owns (c : Thread nD τ) (Memref.whole cc0_scratch2) fullShare X)
    ∗ (∃ X, owns (c : Thread nD τ) (Memref.whole cc0_scratch3) fullShare X))

/-- The weights before point `t`: those of the tile before, if it had an expert. -/
def Weights (t : ℕ) : sProp 𝕄 :=
  if 0 < t ∧ Live (entry te (t - 1)) then Holding c f1 f2 f3 (entry te (t - 1)) else HoldingAny c

/-- The weights at point `t`, once taken. -/
def Current (t : ℕ) : sProp 𝕄 := if Live (entry te t) then Holding c f1 f2 f3 (entry te t) else HoldingAny c

theorem current_weights (t : ℕ) : (Current te c f1 f2 f3 t : sProp 𝕄) ⊢ Weights te c f1 f2 f3 (t + 1) := by
  unfold Current Weights
  by_cases hl : Live (entry te t)
  · rw [if_pos hl, if_pos ⟨by omega, hl⟩]; exact .rfl
  · rw [if_neg hl, if_neg fun a => hl a.2]

/-- What the kernel writes for tile `t`. -/
def tileOut (t : ℕ) : S512x1024.Idx → Elt F .bf16 :=
  if Live (entry te t) then
    k0_pay4 (tile ts fxs t) (k0_pay1 (blockAt f1 (entry te t))) (k0_pay2 (blockAt f2 (entry te t))) (k0_pay3 (blockAt f3 (entry te t)))
  else k0_pay5

/-- The state between points. -/
def Between (q' : PosShare TreeShare) (t : ℕ) : sProp 𝕄 :=
  iprop(((c : Thread nD τ).loc main_arg0 ↦{q'} te) ∗ ((c : Thread nD τ).loc main_arg2 ↦{q} ts) ∗ Due te ts fxs c t ∗ Idle fxs c (slot (t + 1))
    ∗ Weights te c f1 f2 f3 t)

theorem holding_any (w : BitVec 32) : (Holding c f1 f2 f3 w : sProp 𝕄) ⊢ HoldingAny c := by
  unfold Holding HoldingAny
  iintro ⟨H1, H2, H3⟩
  isplitl [H1]; · iexists _; iexact H1
  isplitl [H2]; · iexists _; iexact H2
  iexists _; iexact H3

theorem weights_any (t : ℕ) : (Weights te c f1 f2 f3 t : sProp 𝕄) ⊢ HoldingAny c := by
  unfold Weights
  split
  · exact holding_any c f1 f2 f3 _
  · exact .rfl

theorem arrived_idle (t : ℕ) : (Arrived te ts fxs c t : sProp 𝕄) ⊢ Idle fxs c (slot t) := by
  unfold Arrived
  split
  · unfold Idle
    iintro ⟨H1, H2, H3⟩
    isplitl [H1]; · iexact H1
    isplitl [H2]; · iexact H2
    iexists _; iexact H3
  · exact .rfl

/-- One point. -/
theorem point (hr : ∀ t < 129, Live (entry te t) → Routed ts t) (q' : PosShare TreeShare)
    (X5 X6 : S1x1024x512.Idx → Elt F .f32) (X7 : S1x512x1024.Idx → Elt F .f32) (X8 : S512x1024.Idx → Elt F .bf16) (W : Waits sig Unit)
    (hX : Live (entry te (i 0).val) → X5 = blockAt f1 (entry te (i 0).val) ∧ X6 = blockAt f2 (entry te (i 0).val) ∧ X7 = blockAt f3 (entry te (i 0).val)) :
    iprop(Between te ts fxs c q f1 f2 f3 q' (i 0).val ∗ owes (c : Thread nD τ) 0 W ∗ owns (c : Thread nD τ) arg5 fullShare X5
        ∗ owns (c : Thread nD τ) arg6 fullShare X6 ∗ owns (c : Thread nD τ) arg7 fullShare X7 ∗ owns (c : Thread nD τ) arg8 fullShare X8 : sProp 𝕄)
      ⊢ runs c (atBufs (cc0_moe_mm (F := F) i) arg5 arg6 harg5 harg6 arg7 harg7 arg8 harg8) fun _ =>
        iprop(Between te ts fxs c q f1 f2 f3 q' ((i 0).val + 1) ∗ (∃ W, owes (c : Thread nD τ) 0 W) ∗ owns (c : Thread nD τ) arg5 fullShare X5
          ∗ owns (c : Thread nD τ) arg6 fullShare X6 ∗ owns (c : Thread nD τ) arg7 fullShare X7
          ∗ owns (c : Thread nD τ) arg8 fullShare (tileOut te ts fxs f1 f2 f3 (i 0).val)) := by
  have h129 : (i 0).val < 129 := (i 0).isLt
  unfold Between
  iintro ⟨⟨He, Ht, Hd, Hn, Hq⟩, Hw, H5, H6, H7, H8⟩
  unfold runs atBufs
  rw [cc0_moe_mm_eq_skeleton]
  unfold cc0_moe_mm_skel
  simp only [smemLoad, smemLoadElt, Prog.lift, Prog.bind_op, Prog.bind_ret, Prog.pure_eq_ret, Prog.bind_assoc]
  iapply (runs_seq c (turn te ts fxs c q i arg5 arg6 harg5 harg6 arg7 harg7 arg8 harg8 hr W q')) $$ [He Ht Hd Hn Hw]
  · isplitl [He]; · iexact He
    isplitl [Ht]; · iexact Ht
    isplitl [Hd]; · iexact Hd
    isplitl [Hn] <;> iassumption
  iintro %r ⟨%hr', ⟨He, Ht, Hd⟩, Ha, Hw⟩
  subst hr'
  dsimp only
  have hs2 : slot ((i 0).val + 1 + 1) = slot (i 0).val := Fin.ext (show ((i 0).val + 1 + 1) % 2 = (i 0).val % 2 by omega)
  rw [hs2]
  have hite : ∀ (p : Prop) [Decidable p] (A K : Prog (TpuEff nD τ sig (Elt F) Λ₀ .tc) PUnit), (if p then A else K) = if _ : p then A else K :=
    fun _ _ _ _ => rfl
  rw [hite]
  iapply (wp_either c
    (P := iprop(owns (c : Thread nD τ) arg5 fullShare X5 ∗ owns (c : Thread nD τ) arg6 fullShare X6 ∗ owns (c : Thread nD τ) arg7 fullShare X7
      ∗ Weights te c f1 f2 f3 (i 0).val))
    (P' := iprop(owns (c : Thread nD τ) arg5 fullShare X5 ∗ owns (c : Thread nD τ) arg6 fullShare X6 ∗ owns (c : Thread nD τ) arg7 fullShare X7
      ∗ Current te c f1 f2 f3 (i 0).val)) (fun h => ?_) (fun h => ?_)) $$ [H5 H6 H7 Hq]
  · obtain ⟨hl, -⟩ := (fresh_iff i _ _).1 h
    obtain ⟨rfl, rfl, rfl⟩ := hX hl
    iintro ⟨H5, H6, H7, Hq⟩ Hk
    ihave Hq := (weights_any te c f1 f2 f3 _) $$ Hq
    unfold HoldingAny
    icases Hq with ⟨⟨%Y1, Hq1⟩, ⟨%Y2, Hq2⟩, ⟨%Y3, Hq3⟩⟩
    iapply (wp_get c arg5 _ zeros3) $$ H5; iintro H5
    iapply (wp_get c _ _ zeros2) $$ Hq1; iintro Hq1
    iapply (wp_put c _ _ zeros2) $$ Hq1; iintro Hq1
    iapply (wp_get c arg6 _ zeros3) $$ H6; iintro H6
    iapply (wp_get c _ _ zeros2) $$ Hq2; iintro Hq2
    iapply (wp_put c _ _ zeros2) $$ Hq2; iintro Hq2
    iapply (wp_get c arg7 _ zeros3) $$ H7; iintro H7
    iapply (wp_get c _ _ zeros2) $$ Hq3; iintro Hq3
    iapply (wp_put c _ _ zeros2) $$ Hq3; iintro Hq3
    iapply Hk
    unfold Current
    rw [if_pos hl]
    unfold Holding
    isplitl [H5]; · iexact H5
    isplitl [H6]; · iexact H6
    isplitl [H7]; · iexact H7
    isplitl [Hq1]; · iexact Hq1
    isplitl [Hq2] <;> iassumption
  · iintro ⟨H5, H6, H7, Hq⟩
    isplitl [H5]; · iexact H5
    isplitl [H6]; · iexact H6
    isplitl [H7]; · iexact H7
    unfold Current
    by_cases hl : Live (entry te (i 0).val)
    · rw [if_pos hl]
      have hn := fun a => h ((fresh_iff i _ _).2 ⟨hl, a⟩)
      have h0 : 0 < (i 0).val := Nat.pos_of_ne_zero fun a => hn (.inl a)
      have hw : entry te (i 0).val = entry te ((i 0).val - 1) := by_contra fun a => hn (.inr a)
      unfold Weights
      rw [if_pos ⟨h0, hw ▸ hl⟩, ← hw]
      exact .rfl
    · rw [if_neg hl]
      exact weights_any te c f1 f2 f3 _
  · isplitl [H5]; · iexact H5
    isplitl [H6]; · iexact H6
    isplitl [H7] <;> iassumption
  iintro ⟨H5, H6, H7, Hq⟩
  iapply (wp_either c
    (P := iprop(Arrived te ts fxs c (i 0).val ∗ Current te c f1 f2 f3 (i 0).val ∗ owns (c : Thread nD τ) arg8 fullShare X8))
    (P' := iprop(Arrived te ts fxs c (i 0).val ∗ Current te c f1 f2 f3 (i 0).val
      ∗ ∃ X, ⌜Live (entry te (i 0).val) → X = tileOut te ts fxs f1 f2 f3 (i 0).val⌝ ∗ owns (c : Thread nD τ) arg8 fullShare X))
    (fun h => ?_) (fun h => ?_)) $$ [Ha Hq H8]
  · have hl := (cond5_iff _).1 h
    unfold Arrived Current tileOut
    rw [if_pos hl, if_pos hl, if_pos hl]
    unfold Holding
    iintro ⟨⟨Hv, Hx, Hs⟩, ⟨Hq1, Hq2, Hq3⟩, H8⟩ Hk
    iapply (wp_tile ts fxs c _ _ (off166 i)) $$ Hs; iintro Hs
    iapply (wp_get c _ _ zeros2) $$ Hq1; iintro Hq1
    iapply (wp_get c _ _ zeros2) $$ Hq2; iintro Hq2
    iapply (wp_get c _ _ zeros2) $$ Hq3; iintro Hq3
    iapply (wp_get c arg8 _ zeros2) $$ H8; iintro H8
    iapply (wp_put c arg8 _ zeros2) $$ H8; iintro H8
    iapply Hk
    isplitl [Hv Hx Hs]
    · isplitl [Hv]; · iexact Hv
      isplitl [Hx] <;> iassumption
    isplitl [Hq1 Hq2 Hq3]
    · isplitl [Hq1]; · iexact Hq1
      isplitl [Hq2] <;> iassumption
    iexists _
    isplitr; · ipureintro; exact fun _ => rfl
    iexact H8
  · iintro ⟨Ha, Hq, H8⟩
    isplitl [Ha]; · iexact Ha
    isplitl [Hq]; · iexact Hq
    iexists X8
    isplitr; · ipureintro; exact fun hl => absurd ((cond5_iff _).2 hl) h
    iexact H8
  · isplitl [Ha]; · iexact Ha
    isplitl [Hq] <;> iassumption
  iintro ⟨Ha, Hq, ⟨%X, %hX8, H8⟩⟩
  iapply (wp_either c
    (P := iprop(owns (c : Thread nD τ) arg8 fullShare X))
    (P' := iprop(owns (c : Thread nD τ) arg8 fullShare (tileOut te ts fxs f1 f2 f3 (i 0).val)))
    (fun h => ?_) (fun h => ?_)) $$ H8
  · have hl := (cond6_iff _).1 h
    unfold tileOut
    rw [if_neg hl]
    iintro H8 Hk
    iapply (wp_get c arg8 _ zeros2) $$ H8; iintro H8
    iapply (wp_put c arg8 _ zeros2) $$ H8; iintro H8
    iapply Hk $$ H8
  · have hl : Live (entry te (i 0).val) := by_contra fun a => h ((cond6_iff _).2 a)
    rw [hX8 hl]
  iintro H8
  ihave Ha := (arrived_idle te ts fxs c _) $$ Ha
  ihave Hq := (current_weights te c f1 f2 f3 _) $$ Hq
  iapply (wp_done c _)
  isplitl [He Ht Hd Ha Hq]
  · isplitl [He]; · iexact He
    isplitl [Ht]; · iexact Ht
    isplitl [Hd]; · iexact Hd
    isplitl [Ha] <;> iassumption
  isplitl [Hw]; · iexact Hw
  isplitl [H5]; · iexact H5
  isplitl [H6]; · iexact H6
  isplitl [H7] <;> iassumption

end Cert.KernelIdeal.Hand
-- ==== Proof.Tables.lean ====
/-
  The three tables the kernel is launched with, and what is asked of them: every weight block a tile names is one of the 32,
  a tile that has an expert names that expert's block, and its 32 groups of rows lie inside the array of token rows. With
  that, every window's block lies inside its array, and the block of each weight array that a point finds staged is the block
  of the tile's expert.
-/
module

public import proofs.«01_k».proof.Proof.Body
public import proofs.«01_k».proof.Proof.Gen.KernelIdeal.Launch
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Pipeline (Dat Cfg Window BodyObligation)

variable {F : FTy → Type} [FloatOps F]

local notation "𝕄" => MT nD τ sig Unit (Elt F) ℕ (Pipeline.UD sig nD τ) ℕ

/-- What is asked of the tables. -/
structure Routing (te tw : S129.Idx → BitVec 32) (ts : S4128.Idx → BitVec 32) : Prop where
  block : ∀ t < 129, (entry tw t).toNat < 32
  same : ∀ t < 129, Live (entry te t) → entry tw t = entry te t
  rows : ∀ t < 129, Live (entry te t) → Routed ts t

variable (m : (ℓ : Loc nD τ sig) → Buf (Elt F) ℓ)

/-- A buffer's contents at the launch. -/
abbrev V (c : Dev nD) (b : Ref sig .tc) : Buf (Elt F) ((c : Thread nD τ).loc b) := m ((c : Thread nD τ).loc b)

/-- The tables' contents at the launch. -/
def tables : pre0.Contents (Elt F) := fun j => V m 0 (pre0.ref j)

theorem V_pre (c : Dev nD) (j : Fin 3) : V m c (pre0.ref j) = tables m j := by
  obtain rfl : c = 0 := Subsingleton.elim _ _
  rfl

/-- The tables' contents satisfy what is asked of them. -/
abbrev Ok : Prop := Routing (V m 0 main_arg0) (V m 0 main_arg1) (V m 0 main_arg2)

theorem point_lt (i : grid0.Coords) : (i 0).val < 129 := (i 0).isLt

/-- Where a weight window's block starts at a point. -/
theorem blockOf_point (i : grid0.Coords) :
    (tables m).at 1 (Rect.unit (s := S129) (k0_off1 i) S1.size (k0_off1_inb i)) numel1_S1 = entry (V m 0 main_arg1) (i 0).val := by
  have h : ∀ (off : Fin 1 → ℕ) (hb : ∀ a, off a + S1.size a ≤ S129.size a), off = ![(i 0).val] →
      (tables m).at 1 (Rect.unit (s := S129) off S1.size hb) numel1_S1 = entry (V m 0 main_arg1) (i 0).val := by
    rintro off hb rfl
    show V m 0 main_arg1 _ = V m 0 main_arg1 _
    refine congrArg (V m 0 main_arg1) (funext fun a : Fin 1 => ?_)
    obtain rfl : a = 0 := Subsingleton.elim _ _
    have := point_lt i
    exact Fin.ext (show (i 0).val + 1 * 0 = min (i 0).val 128 by omega)
  exact h _ _ (off1 i)

theorem map1 (i : grid0.Coords) : cc0_transform_1 k0_off1_inb numel1_S1 (tables m) i = ![(entry (V m 0 main_arg1) (i 0).val).toNat, 0, 0] :=
  congrArg (fun w : BitVec 32 => ![w.toNat, 0, 0]) (blockOf_point m i)
theorem map2 (i : grid0.Coords) : cc0_transform_2 k0_off1_inb numel1_S1 (tables m) i = ![(entry (V m 0 main_arg1) (i 0).val).toNat, 0, 0] :=
  congrArg (fun w : BitVec 32 => ![w.toNat, 0, 0]) (blockOf_point m i)
theorem map3 (i : grid0.Coords) : cc0_transform_3 k0_off1_inb numel1_S1 (tables m) i = ![(entry (V m 0 main_arg1) (i 0).val).toNat, 0, 0] :=
  congrArg (fun w : BitVec 32 => ![w.toNat, 0, 0]) (blockOf_point m i)

/-- Every block lies inside its array. -/
theorem inside (hO : Ok m) {n : ℕ} (hn : n < 129) (p q : ℕ) (a : Fin 3) :
    ((![(entry (V m 0 main_arg1) n).toNat, 0, 0] : Fin 3 → ℕ) a + 1) * (![1, p, q] : Fin 3 → ℕ) a ≤ (![32, p, q] : Fin 3 → ℕ) a := by
  have := hO.block n hn
  fin_cases a
  · show ((entry (V m 0 main_arg1) n).toNat + 1) * 1 ≤ 32; omega
  · show (0 + 1) * p ≤ p; omega
  · show (0 + 1) * q ≤ q; omega

theorem admissible (hO : Ok m) : ok0 (tables m) :=
  ⟨fun i => ⟨fun a => by rw [map1]; exact inside m hO (point_lt i) 1024 512 a, Or.inl rfl⟩,
   fun i => ⟨fun a => by rw [map2]; exact inside m hO (point_lt i) 1024 512 a, Or.inl rfl⟩,
   fun i => ⟨fun a => by rw [map3]; exact inside m hO (point_lt i) 512 1024 a, Or.inl rfl⟩⟩

/-- The tables as contents the pipeline runs at, and the pipeline. -/
abbrev adm (hO : Ok m) : (pcfg0 (F := F)).Adm := ⟨tables m, admissible m hO⟩
abbrev cfgM (hO : Ok m) : Cfg sig Λ₀ := cfg0 (adm m hO)

/-- A block one matrix high, read off a stack of 32. -/
theorem read_matrix {p q : ℕ} (f : (⟨3, ![32, p, q]⟩ : Shape).Idx → Elt F .f32) (w : BitVec 32) (hw : w.toNat < 32)
    (g : (⟨3, ![1, p, q]⟩ : Shape).Idx → (⟨3, ![32, p, q]⟩ : Shape).Idx) (ix : Fin 3 → ℕ) (h : ix = ![w.toNat, 0, 0])
    (hg : ∀ x a, (g x a).val = ix a * (![1, p, q] : Fin 3 → ℕ) a + 1 * (x a).val) :
    (fun x => f (g x)) = blockAt f w := by
  subst h
  funext x
  refine congrArg f (funext fun a => Fin.ext ((hg x a).trans ?_))
  fin_cases a
  · have hx : (x 0).val < 1 := (x 0).isLt
    show w.toNat * 1 + 1 * (x 0).val = min w.toNat 31
    omega
  · show 0 * p + 1 * (x 1).val = (x 1).val
    omega
  · show 0 * q + 1 * (x 2).val = (x 2).val
    omega

/-- The block of each weight array a point is handed. -/
theorem read_block1 (hO : Ok m) (f : S32x1024x512.Idx → Elt F .f32) (t : Fin (cfgM m hO).N) :
    (((cfgM m hO).win 0).blk t).view.read (Elt F) f = blockAt (a := 1024) (b := 512) f (entry (V m 0 main_arg1) (grid0.coords t 0).val) :=
  read_matrix f _ (hO.block _ (point_lt _)) _ _ (map1 m (grid0.coords t)) fun _ _ => rfl
theorem read_block2 (hO : Ok m) (f : S32x1024x512.Idx → Elt F .f32) (t : Fin (cfgM m hO).N) :
    (((cfgM m hO).win 1).blk t).view.read (Elt F) f = blockAt (a := 1024) (b := 512) f (entry (V m 0 main_arg1) (grid0.coords t 0).val) :=
  read_matrix f _ (hO.block _ (point_lt _)) _ _ (map2 m (grid0.coords t)) fun _ _ => rfl
theorem read_block3 (hO : Ok m) (f : S32x512x1024.Idx → Elt F .f32) (t : Fin (cfgM m hO).N) :
    (((cfgM m hO).win 2).blk t).view.read (Elt F) f = blockAt (a := 512) (b := 1024) f (entry (V m 0 main_arg1) (grid0.coords t 0).val) :=
  read_matrix f _ (hO.block _ (point_lt _)) _ _ (map3 m (grid0.coords t)) fun _ _ => rfl

variable {m} in
/-- An input window that is left in place holds its block at every point. -/
theorem before_block (hO : Ok m) {c : Dev nD} (dat : Dat τ (Elt F) Unit ℕ (Pipeline.UD sig nD τ) ℕ (cfgM m hO) c) (w : Fin 4)
    (hw : (spec0 w).isOut = false) (hi : ∀ i, idle0 (tables m) w i = false)
    (hafter : ∀ t, dat.after w t = (((cfgM m hO).win w).blk t).view.read (Elt F) (dat.A w)) (t : Fin (cfgM m hO).N) (d) :
    dat.before w t d = (((cfgM m hO).win w).blk t).view.read (Elt F) (dat.A w) :=
  (dat.before_in_eq_fetched w hw hi (fun _ _ _ => rfl) (fun t => by rw [hafter]; rfl) t d).trans (dat.cut_fetched w t d)

end Cert.KernelIdeal.Hand

end
-- ==== Proof.Run.lean ====
/-
  The kernel's run. Between points the core holds the tables, the two slots of gathered rows, the weights of the tile before
  and what is left of the shares of the token rows; each point takes that from one tile to the next and leaves in the output's
  block the tile's rows. So the run ends with every argument unchanged, every semaphore at zero, and the output array holding
  each tile's rows.
-/
module

public import proofs.«01_k».proof.Proof.Tables

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hO : Ok m) (c : Dev nD)

/-! ## What the launch hands over -/

/-- The kernel's own two semaphores. -/
abbrev osem0 : Fin 2 → SemLoc sig := fun j => .dma (slotSem j)
theorem ownSemFacts0 : Pipeline.OwnSemFacts spec0 osem0 := by decide
/-- The array the kernel copies from itself. -/
abbrev H0 : Finset (Ref sig .tc) := {main_arg3}
theorem H0_sub : H0 ⊆ Pipeline.restRefsP sig pre0 spec0 := by decide

theorem ownSems0_eq :
    (Pipeline.ownSems0 (Ix := Unit) (Name := ℕ) (U := Pipeline.UD sig nD τ) (Lvl := ℕ) (Val := Elt F) (τ := τ) osem0 c : sProp 𝕄)
      = iprop(semVal ((c : Thread nD τ), .dma (slotSem 0)) 0 ∗ semVal ((c : Thread nD τ), .dma (slotSem 1)) 0) := by
  rw [Pipeline.ownSems0_eq_of_list c osem0 [0, 1] (by decide) (by decide)]; rfl

theorem hbm0_eq : (bigSep H0 (fun b => ((c : Thread nD τ).loc b) ↦{fullShare} V m c b) : sProp 𝕄)
    = ((c : Thread nD τ).loc main_arg3 ↦{fullShare} V m c main_arg3) := BI.bigSep_singleton

theorem tables_eq : (Pipeline.ΦT pre0 (tables m) 0 : sProp 𝕄)
    = iprop((((0 : Dev nD) : Thread nD τ).loc main_arg0 ↦{fullShare.right} V m 0 main_arg0)
        ∗ (((0 : Dev nD) : Thread nD τ).loc main_arg1 ↦{fullShare.right} V m 0 main_arg1)
        ∗ (((0 : Dev nD) : Thread nD τ).loc main_arg2 ↦{fullShare.right} V m 0 main_arg2)) := by
  unfold Pipeline.ΦT Pipeline.prefHeld
  exact bigSep_univ_eq_bigSepL [(0 : Fin 3), 1, 2] (by decide) (by decide) _

/-- The shares of the token rows: one for each copy, and what is left. -/
theorem shares (fxs : S50688x1024.Idx → Elt F .bf16) :
    ((c : Thread nD τ).loc main_arg3 ↦{fullShare} fxs : sProp 𝕄)
      ⊣⊢ iprop(((c : Thread nD τ).loc main_arg3 ↦{shareDrop fullShare 64} fxs)
          ∗ bigSep Finset.univ (fun k : Fin 32 => ((c : Thread nD τ).loc main_arg3 ↦{readShare 0 k} fxs))
          ∗ bigSep Finset.univ (fun k : Fin 32 => ((c : Thread nD τ).loc main_arg3 ↦{readShare 1 k} fxs))) := by
  have h : Finset.range 64 = Finset.univ.map (⟨fun k : Fin 32 => 32 * 0 + k.val, fun a b e => Fin.ext (by simpa using e)⟩ : Fin 32 ↪ ℕ)
      ∪ Finset.univ.map (⟨fun k : Fin 32 => 32 * 1 + k.val, fun a b e => Fin.ext (by simpa using e)⟩ : Fin 32 ↪ ℕ) := by decide
  have hd : Disjoint (Finset.univ.map (⟨fun k : Fin 32 => 32 * 0 + k.val, fun a b e => Fin.ext (by simpa using e)⟩ : Fin 32 ↪ ℕ))
      (Finset.univ.map (⟨fun k : Fin 32 => 32 * 1 + k.val, fun a b e => Fin.ext (by simpa using e)⟩ : Fin 32 ↪ ℕ)) := by decide
  refine (pointsTo_toks_range fullShare 64).trans ?_
  rw [h, BI.bigSep_union hd, BI.bigSep_map, BI.bigSep_map]
  exact .rfl

/-! ## Between the points -/

/-- What the core holds before point `t`. -/
def invariant (t : ℕ) : sProp 𝕄 :=
  iprop(Between (V m c main_arg0) (V m c main_arg2) (V m c main_arg3) c fullShare.right (V m c main_arg4) (V m c main_arg5) (V m c main_arg6) fullShare.right t
    ∗ ((c : Thread nD τ).loc main_arg1 ↦{fullShare.right} V m c main_arg1) ∗ (∃ r, prngReg c r)
    ∗ ((c : Thread nD τ).loc main_arg3 ↦{shareDrop fullShare 64} V m c main_arg3))

/-- The rows the kernel writes for tile `t`. -/
abbrev written (t : ℕ) : S512x1024.Idx → Elt F .bf16 :=
  tileOut (V m c main_arg0) (V m c main_arg2) (V m c main_arg3) (V m c main_arg4) (V m c main_arg5) (V m c main_arg6) t

/-- The run's data: the weight windows are left as they are, the output's block takes the tile's rows. -/
def dat : Dat τ (Elt F) Unit ℕ (Pipeline.UD sig nD τ) ℕ (cfgM m hO) c where
  A := fun w => V m c (Pipeline.arrRef spec0 w)
  after := fun
    | 0 => fun t => (((cfgM m hO).win 0).blk t).view.read (Elt F) (V m c main_arg4)
    | 1 => fun t => (((cfgM m hO).win 1).blk t).view.read (Elt F) (V m c main_arg5)
    | 2 => fun t => (((cfgM m hO).win 2).blk t).view.read (Elt F) (V m c main_arg6)
    | 3 => fun t => written m c (grid0.coords t 0).val
    | ⟨_ + 4, h⟩ => absurd h (Nat.not_lt.2 (Nat.le_add_left _ _))
  Φ := fun t => invariant m c t.val
  q := fun _ => fullShare
  owed := fun _ => 0

abbrev dats : (p : Fin 1) → (c : Dev nD) → Dat τ (Elt F) Unit ℕ (Pipeline.UD sig nD τ) ℕ (Pipeline.pin (pcfgs (F := F)) (fun _ => adm m hO) p) c :=
  fun _ c => dat m hO c

theorem coord_val (t : Fin grid0.N) : (grid0.coords t 0).val = t.val := by
  have h := Pipeline.Grid.coords_val (G := grid0) t 0 (S := 1) (B := 129) (by decide) rfl
  have := t.isLt.trans_eq N_0
  omega

theorem never_idle (i : grid0.Coords) : idle0 (tables m) 3 i = false := by
  have h : ∀ w, (!(k0_cond5 w == 1#1) && !(k0_cond6 w == 1#1)) = false := fun w => by
    by_cases hl : Live w
    · rw [(cond5_iff w).2 hl]; rfl
    · rw [(cond6_iff w).2 hl, Bool.and_comm]; rfl
  exact h _

theorem holdingAny_eq : (HoldingAny c : sProp 𝕄)
    = iprop((∃ f, (c : Thread nD τ).loc cc0_scratch1 ↦{fullShare} f) ∗ (∃ f, (c : Thread nD τ).loc cc0_scratch2 ↦{fullShare} f)
        ∗ ∃ f, (c : Thread nD τ).loc cc0_scratch3 ↦{fullShare} f) := by
  unfold HoldingAny; simp only [owns_whole]

/-- The launch hands over what the core holds before the first point. -/
theorem start : iprop(Pipeline.ΦD osem0 spec0 H0 (V m) c ∗ Pipeline.ΦT pre0 (tables m) c) ⊢ invariant m c 0 := by
  have hc : c = 0 := Subsingleton.elim _ _
  subst hc
  rw [Pipeline.ΦD_eq, scopedRest0_eq, ownSems0_eq, hbm0_eq, tables_eq]
  unfold invariant Between
  have hd : Due (V m 0 main_arg0) (V m 0 main_arg2) (V m 0 main_arg3) 0 0 = (Idle (V m 0 main_arg3) 0 0 : sProp 𝕄) := if_neg fun h => absurd h.1 (by decide)
  have hw : Weights (V m 0 main_arg0) 0 (V m 0 main_arg4) (V m 0 main_arg5) (V m 0 main_arg6) 0 = (HoldingAny 0 : sProp 𝕄) := if_neg fun h => absurd h.1 (by decide)
  rw [hd, hw]
  unfold Idle HoldingAny
  iintro ⟨⟨⟨⟨%g0, Hg0⟩, ⟨%g1, Hg1⟩, ⟨%g2, Hg2⟩, ⟨%g3, Hg3⟩⟩, Hp, ⟨Hs0, Hs1⟩, Hx⟩, ⟨Ht0, Ht1, Ht2⟩⟩
  ihave Hx := (shares 0 (V m 0 main_arg3)).1 $$ Hx
  icases Hx with ⟨Hx, Hx0, Hx1⟩
  rw [← slotSet_union]
  ihave Hg0 := (pointsTo_union slotSet_disjoint).1 $$ Hg0
  icases Hg0 with ⟨Hg00, Hg01⟩
  isplitl [Hg1 Hg2 Hg3 Hs0 Hs1 Hx0 Hx1 Ht0 Ht2 Hg00 Hg01]
  · isplitl [Ht0]; · iexact Ht0
    isplitl [Ht2]; · iexact Ht2
    isplitl [Hs0 Hx0 Hg00]
    · isplitl [Hs0]; · iexact Hs0
      isplitl [Hx0]; · iexact Hx0
      iexists g0; iexact Hg00
    isplitl [Hs1 Hx1 Hg01]
    · isplitl [Hs1]; · iexact Hs1
      isplitl [Hx1]; · iexact Hx1
      iexists g0; iexact Hg01
    isplitl [Hg1]; · iexists g1; rw [owns_whole]; iexact Hg1
    isplitl [Hg2]; · iexists g2; rw [owns_whole]; iexact Hg2
    iexists g3; rw [owns_whole]; iexact Hg3
  isplitl [Ht1]; · iexact Ht1
  isplitl [Hp] <;> iassumption

/-- After the last point the core gives back what it was handed. -/
theorem finish : invariant m c 129 ⊢ Pipeline.ΦD osem0 spec0 H0 (V m) c := by
  rw [Pipeline.ΦD_eq, scopedRest0_eq, ownSems0_eq, hbm0_eq]
  unfold invariant Between
  have hd : Due (V m c main_arg0) (V m c main_arg2) (V m c main_arg3) c 129 = (Idle (V m c main_arg3) c 1 : sProp 𝕄) := if_neg fun h => absurd h.2.1 (by decide)
  rw [hd, show slot (129 + 1) = 0 from rfl]
  unfold Idle
  iintro ⟨⟨-, -, ⟨Hs1, Hx1, ⟨%g, Hg1⟩⟩, ⟨Hs0, Hx0, ⟨%g', Hg0⟩⟩, Hw⟩, -, Hp, Hx⟩
  ihave Hw := (weights_any (V m c main_arg0) c (V m c main_arg4) (V m c main_arg5) (V m c main_arg6) 129) $$ Hw
  ihave Hw := (Entails.of_eq (holdingAny_eq c)) $$ Hw
  icases Hw with ⟨⟨%Y1, Hq1⟩, ⟨%Y2, Hq2⟩, ⟨%Y3, Hq3⟩⟩
  isplitl [Hg0 Hg1 Hq1 Hq2 Hq3]
  · isplitl [Hg0 Hg1]
    · iexists ((slotSet 1).piecewise g g')
      rw [← slotSet_union]
      iapply (pointsTo_join slotSet_disjoint)
      isplitl [Hg0]; · iexact Hg0
      iexact Hg1
    isplitl [Hq1]; · iexists Y1; iexact Hq1
    isplitl [Hq2]; · iexists Y2; iexact Hq2
    iexists Y3; iexact Hq3
  isplitl [Hp]; · iexact Hp
  isplitl [Hs0 Hs1]
  · isplitl [Hs0] <;> iassumption
  iapply (shares c (V m c main_arg3)).2
  isplitl [Hx]; · iexact Hx
  isplitl [Hx0] <;> iassumption

/-- What the windows hold when a point starts. -/
theorem before0 (t : Fin (cfgM m hO).N) (d) : (dat m hO c).before 0 t d = blockAt (a := 1024) (b := 512) (V m c main_arg4) (entry (V m 0 main_arg1) (grid0.coords t 0).val) :=
  (before_block hO (dat m hO c) 0 rfl (fun _ => rfl) (fun _ => rfl) t d).trans (read_block1 m hO _ t)
theorem before1 (t : Fin (cfgM m hO).N) (d) : (dat m hO c).before 1 t d = blockAt (a := 1024) (b := 512) (V m c main_arg5) (entry (V m 0 main_arg1) (grid0.coords t 0).val) :=
  (before_block hO (dat m hO c) 1 rfl (fun _ => rfl) (fun _ => rfl) t d).trans (read_block2 m hO _ t)
theorem before2 (t : Fin (cfgM m hO).N) (d) : (dat m hO c).before 2 t d = blockAt (a := 512) (b := 1024) (V m c main_arg6) (entry (V m 0 main_arg1) (grid0.coords t 0).val) :=
  (before_block hO (dat m hO c) 2 rfl (fun _ => rfl) (fun _ => rfl) t d).trans (read_block3 m hO _ t)

/-- The kernel's body at point `t` with its windows' staging buffers. -/
abbrev bodyAt (t : Fin (cfgM m hO).N) : Prog (TpuEff nD τ sig (Elt F) Λ₀ .tc) PUnit :=
  atBufs (cc0_moe_mm (F := F) (grid0.coords t)) (spec0_0.stage ((cfgM m hO).slots t 0)) (spec0_1.stage ((cfgM m hO).slots t 1))
    (hstage0_0 (((cfgM m hO).slots t 0).cast nbuf0_0)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))

theorem defs₀_row (t : Fin (cfgM m hO).N) : defs₀ (F := F) .tc (cfgM m hO).body ((cfgM m hO).bodyArgs t ((cfgM m hO).slots t)) = bodyAt m hO t := by
  unfold defs₀; rw [Defs.onTc_tc]

/-- A run continues from what it is known to end with. -/
theorem runs_then {α : Type} {c : Dev nD} {p : Prog (TpuEff nD τ sig (Elt F) Λ₀ .tc) α} {P : sProp 𝕄} {Q' Q : α → sProp 𝕄} (h : P ⊢ runs c p Q') :
    P ⊢ iprop((∀ a, Q' a -∗ Q a) -∗ runs c p Q) := by
  unfold runs
  iintro HP Hk
  ihave Hp := h $$ HP
  iapply (wp_wand frame (wpE (defs₀ (F := F)) 𝒱₀ (c : Thread nD τ) none) Set.univ) $$ Hp
  iexact Hk

theorem body_obligation : BodyObligation (dat m hO c) (defs₀ (F := F)) Variants.none () Set.univ := fun t => by
  have hc : c = 0 := Subsingleton.elim _ _
  subst hc
  rw [bigSep_W0, bigSep_W0, defs₀_row]
  show iprop(invariant m 0 t.val ∗ (dat m hO 0).owesAt () t.castSucc
      ∗ (∃ d, owns ((0 : Dev nD) : Thread nD τ) (spec0_0.stage ((cfgM m hO).slots t 0)) fullShare ((dat m hO 0).before 0 t d))
      ∗ (∃ d, owns ((0 : Dev nD) : Thread nD τ) (spec0_1.stage ((cfgM m hO).slots t 1)) fullShare ((dat m hO 0).before 1 t d))
      ∗ (∃ d, owns ((0 : Dev nD) : Thread nD τ) (spec0_2.stage ((cfgM m hO).slots t 2)) fullShare ((dat m hO 0).before 2 t d))
      ∗ (∃ d, owns ((0 : Dev nD) : Thread nD τ) (spec0_3.stage ((cfgM m hO).slots t 3)) fullShare ((dat m hO 0).before 3 t d)))
    ⊢ runs 0 (bodyAt m hO t) fun _ => iprop(invariant m 0 (t.val + 1) ∗ (dat m hO 0).owesAt () t.succ
      ∗ owns ((0 : Dev nD) : Thread nD τ) (spec0_0.stage ((cfgM m hO).slots t 0)) fullShare ((((cfgM m hO).win 0).blk t).view.read (Elt F) (V m 0 main_arg4))
      ∗ owns ((0 : Dev nD) : Thread nD τ) (spec0_1.stage ((cfgM m hO).slots t 1)) fullShare ((((cfgM m hO).win 1).blk t).view.read (Elt F) (V m 0 main_arg5))
      ∗ owns ((0 : Dev nD) : Thread nD τ) (spec0_2.stage ((cfgM m hO).slots t 2)) fullShare ((((cfgM m hO).win 2).blk t).view.read (Elt F) (V m 0 main_arg6))
      ∗ (match idle0 (tables m) 3 (grid0.coords t) with
          | true =>
            match ((cfgM m hO).win 3).flush t with
            | false => iprop(∃ d, owns ((0 : Dev nD) : Thread nD τ) (spec0_3.stage ((cfgM m hO).slots t 3)) fullShare ((dat m hO 0).before 3 t d))
            | true => owns ((0 : Dev nD) : Thread nD τ) (spec0_3.stage ((cfgM m hO).slots t 3)) fullShare (written m 0 (grid0.coords t 0).val)
          | false => owns ((0 : Dev nD) : Thread nD τ) (spec0_3.stage ((cfgM m hO).slots t 3)) fullShare (written m 0 (grid0.coords t 0).val)))
  rw [never_idle, read_block1, read_block2, read_block3]
  dsimp only
  unfold Dat.owesAt Pipeline.owesWithin
  rw [show (dat m hO 0).owed t.castSucc = 0 from rfl, show (dat m hO 0).owed t.succ = 0 from rfl]
  have hv := coord_val t
  have hp := fun W X8 => point (V m 0 main_arg0) (V m 0 main_arg2) (V m 0 main_arg3) 0 fullShare.right (grid0.coords t)
    (spec0_0.stage ((cfgM m hO).slots t 0)) (spec0_1.stage ((cfgM m hO).slots t 1))
    (hstage0_0 (((cfgM m hO).slots t 0).cast nbuf0_0)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (V m 0 main_arg4) (V m 0 main_arg5) (V m 0 main_arg6) hO.rows fullShare.right
    (blockAt (a := 1024) (b := 512) (V m 0 main_arg4) (entry (V m 0 main_arg1) (grid0.coords t 0).val))
    (blockAt (a := 1024) (b := 512) (V m 0 main_arg5) (entry (V m 0 main_arg1) (grid0.coords t 0).val))
    (blockAt (a := 512) (b := 1024) (V m 0 main_arg6) (entry (V m 0 main_arg1) (grid0.coords t 0).val)) X8 W
    (fun hl => by rw [hO.same _ (point_lt _) hl]; exact ⟨rfl, rfl, rfl⟩)
  unfold invariant
  rw [← hv]
  iintro ⟨⟨Hb, H1, Hp, Hx⟩, ⟨%W, -, HW⟩, ⟨%d5, H5⟩, ⟨%d6, H6⟩, ⟨%d7, H7⟩, ⟨%d8, H8⟩⟩
  rw [before0, before1, before2]
  iapply (runs_then (hp W _)) $$ [Hb HW H5 H6 H7 H8]
  · isplitl [Hb]; · iexact Hb
    isplitl [HW]; · iexact HW
    isplitl [H5]; · iexact H5
    isplitl [H6]; · iexact H6
    isplitl [H7]; · iexact H7
    iexact H8
  iintro %r ⟨Hb, ⟨%W', HW⟩, H⟩
  isplitl [Hb H1 Hp Hx]
  · isplitl [Hb]; · iexact Hb
    isplitl [H1]; · iexact H1
    isplitl [Hp] <;> iassumption
  isplitl [HW]
  · iexists W'
    isplitr
    · ipureintro; exact fun _ _ => Or.inl trivial
    iexact HW
  iexact H

set_option backward.isDefEq.respectTransparency.types false in
theorem run_main : θ_run defs (onTc (τ := τ) (main (F := F))) ⟨m, fun _ => 0, ρ⟩
    (fun r => Pipeline.FramePost (Pipeline.pin (pcfgs (F := F)) (fun _ => adm m hO)) (dats m hO) 0 (V m) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO c).loose) (hshare := fun c => (dats m hO 0 c).share_full fun _ => rfl)
    (howed := fun _ _ => rfl) (V := V m)
    (hmain := Pipeline.hmainP_region _ 0 defs₀ Variants.none m main (fun c => (main_chain c).trans rfl))
    (hA := fun _ _ => rfl) (hpf := V_pre m)
    (hin := start m) (hout := finish m)

end Cert.KernelIdeal.Hand

end
-- ==== Proof.Output.lean ====
/-
  What the run leaves: the output array holds each tile's rows, and the arguments are unchanged.
-/
module

public import proofs.«01_k».proof.Proof.Run
public import Idealize.ShloMosaic.Lib.Pipeline.Value

@[expose] public section

noncomputable section

namespace Cert.KernelIdeal.Hand

open Cert.KernelIdeal Cert.KernelIdeal.Gen
open Idealize.ShloMosaic Idealize.ShloMosaic.TcCoe
open Idealize.SL Idealize.SL.RA Idealize.SL.BI Idealize.SL.Sem
open Idealize.ShloMosaic.ValueIdx (ix1 ix2 ix3)

variable {F : FTy → Type} [FloatOps F]
variable (m : (ℓ : Loc nD τ sig) → Buf (Elt F) ℓ) (ρ : Dev nD → PrngReg) (hO : Ok m) (c : Dev nD)

/-- The output: row `r` is row `r % 512` of tile `r / 512`. -/
def result : S66048x1024.Idx → Elt F .bf16 :=
  fun x => written m c ((x 0).val / 512) (ix2 (⟨(x 0).val % 512, by omega⟩ : Fin 512) (x 1))

theorem map4 (t : Fin grid0.N) : cc0_transform_4 (grid0.coords t) = ![t.val, 0] := by
  have h : ∀ n : Fin 129, ![(BitVec.ofNat 32 n.val).toNat, 0] = ![n.val, 0] := fun n => by
    rw [BitVec.toNat_ofNat, Nat.mod_eq_of_lt (by omega)]
  exact (h (grid0.coords t 0)).trans (by rw [coord_val])

/-- The output's block at every point is written back. -/
theorem flush_out (t : Fin (cfgM m hO).N) : ((cfgM m hO).win 3).flush t = true := by
  rw [((cfgM m hO).win 3).flush_out rfl]
  by_cases h : t.val + 1 = (cfgM m hO).N
  · exact Or.inl h
  · have h1 : t.val + 1 < grid0.N := lt_of_le_of_ne t.isLt h
    refine Or.inr ⟨h1, fun e => ?_⟩
    have e0 : cc0_transform_4 (grid0.coords ⟨t.val + 1, h1⟩) = cc0_transform_4 (grid0.coords t) := e
    rw [map4, map4] at e0
    exact absurd (show t.val + 1 = t.val from congrFun e0 0) (by omega)

theorem at_lt (t : Fin (cfgM m hO).N) (y : S512x1024.Idx) : t.val * 512 + (y 0).val < 66048 := by
  have h1 : t.val < 129 := t.isLt.trans_eq N_0
  have h2 : (y 0).val < 512 := (y 0).isLt
  omega

/-- Where an element of a point's output block lies in the array. -/
theorem block_emb (t : Fin (cfgM m hO).N) (y : S512x1024.Idx) :
    (show S66048x1024.Idx from (((cfgM m hO).win 3).blk t).view.emb y) = (ix2 (⟨t.val * 512 + (y 0).val, at_lt m hO t y⟩ : Fin 66048) (y 1) : S66048x1024.Idx) := by
  have e := map4 t
  funext a
  apply Fin.ext
  match a with
  | 0 =>
    show cc0_transform_4 (grid0.coords t) 0 * 512 + 1 * (y 0).val = t.val * 512 + (y 0).val
    rw [e]; show t.val * 512 + 1 * (y 0).val = _; omega
  | 1 =>
    show cc0_transform_4 (grid0.coords t) 1 * 1024 + 1 * (y 1).val = (y 1).val
    rw [e]; show 0 * 1024 + 1 * (y 1).val = _; omega

theorem final : (dat m hO c).arrAt 3 (cfgM m hO).N = result m c := by
  refine (dat m hO c).arrAt_eq_of_cover 3 (result m c) (fun t _ => funext fun (y : S512x1024.Idx) => ?_) fun (x : S66048x1024.Idx) => ?_
  · have hy : (y 0).val < 512 := (y 0).isLt
    have e : written m c (grid0.coords t 0).val y
        = result m c (ix2 (⟨t.val * 512 + (y 0).val, at_lt m hO t y⟩ : Fin 66048) (y 1)) := by
      show _ = written m c ((t.val * 512 + (y 0).val) / 512) (ix2 (⟨(t.val * 512 + (y 0).val) % 512, _⟩ : Fin 512) (y 1))
      rw [coord_val, show (t.val * 512 + (y 0).val) / 512 = t.val by omega]
      refine congrArg (written m c t.val) (funext fun a => ?_)
      match a with
      | 0 => exact Fin.ext (show (y 0).val = (t.val * 512 + (y 0).val) % 512 by omega)
      | 1 => rfl
    exact e.trans (congrArg (result m c) (block_emb m hO t y)).symm
  · have hx : (x 0).val < 66048 := (x 0).isLt
    have ht : (x 0).val / 512 < grid0.N := lt_of_lt_of_eq (by omega) N_0.symm
    refine ⟨⟨(x 0).val / 512, ht⟩, flush_out m hO _, ?_⟩
    let y : S512x1024.Idx := ix2 (⟨(x 0).val % 512, by omega⟩ : Fin 512) (x 1)
    have e : (show S66048x1024.Idx from (((cfgM m hO).win 3).blk ⟨(x 0).val / 512, ht⟩).view.emb y) = x := by
      refine (block_emb m hO _ y).trans (funext fun a => ?_)
      match a with
      | 0 => exact Fin.ext (show (x 0).val / 512 * 512 + (x 0).val % 512 = (x 0).val by omega)
      | 1 => rfl
    have h := (((cfgM m hO).win 3).blk ⟨(x 0).val / 512, ht⟩).view.emb_mem_set y
    exact (congrArg (· ∈ (((cfgM m hO).win 3).blk ⟨(x 0).val / 512, ht⟩).view.set) e).mp h

include hO in
/-- The run, from any memory whose tables are as asked. -/
theorem run : θ_run defs (onTc (τ := τ) (main (F := F))) ⟨m, fun _ => 0, ρ⟩ (fun r => (∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun _ h => ⟨fun c =>
    ⟨((h.1 c).1 3).trans (final m hO c),
     (h.1 c).2 main_arg0 (Pipeline.mem_restRefs_of main_arg0 (by decide) (by decide : ∀ w, (spec0 w).arr.view.ref ≠ main_arg0)),
     (h.1 c).2 main_arg1 (Pipeline.mem_restRefs_of main_arg1 (by decide) (by decide : ∀ w, (spec0 w).arr.view.ref ≠ main_arg1)),
     (h.1 c).2 main_arg2 (Pipeline.mem_restRefs_of main_arg2 (by decide) (by decide : ∀ w, (spec0 w).arr.view.ref ≠ main_arg2)),
     (h.1 c).2 main_arg3 (Pipeline.mem_restRefs_of main_arg3 (by decide) (by decide : ∀ w, (spec0 w).arr.view.ref ≠ main_arg3)),
     ((h.1 c).1 0).trans ((dat m hO c).arrAt_in 0 rfl _),
     ((h.1 c).1 1).trans ((dat m hO c).arrAt_in 1 rfl _),
     ((h.1 c).1 2).trans ((dat m hO c).arrAt_in 2 rfl _)⟩, h.2⟩) (run_main m ρ hO)

include hO in
/-- What the run leaves alone. -/
theorem leaves : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun _ h => ⟨fun c => (h.1 c).2, h.2⟩) (run m ρ hO)

end Cert.KernelIdeal.Hand

end
-- ==== Proof.Checked.lean ====
/-
  What the precondition says of the tables.
-/
module

public import proofs.«01_k».proof.Proof.Tables
public import proofs.«01_k».proof.Proof.Gen.Pre_tables_routed
public import Idealize.ShloMosaic.Lib.PointwiseCore
public import Idealize.ShloMosaic.Lib.StableHlo.Predicate

@[expose] public section

noncomputable section

namespace Cert.KernelIdeal.Hand

open Cert.KernelIdeal Cert.KernelIdeal.Gen
open Idealize.ShloMosaic Idealize.ShloMosaic.TcCoe

variable {F : FTy → Type} [FloatOps F]

theorem andi_one {a b : BitVec 1} : IntOp.andi a b = 1#1 ↔ a = 1#1 ∧ b = 1#1 := by revert a b; decide

theorem ori_one {a b : BitVec 1} : IntOp.ori a b = 1#1 ↔ a = 1#1 ∨ b = 1#1 := by revert a b; decide

theorem sge_one {a b : BitVec 32} : IntOp.cmpi .sge a b = 1#1 ↔ b.toInt ≤ a.toInt := by
  simp only [IntOp.cmpi, StableHlo.Predicate.ofBool_eq_one_iff, BitVec.sle, decide_eq_true_eq]

theorem sle_one {a b : BitVec 32} : IntOp.cmpi .sle a b = 1#1 ↔ a.toInt ≤ b.toInt := by
  simp only [IntOp.cmpi, StableHlo.Predicate.ofBool_eq_one_iff, BitVec.sle, decide_eq_true_eq]

theorem slt_one {a b : BitVec 32} : IntOp.cmpi .slt a b = 1#1 ↔ a.toInt < b.toInt := by
  simp only [IntOp.cmpi, StableHlo.Predicate.ofBool_eq_one_iff, BitVec.slt, decide_eq_true_eq]

/-- A word with nothing in its last four bits is a multiple of 16. -/
theorem dvd_of_mask {a : BitVec 32} (h : IntOp.andi a 15#32 = 0#32) : 16 ∣ a.toNat := by
  have e : a.toNat &&& 15 = 0 := (BitVec.toNat_and a 15#32).symm.trans (congrArg BitVec.toNat h)
  rw [show (15 : ℕ) = 2 ^ 4 - 1 from rfl, Nat.and_two_pow_sub_one_eq_mod] at e
  exact Nat.dvd_of_mod_eq_zero e

/-- A word that is not negative reads the same as a natural number. -/
theorem toNat_of_nonneg {a : BitVec 32} (h : 0 ≤ a.toInt) : (a.toNat : ℤ) = a.toInt := by
  rw [BitVec.toInt_eq_toNat_cond] at h ⊢
  split <;> rename_i hc
  · rfl
  · rw [if_neg hc] at h; have := a.isLt; omega

/-- One entry of the precondition. -/
theorem checked (te tw : S129.Idx → BitVec 32) (ts : S4128.Idx → BitVec 32) (f3 f4 f5 f6)
    (h : Cert.Pre_tables_routed.fn (F := F) te tw ts f3 f4 f5 f6 = fun _ => 1#1) (t : Fin 129) (k : Fin 32) :
    (0 ≤ (tw (ix1 t)).toInt ∧ (tw (ix1 t)).toInt < 32)
    ∧ ((te (ix1 t)).toInt < 0
      ∨ (te (ix1 t) = tw (ix1 t)
        ∧ (0 ≤ (ts (ix1 (⟨t.val * 32 + k.val, by omega⟩ : Fin 4128))).toInt
          ∧ (ts (ix1 (⟨t.val * 32 + k.val, by omega⟩ : Fin 4128))).toInt ≤ 50672)
        ∧ 16 ∣ (ts (ix1 (⟨t.val * 32 + k.val, by omega⟩ : Fin 4128))).toNat)) := by
  have e := congrFun h (ix2 t k)
  pointwise [Pre_tables_routed.fn, Pre_tables_routed.fn_part1] at e
  simp only [andi_one, ori_one, sge_one, sle_one, slt_one, StableHlo.Predicate.cmpi_eq_iff] at e
  exact ⟨e.1, e.2.imp id fun ⟨⟨⟨a, b⟩, c⟩, d⟩ => ⟨a, ⟨b, c⟩, dvd_of_mask d⟩⟩

theorem entry_eq (te : S129.Idx → BitVec 32) (t : ℕ) (ht : t < 129) : entry te t = te (ix1 (⟨t, ht⟩ : Fin 129)) :=
  congrArg te (funext fun a => match a with | 0 => Fin.ext (show min t 128 = t by omega))

theorem word_at (ts : S4128.Idx → BitVec 32) (t k : ℕ) (ht : t < 129) (hk : k < 32) :
    word ts (32 * t + k) = ts (ix1 (⟨t * 32 + k, by omega⟩ : Fin 4128)) :=
  congrArg ts (funext fun a => match a with | 0 => Fin.ext (show min (32 * t + k) 4127 = t * 32 + k by omega))

/-- The precondition says what the kernel needs of its tables. -/
theorem routing (te tw : S129.Idx → BitVec 32) (ts : S4128.Idx → BitVec 32) (f3 f4 f5 f6)
    (h : Cert.Pre_tables_routed.fn (F := F) te tw ts f3 f4 f5 f6 = fun _ => 1#1) : Routing te tw ts where
  block t ht := by
    obtain ⟨⟨h1, h2⟩, -⟩ := checked te tw ts f3 f4 f5 f6 h ⟨t, ht⟩ 0
    rw [entry_eq tw t ht]
    have := toNat_of_nonneg h1
    omega
  same t ht hl := by
    rw [entry_eq te t ht] at hl ⊢
    rw [entry_eq tw t ht]
    obtain ⟨-, hn | ⟨he, -⟩⟩ := checked te tw ts f3 f4 f5 f6 h ⟨t, ht⟩ 0
    · exact absurd (show (0 : ℤ) ≤ _ from hl) (not_le.mpr hn)
    · exact he.symm
  rows t ht hl k hk := by
    rw [entry_eq te t ht] at hl
    unfold row
    rw [word_at ts t k ht hk]
    obtain ⟨-, hn | ⟨-, ⟨h1, h2⟩, h3⟩⟩ := checked te tw ts f3 f4 f5 f6 h ⟨t, ht⟩ ⟨k, hk⟩
    · exact absurd (show (0 : ℤ) ≤ _ from hl) (not_le.mpr hn)
    · have := toNat_of_nonneg h1
      exact ⟨by simp only at *; omega, h3⟩

end Cert.KernelIdeal.Hand

end
-- ==== Proof.Reference.lean ====
/-
  The reference's result, read at one element.
-/
module

public import proofs.«01_k».proof.Proof.Gen.ReferenceIdeal
public import proofs.«01_k».proof.Proof.Gen.ReferenceIdeal.Run
public import Idealize.ShloMosaic.Lib.Pointwise
public import Idealize.ShloMosaic.Lib.Routing.Ops
public import Idealize.ShloMosaic.Lib.StableHlo.Predicate

@[expose] public section

noncomputable section

namespace Cert.ReferenceIdeal.Hand

open Cert.ReferenceIdeal Cert.ReferenceIdeal.Gen
open Idealize.ShloMosaic Idealize.ShloMosaic.TcCoe

/-- The source rows, one for each row of the output. -/
def rows (ts : S4128.Idx → BitVec 32) : S66048x1.Idx → BitVec 32 :=
  broadcastInDim S66048x1 ![0] bcast_S66048_S66048x1_0 (shapeCast _ (addi (broadcastInDim S4128x16 ![0, 1] bcast_S4128x1_S4128x16_0_1 (broadcastInDim S4128x1 ![0] bcast_S4128_S4128x1_0 ts)) (broadcastInDim S4128x16 ![0, 1] bcast_S1x16_S4128x16_0_1 (broadcastInDim S1x16 ![1] bcast_S16_S1x16_1 (iotaInDim S16 32 0)))) shapeCasts_S4128x16_S66048)

/-- The gathered rows, and the sum over the experts as the reference writes it. -/
def taken (ts : S4128.Idx → BitVec 32) (fxs : FVec Ideal S50688x1024 .bf16) : FVec Ideal S66048x1024 .f32 :=
  Host.gather gather_S50688x1024_S66048x1_S66048x1024_1_0_n_n_0_1_11024 (extf .f32 fxs bitsLt_bf16_f32) (rows ts)

def mixed (te : S129.Idx → BitVec 32) (g : FVec Ideal S66048x1024 .f32) (f1 f2 : FVec Ideal S32x1024x512 .f32)
    (f3 : FVec Ideal S32x512x1024 .f32) : FVec Ideal S66048x1024 .bf16 :=
  truncf .bf16 (Host.reduceAdd (mulf (broadcastInDim S32x66048x1024 ![0, 1, 2] bcast_S32x66048x1_S32x66048x1024_0_1_2 (broadcastInDim S32x66048x1 ![0, 1] bcast_S32x66048_S32x66048x1_0_1 (transpose S32x66048 [1, 0] (uitofp .f32 (cmpi .eq (broadcastInDim S66048x32 ![0, 1] bcast_S66048x1_S66048x32_0_1 (broadcastInDim S66048x1 ![0] bcast_S66048_S66048x1_0 (shapeCast _ (broadcastInDim S129x512 ![0] bcast_S129_S129x512_0 te) shapeCasts_S129x512_S66048))) (broadcastInDim S66048x32 ![0, 1] bcast_S1x32_S66048x32_0_1 (iotaInDim S1x32 32 1)))) transposes_S66048x32_S32x66048_1_0))) (Host.dotGeneral dot_S32x66048x512_S32x512x1024_S32x66048x1024_2_1_1_2_0_0 none (mulf (mulf (transpose S32x66048x512 [0, 2, 1] (Host.dotGeneral dot_S32x1024x512_S66048x1024_S32x512x66048_1_1_02_0_n_n none f1 g) transposes_S32x512x66048_S32x66048x512_0_2_1) (Host.divf (broadcastInDim S32x66048x512 ![] bcast_S_S32x66048x512 (constant S_ .f32 0x3F800000#32)) (addf (broadcastInDim S32x66048x512 ![] bcast_S_S32x66048x512 (constant S_ .f32 0x3F800000#32)) (Host.exp (Host.negf (transpose S32x66048x512 [0, 2, 1] (Host.dotGeneral dot_S32x1024x512_S66048x1024_S32x512x66048_1_1_02_0_n_n none f1 g) transposes_S32x512x66048_S32x66048x512_0_2_1)))))) (transpose S32x66048x512 [0, 2, 1] (Host.dotGeneral dot_S32x1024x512_S66048x1024_S32x512x66048_1_1_02_0_n_n none f2 g) transposes_S32x512x66048_S32x66048x512_0_2_1)) f3)) (constant S_ .f32 0x00000000#32) reducesTo_S32x66048x1024_S66048x1024_d0 h_S_) bitsLt_bf16_f32

/-- One entry of an expert's output on a row `x`: `(silu (x w1) * (x w2)) w3`. -/
def expertOut (x : Fin 1024 → EReal) (w1 w2 : Fin 1024 → Fin 512 → EReal) (w3 : Fin 512 → EReal) : EReal :=
  ∑ j, ((∑ i, x i * w1 i j) * Ideal.div 1 (1 + Ideal.exp (-∑ i, x i * w1 i j)) * ∑ i, x i * w2 i j) * w3 j

theorem mixed_apply (te : S129.Idx → BitVec 32) (g : FVec Ideal S66048x1024 .f32) (f1 f2 : FVec Ideal S32x1024x512 .f32)
    (f3 : FVec Ideal S32x512x1024 .f32) (r : Fin 66048) (q : Fin 1024) :
    mixed te g f1 f2 f3 (ix2 r q)
      = ∑ e : Fin 32, FloatOps.uitofp (F := Ideal) .f32 (IntOp.cmpi .eq (te (ix1 (⟨r.val / 512, by omega⟩ : Fin 129))) (BitVec.ofNat 32 e.val))
          * expertOut (fun i => g (ix2 r i)) (fun i j => f1 (ix3 e i j)) (fun i j => f2 (ix3 e i j)) (fun j => f3 (ix3 e j q)) := by
  pointwise [mixed, expertOut]
  simp only [mul_comm (g _)]

theorem gate_one : FloatOps.uitofp (F := Ideal) .f32 (1#1) = (1 : EReal) := by
  simp [FloatOps.uitofp]

theorem gate_zero : FloatOps.uitofp (F := Ideal) .f32 (0#1) = (0 : EReal) := by
  simp [FloatOps.uitofp]

/-- A row whose tile has expert `e`. -/
theorem mixed_live (te : S129.Idx → BitVec 32) (g : FVec Ideal S66048x1024 .f32) (f1 f2 : FVec Ideal S32x1024x512 .f32)
    (f3 : FVec Ideal S32x512x1024 .f32) (r : Fin 66048) (q : Fin 1024) (e : Fin 32)
    (he : te (ix1 (⟨r.val / 512, by omega⟩ : Fin 129)) = BitVec.ofNat 32 e.val) :
    mixed te g f1 f2 f3 (ix2 r q)
      = expertOut (fun i => g (ix2 r i)) (fun i j => f1 (ix3 e i j)) (fun i j => f2 (ix3 e i j)) (fun j => f3 (ix3 e j q)) := by
  rw [mixed_apply, Finset.sum_eq_single e]
  · rw [he, show IntOp.cmpi .eq (BitVec.ofNat 32 e.val) (BitVec.ofNat 32 e.val) = 1#1 from
      StableHlo.Predicate.cmpi_eq_iff.mpr rfl, gate_one, one_mul]
  · intro d _ hd
    have h0 : IntOp.cmpi .eq (te (ix1 (⟨r.val / 512, by omega⟩ : Fin 129))) (BitVec.ofNat 32 d.val) = 0#1 := by
      refine (BitVec.eq_zero_or_eq_one _).resolve_right fun h => hd (Fin.ext ?_)
      have h' := congrArg BitVec.toNat (he.symm.trans (StableHlo.Predicate.cmpi_eq_iff.mp h))
      rw [BitVec.toNat_ofNat, BitVec.toNat_ofNat] at h'
      omega
    rw [h0, gate_zero, zero_mul]
  · exact fun h => absurd (Finset.mem_univ e) h

/-- A row of a tile without an expert. -/
theorem mixed_dead (te : S129.Idx → BitVec 32) (g : FVec Ideal S66048x1024 .f32) (f1 f2 : FVec Ideal S32x1024x512 .f32)
    (f3 : FVec Ideal S32x512x1024 .f32) (r : Fin 66048) (q : Fin 1024)
    (he : (te (ix1 (⟨r.val / 512, by omega⟩ : Fin 129))).toInt < 0) :
    mixed te g f1 f2 f3 (ix2 r q) = 0 := by
  rw [mixed_apply]
  refine Finset.sum_eq_zero fun d _ => ?_
  have h0 : IntOp.cmpi .eq (te (ix1 (⟨r.val / 512, by omega⟩ : Fin 129))) (BitVec.ofNat 32 d.val) = 0#1 := by
    refine (BitVec.eq_zero_or_eq_one _).resolve_right fun h => ?_
    rw [StableHlo.Predicate.cmpi_eq_iff.mp h, StableHlo.Predicate.toInt_ofNat_small _ (by omega)] at he
    omega
  rw [h0, gate_zero, zero_mul]

theorem rows_apply (ts : S4128.Idx → BitVec 32) (r : Fin 66048) (q : Fin 1) :
    rows ts (ix2 r q) = IntOp.addi (ts (ix1 (⟨r.val / 16, by omega⟩ : Fin 4128))) (BitVec.ofNat 32 (r.val % 16)) := by
  pointwise [rows]

/-- A gathered row, where the table names one of the source's rows. -/
theorem taken_apply (ts : S4128.Idx → BitVec 32) (fxs : FVec Ideal S50688x1024 .bf16) (r : Fin 66048) (q : Fin 1024)
    (h : (ts (ix1 (⟨r.val / 16, by omega⟩ : Fin 4128))).toNat ≤ 50672) :
    taken ts fxs (ix2 r q)
      = fxs (ix2 (⟨(ts (ix1 (⟨r.val / 16, by omega⟩ : Fin 4128))).toNat + r.val % 16, by omega⟩ : Fin 50688) q) := by
  refine (Routing.gather_row gather_S50688x1024_S66048x1_S66048x1024_1_0_n_n_0_1_11024 rfl rfl rfl rfl rfl
    (extf (F := Ideal) .f32 fxs bitsLt_bf16_f32) (rows ts) r q
    (⟨(ts (ix1 (⟨r.val / 16, by omega⟩ : Fin 4128))).toNat + r.val % 16, by omega⟩ : Fin 50688) ?_ (by norm_num)).trans rfl
  refine (rows_apply ts r 0).trans (BitVec.eq_of_toNat_eq ?_)
  show (ts _ + BitVec.ofNat 32 _).toNat = _
  rw [BitVec.toNat_add, BitVec.toNat_ofNat, BitVec.toNat_ofNat]
  dsimp only
  omega

end Cert.ReferenceIdeal.Hand

end
-- ==== Proof.Meaning.lean ====
/-
  The tiles the kernel writes are the reference's rows, over the extended reals.
-/
module

public import proofs.«01_k».proof.Proof.Output
public import proofs.«01_k».proof.Proof.Checked
public import proofs.«01_k».proof.Proof.Reference

@[expose] public section

noncomputable section

namespace Cert.KernelIdeal.Hand

open Cert.KernelIdeal Cert.KernelIdeal.Gen
open Idealize.ShloMosaic Idealize.ShloMosaic.TcCoe
open Cert.ReferenceIdeal.Hand (expertOut mixed taken mixed_live mixed_dead taken_apply)

/-- What one point computes from a tile of rows and an expert's three matrices. -/
theorem pay_apply (x : FVec Ideal S1x512x1024 .bf16) (f1 f2 : FVec Ideal S1x1024x512 .f32) (f3 : FVec Ideal S1x512x1024 .f32)
    (p : Fin 512) (q : Fin 1024) :
    k0_pay4 (F := Ideal) x (k0_pay1 (F := Ideal) f1) (k0_pay2 (F := Ideal) f2) (k0_pay3 (F := Ideal) f3) (ix2 p q)
      = expertOut (fun i => x (ix3 0 p i)) (fun i j => f1 (ix3 0 i j)) (fun i j => f2 (ix3 0 i j)) (fun j => f3 (ix3 0 j q)) := by
  pointwise [k0_pay4, k0_pay1, k0_pay2, k0_pay3, expertOut]
  simp only [zero_sub]

theorem zero_apply (p : Fin 512) (q : Fin 1024) : k0_pay5 (F := Ideal) (ix2 p q) = (0 : EReal) := by
  pointwise [k0_pay5]

/-- Row `r` of the output. -/
theorem tileOut_apply (te tw : S129.Idx → BitVec 32) (ts : S4128.Idx → BitVec 32) (hR : Routing te tw ts)
    (fxs : FVec Ideal S50688x1024 .bf16) (f1 f2 : FVec Ideal S32x1024x512 .f32) (f3 : FVec Ideal S32x512x1024 .f32)
    (r : Fin 66048) (q : Fin 1024) :
    tileOut (F := Ideal) te ts fxs f1 f2 f3 (r.val / 512) (ix2 (⟨r.val % 512, by omega⟩ : Fin 512) q)
      = mixed te (taken ts fxs) f1 f2 f3 (ix2 r q) := by
  have ht : r.val / 512 < 129 := by omega
  have hent := entry_eq te (r.val / 512) ht
  unfold tileOut
  by_cases hl : Live (entry te (r.val / 512))
  · have hw : (entry te (r.val / 512)).toNat < 32 := by
      have := hR.block _ ht
      rwa [hR.same _ ht hl] at this
    have hrow := (hR.rows _ ht hl (r.val % 512 / 16) (by omega)).1
    unfold row at hrow
    rw [word_at ts _ _ ht (by omega)] at hrow
    have hsrc : (⟨r.val / 512 * 32 + r.val % 512 / 16, by omega⟩ : Fin 4128) = ⟨r.val / 16, by omega⟩ :=
      Fin.ext (show r.val / 512 * 32 + r.val % 512 / 16 = r.val / 16 by omega)
    rw [hsrc] at hrow
    rw [if_pos hl, mixed_live te (taken ts fxs) f1 f2 f3 r q ⟨(entry te (r.val / 512)).toNat, hw⟩
      (by rw [← hent]; exact BitVec.eq_of_toNat_eq (by rw [BitVec.toNat_ofNat]; dsimp only; omega))]
    refine (pay_apply _ _ _ _ _ q).trans ?_
    have hmin : (⟨min (entry te (r.val / 512)).toNat 31, by omega⟩ : Fin 32) = ⟨(entry te (r.val / 512)).toNat, hw⟩ :=
      Fin.ext (Nat.min_eq_left (by omega))
    have hx : (fun i : Fin 1024 => (tile (F := Ideal) ts fxs (r.val / 512) (ix3 0 (⟨r.val % 512, by omega⟩ : Fin 512) i) : EReal)) = fun i => taken ts fxs (ix2 r i) := by
      funext i
      rw [taken_apply ts fxs r i hrow]
      refine congrArg fxs (congrArg (fun k : Fin 50688 => (ix2 k i : S50688x1024.Idx)) (Fin.ext ?_))
      show tokenOf ts (r.val / 512) (r.val % 512) = _
      unfold tokenOf row
      rw [word_at ts _ _ ht (by omega), hsrc]
      dsimp only
      omega
    have h1 : ∀ f : FVec Ideal S32x1024x512 .f32, (fun (i : Fin 1024) (j : Fin 512) => blockAt (F := Ideal) f (entry te (r.val / 512)) (ix3 0 i j))
        = fun i j => f (ix3 (⟨(entry te (r.val / 512)).toNat, hw⟩ : Fin 32) i j) := fun f => by
      funext i j
      exact congrArg f (congrArg (fun k : Fin 32 => (ix3 k i j : S32x1024x512.Idx)) hmin)
    have h3 : (fun j : Fin 512 => blockAt (F := Ideal) f3 (entry te (r.val / 512)) (ix3 0 j q))
        = fun j => f3 (ix3 (⟨(entry te (r.val / 512)).toNat, hw⟩ : Fin 32) j q) := by
      funext j
      exact congrArg f3 (congrArg (fun k : Fin 32 => (ix3 k j q : S32x512x1024.Idx)) hmin)
    rw [hx, h1, h1, h3]
  · rw [if_neg hl, zero_apply, mixed_dead]
    rw [← hent]
    exact not_le.mp hl

end Cert.KernelIdeal.Hand

end
-- ==== Proof.Same.lean ====
/-
  The kernel over its own number formats is the same text as the kernel over the extended reals, so one run serves both.
-/
module

public import proofs.«01_k».proof.Proof.Output
public import proofs.«01_k».proof.Proof.Gen.Kernel
public import Idealize.ShloMosaic.PureOps.BitExact

@[expose] public section

noncomputable section

namespace Cert.KernelIdeal.Hand

open Idealize.ShloMosaic Idealize.ShloMosaic.TcCoe Idealize.SL.Sem

set_option maxHeartbeats 4000000 in
/-- The two programs' bodies are one. -/
theorem bodies_eq : Cert.Kernel.defs₀ (F := Bits) = Cert.KernelIdeal.defs₀ (F := Bits) := by
  unfold Cert.Kernel.defs₀ Cert.KernelIdeal.defs₀
  refine congrArg Defs.onTc (funext fun i => ?_)
  match i with
  | 0 => exact funext fun ⟨t, s⟩ => rfl
  | ⟨_ + 1, h⟩ => exact absurd h (Nat.not_lt.2 (Nat.le_add_left _ _))

/-- So are their definitions. -/
theorem defs_eq : Cert.Kernel.defs (F := Bits) = Cert.KernelIdeal.defs (F := Bits) :=
  congrArg (Pipeline.defs (Cert.KernelIdeal.pcfgs (F := Bits))) bodies_eq

/-- A run of the one is a run of the other. -/
theorem run_same (m : (ℓ : Loc Cert.Kernel.nD Cert.Kernel.τ Cert.Kernel.sig) → Buf (Elt Bits) ℓ) (ρ : Dev Cert.Kernel.nD → PrngReg)
    (Q : _ → Prop)
    (h : θ_run (Cert.KernelIdeal.defs (F := Bits)) (onTc (τ := Cert.KernelIdeal.τ) (Cert.KernelIdeal.main (F := Bits))) ⟨m, fun _ => 0, ρ⟩ Q) :
    θ_run (Cert.Kernel.defs (F := Bits)) (onTc (τ := Cert.Kernel.τ) (Cert.Kernel.main (F := Bits))) ⟨m, fun _ => 0, ρ⟩ Q := by
  rw [defs_eq]
  exact h

end Cert.KernelIdeal.Hand

end
-- ==== Proof.Logistic.lean ====
/-
  The logistic function and its logarithm over the extended reals, in the form that the kernels compute; the reference's form
  of the logarithm is the same function.
-/
module

public import Idealize.ShloMosaic.Lib.Pointwise

@[expose] public section

noncomputable section

namespace Cert.Proof.Logistic

open Idealize.ShloMosaic

/-- `1 / (1 + exp (0 - a))`. -/
def sigmoid (a : EReal) : EReal :=
  Ideal.div 1 (1 + Ideal.exp (-a))

/-- `min a 0 - log (1 + exp (0 - |a|))`. -/
def logSigmoid (a : EReal) : EReal :=
  min a 0 - Ideal.log1p (Ideal.exp (-(max a (-a))))

/-- The logarithm of the logistic function as minus the logarithm of `1 + exp (0 - a)`, the larger of `0 - a` and `0` taken
out of the logarithm. -/
theorem neg_softplus (a : EReal) :
    -(max (-a) 0 + Ideal.log1p (Ideal.exp (-(max (-a) (- -a))))) = logSigmoid a := by
  have hmin : -(max (-a) 0) = min a 0 := by
    rcases le_total a 0 with h | h
    · rw [max_eq_left (EReal.neg_nonneg.2 h), min_eq_left h, neg_neg]
    · rw [max_eq_right (by rw [EReal.neg_le]; simpa using h), min_eq_right h, neg_zero]
  have habs : max (-a) (- -a) = max a (-a) := by rw [neg_neg, max_comm]
  rw [habs, logSigmoid, ← hmin]
  refine EReal.neg_add (Or.inl (ne_of_gt (lt_of_lt_of_le EReal.bot_lt_zero (le_max_right _ _)))) ?_
  induction a with
  | bot =>
    right
    have h0 : Ideal.log1p (Ideal.exp (-(max (⊥ : EReal) (-⊥)))) = 0 := by
      have he : Ideal.exp (-(max (⊥ : EReal) (-⊥))) = 0 := by
        rw [EReal.neg_bot, max_eq_right bot_le, EReal.neg_top]
        rfl
      rw [he, Ideal.log1p, add_zero]
      show (if (1 : ℝ) ≤ 0 then (⊥ : EReal) else (Real.log 1 : EReal)) = 0
      rw [if_neg (by norm_num), Real.log_one, EReal.coe_zero]
    rw [h0]
    exact EReal.zero_ne_bot
  | top => left; simp
  | coe r =>
    left
    exact ne_of_lt (max_lt (by rw [← EReal.coe_neg]; exact EReal.coe_lt_top _) EReal.zero_lt_top)

end Cert.Proof.Logistic
-- ==== Proof.PromptReference.lean ====
/-
  The reference of the prompt's projections read at one element: `normRow` is one entry of a normalised row, `projCol` one entry
  of its product with the weights, and each of the eight results is read from those two at the token and the column.
-/
module

public import proofs.«01_k».proof.Proof.Gen.Reference2Ideal.Run
public import proofs.«01_k».proof.Proof.Logistic
public import Idealize.ShloMosaic.Lib.Pointwise

@[expose] public section

set_option maxRecDepth 16384

noncomputable section

namespace Cert.Proof.PromptReference

open Cert.Reference2Ideal Cert.Reference2Ideal.Gen Idealize.ShloMosaic Cert.Proof.Logistic

/-- Entry `k` of token `(p, s)`'s row after normalisation. -/
def normRow (x : FVec Ideal S8x2048x1024 .f32) (g : FVec Ideal S1024 .f32) (p : Fin 8) (s : Fin 2048) (k : Fin 1024) : EReal :=
  (x (ix3 p s k) : EReal) * Ideal.rsqrt (Ideal.div (∑ l : Fin 1024, (x (ix3 p s l) : EReal) * x (ix3 p s l))
    (Ideal.ofBits .f32 0x44800000#32) + Ideal.ofBits .f32 0x358637BD#32) * g (ix1 k)

/-- Column `j` of token `(p, s)`'s projected row. -/
def projCol (x : FVec Ideal S8x2048x1024 .f32) (g : FVec Ideal S1024 .f32) (w : FVec Ideal S1024x4104 .f32) (p : Fin 8) (s : Fin 2048) (j : Fin 4104) : EReal :=
  ∑ k : Fin 1024, normRow x g p s k * w (ix2 k j)

/-- The normalised rows. -/
def normed (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The projected rows. -/
def projected (x : FVec Ideal S8x2048x1024 .f32) (g : FVec Ideal S1024 .f32) (w : FVec Ideal S1024x4104 .f32) : FVec Ideal S8x2048x4104 .f32 :=
  Host.dotGeneral dot_S8x2048x1024_S1024x4104_S8x2048x4104_2_0_01_1_n_n none (normed x g) w

/-- The forget gates before the logarithm of the logistic function. -/
def forgetLogit (x : FVec Ideal S8x2048x1024 .f32) (g : FVec Ideal S1024 .f32) (w : FVec Ideal S1024x4104 .f32) (b : FVec Ideal S8 .f32) : FVec Ideal S8x2048x8 .f32 :=
  addf (extractStridedSlice S8x2048x8 ![0, 0, 2048] (projected x g w) slices_S8x2048x4104_S8x2048x8_0_0_2048) (broadcastInDim S8x2048x8 ![0, 1, 2] bcast_S1x1x8_S8x2048x8_0_1_2 (broadcastInDim S1x1x8 ![2] bcast_S8_S1x1x8_2 b))

/-- The first 512 columns of the projected rows, one row per token. -/
def outU (x : FVec Ideal S8x2048x1024 .f32) (g : FVec Ideal S1024 .f32) (w : FVec Ideal S1024x4104 .f32) : FVec Ideal S16384x512 .f32 :=
  shapeCast _ (extractStridedSlice S8x2048x512 ![0, 0, 0] (projected x g w) slices_S8x2048x4104_S8x2048x512_0_0_0) shapeCasts_S8x2048x512_S16384x512

/-- The query columns, one row per token, over the square root of a head's width. -/
def outQ (x : FVec Ideal S8x2048x1024 .f32) (g : FVec Ideal S1024 .f32) (w : FVec Ideal S1024x4104 .f32) : FVec Ideal S16384x512 .bf16 :=
  truncf .bf16 (shapeCast _ (mulf (extractStridedSlice S8x2048x512 ![0, 0, 512] (projected x g w) slices_S8x2048x4104_S8x2048x512_0_0_512) (broadcastInDim S8x2048x512 ![] bcast_S_S8x2048x512 (constant S_ .f32 0x3E000000#32))) shapeCasts_S8x2048x512_S16384x512) bitsLt_bf16_f32

/-- The key columns, the tokens of one sequence along the last axis. -/
def outKT (x : FVec Ideal S8x2048x1024 .f32) (g : FVec Ideal S1024 .f32) (w : FVec Ideal S1024x4104 .f32) : FVec Ideal S8x512x2048 .f32 :=
  transpose S8x512x2048 [0, 2, 1] (extractStridedSlice S8x2048x512 ![0, 0, 1024] (projected x g w) slices_S8x2048x4104_S8x2048x512_0_0_1024) transposes_S8x2048x512_S8x512x2048_0_2_1

/-- The value columns, the tokens of one sequence along the last axis. -/
def outVT (x : FVec Ideal S8x2048x1024 .f32) (g : FVec Ideal S1024 .f32) (w : FVec Ideal S1024x4104 .f32) : FVec Ideal S8x512x2048 .f32 :=
  transpose S8x512x2048 [0, 2, 1] (extractStridedSlice S8x2048x512 ![0, 0, 1536] (projected x g w) slices_S8x2048x4104_S8x2048x512_0_0_1536) transposes_S8x2048x512_S8x512x2048_0_2_1

/-- The key columns, one row per token. -/
def outK (x : FVec Ideal S8x2048x1024 .f32) (g : FVec Ideal S1024 .f32) (w : FVec Ideal S1024x4104 .f32) : FVec Ideal S16384x512 .bf16 :=
  truncf .bf16 (shapeCast _ (extractStridedSlice S8x2048x512 ![0, 0, 1024] (projected x g w) slices_S8x2048x4104_S8x2048x512_0_0_1024) shapeCasts_S8x2048x512_S16384x512) bitsLt_bf16_f32

/-- The value columns, one row per token. -/
def outV (x : FVec Ideal S8x2048x1024 .f32) (g : FVec Ideal S1024 .f32) (w : FVec Ideal S1024x4104 .f32) : FVec Ideal S16384x512 .bf16 :=
  truncf .bf16 (shapeCast _ (extractStridedSlice S8x2048x512 ![0, 0, 1536] (projected x g w) slices_S8x2048x4104_S8x2048x512_0_0_1536) shapeCasts_S8x2048x512_S16384x512) bitsLt_bf16_f32

/-- The logarithms of the forget gates, the tokens of one sequence along the last axis. -/
def outF (x : FVec Ideal S8x2048x1024 .f32) (g : FVec Ideal S1024 .f32) (w : FVec Ideal S1024x4104 .f32) (b : FVec Ideal S8 .f32) : FVec Ideal S8x8x2048 .f32 :=
  transpose S8x8x2048 [0, 2, 1] (Host.negf (select (cmpf .une (subf (Host.negf (forgetLogit x g w b)) (broadcastInDim S8x2048x8 ![] bcast_S_S8x2048x8 (constant S_ .f32 0x00000000#32))) (subf (Host.negf (forgetLogit x g w b)) (broadcastInDim S8x2048x8 ![] bcast_S_S8x2048x8 (constant S_ .f32 0x00000000#32)))) (addf (Host.negf (forgetLogit x g w b)) (broadcastInDim S8x2048x8 ![] bcast_S_S8x2048x8 (constant S_ .f32 0x00000000#32))) (addf (maximumf (Host.negf (forgetLogit x g w b)) (broadcastInDim S8x2048x8 ![] bcast_S_S8x2048x8 (constant S_ .f32 0x00000000#32))) (Host.log1p (Host.exp (Host.negf (Host.absf (subf (Host.negf (forgetLogit x g w b)) (broadcastInDim S8x2048x8 ![] bcast_S_S8x2048x8 (constant S_ .f32 0x00000000#32)))))))))) transposes_S8x2048x8_S8x8x2048_0_2_1

/-- The output gates, one row per token. -/
def outG (x : FVec Ideal S8x2048x1024 .f32) (g : FVec Ideal S1024 .f32) (w : FVec Ideal S1024x4104 .f32) : FVec Ideal S16384x2048 .bf16 :=
  truncf .bf16 (shapeCast _ (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 2056] (projected x g w) slices_S8x2048x4104_S8x2048x2048_0_0_2056))))) shapeCasts_S8x2048x2048_S16384x2048) bitsLt_bf16_f32

theorem normed_apply (x : FVec Ideal S8x2048x1024 .f32) (g : FVec Ideal S1024 .f32) (p : Fin 8) (s : Fin 2048) (k : Fin 1024) :
    normed x g (ix3 p s k) = normRow x g p s k := by
  pointwise [normed, normRow]

theorem projected_apply (x : FVec Ideal S8x2048x1024 .f32) (g : FVec Ideal S1024 .f32) (w : FVec Ideal S1024x4104 .f32) (p : Fin 8) (s : Fin 2048) (j : Fin 4104) :
    projected x g w (ix3 p s j) = projCol x g w p s j := by
  pointwise [projected, projCol]
  exact Finset.sum_congr rfl fun k _ => congrArg (· * _) (normed_apply x g p s k)

theorem outU_apply (x : FVec Ideal S8x2048x1024 .f32) (g : FVec Ideal S1024 .f32) (w : FVec Ideal S1024x4104 .f32) (r : Fin 16384) (j : Fin 512) :
    outU x g w (ix2 r j) = projCol x g w ⟨r.val / 2048, by omega⟩ ⟨r.val % 2048, by omega⟩ ⟨j.val, by omega⟩ := by
  pointwise [outU]
  exact projected_apply x g w _ _ _

theorem outK_apply (x : FVec Ideal S8x2048x1024 .f32) (g : FVec Ideal S1024 .f32) (w : FVec Ideal S1024x4104 .f32) (r : Fin 16384) (j : Fin 512) :
    outK x g w (ix2 r j) = projCol x g w ⟨r.val / 2048, by omega⟩ ⟨r.val % 2048, by omega⟩ ⟨1024 + j.val, by omega⟩ := by
  pointwise [outK]
  exact projected_apply x g w _ _ _

theorem outV_apply (x : FVec Ideal S8x2048x1024 .f32) (g : FVec Ideal S1024 .f32) (w : FVec Ideal S1024x4104 .f32) (r : Fin 16384) (j : Fin 512) :
    outV x g w (ix2 r j) = projCol x g w ⟨r.val / 2048, by omega⟩ ⟨r.val % 2048, by omega⟩ ⟨1536 + j.val, by omega⟩ := by
  pointwise [outV]
  exact projected_apply x g w _ _ _

theorem outQ_apply (x : FVec Ideal S8x2048x1024 .f32) (g : FVec Ideal S1024 .f32) (w : FVec Ideal S1024x4104 .f32) (r : Fin 16384) (j : Fin 512) :
    outQ x g w (ix2 r j) = projCol x g w ⟨r.val / 2048, by omega⟩ ⟨r.val % 2048, by omega⟩ ⟨512 + j.val, by omega⟩
      * Ideal.ofBits .f32 0x3E000000#32 := by
  pointwise [outQ]
  exact congrArg (· * _) (projected_apply x g w _ _ _)

theorem outKT_apply (x : FVec Ideal S8x2048x1024 .f32) (g : FVec Ideal S1024 .f32) (w : FVec Ideal S1024x4104 .f32) (p : Fin 8) (j : Fin 512) (s : Fin 2048) :
    outKT x g w (ix3 p j s) = projCol x g w p s ⟨1024 + j.val, by omega⟩ := by
  pointwise [outKT]
  exact projected_apply x g w _ _ _

theorem outVT_apply (x : FVec Ideal S8x2048x1024 .f32) (g : FVec Ideal S1024 .f32) (w : FVec Ideal S1024x4104 .f32) (p : Fin 8) (j : Fin 512) (s : Fin 2048) :
    outVT x g w (ix3 p j s) = projCol x g w p s ⟨1536 + j.val, by omega⟩ := by
  pointwise [outVT]
  exact projected_apply x g w _ _ _

theorem outG_apply (x : FVec Ideal S8x2048x1024 .f32) (g : FVec Ideal S1024 .f32) (w : FVec Ideal S1024x4104 .f32) (r : Fin 16384) (j : Fin 2048) :
    outG x g w (ix2 r j) = sigmoid (projCol x g w ⟨r.val / 2048, by omega⟩ ⟨r.val % 2048, by omega⟩ ⟨2056 + j.val, by omega⟩) := by
  rw [← projected_apply]
  pointwise [outG, sigmoid]

theorem forgetLogit_apply (x : FVec Ideal S8x2048x1024 .f32) (g : FVec Ideal S1024 .f32) (w : FVec Ideal S1024x4104 .f32) (b : FVec Ideal S8 .f32) (p : Fin 8) (s : Fin 2048) (j : Fin 8) :
    forgetLogit x g w b (ix3 p s j) = projCol x g w p s ⟨2048 + j.val, by omega⟩ + b (ix1 j) := by
  rw [← projected_apply]
  pointwise [forgetLogit]

theorem outF_apply (x : FVec Ideal S8x2048x1024 .f32) (g : FVec Ideal S1024 .f32) (w : FVec Ideal S1024x4104 .f32) (b : FVec Ideal S8 .f32) (p : Fin 8) (j : Fin 8) (s : Fin 2048) :
    outF x g w b (ix3 p j s) = logSigmoid (projCol x g w p s ⟨2048 + j.val, by omega⟩ + b (ix1 j)) := by
  rw [← forgetLogit_apply]
  pointwise [outF]
  generalize forgetLogit x g w b (ix3 p s j) = a
  simp only [ne_eq, not_true_eq_false, if_false]
  exact neg_softplus a

end Cert.Proof.PromptReference
-- ==== Proof.PromptKernel.lean ====
/-
  The prompt's projection call read at one element: what the arrays prepared by the host hold, what each grid point's blocks
  hold, and each value the body computes in terms of `normRow` and `projCol`.
-/
module

public import proofs.«01_k».proof.Proof.PromptReference
public import proofs.«01_k».proof.Proof.Gen.Kernel2Ideal.Value
public import Idealize.ShloMosaic.Lib.Claim
public import Idealize.ShloMosaic.Lib.Pipeline.ValueKit

@[expose] public section

set_option maxRecDepth 16384

noncomputable section

namespace Cert.Proof.PromptKernel

open Cert.Kernel2Ideal Cert.Kernel2Ideal.Gen Idealize.ShloMosaic Idealize.ShloMosaic.TcCoe
open Idealize.ShloMosaic.Pipeline (Dat)
open Cert.Proof.Logistic Cert.Proof.PromptReference

variable (m : (ℓ : Loc nD τ sig) → Buf (Elt Ideal) ℓ)

/-- The block of every window at every grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val / 4, 0, t.val % 4] ∧ win0_9.index t = ![t.val / 4, 0, t.val % 4] ∧ win0_10.index t = ![t.val, 0] ∧ win0_11.index t = ![t.val, 0] ∧ win0_12.index t = ![t.val / 4, 0, t.val % 4] ∧ win0_13.index t = ![t.val, 0] :=
  (by decide +kernel : ∀ t : Fin grid0.N, _)

/-- The input rows. -/
abbrev inX (c : Dev nD) : FVec Ideal Cert.Reference2Ideal.S8x2048x1024 .f32 := m (c.tc.loc main_arg0)

/-- The scale of the normalisation. -/
abbrev inG (c : Dev nD) : FVec Ideal Cert.Reference2Ideal.S1024 .f32 := m (c.tc.loc main_arg1)

/-- The projection weights. -/
abbrev inW (c : Dev nD) : FVec Ideal Cert.Reference2Ideal.S1024x4104 .f32 := m (c.tc.loc main_arg2)

/-- The forget gates' bias. -/
abbrev inB (c : Dev nD) : FVec Ideal Cert.Reference2Ideal.S8 .f32 := m (c.tc.loc main_arg3)

theorem host6 (c : Dev nD) : V m c main_v6 = shapeCast S16384x1024 (m (c.tc.loc main_arg0)) shapeCasts_S8x2048x1024_S16384x1024 := by
  simp only [V, hostOps0, hostOps0_1, hostOps0_2, hostOps0_3, hostOps0_4, List.flatten_cons, List.flatten_nil, List.append_nil,
    List.cons_append, List.nil_append]
  entry_read
  rfl

theorem host7 (c : Dev nD) : V m c main_v7 = shapeCast S1x1024 (m (c.tc.loc main_arg1)) shapeCasts_S1024_S1x1024 := by
  simp only [V, hostOps0, hostOps0_1, hostOps0_2, hostOps0_3, hostOps0_4, List.flatten_cons, List.flatten_nil, List.append_nil,
    List.cons_append, List.nil_append]
  entry_read
  rfl

theorem host8 (c : Dev nD) : V m c main_v8 = (truncf .bf16 (extractStridedSlice S1024x2048 ![0, 0] (m (c.tc.loc main_arg2)) slices_S1024x4104_S1024x2048_0_0) bitsLt_bf16_f32 : FVec Ideal S1024x2048 .bf16) := by
  simp only [V, hostOps0, hostOps0_1, hostOps0_2, hostOps0_3, hostOps0_4, List.flatten_cons, List.flatten_nil, List.append_nil,
    List.cons_append, List.nil_append]
  entry_read
  rfl

theorem host9 (c : Dev nD) : V m c main_v9 = (truncf .bf16 (pad S1024x128 ![0, 0] ![0, 120] ![0, 0] (extractStridedSlice S1024x8 ![0, 2048] (m (c.tc.loc main_arg2)) slices_S1024x4104_S1024x8_0_2048) (sitofp .f32 (constantI S_ 32 0#32)) pads_S1024x8_S1024x128_000_01200 h_S_) bitsLt_bf16_f32 : FVec Ideal S1024x128 .bf16) := by
  simp only [V, hostOps0, hostOps0_1, hostOps0_2, hostOps0_3, hostOps0_4, List.flatten_cons, List.flatten_nil, List.append_nil,
    List.cons_append, List.nil_append]
  entry_read
  rfl

theorem host10 (c : Dev nD) : V m c main_v10 = (truncf .bf16 (extractStridedSlice S1024x2048 ![0, 2056] (m (c.tc.loc main_arg2)) slices_S1024x4104_S1024x2048_0_2056) bitsLt_bf16_f32 : FVec Ideal S1024x2048 .bf16) := by
  simp only [V, hostOps0, hostOps0_1, hostOps0_2, hostOps0_3, hostOps0_4, List.flatten_cons, List.flatten_nil, List.append_nil,
    List.cons_append, List.nil_append]
  entry_read
  rfl

theorem host5 (c : Dev nD) : V m c main_v5 = (shapeCast S1x128 (pad S128 ![0] ![120] ![0] (inB m c : FVec Ideal S8 .f32) (sitofp .f32 (constantI S_ 32 0#32)) pads_S8_S128_01200 h_S_) shapeCasts_S128_S1x128 : FVec Ideal S1x128 .f32) := by
  simp only [V, hostOps0, hostOps0_1, hostOps0_2, hostOps0_3, hostOps0_4, List.flatten_cons, List.flatten_nil, List.append_nil,
    List.cons_append, List.nil_append]
  entry_read
  rfl

theorem block1 (c : Dev nD) (t : Fin cfg0.N) : iblk m c 1 t = V m c main_v7 := by
  blk_ext! [iblk, idx t]

theorem block2 (c : Dev nD) (t : Fin cfg0.N) : iblk m c 2 t = V m c main_v8 := by
  blk_ext! [iblk, idx t]

theorem block3 (c : Dev nD) (t : Fin cfg0.N) : iblk m c 3 t = V m c main_v9 := by
  blk_ext! [iblk, idx t]

theorem block4 (c : Dev nD) (t : Fin cfg0.N) : iblk m c 4 t = V m c main_v10 := by
  blk_ext! [iblk, idx t]

theorem block5 (c : Dev nD) (t : Fin cfg0.N) : iblk m c 5 t = V m c main_v5 := by
  blk_ext! [iblk, idx t]

theorem block0 (c : Dev nD) (t : Fin cfg0.N) (r : Fin 512) (k : Fin 1024) (q : Fin 16384) (h : q.val = t.val * 512 + r.val) :
    (iblk m c 0 t : FVec Ideal S512x1024 .f32) (ix2 r k) = (V m c main_v6 : FVec Ideal S16384x1024 .f32) (ix2 q k) := by
  blk_ext [iblk, idx t]

theorem flat_at (X : FVec Ideal S8x2048x1024 .f32) (q : Fin 16384) (k : Fin 1024) (p : Fin 8) (s : Fin 2048)
    (h : q.val = p.val * 2048 + s.val) :
    shapeCast S16384x1024 X shapeCasts_S8x2048x1024_S16384x1024 (ix2 q k) = X (ix3 p s k) := by
  pointwise
  have hp : q.val / 2048 = p.val := by omega
  have hs : q.val % 2048 = s.val := by omega
  simp only [hp, hs]

theorem rows_at (c : Dev nD) (t : Fin cfg0.N) (r : Fin 512) (k : Fin 1024) (p : Fin 8) (s : Fin 2048)
    (h : t.val * 512 + r.val = p.val * 2048 + s.val) :
    (iblk m c 0 t : FVec Ideal S512x1024 .f32) (ix2 r k) = inX m c (ix3 p s k) :=
  (block0 m c t r k ⟨t.val * 512 + r.val, by omega⟩ rfl).trans
    ((congrFun (host6 m c) _).trans (flat_at (inX m c) _ k p s h))

theorem scale_at (c : Dev nD) (t : Fin cfg0.N) (k : Fin 1024) :
    (iblk m c 1 t : FVec Ideal S1x1024 .f32) (ix2 0 k) = inG m c (ix1 k) := by
  rw [block1, host7]
  pointwise

theorem main_at (c : Dev nD) (t : Fin cfg0.N) (k : Fin 1024) (j : Fin 2048) :
    (iblk m c 2 t : FVec Ideal S1024x2048 .bf16) (ix2 k j) = inW m c (ix2 k ⟨j.val, by omega⟩) := by
  rw [block2, host8]
  pointwise

theorem forget_at (c : Dev nD) (t : Fin cfg0.N) (k : Fin 1024) (j : Fin 8) :
    (iblk m c 3 t : FVec Ideal S1024x128 .bf16) (ix2 k ⟨j.val, by omega⟩) = inW m c (ix2 k ⟨2048 + j.val, by omega⟩) := by
  rw [block3, host9]
  pointwise

theorem gate_at (c : Dev nD) (t : Fin cfg0.N) (k : Fin 1024) (j : Fin 2048) :
    (iblk m c 4 t : FVec Ideal S1024x2048 .bf16) (ix2 k j) = inW m c (ix2 k ⟨2056 + j.val, by omega⟩) := by
  rw [block4, host10]
  pointwise

theorem bias_at (c : Dev nD) (t : Fin cfg0.N) (j : Fin 8) :
    (iblk m c 5 t : FVec Ideal S1x128 .f32) (ix2 0 ⟨j.val, by omega⟩) = inB m c (ix1 j) := by
  rw [block5, host5]
  pointwise

section Body

variable {P0 : FVec Ideal S512x1024 .f32} {P1 : FVec Ideal S1x1024 .f32} {P2 : FVec Ideal S1024x2048 .bf16}
variable {x : FVec Ideal Cert.Reference2Ideal.S8x2048x1024 .f32} {g : FVec Ideal Cert.Reference2Ideal.S1024 .f32}
variable {w : FVec Ideal Cert.Reference2Ideal.S1024x4104 .f32} {b : FVec Ideal Cert.Reference2Ideal.S8 .f32}
variable {p : Fin 8} {s : Fin 2048} {r : Fin 512}

theorem hidden_at (h0 : ∀ k, P0 (ix2 r k) = x (ix3 p s k)) (h1 : ∀ k, P1 (ix2 0 k) = g (ix1 k)) (k : Fin 1024) :
    k0_pay2 (F := Ideal) P0 P1 (ix2 r k) = normRow x g p s k := by
  pointwise [k0_pay2, normRow]
  simp only [h0, h1]

theorem proj_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 2048) :
    k0_pay3 (F := Ideal) P0 P1 P2 (ix2 r j) = projCol x g w p s ⟨j.val, by omega⟩ := by
  pointwise [k0_pay3, projCol]
  exact Finset.sum_congr rfl fun k _ => congrArg₂ (· * ·) (hidden_at h0 h1 k) (h2 k j)

theorem logForget_at {H : FVec Ideal S512x1024 .bf16} {P3 : FVec Ideal S1024x128 .bf16} {P5 : FVec Ideal S1x128 .f32}
    (h0 : ∀ k, H (ix2 r k) = normRow x g p s k)
    (h3 : ∀ (k : Fin 1024) (j : Fin 8), P3 (ix2 k ⟨j.val, by omega⟩) = w (ix2 k ⟨2048 + j.val, by omega⟩))
    (h5 : ∀ j : Fin 8, P5 (ix2 0 ⟨j.val, by omega⟩) = b (ix1 j)) (j : Fin 8) :
    k0_pay13 (F := Ideal) H P3 P5 (ix3 0 j r) = logSigmoid (projCol x g w p s ⟨2048 + j.val, by omega⟩ + b (ix1 j)) := by
  have hz : (∑ k : Fin 1024, (H (ix2 r k) : EReal) * P3 (ix2 k ⟨j.val, by omega⟩)) + P5 (ix2 0 ⟨j.val, by omega⟩)
      = projCol x g w p s ⟨2048 + j.val, by omega⟩ + b (ix1 j) :=
    congrArg₂ (· + ·) (Finset.sum_congr rfl fun k _ => congrArg₂ (· * ·) (h0 k) (h3 k j)) (h5 j)
  rw [← hz]
  pointwise [k0_pay13, logSigmoid]
  rw [zero_sub]
  rfl

theorem outGate_at {H : FVec Ideal S512x1024 .bf16} {P4 : FVec Ideal S1024x2048 .bf16}
    (h0 : ∀ k, H (ix2 r k) = normRow x g p s k)
    (h4 : ∀ (k : Fin 1024) (j : Fin 2048), P4 (ix2 k j) = w (ix2 k ⟨2056 + j.val, by omega⟩)) (j : Fin 2048) :
    k0_pay1 (F := Ideal) (k0_pay14 (F := Ideal) H P4) (ix2 r j) = sigmoid (projCol x g w p s ⟨2056 + j.val, by omega⟩) := by
  have hz : (∑ k : Fin 1024, (H (ix2 r k) : EReal) * P4 (ix2 k j)) = projCol x g w p s ⟨2056 + j.val, by omega⟩ :=
    Finset.sum_congr rfl fun k _ => congrArg₂ (· * ·) (h0 k) (h4 k j)
  rw [← hz]
  pointwise [k0_pay1, k0_pay14, sigmoid]
  rw [zero_sub]

theorem first_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay4 (F := Ideal) P0 P1 P2 (ix2 r j) = projCol x g w p s ⟨j.val, by omega⟩ := by
  pointwise [k0_pay4]
  exact proj_at h0 h1 h2 _

theorem query_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay5 (F := Ideal) P0 P1 P2 (ix2 r j) = projCol x g w p s ⟨512 + j.val, by omega⟩ * Ideal.ofBits .f32 0x3E000000#32 := by
  pointwise [k0_pay5]
  exact congrArg (· * _) (proj_at h0 h1 h2 _)

theorem key_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay6 (F := Ideal) P0 P1 P2 (ix2 r j) = projCol x g w p s ⟨1024 + j.val, by omega⟩ := by
  pointwise [k0_pay6]
  exact proj_at h0 h1 h2 _

theorem value_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay7 (F := Ideal) P0 P1 P2 (ix2 r j) = projCol x g w p s ⟨1536 + j.val, by omega⟩ := by
  pointwise [k0_pay7]
  exact proj_at h0 h1 h2 _

theorem keyT_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay8 (F := Ideal) P0 P1 P2 (ix3 0 j r) = projCol x g w p s ⟨1024 + j.val, by omega⟩ := by
  pointwise [k0_pay8]
  exact key_at h0 h1 h2 _

theorem valueT_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay10 (F := Ideal) (k0_pay9 (F := Ideal) P0 P1 P2) (ix3 0 j r) = projCol x g w p s ⟨1536 + j.val, by omega⟩ := by
  pointwise [k0_pay10, k0_pay9]
  exact value_at h0 h1 h2 _

end Body

end Cert.Proof.PromptKernel
-- ==== Proof.PromptValue.lean ====
/-
  The eight arrays the prompt's projection call leaves, each as one function of the arguments: at every grid point the value
  written is the reference's at the same place, and the points' blocks cover each array.
-/
module

public import proofs.«01_k».proof.Proof.PromptKernel

@[expose] public section

set_option maxRecDepth 16384

noncomputable section

namespace Cert.Proof.PromptValue

open Cert.Kernel2Ideal Cert.Kernel2Ideal.Gen Idealize.ShloMosaic Idealize.ShloMosaic.TcCoe
open Idealize.ShloMosaic.Pipeline (Dat)
open Cert.Proof.Logistic Cert.Proof.PromptReference Cert.Proof.PromptKernel

variable (m : (ℓ : Loc nD τ sig) → Buf (Elt Ideal) ℓ)

theorem pointU (c : Dev nD) (t : Fin cfg0.N) (y : S512x512.Idx) :
    k0_pay4 (F := Ideal) (iblk m c 0 t) (iblk m c 1 t) (iblk m c 2 t) y = outU (inX m c) (inG m c) (inW m c) (((cfg0.win 6).blk t).view.emb y) := by
  idx_vars y
  have ht : t.val < 32 := t.isLt
  have he : ((cfg0.win 6).blk t).view.emb (ix2 y0 y1) = ix2 ⟨t.val * 512 + y0.val, by omega⟩ y1 := by
    blk_ext [idx t]
  exact ((first_at (fun k => rows_at m c t y0 k _ _ (by show t.val * 512 + y0.val = (t.val * 512 + y0.val) / 2048 * 2048 + (t.val * 512 + y0.val) % 2048; omega)) (fun k => scale_at m c t k) (fun k i => main_at m c t k i) y1).trans (outU_apply (inX m c) (inG m c) (inW m c) _ y1).symm).trans (congrArg _ he.symm)

set_option maxHeartbeats 2000000 in
theorem finalU (c : Dev nD) : (dats m 0 c).arrAt 6 cfg0.N = outU (inX m c) (inG m c) (inW m c) := by
  refine (dats m 0 c).arrAt_eq_of_covers 6 _ (by decide +kernel) fun t _ y => ?_
  blk_simp
  rw [after0_6]
  frame_out
  exact pointU m c t y

theorem pointQ (c : Dev nD) (t : Fin cfg0.N) (y : S512x512.Idx) :
    k0_pay5 (F := Ideal) (iblk m c 0 t) (iblk m c 1 t) (iblk m c 2 t) y = outQ (inX m c) (inG m c) (inW m c) (((cfg0.win 7).blk t).view.emb y) := by
  idx_vars y
  have ht : t.val < 32 := t.isLt
  have he : ((cfg0.win 7).blk t).view.emb (ix2 y0 y1) = ix2 ⟨t.val * 512 + y0.val, by omega⟩ y1 := by
    blk_ext [idx t]
  exact ((query_at (fun k => rows_at m c t y0 k _ _ (by show t.val * 512 + y0.val = (t.val * 512 + y0.val) / 2048 * 2048 + (t.val * 512 + y0.val) % 2048; omega)) (fun k => scale_at m c t k) (fun k i => main_at m c t k i) y1).trans (outQ_apply (inX m c) (inG m c) (inW m c) _ y1).symm).trans (congrArg _ he.symm)

set_option maxHeartbeats 2000000 in
theorem finalQ (c : Dev nD) : (dats m 0 c).arrAt 7 cfg0.N = outQ (inX m c) (inG m c) (inW m c) := by
  refine (dats m 0 c).arrAt_eq_of_covers 7 _ (by decide +kernel) fun t _ y => ?_
  blk_simp
  rw [after0_7]
  frame_out
  exact pointQ m c t y

theorem pointK (c : Dev nD) (t : Fin cfg0.N) (y : S512x512.Idx) :
    k0_pay11 (F := Ideal) (k0_pay6 (F := Ideal) (iblk m c 0 t) (iblk m c 1 t) (iblk m c 2 t)) y = outK (inX m c) (inG m c) (inW m c) (((cfg0.win 10).blk t).view.emb y) := by
  idx_vars y
  have ht : t.val < 32 := t.isLt
  have he : ((cfg0.win 10).blk t).view.emb (ix2 y0 y1) = ix2 ⟨t.val * 512 + y0.val, by omega⟩ y1 := by
    blk_ext [idx t]
  exact ((key_at (fun k => rows_at m c t y0 k _ _ (by show t.val * 512 + y0.val = (t.val * 512 + y0.val) / 2048 * 2048 + (t.val * 512 + y0.val) % 2048; omega)) (fun k => scale_at m c t k) (fun k i => main_at m c t k i) y1).trans (outK_apply (inX m c) (inG m c) (inW m c) _ y1).symm).trans (congrArg _ he.symm)

set_option maxHeartbeats 2000000 in
theorem finalK (c : Dev nD) : (dats m 0 c).arrAt 10 cfg0.N = outK (inX m c) (inG m c) (inW m c) := by
  refine (dats m 0 c).arrAt_eq_of_covers 10 _ (by decide +kernel) fun t _ y => ?_
  blk_simp
  rw [after0_10]
  frame_out
  exact pointK m c t y

theorem pointV (c : Dev nD) (t : Fin cfg0.N) (y : S512x512.Idx) :
    k0_pay12 (F := Ideal) (k0_pay7 (F := Ideal) (iblk m c 0 t) (iblk m c 1 t) (iblk m c 2 t)) y = outV (inX m c) (inG m c) (inW m c) (((cfg0.win 11).blk t).view.emb y) := by
  idx_vars y
  have ht : t.val < 32 := t.isLt
  have he : ((cfg0.win 11).blk t).view.emb (ix2 y0 y1) = ix2 ⟨t.val * 512 + y0.val, by omega⟩ y1 := by
    blk_ext [idx t]
  exact ((value_at (fun k => rows_at m c t y0 k _ _ (by show t.val * 512 + y0.val = (t.val * 512 + y0.val) / 2048 * 2048 + (t.val * 512 + y0.val) % 2048; omega)) (fun k => scale_at m c t k) (fun k i => main_at m c t k i) y1).trans (outV_apply (inX m c) (inG m c) (inW m c) _ y1).symm).trans (congrArg _ he.symm)

set_option maxHeartbeats 2000000 in
theorem finalV (c : Dev nD) : (dats m 0 c).arrAt 11 cfg0.N = outV (inX m c) (inG m c) (inW m c) := by
  refine (dats m 0 c).arrAt_eq_of_covers 11 _ (by decide +kernel) fun t _ y => ?_
  blk_simp
  rw [after0_11]
  frame_out
  exact pointV m c t y

theorem pointG (c : Dev nD) (t : Fin cfg0.N) (y : S512x2048.Idx) :
    k0_pay1 (F := Ideal) (k0_pay14 (F := Ideal) (k0_pay2 (F := Ideal) (iblk m c 0 t) (iblk m c 1 t)) (iblk m c 4 t)) y = outG (inX m c) (inG m c) (inW m c) (((cfg0.win 13).blk t).view.emb y) := by
  idx_vars y
  have ht : t.val < 32 := t.isLt
  have he : ((cfg0.win 13).blk t).view.emb (ix2 y0 y1) = ix2 ⟨t.val * 512 + y0.val, by omega⟩ y1 := by
    blk_ext [idx t]
  exact ((outGate_at (fun k => hidden_at (fun k => rows_at m c t y0 k _ _ (by show t.val * 512 + y0.val = (t.val * 512 + y0.val) / 2048 * 2048 + (t.val * 512 + y0.val) % 2048; omega)) (fun k => scale_at m c t k) k) (fun k i => gate_at m c t k i) y1).trans (outG_apply (inX m c) (inG m c) (inW m c) _ y1).symm).trans (congrArg _ he.symm)

set_option maxHeartbeats 2000000 in
theorem finalG (c : Dev nD) : (dats m 0 c).arrAt 13 cfg0.N = outG (inX m c) (inG m c) (inW m c) := by
  refine (dats m 0 c).arrAt_eq_of_covers 13 _ (by decide +kernel) fun t _ y => ?_
  blk_simp
  rw [after0_13]
  unfold_out out0_13
  frame_out
  exact pointG m c t y

theorem pointKT (c : Dev nD) (t : Fin cfg0.N) (y : S1x512x512.Idx) :
    k0_pay8 (F := Ideal) (iblk m c 0 t) (iblk m c 1 t) (iblk m c 2 t) y = outKT (inX m c) (inG m c) (inW m c) (((cfg0.win 8).blk t).view.emb y) := by
  idx_vars y
  obtain rfl : y0 = 0 := Subsingleton.elim _ _
  have ht : t.val < 32 := t.isLt
  have he : ((cfg0.win 8).blk t).view.emb (ix3 0 y1 y2) = ix3 ⟨t.val / 4, by omega⟩ y1 ⟨t.val % 4 * 512 + y2.val, by omega⟩ := by
    blk_ext [idx t]
  exact ((keyT_at (fun k => rows_at m c t y2 k _ _ (by show t.val * 512 + y2.val = t.val / 4 * 2048 + (t.val % 4 * 512 + y2.val); omega)) (fun k => scale_at m c t k) (fun k i => main_at m c t k i) y1).trans (outKT_apply (inX m c) (inG m c) (inW m c) _ y1 _).symm).trans (congrArg _ he.symm)

set_option maxHeartbeats 2000000 in
theorem finalKT (c : Dev nD) : (dats m 0 c).arrAt 8 cfg0.N = outKT (inX m c) (inG m c) (inW m c) := by
  refine (dats m 0 c).arrAt_eq_of_covers 8 _ (by decide +kernel) fun t _ y => ?_
  blk_simp
  rw [after0_8]
  frame_out
  exact pointKT m c t y

theorem pointVT (c : Dev nD) (t : Fin cfg0.N) (y : S1x512x512.Idx) :
    k0_pay10 (F := Ideal) (k0_pay9 (F := Ideal) (iblk m c 0 t) (iblk m c 1 t) (iblk m c 2 t)) y = outVT (inX m c) (inG m c) (inW m c) (((cfg0.win 9).blk t).view.emb y) := by
  idx_vars y
  obtain rfl : y0 = 0 := Subsingleton.elim _ _
  have ht : t.val < 32 := t.isLt
  have he : ((cfg0.win 9).blk t).view.emb (ix3 0 y1 y2) = ix3 ⟨t.val / 4, by omega⟩ y1 ⟨t.val % 4 * 512 + y2.val, by omega⟩ := by
    blk_ext [idx t]
  exact ((valueT_at (fun k => rows_at m c t y2 k _ _ (by show t.val * 512 + y2.val = t.val / 4 * 2048 + (t.val % 4 * 512 + y2.val); omega)) (fun k => scale_at m c t k) (fun k i => main_at m c t k i) y1).trans (outVT_apply (inX m c) (inG m c) (inW m c) _ y1 _).symm).trans (congrArg _ he.symm)

set_option maxHeartbeats 2000000 in
theorem finalVT (c : Dev nD) : (dats m 0 c).arrAt 9 cfg0.N = outVT (inX m c) (inG m c) (inW m c) := by
  refine (dats m 0 c).arrAt_eq_of_covers 9 _ (by decide +kernel) fun t _ y => ?_
  blk_simp
  rw [after0_9]
  frame_out
  exact pointVT m c t y

theorem pointF (c : Dev nD) (t : Fin cfg0.N) (y : S1x8x512.Idx) :
    k0_pay13 (F := Ideal) (k0_pay2 (F := Ideal) (iblk m c 0 t) (iblk m c 1 t)) (iblk m c 3 t) (iblk m c 5 t) y = outF (inX m c) (inG m c) (inW m c) (inB m c) (((cfg0.win 12).blk t).view.emb y) := by
  idx_vars y
  obtain rfl : y0 = 0 := Subsingleton.elim _ _
  have ht : t.val < 32 := t.isLt
  have he : ((cfg0.win 12).blk t).view.emb (ix3 0 y1 y2) = ix3 ⟨t.val / 4, by omega⟩ y1 ⟨t.val % 4 * 512 + y2.val, by omega⟩ := by
    blk_ext [idx t]
  exact ((logForget_at (fun k => hidden_at (fun k => rows_at m c t y2 k _ _ (by show t.val * 512 + y2.val = t.val / 4 * 2048 + (t.val % 4 * 512 + y2.val); omega)) (fun k => scale_at m c t k) k) (fun k i => forget_at m c t k i) (fun i => bias_at m c t i) y1).trans (outF_apply (inX m c) (inG m c) (inW m c) (inB m c) _ y1 _).symm).trans (congrArg _ he.symm)

set_option maxHeartbeats 2000000 in
theorem finalF (c : Dev nD) : (dats m 0 c).arrAt 12 cfg0.N = outF (inX m c) (inG m c) (inW m c) (inB m c) := by
  refine (dats m 0 c).arrAt_eq_of_covers 12 _ (by decide +kernel) fun t _ y => ?_
  blk_simp
  rw [after0_12]
  unfold_out out0_12
  frame_out
  exact pointF m c t y

end Cert.Proof.PromptValue
-- ==== Proof.PromptClaim.lean ====
/-
  The claims on the prompt's projections: the call and the reference end with the same eight arrays, and each leaves its
  arguments as they were.
-/
module

public import proofs.«01_k».proof.Defs
public import proofs.«01_k».proof.Proof.PromptValue
public import proofs.«01_k».proof.Proof.Gen.Kernel2.Frame
public import Idealize.ShloMosaic.Adequacy
public import Idealize.ShloMosaic.Init

@[expose] public section

noncomputable section

namespace Cert.Proof.PromptClaim

open Idealize.ShloMosaic Idealize.ShloMosaic.TcCoe Idealize.SL.Sem
open Cert.Proof.PromptReference Cert.Proof.PromptKernel Cert.Proof.PromptValue

theorem frame_bits : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono
    (fun r h => ⟨fun c => (h c).2.2.2.2.2.2.2.2, sem_eq_zero_of_no_sems (by decide) r.2⟩)
    (Cert.Reference2Ideal.Value.run (F := Ideal) m ρ)

/-- The reference's run, each result as one function of the arguments. -/
theorem run_reference (m : (ℓ : Loc Cert.Reference2Ideal.nD Cert.Reference2Ideal.τ Cert.Reference2Ideal.sig) → Buf (Elt Ideal) ℓ)
    (ρ : Dev Cert.Reference2Ideal.nD → PrngReg) (x : FVec Ideal Cert.Reference2Ideal.S8x2048x1024 .f32)
    (g : FVec Ideal Cert.Reference2Ideal.S1024 .f32) (w : FVec Ideal Cert.Reference2Ideal.S1024x4104 .f32)
    (b : FVec Ideal Cert.Reference2Ideal.S8 .f32)
    (hx : ∀ c : Dev Cert.Reference2Ideal.nD, m (c.tc.loc Cert.Reference2Ideal.main_arg0) = x)
    (hg : ∀ c : Dev Cert.Reference2Ideal.nD, m (c.tc.loc Cert.Reference2Ideal.main_arg1) = g)
    (hw : ∀ c : Dev Cert.Reference2Ideal.nD, m (c.tc.loc Cert.Reference2Ideal.main_arg2) = w)
    (hb : ∀ c : Dev Cert.Reference2Ideal.nD, m (c.tc.loc Cert.Reference2Ideal.main_arg3) = b) :
    θ_run Cert.Reference2Ideal.defs (onTc (τ := Cert.Reference2Ideal.τ) (Cert.Reference2Ideal.main (F := Ideal))) ⟨m, fun _ => 0, ρ⟩
      fun r => ∀ c : Dev Cert.Reference2Ideal.nD,
        r.2.mem (c.tc.loc Cert.Reference2Ideal.main_v24) = outU x g w
        ∧ r.2.mem (c.tc.loc Cert.Reference2Ideal.main_v28) = outQ x g w
        ∧ r.2.mem (c.tc.loc Cert.Reference2Ideal.main_v29) = outKT x g w
        ∧ r.2.mem (c.tc.loc Cert.Reference2Ideal.main_v30) = outVT x g w
        ∧ r.2.mem (c.tc.loc Cert.Reference2Ideal.main_v32) = outK x g w
        ∧ r.2.mem (c.tc.loc Cert.Reference2Ideal.main_v34) = outV x g w
        ∧ r.2.mem (c.tc.loc Cert.Reference2Ideal.main_v35) = outF x g w b
        ∧ r.2.mem (c.tc.loc Cert.Reference2Ideal.main_v43) = outG x g w
        ∧ r.2.mem (c.tc.loc Cert.Reference2Ideal.main_arg0) = m (c.tc.loc Cert.Reference2Ideal.main_arg0)
        ∧ r.2.mem (c.tc.loc Cert.Reference2Ideal.main_arg1) = m (c.tc.loc Cert.Reference2Ideal.main_arg1)
        ∧ r.2.mem (c.tc.loc Cert.Reference2Ideal.main_arg2) = m (c.tc.loc Cert.Reference2Ideal.main_arg2)
        ∧ r.2.mem (c.tc.loc Cert.Reference2Ideal.main_arg3) = m (c.tc.loc Cert.Reference2Ideal.main_arg3) := by
  refine (θ_run Cert.Reference2Ideal.defs _ _).mono (fun r h c => ?_) (Cert.Reference2Ideal.Value.run (F := Ideal) m ρ)
  obtain ⟨h0, h1, h2, h3, h4, h5, h6, h7, hk⟩ := h c
  obtain rfl := hx c
  obtain rfl := hg c
  obtain rfl := hw c
  obtain rfl := hb c
  exact ⟨h0, h1, h2, h3, h4, h5, h6, h7, hk⟩

theorem value : Cert.algebraic_Kernel2Ideal_Reference2Ideal := by
  intro m ρ m' ρ' _ hag
  refine ⟨fun c => outU (inX m c) (inG m c) (inW m c), fun c => outQ (inX m c) (inG m c) (inW m c),
    fun c => outKT (inX m c) (inG m c) (inW m c), fun c => outVT (inX m c) (inG m c) (inW m c),
    fun c => outK (inX m c) (inG m c) (inW m c), fun c => outV (inX m c) (inG m c) (inW m c),
    fun c => outF (inX m c) (inG m c) (inW m c) (inB m c), fun c => outG (inX m c) (inG m c) (inW m c), ?_, ?_⟩
  · refine (θ_run Cert.Kernel2Ideal.defs _ _).mono (fun r h c => ?_) (Cert.Kernel2Ideal.Value.run_blocks (F := Ideal) m ρ)
    obtain ⟨h0, h1, h2, h3, h4, h5, h6, h7, hk⟩ := h c
    exact ⟨h0.trans (finalU m c), h1.trans (finalQ m c), h2.trans (finalKT m c), h3.trans (finalVT m c),
      h4.trans (finalK m c), h5.trans (finalV m c), h6.trans (finalF m c), h7.trans (finalG m c), hk⟩
  · have one : ∀ c : Dev Cert.Reference2Ideal.nD, c = 0 := fun c => Subsingleton.elim _ _
    refine (θ_run Cert.Reference2Ideal.defs _ _).mono (fun r h c => ?_)
      (run_reference m' ρ' (inX m 0) (inG m 0) (inW m 0) (inB m 0) (fun c => by rw [one c]; exact (hag 0).1)
        (fun c => by rw [one c]; exact (hag 0).2.1) (fun c => by rw [one c]; exact (hag 0).2.2.1)
        (fun c => by rw [one c]; exact (hag 0).2.2.2))
    obtain rfl := one c
    exact h 0

end Cert.Proof.PromptClaim
-- ==== Proof.SampleReference.lean ====
/-
  The reference of the sampled tokens' projections read at one element: `normRow` is one entry of a normalised row, `projCol`
  one entry of its product with the weights, `forget` one forget gate before its logarithm, zero past the eighth column.
-/
module

public import proofs.«01_k».proof.Proof.Gen.Reference3Ideal.Run
public import proofs.«01_k».proof.Proof.Logistic
public import Idealize.ShloMosaic.Lib.Pointwise

@[expose] public section

set_option maxRecDepth 16384

noncomputable section

namespace Cert.Proof.SampleReference

open Cert.Reference3Ideal Cert.Reference3Ideal.Gen Idealize.ShloMosaic Cert.Proof.Logistic

/-- Entry `k` of token `r`'s row after normalisation. -/
def normRow (x : FVec Ideal S32x1x1024 .f32) (g : FVec Ideal S1024 .f32) (r : Fin 32) (k : Fin 1024) : EReal :=
  (x (ix3 r 0 k) : EReal) * Ideal.rsqrt (Ideal.div (∑ l : Fin 1024, (x (ix3 r 0 l) : EReal) * x (ix3 r 0 l))
    (Ideal.ofBits .f32 0x44800000#32) + Ideal.ofBits .f32 0x358637BD#32) * g (ix1 k)

/-- Column `j` of token `r`'s projected row. -/
def projCol (x : FVec Ideal S32x1x1024 .f32) (g : FVec Ideal S1024 .f32) (w : FVec Ideal S1024x4104 .f32) (r : Fin 32) (j : Fin 4104) : EReal :=
  ∑ k : Fin 1024, normRow x g r k * w (ix2 k j)

/-- Forget gate `j` of token `r` before its logarithm. -/
def forget (x : FVec Ideal S32x1x1024 .f32) (g : FVec Ideal S1024 .f32) (w : FVec Ideal S1024x4104 .f32) (b : FVec Ideal S8 .f32) (r : Fin 32) (j : Fin 128) : EReal :=
  if h : j.val < 8 then projCol x g w r ⟨2048 + j.val, by omega⟩ + b (ix1 ⟨j.val, h⟩) else 0

/-- The normalised rows. -/
def normed (x : FVec Ideal S32x1x1024 .f32) (g : FVec Ideal S1024 .f32) : FVec Ideal S32x1024 .f32 :=
  mulf (mulf (shapeCast S32x1024 x shapeCasts_S32x1x1024_S32x1024) (broadcastInDim S32x1024 ![0, 1] bcast_S32x1_S32x1024_0_1 (Host.rsqrt (addf (Host.divf (broadcastInDim S32x1 ![0] bcast_S32_S32x1_0 (Host.reduceAdd (mulf (shapeCast S32x1024 x shapeCasts_S32x1x1024_S32x1024) (shapeCast S32x1024 x shapeCasts_S32x1x1024_S32x1024)) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 g))

/-- The projected rows. -/
def projected (x : FVec Ideal S32x1x1024 .f32) (g : FVec Ideal S1024 .f32) (w : FVec Ideal S1024x4104 .f32) : FVec Ideal S32x4104 .f32 :=
  Host.dotGeneral dot_S32x1024_S1024x4104_S32x4104_1_0_0_1_n_n none (normed x g) w

/-- The forget gates before the logarithm, with the columns past the eighth. -/
def padded (x : FVec Ideal S32x1x1024 .f32) (g : FVec Ideal S1024 .f32) (w : FVec Ideal S1024x4104 .f32) (b : FVec Ideal S8 .f32) : FVec Ideal S32x128 .f32 :=
  pad S32x128 ![0, 0] ![0, 120] ![0, 0] (addf (extractStridedSlice S32x8 ![0, 2048] (projected x g w) slices_S32x4104_S32x8_0_2048) (broadcastInDim S32x8 ![0, 1] bcast_S1x8_S32x8_0_1 (broadcastInDim S1x8 ![1] bcast_S8_S1x8_1 b))) (sitofp .f32 (constantI S_ 32 0#32)) pads_S32x8_S32x128_000_01200 h_S_

/-- The first 2048 columns of the projected rows. -/
def outZ (x : FVec Ideal S32x1x1024 .f32) (g : FVec Ideal S1024 .f32) (w : FVec Ideal S1024x4104 .f32) : FVec Ideal S32x2048 .f32 :=
  extractStridedSlice S32x2048 ![0, 0] (projected x g w) slices_S32x4104_S32x2048_0_0

/-- The logarithms of the forget gates. -/
def outF (x : FVec Ideal S32x1x1024 .f32) (g : FVec Ideal S1024 .f32) (w : FVec Ideal S1024x4104 .f32) (b : FVec Ideal S8 .f32) : FVec Ideal S32x128 .f32 :=
  Host.negf (select (cmpf .une (subf (Host.negf (padded x g w b)) (broadcastInDim S32x128 ![] bcast_S_S32x128 (constant S_ .f32 0x00000000#32))) (subf (Host.negf (padded x g w b)) (broadcastInDim S32x128 ![] bcast_S_S32x128 (constant S_ .f32 0x00000000#32)))) (addf (Host.negf (padded x g w b)) (broadcastInDim S32x128 ![] bcast_S_S32x128 (constant S_ .f32 0x00000000#32))) (addf (maximumf (Host.negf (padded x g w b)) (broadcastInDim S32x128 ![] bcast_S_S32x128 (constant S_ .f32 0x00000000#32))) (Host.log1p (Host.exp (Host.negf (Host.absf (subf (Host.negf (padded x g w b)) (broadcastInDim S32x128 ![] bcast_S_S32x128 (constant S_ .f32 0x00000000#32)))))))))

/-- The output gates. -/
def outG (x : FVec Ideal S32x1x1024 .f32) (g : FVec Ideal S1024 .f32) (w : FVec Ideal S1024x4104 .f32) : FVec Ideal S32x2048 .f32 :=
  Host.divf (broadcastInDim S32x2048 ![] bcast_S_S32x2048 (constant S_ .f32 0x3F800000#32)) (addf (broadcastInDim S32x2048 ![] bcast_S_S32x2048 (constant S_ .f32 0x3F800000#32)) (Host.exp (Host.negf (extractStridedSlice S32x2048 ![0, 2056] (projected x g w) slices_S32x4104_S32x2048_0_2056))))

theorem normed_apply (x : FVec Ideal S32x1x1024 .f32) (g : FVec Ideal S1024 .f32) (r : Fin 32) (k : Fin 1024) :
    normed x g (ix2 r k) = normRow x g r k := by
  pointwise [normed, normRow]

theorem projected_apply (x : FVec Ideal S32x1x1024 .f32) (g : FVec Ideal S1024 .f32) (w : FVec Ideal S1024x4104 .f32) (r : Fin 32) (j : Fin 4104) : projected x g w (ix2 r j) = projCol x g w r j := by
  pointwise [projected, projCol]
  exact Finset.sum_congr rfl fun k _ => congrArg (· * _) (normed_apply x g r k)

theorem outZ_apply (x : FVec Ideal S32x1x1024 .f32) (g : FVec Ideal S1024 .f32) (w : FVec Ideal S1024x4104 .f32) (r : Fin 32) (j : Fin 2048) : outZ x g w (ix2 r j) = projCol x g w r ⟨j.val, by omega⟩ := by
  pointwise [outZ]
  exact projected_apply x g w _ _

theorem outG_apply (x : FVec Ideal S32x1x1024 .f32) (g : FVec Ideal S1024 .f32) (w : FVec Ideal S1024x4104 .f32) (r : Fin 32) (j : Fin 2048) :
    outG x g w (ix2 r j) = sigmoid (projCol x g w r ⟨2056 + j.val, by omega⟩) := by
  rw [← projected_apply]
  pointwise [outG, sigmoid]

theorem sitofp_zero : (FloatOps.sitofp (F := Ideal) FTy.f32 (0#32) : EReal) = 0 := by
  show (((0#32 : BitVec 32).toInt : ℝ) : EReal) = 0
  norm_num

theorem padded_apply (x : FVec Ideal S32x1x1024 .f32) (g : FVec Ideal S1024 .f32) (w : FVec Ideal S1024x4104 .f32) (b : FVec Ideal S8 .f32) (r : Fin 32) (j : Fin 128) :
    padded x g w b (ix2 r j) = forget x g w b r j := by
  pointwise [padded, forget]
  split
  · exact congrArg (· + _) (projected_apply x g w _ _)
  · exact sitofp_zero

theorem outF_apply (x : FVec Ideal S32x1x1024 .f32) (g : FVec Ideal S1024 .f32) (w : FVec Ideal S1024x4104 .f32) (b : FVec Ideal S8 .f32) (r : Fin 32) (j : Fin 128) :
    outF x g w b (ix2 r j) = logSigmoid (forget x g w b r j) := by
  rw [← padded_apply]
  pointwise [outF]
  generalize padded x g w b (ix2 r j) = a
  simp only [ne_eq, not_true_eq_false, if_false]
  exact neg_softplus a

end Cert.Proof.SampleReference
-- ==== Proof.SampleKernel.lean ====
/-
  The sampled tokens' projection call read at one element: what the arrays prepared by the host hold, what each grid point's
  blocks hold, and each value the body computes in terms of `normRow`, `projCol` and `forget`.
-/
module

public import proofs.«01_k».proof.Proof.SampleReference
public import proofs.«01_k».proof.Proof.Gen.Kernel3Ideal.Value
public import Idealize.ShloMosaic.Lib.Claim
public import Idealize.ShloMosaic.Lib.Pipeline.ValueKit

@[expose] public section

set_option maxRecDepth 16384

noncomputable section

namespace Cert.Proof.SampleKernel

open Cert.Kernel3Ideal Cert.Kernel3Ideal.Gen Idealize.ShloMosaic Idealize.ShloMosaic.TcCoe
open Idealize.ShloMosaic.Pipeline (Dat)
open Cert.Proof.Logistic Cert.Proof.SampleReference

variable (m : (ℓ : Loc nD τ sig) → Buf (Elt Ideal) ℓ)

/-- The block of every window at every grid point. -/
theorem idx : ∀ t : Fin cfg0.N, win0_0.index t = ![0, 0] ∧ win0_1.index t = ![0, 0] ∧ win0_2.index t = ![t.val, 0] ∧ win0_3.index t = ![0, 0] ∧ win0_4.index t = ![t.val, 0] ∧ win0_5.index t = ![0, 0] ∧ win0_6.index t = ![0, t.val] ∧ win0_7.index t = ![0, 0] ∧ win0_8.index t = ![0, t.val] :=
  (by decide +kernel : ∀ t : Fin grid0.N, _)

/-- The input rows. -/
abbrev inX (c : Dev nD) : FVec Ideal Cert.Reference3Ideal.S32x1x1024 .f32 := m (c.tc.loc main_arg0)

/-- The scale of the normalisation. -/
abbrev inG (c : Dev nD) : FVec Ideal Cert.Reference3Ideal.S1024 .f32 := m (c.tc.loc main_arg1)

/-- The projection weights. -/
abbrev inW (c : Dev nD) : FVec Ideal Cert.Reference3Ideal.S1024x4104 .f32 := m (c.tc.loc main_arg2)

/-- The forget gates' bias. -/
abbrev inB (c : Dev nD) : FVec Ideal Cert.Reference3Ideal.S8 .f32 := m (c.tc.loc main_arg3)

theorem host7 (c : Dev nD) : V m c main_v7 = (shapeCast S32x1024 (inX m c : FVec Ideal S32x1x1024 .f32) shapeCasts_S32x1x1024_S32x1024 : FVec Ideal S32x1024 .f32) := by
  simp only [V, hostOps0, hostOps0_1, hostOps0_2, hostOps0_3, hostOps0_4, List.flatten_cons, List.flatten_nil, List.append_nil,
    List.cons_append, List.nil_append]
  entry_read
  rfl

theorem host8 (c : Dev nD) : V m c main_v8 = (shapeCast S1x1024 (inG m c : FVec Ideal S1024 .f32) shapeCasts_S1024_S1x1024 : FVec Ideal S1x1024 .f32) := by
  simp only [V, hostOps0, hostOps0_1, hostOps0_2, hostOps0_3, hostOps0_4, List.flatten_cons, List.flatten_nil, List.append_nil,
    List.cons_append, List.nil_append]
  entry_read
  rfl

theorem host1 (c : Dev nD) : V m c main_v1 = (extractStridedSlice S2048x1024 ![0, 0] (transpose S4104x1024 [1, 0] (inW m c : FVec Ideal S1024x4104 .f32) transposes_S1024x4104_S4104x1024_1_0) slices_S4104x1024_S2048x1024_0_0 : FVec Ideal S2048x1024 .f32) := by
  simp only [V, hostOps0, hostOps0_1, hostOps0_2, hostOps0_3, hostOps0_4, List.flatten_cons, List.flatten_nil, List.append_nil,
    List.cons_append, List.nil_append]
  entry_read
  rfl

theorem host2 (c : Dev nD) : V m c main_v2 = (extractStridedSlice S2048x1024 ![2056, 0] (transpose S4104x1024 [1, 0] (inW m c : FVec Ideal S1024x4104 .f32) transposes_S1024x4104_S4104x1024_1_0) slices_S4104x1024_S2048x1024_2056_0 : FVec Ideal S2048x1024 .f32) := by
  simp only [V, hostOps0, hostOps0_1, hostOps0_2, hostOps0_3, hostOps0_4, List.flatten_cons, List.flatten_nil, List.append_nil,
    List.cons_append, List.nil_append]
  entry_read
  rfl

theorem host4 (c : Dev nD) : V m c main_v4 = (pad S128x1024 ![0, 0] ![120, 0] ![0, 0] (extractStridedSlice S8x1024 ![2048, 0] (transpose S4104x1024 [1, 0] (inW m c : FVec Ideal S1024x4104 .f32) transposes_S1024x4104_S4104x1024_1_0) slices_S4104x1024_S8x1024_2048_0) (sitofp .f32 (constantI S_ 32 0#32)) pads_S8x1024_S128x1024_01200_000 h_S_ : FVec Ideal S128x1024 .f32) := by
  simp only [V, hostOps0, hostOps0_1, hostOps0_2, hostOps0_3, hostOps0_4, List.flatten_cons, List.flatten_nil, List.append_nil,
    List.cons_append, List.nil_append]
  entry_read
  rfl

theorem host6 (c : Dev nD) : V m c main_v6 = (shapeCast S1x128 (pad S128 ![0] ![120] ![0] (inB m c : FVec Ideal S8 .f32) (sitofp .f32 (constantI S_ 32 0#32)) pads_S8_S128_01200 h_S_) shapeCasts_S128_S1x128 : FVec Ideal S1x128 .f32) := by
  simp only [V, hostOps0, hostOps0_1, hostOps0_2, hostOps0_3, hostOps0_4, List.flatten_cons, List.flatten_nil, List.append_nil,
    List.cons_append, List.nil_append]
  entry_read
  rfl

theorem block0 (c : Dev nD) (t : Fin cfg0.N) : iblk m c 0 t = V m c main_v7 := by
  blk_ext! [iblk, idx t]

theorem block1 (c : Dev nD) (t : Fin cfg0.N) : iblk m c 1 t = V m c main_v8 := by
  blk_ext! [iblk, idx t]

theorem block3 (c : Dev nD) (t : Fin cfg0.N) : iblk m c 3 t = V m c main_v4 := by
  blk_ext! [iblk, idx t]

theorem block5 (c : Dev nD) (t : Fin cfg0.N) : iblk m c 5 t = V m c main_v6 := by
  blk_ext! [iblk, idx t]

theorem block2 (c : Dev nD) (t : Fin cfg0.N) (j : Fin 512) (k : Fin 1024) (q : Fin 2048) (h : q.val = t.val * 512 + j.val) :
    (iblk m c 2 t : FVec Ideal S512x1024 .f32) (ix2 j k) = (V m c main_v1 : FVec Ideal S2048x1024 .f32) (ix2 q k) := by
  blk_ext [iblk, idx t]

theorem block4 (c : Dev nD) (t : Fin cfg0.N) (j : Fin 512) (k : Fin 1024) (q : Fin 2048) (h : q.val = t.val * 512 + j.val) :
    (iblk m c 4 t : FVec Ideal S512x1024 .f32) (ix2 j k) = (V m c main_v2 : FVec Ideal S2048x1024 .f32) (ix2 q k) := by
  blk_ext [iblk, idx t]

theorem rows_at (c : Dev nD) (t : Fin cfg0.N) (r : Fin 32) (k : Fin 1024) :
    (iblk m c 0 t : FVec Ideal S32x1024 .f32) (ix2 r k) = inX m c (ix3 r 0 k) := by
  rw [block0, host7]
  pointwise

theorem scale_at (c : Dev nD) (t : Fin cfg0.N) (k : Fin 1024) :
    (iblk m c 1 t : FVec Ideal S1x1024 .f32) (ix2 0 k) = inG m c (ix1 k) := by
  rw [block1, host8]
  pointwise

theorem first_cols (W : FVec Ideal S1024x4104 .f32) (q : Fin 2048) (k : Fin 1024) :
    (extractStridedSlice S2048x1024 ![0, 0] (transpose S4104x1024 [1, 0] W transposes_S1024x4104_S4104x1024_1_0)
      slices_S4104x1024_S2048x1024_0_0 : FVec Ideal S2048x1024 .f32) (ix2 q k) = W (ix2 k ⟨q.val, by omega⟩) := by
  pointwise

theorem last_cols (W : FVec Ideal S1024x4104 .f32) (q : Fin 2048) (k : Fin 1024) :
    (extractStridedSlice S2048x1024 ![2056, 0] (transpose S4104x1024 [1, 0] W transposes_S1024x4104_S4104x1024_1_0)
      slices_S4104x1024_S2048x1024_2056_0 : FVec Ideal S2048x1024 .f32) (ix2 q k) = W (ix2 k ⟨2056 + q.val, by omega⟩) := by
  pointwise

theorem main_at (c : Dev nD) (t : Fin cfg0.N) (k : Fin 1024) (j : Fin 512) (q : Fin 2048) (h : q.val = t.val * 512 + j.val) :
    (iblk m c 2 t : FVec Ideal S512x1024 .f32) (ix2 j k) = inW m c (ix2 k ⟨q.val, by omega⟩) :=
  (block2 m c t j k q h).trans ((congrFun (host1 m c) _).trans (first_cols (inW m c) q k))

theorem gate_at (c : Dev nD) (t : Fin cfg0.N) (k : Fin 1024) (j : Fin 512) (q : Fin 2048) (h : q.val = t.val * 512 + j.val) :
    (iblk m c 4 t : FVec Ideal S512x1024 .f32) (ix2 j k) = inW m c (ix2 k ⟨2056 + q.val, by omega⟩) :=
  (block4 m c t j k q h).trans ((congrFun (host2 m c) _).trans (last_cols (inW m c) q k))

theorem forget_at (c : Dev nD) (t : Fin cfg0.N) (k : Fin 1024) (j : Fin 128) :
    (iblk m c 3 t : FVec Ideal S128x1024 .f32) (ix2 j k)
      = if _h : j.val < 8 then (inW m c (ix2 k ⟨2048 + j.val, by omega⟩) : EReal) else 0 := by
  rw [block3, host4]
  pointwise
  rw [sitofp_zero]

theorem bias_at (c : Dev nD) (t : Fin cfg0.N) (j : Fin 128) :
    (iblk m c 5 t : FVec Ideal S1x128 .f32) (ix2 0 j) = if h : j.val < 8 then (inB m c (ix1 ⟨j.val, h⟩) : EReal) else 0 := by
  rw [block5, host6]
  pointwise
  rw [sitofp_zero]

section Body

variable {P0 : FVec Ideal S32x1024 .f32} {P1 : FVec Ideal S1x1024 .f32} {P2 : FVec Ideal S512x1024 .f32}
variable {x : FVec Ideal Cert.Reference3Ideal.S32x1x1024 .f32} {g : FVec Ideal Cert.Reference3Ideal.S1024 .f32}
variable {w : FVec Ideal Cert.Reference3Ideal.S1024x4104 .f32} {b : FVec Ideal Cert.Reference3Ideal.S8 .f32}
variable {r : Fin 32}

theorem normRow_at (h0 : ∀ k, P0 (ix2 r k) = x (ix3 r 0 k)) (h1 : ∀ k, P1 (ix2 0 k) = g (ix1 k)) (k : Fin 1024) :
    k0_pay2 (F := Ideal) P0 P1 (ix2 r k) = normRow x g r k := by
  pointwise [k0_pay2, normRow]
  simp only [h0, h1]

theorem first_at (h0 : ∀ k, P0 (ix2 r k) = x (ix3 r 0 k)) (h1 : ∀ k, P1 (ix2 0 k) = g (ix1 k)) (j : Fin 512) (q : Fin 4104)
    (h2 : ∀ k : Fin 1024, P2 (ix2 j k) = w (ix2 k q)) :
    k0_pay3 (F := Ideal) P0 P1 P2 (ix2 r j) = projCol x g w r q := by
  pointwise [k0_pay3, projCol]
  exact Finset.sum_congr rfl fun k _ => congrArg₂ (· * ·) (normRow_at h0 h1 k) (h2 k)

theorem outGate_at {H : FVec Ideal S32x1024 .f32} {P4 : FVec Ideal S512x1024 .f32} (h0 : ∀ k, H (ix2 r k) = normRow x g r k)
    (j : Fin 512) (q : Fin 4104) (h4 : ∀ k : Fin 1024, P4 (ix2 j k) = w (ix2 k q)) :
    k0_pay1 (F := Ideal) H P4 (ix2 r j) = sigmoid (projCol x g w r q) := by
  have hz : (∑ k : Fin 1024, (H (ix2 r k) : EReal) * P4 (ix2 j k)) = projCol x g w r q :=
    Finset.sum_congr rfl fun k _ => congrArg₂ (· * ·) (h0 k) (h4 k)
  rw [← hz]
  pointwise [k0_pay1, sigmoid]
  rw [zero_sub]

theorem logForget_at {P3 : FVec Ideal S128x1024 .f32} {P5 : FVec Ideal S1x128 .f32}
    (h0 : ∀ k, P0 (ix2 r k) = x (ix3 r 0 k)) (h1 : ∀ k, P1 (ix2 0 k) = g (ix1 k)) (j : Fin 128)
    (h3 : ∀ k : Fin 1024, P3 (ix2 j k) = if _h : j.val < 8 then (w (ix2 k ⟨2048 + j.val, by omega⟩) : EReal) else 0)
    (h5 : P5 (ix2 0 j) = if h : j.val < 8 then (b (ix1 ⟨j.val, h⟩) : EReal) else 0) :
    k0_pay4 (F := Ideal) P0 P1 P3 P5 (ix2 r j) = logSigmoid (forget x g w b r j) := by
  have hz : (∑ k : Fin 1024, (k0_pay2 (F := Ideal) P0 P1 (ix2 r k) : EReal) * P3 (ix2 j k)) + P5 (ix2 0 j) = forget x g w b r j := by
    rw [forget, h5]
    by_cases h : j.val < 8
    · rw [dif_pos h, dif_pos h]
      exact congrArg (· + _) (Finset.sum_congr rfl fun k _ =>
        congrArg₂ (· * ·) (normRow_at h0 h1 k) ((h3 k).trans (dif_pos h)))
    · rw [dif_neg h, dif_neg h, add_zero]
      exact Finset.sum_eq_zero fun k _ => by rw [(h3 k).trans (dif_neg h)]; exact mul_zero _
  rw [← hz]
  pointwise [k0_pay4, logSigmoid]
  rw [zero_sub]
  rfl

end Body

end Cert.Proof.SampleKernel
-- ==== Proof.SampleValue.lean ====
/-
  The three arrays the sampled tokens' projection call leaves, each as one function of the arguments.
-/
module

public import proofs.«01_k».proof.Proof.SampleKernel

@[expose] public section

set_option maxRecDepth 16384

noncomputable section

namespace Cert.Proof.SampleValue

open Cert.Kernel3Ideal Cert.Kernel3Ideal.Gen Idealize.ShloMosaic Idealize.ShloMosaic.TcCoe
open Idealize.ShloMosaic.Pipeline (Dat)
open Cert.Proof.Logistic Cert.Proof.SampleReference Cert.Proof.SampleKernel

variable (m : (ℓ : Loc nD τ sig) → Buf (Elt Ideal) ℓ)

theorem pointZ (c : Dev nD) (t : Fin cfg0.N) (y : S32x512.Idx) :
    k0_pay3 (F := Ideal) (iblk m c 0 t) (iblk m c 1 t) (iblk m c 2 t) y = outZ (inX m c) (inG m c) (inW m c) (((cfg0.win 6).blk t).view.emb y) := by
  idx_vars y
  have ht : t.val < 4 := t.isLt
  have he : ((cfg0.win 6).blk t).view.emb (ix2 y0 y1) = ix2 y0 ⟨t.val * 512 + y1.val, by omega⟩ := by
    blk_ext [idx t]
  exact ((first_at (fun k => rows_at m c t y0 k) (fun k => scale_at m c t k) y1 _ fun k => main_at m c t k y1 ⟨t.val * 512 + y1.val, by omega⟩ rfl).trans (outZ_apply (inX m c) (inG m c) (inW m c) y0 _).symm).trans (congrArg _ he.symm)

theorem finalZ (c : Dev nD) : (dats m 0 c).arrAt 6 cfg0.N = outZ (inX m c) (inG m c) (inW m c) := by
  refine (dats m 0 c).arrAt_eq_of_covers 6 _ (by decide +kernel) fun t _ y => ?_
  blk_simp
  rw [after0_6]
  frame_out
  exact pointZ m c t y

theorem pointG (c : Dev nD) (t : Fin cfg0.N) (y : S32x512.Idx) :
    k0_pay1 (F := Ideal) (k0_pay2 (F := Ideal) (iblk m c 0 t) (iblk m c 1 t)) (iblk m c 4 t) y = outG (inX m c) (inG m c) (inW m c) (((cfg0.win 8).blk t).view.emb y) := by
  idx_vars y
  have ht : t.val < 4 := t.isLt
  have he : ((cfg0.win 8).blk t).view.emb (ix2 y0 y1) = ix2 y0 ⟨t.val * 512 + y1.val, by omega⟩ := by
    blk_ext [idx t]
  exact ((outGate_at (fun k => normRow_at (fun k => rows_at m c t y0 k) (fun k => scale_at m c t k) k) y1 _ fun k => gate_at m c t k y1 ⟨t.val * 512 + y1.val, by omega⟩ rfl).trans (outG_apply (inX m c) (inG m c) (inW m c) y0 _).symm).trans (congrArg _ he.symm)

theorem finalG (c : Dev nD) : (dats m 0 c).arrAt 8 cfg0.N = outG (inX m c) (inG m c) (inW m c) := by
  refine (dats m 0 c).arrAt_eq_of_covers 8 _ (by decide +kernel) fun t _ y => ?_
  blk_simp
  rw [after0_8]
  frame_out
  exact pointG m c t y

theorem pointF (c : Dev nD) (t : Fin cfg0.N) (y : S32x128.Idx) :
    k0_pay4 (F := Ideal) (iblk m c 0 t) (iblk m c 1 t) (iblk m c 3 t) (iblk m c 5 t) y
      = outF (inX m c) (inG m c) (inW m c) (inB m c) y := by
  idx_vars y
  exact (logForget_at (fun k => rows_at m c t y0 k) (fun k => scale_at m c t k) y1 (fun k => forget_at m c t k y1)
    (bias_at m c t y1)).trans (outF_apply (inX m c) (inG m c) (inW m c) (inB m c) y0 y1).symm

theorem finalF (c : Dev nD) : (dats m 0 c).arrAt 7 cfg0.N = outF (inX m c) (inG m c) (inW m c) (inB m c) := by
  refine (dats m 0 c).arrAt_eq_of_after_last 7 t0_3 (by decide +kernel) _ fun j => ?_
  blk_simp
  rw [after0_7]
  frame_out
  exact pointF m c t0_3 j

end Cert.Proof.SampleValue
-- ==== Proof.SampleClaim.lean ====
/-
  The claims on the sampled tokens' projections: the call and the reference end with the same three arrays, and each leaves its
  arguments as they were.
-/
module

public import proofs.«01_k».proof.Defs
public import proofs.«01_k».proof.Proof.SampleValue
public import proofs.«01_k».proof.Proof.Gen.Kernel3.Frame
public import Idealize.ShloMosaic.Adequacy
public import Idealize.ShloMosaic.Init

@[expose] public section

noncomputable section

namespace Cert.Proof.SampleClaim

open Idealize.ShloMosaic Idealize.ShloMosaic.TcCoe Idealize.SL.Sem
open Cert.Proof.SampleReference Cert.Proof.SampleKernel Cert.Proof.SampleValue

theorem frame_bits : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

/-- The reference's run, each result as one function of the arguments. -/
theorem run_reference (m : (ℓ : Loc Cert.Reference3Ideal.nD Cert.Reference3Ideal.τ Cert.Reference3Ideal.sig) → Buf (Elt Ideal) ℓ)
    (ρ : Dev Cert.Reference3Ideal.nD → PrngReg) (x : FVec Ideal Cert.Reference3Ideal.S32x1x1024 .f32)
    (g : FVec Ideal Cert.Reference3Ideal.S1024 .f32) (w : FVec Ideal Cert.Reference3Ideal.S1024x4104 .f32)
    (b : FVec Ideal Cert.Reference3Ideal.S8 .f32)
    (hx : ∀ c : Dev Cert.Reference3Ideal.nD, m (c.tc.loc Cert.Reference3Ideal.main_arg0) = x)
    (hg : ∀ c : Dev Cert.Reference3Ideal.nD, m (c.tc.loc Cert.Reference3Ideal.main_arg1) = g)
    (hw : ∀ c : Dev Cert.Reference3Ideal.nD, m (c.tc.loc Cert.Reference3Ideal.main_arg2) = w)
    (hb : ∀ c : Dev Cert.Reference3Ideal.nD, m (c.tc.loc Cert.Reference3Ideal.main_arg3) = b) :
    θ_run Cert.Reference3Ideal.defs (onTc (τ := Cert.Reference3Ideal.τ) (Cert.Reference3Ideal.main (F := Ideal))) ⟨m, fun _ => 0, ρ⟩
      fun r => ∀ c : Dev Cert.Reference3Ideal.nD,
        r.2.mem (c.tc.loc Cert.Reference3Ideal.main_v15) = outZ x g w
        ∧ r.2.mem (c.tc.loc Cert.Reference3Ideal.main_v22) = outF x g w b
        ∧ r.2.mem (c.tc.loc Cert.Reference3Ideal.main_v28) = outG x g w
        ∧ r.2.mem (c.tc.loc Cert.Reference3Ideal.main_arg0) = m (c.tc.loc Cert.Reference3Ideal.main_arg0)
        ∧ r.2.mem (c.tc.loc Cert.Reference3Ideal.main_arg1) = m (c.tc.loc Cert.Reference3Ideal.main_arg1)
        ∧ r.2.mem (c.tc.loc Cert.Reference3Ideal.main_arg2) = m (c.tc.loc Cert.Reference3Ideal.main_arg2)
        ∧ r.2.mem (c.tc.loc Cert.Reference3Ideal.main_arg3) = m (c.tc.loc Cert.Reference3Ideal.main_arg3) := by
  refine (θ_run Cert.Reference3Ideal.defs _ _).mono (fun r h c => ?_) (Cert.Reference3Ideal.Value.run (F := Ideal) m ρ)
  obtain ⟨h0, h1, h2, hk⟩ := h c
  obtain rfl := hx c
  obtain rfl := hg c
  obtain rfl := hw c
  obtain rfl := hb c
  exact ⟨h0, h1, h2, hk⟩

theorem value : Cert.algebraic_Kernel3Ideal_Reference3Ideal := by
  intro m ρ m' ρ' _ hag
  refine ⟨fun c => outZ (inX m c) (inG m c) (inW m c), fun c => outF (inX m c) (inG m c) (inW m c) (inB m c),
    fun c => outG (inX m c) (inG m c) (inW m c), ?_, ?_⟩
  · refine (θ_run Cert.Kernel3Ideal.defs _ _).mono (fun r h c => ?_) (Cert.Kernel3Ideal.Value.run_blocks (F := Ideal) m ρ)
    obtain ⟨h0, h1, h2, hk⟩ := h c
    exact ⟨h0.trans (finalZ m c), h1.trans (finalF m c), h2.trans (finalG m c), hk⟩
  · have one : ∀ c : Dev Cert.Reference3Ideal.nD, c = 0 := fun c => Subsingleton.elim _ _
    refine (θ_run Cert.Reference3Ideal.defs _ _).mono (fun r h c => ?_)
      (run_reference m' ρ' (inX m 0) (inG m 0) (inW m 0) (inB m 0) (fun c => by rw [one c]; exact (hag 0).1)
        (fun c => by rw [one c]; exact (hag 0).2.1) (fun c => by rw [one c]; exact (hag 0).2.2.1)
        (fun c => by rw [one c]; exact (hag 0).2.2.2))
    obtain rfl := one c
    exact h 0

end Cert.Proof.SampleClaim
-- ==== Proof.MergeReference.lean ====
/-
  The reference of the sampled tokens' merge read at one element: `mean` is the mean of the newest rows of one channel less the
  newest row, `mixed` one entry of a group's product, `branch` one entry of the two gated branches' sum, `merged` one entry of
  the layer's residual row.
-/
module

public import proofs.«01_k».proof.Proof.Gen.Reference4Ideal.Run
public import Idealize.ShloMosaic.Lib.Pointwise

@[expose] public section

set_option maxRecDepth 16384

noncomputable section

namespace Cert.Proof.MergeReference

open Cert.Reference4Ideal Cert.Reference4Ideal.Gen Idealize.ShloMosaic

variable (x : FVec Ideal S32x1x1024 .f32) (u : FVec Ideal S32x512 .f32) (s : FVec Ideal S32x15x512 .f32) (a : FVec Ideal S32x512 .f32)
variable (G : FVec Ideal S32x2048 .f32) (wp : FVec Ideal S4x128x128 .f32) (ps : FVec Ideal S512 .f32)
variable (wu wa : FVec Ideal S512x1024 .f32) (wo : FVec Ideal S1024x1024 .f32)

/-- Row `n` of token `r`'s sixteen pooling rows: fifteen kept ones and the newest. -/
def row (r : Fin 32) (n : Nat) (j : Fin 512) : EReal :=
  if h : n < 15 then s (ix3 r ⟨n, h⟩ j) else u (ix2 r j)

/-- The last `w` pooling rows' sum over `d`, less the newest row. -/
def mean (w : Nat) (d : EReal) (r : Fin 32) (j : Fin 512) : EReal :=
  Ideal.div (∑ l : Fin w, row u s r (16 - w + l.val) j) d - u (ix2 r j)

/-- Entry `c` of group `g` of the pooled row of token `r`. -/
def pooled (r : Fin 32) (g : Fin 4) (c : Fin 128) : EReal :=
  match g with
  | 0 => mean u s 2 (Ideal.ofBits .f32 0x40000000#32) r ⟨c.val, by omega⟩
  | 1 => mean u s 4 (Ideal.ofBits .f32 0x40800000#32) r ⟨128 + c.val, by omega⟩
  | 2 => mean u s 8 (Ideal.ofBits .f32 0x41000000#32) r ⟨256 + c.val, by omega⟩
  | 3 => mean u s 16 (Ideal.ofBits .f32 0x41800000#32) r ⟨384 + c.val, by omega⟩

/-- Entry `d` of group `g` after the group's product. -/
def mixed (r : Fin 32) (g : Fin 4) (d : Fin 128) : EReal :=
  ∑ c : Fin 128, pooled u s r g c * wp (ix3 g c d)

/-- Entry `j` of the scaled pooled row. -/
def poolOut (r : Fin 32) (j : Fin 512) : EReal :=
  mixed u s wp r ⟨j.val / 128, by omega⟩ ⟨j.val % 128, by omega⟩ * ps (ix1 j)

/-- Entry `k` of the two branches' sum under their gates. -/
def branch (r : Fin 32) (k : Fin 1024) : EReal :=
  (G (ix2 r ⟨k.val, by omega⟩) : EReal) * (∑ j : Fin 512, poolOut u s wp ps r j * wu (ix2 j k))
    + (G (ix2 r ⟨1024 + k.val, by omega⟩) : EReal) * ∑ j : Fin 512, (a (ix2 r j) : EReal) * wa (ix2 j k)

/-- Entry `k` of token `r`'s residual row. -/
def merged (r : Fin 32) (k : Fin 1024) : EReal :=
  (x (ix3 r 0 k) : EReal) + ∑ l : Fin 1024, branch u s a G wp ps wu wa r l * wo (ix2 l k)

/-- The sixteen pooling rows of every token. -/
def rows : FVec Ideal S32x16x512 .f32 :=
  concatenate S32x16x512 1 [⟨S32x15x512, s⟩, ⟨S32x1x512, (broadcastInDim S32x1x512 ![0, 2] bcast_S32x512_S32x1x512_0_2 u)⟩] concatenates_S32x15x512_S32x1x512_S32x16x512_d1

/-- The first group's pooled entries. -/
def mean2 : FVec Ideal S32x128 .f32 :=
  subf (Host.divf (Host.reduceAdd (extractStridedSlice S32x2x128 ![0, 14, 0] (rows u s) slices_S32x16x512_S32x2x128_0_14_0) (constant S_ .f32 0x00000000#32) reducesTo_S32x2x128_S32x128_d1 h_S_) (broadcastInDim S32x128 ![] bcast_S_S32x128 (constant S_ .f32 0x40000000#32))) (extractStridedSlice S32x128 ![0, 0] u slices_S32x512_S32x128_0_0)

/-- The second group's. -/
def mean4 : FVec Ideal S32x128 .f32 :=
  subf (Host.divf (Host.reduceAdd (extractStridedSlice S32x4x128 ![0, 12, 128] (rows u s) slices_S32x16x512_S32x4x128_0_12_128) (constant S_ .f32 0x00000000#32) reducesTo_S32x4x128_S32x128_d1 h_S_) (broadcastInDim S32x128 ![] bcast_S_S32x128 (constant S_ .f32 0x40800000#32))) (extractStridedSlice S32x128 ![0, 128] u slices_S32x512_S32x128_0_128)

/-- The third group's. -/
def mean8 : FVec Ideal S32x128 .f32 :=
  subf (Host.divf (Host.reduceAdd (extractStridedSlice S32x8x128 ![0, 8, 256] (rows u s) slices_S32x16x512_S32x8x128_0_8_256) (constant S_ .f32 0x00000000#32) reducesTo_S32x8x128_S32x128_d1 h_S_) (broadcastInDim S32x128 ![] bcast_S_S32x128 (constant S_ .f32 0x41000000#32))) (extractStridedSlice S32x128 ![0, 256] u slices_S32x512_S32x128_0_256)

/-- The fourth group's. -/
def mean16 : FVec Ideal S32x128 .f32 :=
  subf (Host.divf (Host.reduceAdd (extractStridedSlice S32x16x128 ![0, 0, 384] (rows u s) slices_S32x16x512_S32x16x128_0_0_384) (constant S_ .f32 0x00000000#32) reducesTo_S32x16x128_S32x128_d1 h_S_) (broadcastInDim S32x128 ![] bcast_S_S32x128 (constant S_ .f32 0x41800000#32))) (extractStridedSlice S32x128 ![0, 384] u slices_S32x512_S32x128_0_384)

/-- The four groups side by side. -/
def means : FVec Ideal S32x4x128 .f32 :=
  concatenate S32x4x128 1 [⟨S32x1x128, broadcastInDim S32x1x128 ![0, 2] bcast_S32x128_S32x1x128_0_2 (mean2 u s)⟩,
    ⟨S32x1x128, broadcastInDim S32x1x128 ![0, 2] bcast_S32x128_S32x1x128_0_2 (mean4 u s)⟩,
    ⟨S32x1x128, broadcastInDim S32x1x128 ![0, 2] bcast_S32x128_S32x1x128_0_2 (mean8 u s)⟩,
    ⟨S32x1x128, broadcastInDim S32x1x128 ![0, 2] bcast_S32x128_S32x1x128_0_2 (mean16 u s)⟩]
    concatenates_S32x1x128_S32x1x128_S32x1x128_S32x1x128_S32x4x128_d1

/-- Each group's product. -/
def products : FVec Ideal S32x4x128 .f32 :=
  transpose S32x4x128 [2, 0, 1] (Host.dotGeneral dot_S4x128x128_S32x4x128_S4x128x32_1_2_2_0_0_1 none wp (means u s)) transposes_S4x128x32_S32x4x128_2_0_1

/-- The scaled pooled rows. -/
def scaled : FVec Ideal S32x512 .f32 :=
  mulf (shapeCast S32x512 (products u s wp) shapeCasts_S32x4x128_S32x512) (broadcastInDim S32x512 ![0, 1] bcast_S1x512_S32x512_0_1 (broadcastInDim S1x512 ![1] bcast_S512_S1x512_1 ps))

/-- The two branches' sum under their gates. -/
def branches : FVec Ideal S32x1024 .f32 :=
  addf (mulf (extractStridedSlice S32x1024 ![0, 0] G slices_S32x2048_S32x1024_0_0) (Host.dotGeneral dot_S32x512_S512x1024_S32x1024_1_0_0_1_n_n none (scaled u s wp ps) wu))
    (mulf (extractStridedSlice S32x1024 ![0, 1024] G slices_S32x2048_S32x1024_0_1024) (Host.dotGeneral dot_S32x512_S512x1024_S32x1024_1_0_0_1_n_n none a wa))

/-- The residual rows. -/
def out : FVec Ideal S32x1024 .f32 :=
  addf (shapeCast S32x1024 x shapeCasts_S32x1x1024_S32x1024) (Host.dotGeneral dot_S32x1024_S1024x1024_S32x1024_1_0_0_1_n_n none (branches u s a G wp ps wu wa) wo)

theorem rows_apply (r : Fin 32) (n : Fin 16) (j : Fin 512) : rows u s (ix3 r n j) = row u s r n.val j := by
  pointwise [rows, row]

theorem mean2_apply (r : Fin 32) (c : Fin 128) :
    mean2 u s (ix2 r c) = mean u s 2 (Ideal.ofBits .f32 0x40000000#32) r ⟨c.val, by omega⟩ := by
  pointwise [mean2, mean]
  simp only [rows_apply]

theorem mean4_apply (r : Fin 32) (c : Fin 128) :
    mean4 u s (ix2 r c) = mean u s 4 (Ideal.ofBits .f32 0x40800000#32) r ⟨128 + c.val, by omega⟩ := by
  pointwise [mean4, mean]
  simp only [rows_apply]

theorem mean8_apply (r : Fin 32) (c : Fin 128) :
    mean8 u s (ix2 r c) = mean u s 8 (Ideal.ofBits .f32 0x41000000#32) r ⟨256 + c.val, by omega⟩ := by
  pointwise [mean8, mean]
  simp only [rows_apply]

theorem mean16_apply (r : Fin 32) (c : Fin 128) :
    mean16 u s (ix2 r c) = mean u s 16 (Ideal.ofBits .f32 0x41800000#32) r ⟨384 + c.val, by omega⟩ := by
  pointwise [mean16, mean]
  simp only [rows_apply]

theorem means0_apply (r : Fin 32) (c : Fin 128) : means u s (ix3 r 0 c) = mean2 u s (ix2 r c) := by
  pointwise [means]

theorem means1_apply (r : Fin 32) (c : Fin 128) : means u s (ix3 r 1 c) = mean4 u s (ix2 r c) := by
  pointwise [means]

theorem means2_apply (r : Fin 32) (c : Fin 128) : means u s (ix3 r 2 c) = mean8 u s (ix2 r c) := by
  pointwise [means]

theorem means3_apply (r : Fin 32) (c : Fin 128) : means u s (ix3 r 3 c) = mean16 u s (ix2 r c) := by
  pointwise [means]

theorem means_apply (r : Fin 32) (g : Fin 4) (c : Fin 128) : means u s (ix3 r g c) = pooled u s r g c :=
  match g with
  | 0 => (means0_apply u s r c).trans (mean2_apply u s r c)
  | 1 => (means1_apply u s r c).trans (mean4_apply u s r c)
  | 2 => (means2_apply u s r c).trans (mean8_apply u s r c)
  | 3 => (means3_apply u s r c).trans (mean16_apply u s r c)

theorem products_apply (r : Fin 32) (g : Fin 4) (d : Fin 128) : products u s wp (ix3 r g d) = mixed u s wp r g d := by
  pointwise [products, mixed]
  exact Finset.sum_congr rfl fun c _ => (mul_comm _ _).trans (congrArg (· * _) (means_apply u s r g c))

theorem scaled_apply (r : Fin 32) (j : Fin 512) : scaled u s wp ps (ix2 r j) = poolOut u s wp ps r j := by
  pointwise [scaled, poolOut]
  exact congrArg (· * _) (products_apply u s wp r _ _)

theorem branches_apply (r : Fin 32) (k : Fin 1024) : branches u s a G wp ps wu wa (ix2 r k) = branch u s a G wp ps wu wa r k := by
  pointwise [branches, branch]
  simp only [scaled_apply]

theorem out_apply (r : Fin 32) (k : Fin 1024) : out x u s a G wp ps wu wa wo (ix2 r k) = merged x u s a G wp ps wu wa wo r k := by
  pointwise [out, merged]
  simp only [branches_apply]

end Cert.Proof.MergeReference
-- ==== Proof.MergeKernel.lean ====
/-
  The sampled tokens' merge read at one element: what the blocks hold, and the residual row that the body computes in terms of
  `mean`, `mixed`, `branch` and `merged`.
-/
module

public import proofs.«01_k».proof.Proof.MergeReference
public import proofs.«01_k».proof.Proof.Gen.Kernel4Ideal.Value
public import Idealize.ShloMosaic.Lib.Claim
public import Idealize.ShloMosaic.Lib.Pipeline.ValueKit

@[expose] public section

set_option maxRecDepth 16384

noncomputable section

namespace Cert.Proof.MergeKernel

open Cert.Kernel4Ideal Cert.Kernel4Ideal.Gen Idealize.ShloMosaic Idealize.ShloMosaic.TcCoe
open Idealize.ShloMosaic.Pipeline (Dat)
open Cert.Proof.MergeReference

variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0, 0] ∧ win0_3.index t = ![0, 0] ∧ win0_4.index t = ![0, 0] ∧ win0_5.index t = ![0, 0, 0] ∧ win0_6.index t = ![0, 0] ∧ win0_7.index t = ![0, 0] ∧ win0_8.index t = ![0, 0] ∧ win0_9.index t = ![0, 0] ∧ win0_13.index t = ![0, 0] :=
  (by decide +kernel : ∀ t : Fin grid0.N, _)

/-- The tokens' rows. -/
abbrev inX (c : Dev nD) : FVec Ideal Cert.Reference4Ideal.S32x1x1024 .f32 := m (c.tc.loc main_arg0)

/-- The newest pooling rows. -/
abbrev inU (c : Dev nD) : FVec Ideal Cert.Reference4Ideal.S32x512 .f32 := m (c.tc.loc main_arg1)

/-- The kept pooling rows. -/
abbrev inS (c : Dev nD) : FVec Ideal Cert.Reference4Ideal.S32x15x512 .f32 := m (c.tc.loc main_arg2)

/-- The attention's rows. -/
abbrev inA (c : Dev nD) : FVec Ideal Cert.Reference4Ideal.S32x512 .f32 := m (c.tc.loc main_arg3)

/-- The gates. -/
abbrev inG (c : Dev nD) : FVec Ideal Cert.Reference4Ideal.S32x2048 .f32 := m (c.tc.loc main_arg4)

/-- The groups' weights. -/
abbrev inP (c : Dev nD) : FVec Ideal Cert.Reference4Ideal.S4x128x128 .f32 := m (c.tc.loc main_arg5)

/-- The scale of the pooled rows. -/
abbrev inQ (c : Dev nD) : FVec Ideal Cert.Reference4Ideal.S512 .f32 := m (c.tc.loc main_arg6)

/-- The weights after the pooled rows. -/
abbrev inM (c : Dev nD) : FVec Ideal Cert.Reference4Ideal.S512x1024 .f32 := m (c.tc.loc main_arg7)

/-- The weights after the attention. -/
abbrev inN (c : Dev nD) : FVec Ideal Cert.Reference4Ideal.S512x1024 .f32 := m (c.tc.loc main_arg8)

/-- The weights after the branches. -/
abbrev inO (c : Dev nD) : FVec Ideal Cert.Reference4Ideal.S1024x1024 .f32 := m (c.tc.loc main_arg9)

theorem host8 (c : Dev nD) : V m c main_v8 = (shapeCast S32x1024 (inX m c : FVec Ideal S32x1x1024 .f32) shapeCasts_S32x1x1024_S32x1024 : FVec Ideal S32x1024 .f32) := by
  simp only [V, hostOps0, hostOps0_1, hostOps0_2, hostOps0_3, hostOps0_4, List.flatten_cons, List.flatten_nil, List.append_nil,
    List.cons_append, List.nil_append]
  entry_read
  rfl

theorem block0 (c : Dev nD) (t : Fin cfg0.N) : iblk m c 0 t = V m c main_v8 := by
  blk_ext! [iblk, idx t]

theorem host9 (c : Dev nD) : V m c main_v9 = (transpose S15x32x512 [1, 0, 2] (inS m c : FVec Ideal S32x15x512 .f32) transposes_S32x15x512_S15x32x512_1_0_2 : FVec Ideal S15x32x512 .f32) := by
  simp only [V, hostOps0, hostOps0_1, hostOps0_2, hostOps0_3, hostOps0_4, List.flatten_cons, List.flatten_nil, List.append_nil,
    List.cons_append, List.nil_append]
  entry_read
  rfl

theorem block2 (c : Dev nD) (t : Fin cfg0.N) : iblk m c 2 t = V m c main_v9 := by
  blk_ext! [iblk, idx t]

theorem host10 (c : Dev nD) : V m c main_v10 = (shapeCast S1x512 (inQ m c : FVec Ideal S512 .f32) shapeCasts_S512_S1x512 : FVec Ideal S1x512 .f32) := by
  simp only [V, hostOps0, hostOps0_1, hostOps0_2, hostOps0_3, hostOps0_4, List.flatten_cons, List.flatten_nil, List.append_nil,
    List.cons_append, List.nil_append]
  entry_read
  rfl

theorem block6 (c : Dev nD) (t : Fin cfg0.N) : iblk m c 6 t = V m c main_v10 := by
  blk_ext! [iblk, idx t]

theorem block1 (c : Dev nD) (t : Fin cfg0.N) : iblk m c 1 t = inU m c := by
  have h : iblk m c 1 t = V m c main_arg1 := by
    blk_ext! [iblk, idx t]
  exact h.trans (V_main_arg1 m c)

theorem block3 (c : Dev nD) (t : Fin cfg0.N) : iblk m c 3 t = inA m c := by
  have h : iblk m c 3 t = V m c main_arg3 := by
    blk_ext! [iblk, idx t]
  exact h.trans (V_main_arg3 m c)

theorem block4 (c : Dev nD) (t : Fin cfg0.N) : iblk m c 4 t = inG m c := by
  have h : iblk m c 4 t = V m c main_arg4 := by
    blk_ext! [iblk, idx t]
  exact h.trans (V_main_arg4 m c)

theorem block5 (c : Dev nD) (t : Fin cfg0.N) : iblk m c 5 t = inP m c := by
  have h : iblk m c 5 t = V m c main_arg5 := by
    blk_ext! [iblk, idx t]
  exact h.trans (V_main_arg5 m c)

theorem block7 (c : Dev nD) (t : Fin cfg0.N) : iblk m c 7 t = inM m c := by
  have h : iblk m c 7 t = V m c main_arg7 := by
    blk_ext! [iblk, idx t]
  exact h.trans (V_main_arg7 m c)

theorem block8 (c : Dev nD) (t : Fin cfg0.N) : iblk m c 8 t = inN m c := by
  have h : iblk m c 8 t = V m c main_arg8 := by
    blk_ext! [iblk, idx t]
  exact h.trans (V_main_arg8 m c)

theorem block9 (c : Dev nD) (t : Fin cfg0.N) : iblk m c 9 t = inO m c := by
  have h : iblk m c 9 t = V m c main_arg9 := by
    blk_ext! [iblk, idx t]
  exact h.trans (V_main_arg9 m c)

theorem rows_at (c : Dev nD) (t : Fin cfg0.N) (r : Fin 32) (k : Fin 1024) :
    (iblk m c 0 t : FVec Ideal S32x1024 .f32) (ix2 r k) = inX m c (ix3 r 0 k) := by
  rw [block0, host8]
  pointwise

theorem kept_at (c : Dev nD) (t : Fin cfg0.N) (n : Fin 15) (r : Fin 32) (j : Fin 512) :
    (iblk m c 2 t : FVec Ideal S15x32x512 .f32) (ix3 n r j) = inS m c (ix3 r n j) := by
  rw [block2, host9]
  pointwise

theorem scale_at (c : Dev nD) (t : Fin cfg0.N) (j : Fin 512) :
    (iblk m c 6 t : FVec Ideal S1x512 .f32) (ix2 0 j) = inQ m c (ix1 j) := by
  rw [block6, host10]
  pointwise

section Sums

variable (f : Nat → EReal)

theorem sum2 : f 15 + f 14 = ∑ l : Fin 2, f (14 + l.val) := by
  simp only [Fin.sum_univ_succ, Fin.sum_univ_zero, Fin.val_succ, Fin.val_zero, Nat.reduceAdd, add_zero]
  ac_rfl

theorem sum4 : f 15 + f 14 + f 13 + f 12 = ∑ l : Fin 4, f (12 + l.val) := by
  simp only [Fin.sum_univ_succ, Fin.sum_univ_zero, Fin.val_succ, Fin.val_zero, Nat.reduceAdd, add_zero]
  ac_rfl

theorem sum8 : f 15 + f 14 + f 13 + f 12 + f 11 + f 10 + f 9 + f 8 = ∑ l : Fin 8, f (8 + l.val) := by
  simp only [Fin.sum_univ_succ, Fin.sum_univ_zero, Fin.val_succ, Fin.val_zero, Nat.reduceAdd, add_zero]
  ac_rfl

theorem sum16 : f 15 + f 14 + f 13 + f 12 + f 11 + f 10 + f 9 + f 8 + f 7 + f 6 + f 5 + f 4 + f 3 + f 2 + f 1 + f 0
    = ∑ l : Fin 16, f (0 + l.val) := by
  simp only [Fin.sum_univ_succ, Fin.sum_univ_zero, Fin.val_succ, Fin.val_zero, Nat.reduceAdd, add_zero, zero_add]
  ac_rfl

end Sums

section Body

variable {x0 : FVec Ideal S32x1024 .f32} {x1 : FVec Ideal S32x512 .f32} {x2 : FVec Ideal S15x32x512 .f32}
variable {x5 : FVec Ideal S4x128x128 .f32} {x6 : FVec Ideal S1x512 .f32}
variable {x : FVec Ideal Cert.Reference4Ideal.S32x1x1024 .f32} {s : FVec Ideal Cert.Reference4Ideal.S32x15x512 .f32}
variable {ps : FVec Ideal Cert.Reference4Ideal.S512 .f32}

theorem mean2_at (h2 : ∀ n r j, x2 (ix3 n r j) = s (ix3 r n j)) (r : Fin 32) (c : Fin 128) :
    k0_pay3 (F := Ideal) x1 (View.ld x2 r0_1) (ix2 r c) = pooled x1 s r 0 c := by
  pointwise [k0_pay3]
  simp only [h2]
  exact congrArg (fun z => Ideal.div z _ - _) (sum2 fun n => row x1 s r n ⟨c.val, by omega⟩)

theorem mean4_at (h2 : ∀ n r j, x2 (ix3 n r j) = s (ix3 r n j)) (r : Fin 32) (c : Fin 128) :
    k0_pay4 (F := Ideal) x1 (View.ld x2 r0_1) (View.ld x2 r0_2) (View.ld x2 r0_3) (ix2 r c) = pooled x1 s r 1 c := by
  pointwise [k0_pay4]
  simp only [h2]
  exact congrArg (fun z => Ideal.div z _ - _) (sum4 fun n => row x1 s r n ⟨128 + c.val, by omega⟩)

theorem mean8_at (h2 : ∀ n r j, x2 (ix3 n r j) = s (ix3 r n j)) (r : Fin 32) (c : Fin 128) :
    k0_pay6 (F := Ideal) x1 (k0_pay5 x1 (View.ld x2 r0_1) (View.ld x2 r0_2)) (View.ld x2 r0_3) (View.ld x2 r0_4)
      (View.ld x2 r0_5) (View.ld x2 r0_6) (View.ld x2 r0_7) (ix2 r c) = pooled x1 s r 2 c := by
  pointwise [k0_pay6, k0_pay5]
  simp only [h2]
  exact congrArg (fun z => Ideal.div z _ - _) (sum8 fun n => row x1 s r n ⟨256 + c.val, by omega⟩)

theorem mean16_at (h2 : ∀ n r j, x2 (ix3 n r j) = s (ix3 r n j)) (r : Fin 32) (c : Fin 128) :
    k0_pay9 (F := Ideal) x1 (k0_pay8 (k0_pay7 x1 (View.ld x2 r0_1) (View.ld x2 r0_2) (View.ld x2 r0_3)) (View.ld x2 r0_4) (View.ld x2 r0_5)
      (View.ld x2 r0_6) (View.ld x2 r0_7) (View.ld x2 r0_8) (View.ld x2 r0_9) (View.ld x2 r0_10) (View.ld x2 r0_11)) (View.ld x2 r0_12)
      (View.ld x2 r0_13) (View.ld x2 r0_14) (View.ld x2 r0_15) (ix2 r c) = pooled x1 s r 3 c := by
  pointwise [k0_pay9, k0_pay8, k0_pay7]
  simp only [h2]
  exact congrArg (fun z => Ideal.div z _ - _) (sum16 fun n => row x1 s r n ⟨384 + c.val, by omega⟩)

theorem product_at {v : FVec Ideal S32x128 .f32} {g : Fin 4} {p : FVec Ideal S1x128x128 .f32} (r : Fin 32)
    (hv : ∀ c, v (ix2 r c) = pooled x1 s r g c) (hp : ∀ c d, p (ix3 0 c d) = x5 (ix3 g c d)) (d : Fin 128) :
    k0_pay11 (F := Ideal) v p (ix2 r d) = mixed x1 s x5 r g d := by
  pointwise [k0_pay11, mixed]
  simp only [hv, hp]

theorem merged_at {v : FVec Ideal S32x128 .f32} {p : FVec Ideal S1x128x128 .f32} {w0 w1 w2 : FVec Ideal S32x128 .f32}
    {a : FVec Ideal S32x512 .f32} {G : FVec Ideal S32x2048 .f32} {wu wa : FVec Ideal S512x1024 .f32} {wo : FVec Ideal S1024x1024 .f32}
    (r : Fin 32) (h0 : ∀ k, x0 (ix2 r k) = x (ix3 r 0 k)) (hv : ∀ c, v (ix2 r c) = pooled x1 s r 3 c)
    (hp : ∀ c d, p (ix3 0 c d) = x5 (ix3 3 c d)) (e0 : ∀ d, w0 (ix2 r d) = mixed x1 s x5 r 0 d)
    (e1 : ∀ d, w1 (ix2 r d) = mixed x1 s x5 r 1 d) (e2 : ∀ d, w2 (ix2 r d) = mixed x1 s x5 r 2 d)
    (h6 : ∀ j, x6 (ix2 0 j) = ps (ix1 j)) (k : Fin 1024) :
    k0_pay14 (F := Ideal) v x0 a G w0 w1 w2 p x6 wu wa wo (ix2 r k) = merged x x1 s a G x5 ps wu wa wo r k := by
  have hm : ∀ j : Fin 512,
      (if h : j.val < 128 then w0 (ix2 r ⟨j.val, h⟩)
        else if h' : j.val - 128 < 128 then w1 (ix2 r ⟨j.val - 128, h'⟩)
        else if h'' : j.val - 128 - 128 < 128 then w2 (ix2 r ⟨j.val - 128 - 128, h''⟩)
        else ∑ c, v (ix2 r c) * p (ix3 0 c ⟨j.val - 128 - 128 - 128, by omega⟩))
      = mixed x1 s x5 r ⟨j.val / 128, by omega⟩ ⟨j.val % 128, by omega⟩ := by
    intro j
    split_ifs with c0 c1 c2
    · rw [e0]; congr 1 <;> (apply Fin.ext; simp only [Fin.val_ofNat]; omega)
    · rw [e1]; congr 1 <;> (apply Fin.ext; simp only [Fin.val_ofNat]; omega)
    · rw [e2]; congr 1 <;> (apply Fin.ext; simp only [Fin.val_ofNat]; omega)
    · have ea : (⟨j.val / 128, by omega⟩ : Fin 4) = 3 := Fin.ext (by simp only [Fin.val_ofNat]; omega)
      have eb : (⟨j.val % 128, by omega⟩ : Fin 128) = ⟨j.val - 128 - 128 - 128, by omega⟩ := Fin.ext (by simp only []; omega)
      rw [ea, eb]
      simp only [hv, hp, mixed]
  pointwise [k0_pay14, merged, branch, poolOut]
  simp only [hm, h0, h6]

end Body

end Cert.Proof.MergeKernel
-- ==== Proof.MergeValue.lean ====
/-
  The residual rows that the sampled tokens' merge leaves, as one function of the arguments.
-/
module

public import proofs.«01_k».proof.Proof.MergeKernel

@[expose] public section

set_option maxRecDepth 16384

noncomputable section

namespace Cert.Proof.MergeValue

open Cert.Kernel4Ideal Cert.Kernel4Ideal.Gen Idealize.ShloMosaic Idealize.ShloMosaic.TcCoe
open Idealize.ShloMosaic.Pipeline (Dat)
open Cert.Proof.MergeReference Cert.Proof.MergeKernel

variable (m : (ℓ : Loc nD τ sig) → Buf (Elt Ideal) ℓ)

theorem point (c : Dev nD) (t : Fin cfg0.N) (y : S32x1024.Idx) :
    k0_pay14 (F := Ideal)
      (k0_pay9 (iblk m c 1 t)
        (k0_pay8
          (k0_pay7 (iblk m c 1 t) (View.ld (iblk m c 2 t) r0_1) (View.ld (iblk m c 2 t) r0_2) (View.ld (iblk m c 2 t) r0_3))
          (View.ld (iblk m c 2 t) r0_4) (View.ld (iblk m c 2 t) r0_5) (View.ld (iblk m c 2 t) r0_6)
          (View.ld (iblk m c 2 t) r0_7) (View.ld (iblk m c 2 t) r0_8) (View.ld (iblk m c 2 t) r0_9)
          (View.ld (iblk m c 2 t) r0_10) (View.ld (iblk m c 2 t) r0_11))
        (View.ld (iblk m c 2 t) r0_12) (View.ld (iblk m c 2 t) r0_13) (View.ld (iblk m c 2 t) r0_14)
        (View.ld (iblk m c 2 t) r0_15))
      (k0_pay10 (iblk m c 0 t)) (iblk m c 3 t) (iblk m c 4 t)
      (k0_pay11 (k0_pay3 (iblk m c 1 t) (View.ld (iblk m c 2 t) r0_1)) (View.ld (iblk m c 5 t) r0_18))
      (k0_pay12
        (k0_pay4 (iblk m c 1 t) (View.ld (iblk m c 2 t) r0_1) (View.ld (iblk m c 2 t) r0_2) (View.ld (iblk m c 2 t) r0_3))
        (View.ld (iblk m c 5 t) r0_19))
      (k0_pay13
        (k0_pay6 (iblk m c 1 t)
          (k0_pay5 (iblk m c 1 t) (View.ld (iblk m c 2 t) r0_1) (View.ld (iblk m c 2 t) r0_2))
          (View.ld (iblk m c 2 t) r0_3) (View.ld (iblk m c 2 t) r0_4) (View.ld (iblk m c 2 t) r0_5)
          (View.ld (iblk m c 2 t) r0_6) (View.ld (iblk m c 2 t) r0_7))
        (View.ld (iblk m c 5 t) r0_20))
      (View.ld (iblk m c 5 t) r0_21) (iblk m c 6 t) (iblk m c 7 t) (iblk m c 8 t) (iblk m c 9 t) y
      = out (inX m c) (inU m c) (inS m c) (inA m c) (inG m c) (inP m c) (inQ m c) (inM m c) (inN m c) (inO m c) y := by
  idx_vars y
  rw [block1 m c t, block3 m c t, block4 m c t, block5 m c t, block7 m c t, block8 m c t, block9 m c t]
  have h2 := fun n r j => kept_at m c t n r j
  refine (merged_at (x := inX m c) (s := inS m c) (ps := inQ m c) y0 (fun k => ?_) (fun d => mean16_at h2 y0 d)
    (fun a b => ?_) (fun d => product_at (g := 0) y0 (fun e => mean2_at h2 y0 e) (fun a b => ?_) d)
    (fun d => product_at (g := 1) y0 (fun e => mean4_at h2 y0 e) (fun a b => ?_) d)
    (fun d => product_at (g := 2) y0 (fun e => mean8_at h2 y0 e) (fun a b => ?_) d)
    (fun j => scale_at m c t j) y1).trans (out_apply (inX m c) (inU m c) (inS m c) (inA m c) (inG m c) (inP m c) (inQ m c)
      (inM m c) (inN m c) (inO m c) y0 y1).symm
  · pointwise [k0_pay10]
    exact rows_at m c t y0 k
  all_goals pointwise

theorem final (c : Dev nD) : (dats m 0 c).arrAt 13 cfg0.N
    = out (inX m c) (inU m c) (inS m c) (inA m c) (inG m c) (inP m c) (inQ m c) (inM m c) (inN m c) (inO m c) := by
  refine (dats m 0 c).arrAt_eq_of_after_last 13 t0_0 (by decide +kernel) _ fun j => ?_
  blk_simp
  rw [after0_13]
  unfold_out out0_13
  frame_out
  exact point m c t0_0 j

end Cert.Proof.MergeValue
-- ==== Proof.MergeClaim.lean ====
/-
  The claims on the sampled tokens' merge: the call and the reference end with the same residual rows, and each leaves its
  arguments as they were.
-/
module

public import proofs.«01_k».proof.Defs
public import proofs.«01_k».proof.Proof.MergeValue
public import proofs.«01_k».proof.Proof.Gen.Kernel4.Frame
public import proofs.«01_k».proof.Proof.Gen.Reference4Ideal.Run
public import Idealize.ShloMosaic.Adequacy
public import Idealize.ShloMosaic.Init

@[expose] public section

noncomputable section

namespace Cert.Proof.MergeClaim

open Idealize.ShloMosaic Idealize.ShloMosaic.TcCoe Idealize.SL.Sem
open Cert.Proof.MergeReference Cert.Proof.MergeKernel Cert.Proof.MergeValue

theorem frame_bits : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The reference's run, its result as one function of the arguments. -/
theorem run_reference (m : (ℓ : Loc Cert.Reference4Ideal.nD Cert.Reference4Ideal.τ Cert.Reference4Ideal.sig) → Buf (Elt Ideal) ℓ)
    (ρ : Dev Cert.Reference4Ideal.nD → PrngReg)
    (x : FVec Ideal Cert.Reference4Ideal.S32x1x1024 .f32)
    (u : FVec Ideal Cert.Reference4Ideal.S32x512 .f32)
    (s : FVec Ideal Cert.Reference4Ideal.S32x15x512 .f32)
    (a : FVec Ideal Cert.Reference4Ideal.S32x512 .f32)
    (G : FVec Ideal Cert.Reference4Ideal.S32x2048 .f32)
    (wp : FVec Ideal Cert.Reference4Ideal.S4x128x128 .f32)
    (ps : FVec Ideal Cert.Reference4Ideal.S512 .f32)
    (wu : FVec Ideal Cert.Reference4Ideal.S512x1024 .f32)
    (wa : FVec Ideal Cert.Reference4Ideal.S512x1024 .f32)
    (wo : FVec Ideal Cert.Reference4Ideal.S1024x1024 .f32)
    (h0 : ∀ c : Dev Cert.Reference4Ideal.nD, m (c.tc.loc Cert.Reference4Ideal.main_arg0) = x)
    (h1 : ∀ c : Dev Cert.Reference4Ideal.nD, m (c.tc.loc Cert.Reference4Ideal.main_arg1) = u)
    (h2 : ∀ c : Dev Cert.Reference4Ideal.nD, m (c.tc.loc Cert.Reference4Ideal.main_arg2) = s)
    (h3 : ∀ c : Dev Cert.Reference4Ideal.nD, m (c.tc.loc Cert.Reference4Ideal.main_arg3) = a)
    (h4 : ∀ c : Dev Cert.Reference4Ideal.nD, m (c.tc.loc Cert.Reference4Ideal.main_arg4) = G)
    (h5 : ∀ c : Dev Cert.Reference4Ideal.nD, m (c.tc.loc Cert.Reference4Ideal.main_arg5) = wp)
    (h6 : ∀ c : Dev Cert.Reference4Ideal.nD, m (c.tc.loc Cert.Reference4Ideal.main_arg6) = ps)
    (h7 : ∀ c : Dev Cert.Reference4Ideal.nD, m (c.tc.loc Cert.Reference4Ideal.main_arg7) = wu)
    (h8 : ∀ c : Dev Cert.Reference4Ideal.nD, m (c.tc.loc Cert.Reference4Ideal.main_arg8) = wa)
    (h9 : ∀ c : Dev Cert.Reference4Ideal.nD, m (c.tc.loc Cert.Reference4Ideal.main_arg9) = wo) :
    θ_run Cert.Reference4Ideal.defs (onTc (τ := Cert.Reference4Ideal.τ) (Cert.Reference4Ideal.main (F := Ideal))) ⟨m, fun _ => 0, ρ⟩
      fun r => ∀ c : Dev Cert.Reference4Ideal.nD,
        r.2.mem (c.tc.loc Cert.Reference4Ideal.main_v46) = out x u s a G wp ps wu wa wo
        ∧ r.2.mem (c.tc.loc Cert.Reference4Ideal.main_arg0) = m (c.tc.loc Cert.Reference4Ideal.main_arg0)
        ∧ r.2.mem (c.tc.loc Cert.Reference4Ideal.main_arg1) = m (c.tc.loc Cert.Reference4Ideal.main_arg1)
        ∧ r.2.mem (c.tc.loc Cert.Reference4Ideal.main_arg2) = m (c.tc.loc Cert.Reference4Ideal.main_arg2)
        ∧ r.2.mem (c.tc.loc Cert.Reference4Ideal.main_arg3) = m (c.tc.loc Cert.Reference4Ideal.main_arg3)
        ∧ r.2.mem (c.tc.loc Cert.Reference4Ideal.main_arg4) = m (c.tc.loc Cert.Reference4Ideal.main_arg4)
        ∧ r.2.mem (c.tc.loc Cert.Reference4Ideal.main_arg5) = m (c.tc.loc Cert.Reference4Ideal.main_arg5)
        ∧ r.2.mem (c.tc.loc Cert.Reference4Ideal.main_arg6) = m (c.tc.loc Cert.Reference4Ideal.main_arg6)
        ∧ r.2.mem (c.tc.loc Cert.Reference4Ideal.main_arg7) = m (c.tc.loc Cert.Reference4Ideal.main_arg7)
        ∧ r.2.mem (c.tc.loc Cert.Reference4Ideal.main_arg8) = m (c.tc.loc Cert.Reference4Ideal.main_arg8)
        ∧ r.2.mem (c.tc.loc Cert.Reference4Ideal.main_arg9) = m (c.tc.loc Cert.Reference4Ideal.main_arg9)
        ∧ r.2.mem (c.tc.loc Cert.Reference4Ideal.main_arg10) = m (c.tc.loc Cert.Reference4Ideal.main_arg10)
        ∧ r.2.mem (c.tc.loc Cert.Reference4Ideal.main_arg11) = m (c.tc.loc Cert.Reference4Ideal.main_arg11)
        ∧ r.2.mem (c.tc.loc Cert.Reference4Ideal.main_arg12) = m (c.tc.loc Cert.Reference4Ideal.main_arg12)
        ∧ r.2.mem (c.tc.loc Cert.Reference4Ideal.main_arg13) = m (c.tc.loc Cert.Reference4Ideal.main_arg13)
        ∧ r.2.mem (c.tc.loc Cert.Reference4Ideal.main_arg14) = m (c.tc.loc Cert.Reference4Ideal.main_arg14) := by
  refine (θ_run Cert.Reference4Ideal.defs _ _).mono (fun r h c => ?_) (Cert.Reference4Ideal.Value.run (F := Ideal) m ρ)
  obtain ⟨e, hk⟩ := h c
  obtain rfl := h0 c
  obtain rfl := h1 c
  obtain rfl := h2 c
  obtain rfl := h3 c
  obtain rfl := h4 c
  obtain rfl := h5 c
  obtain rfl := h6 c
  obtain rfl := h7 c
  obtain rfl := h8 c
  obtain rfl := h9 c
  exact ⟨e, hk⟩

theorem value : Cert.algebraic_Kernel4Ideal_Reference4Ideal := by
  intro m ρ m' ρ' _ hag
  refine ⟨fun c => out (inX m c) (inU m c) (inS m c) (inA m c) (inG m c) (inP m c) (inQ m c) (inM m c) (inN m c) (inO m c), ?_, ?_⟩
  · refine (θ_run Cert.Kernel4Ideal.defs _ _).mono (fun r h c => ?_) (Cert.Kernel4Ideal.Value.run_blocks (F := Ideal) m ρ)
    obtain ⟨e, _, _, _, hk⟩ := h c
    exact ⟨e.trans (final m c), hk⟩
  · have one : ∀ c : Dev Cert.Reference4Ideal.nD, c = 0 := fun c => Subsingleton.elim _ _
    refine (θ_run Cert.Reference4Ideal.defs _ _).mono (fun r h c => ?_)
      (run_reference m' ρ' (inX m 0) (inU m 0) (inS m 0) (inA m 0) (inG m 0) (inP m 0) (inQ m 0) (inM m 0) (inN m 0) (inO m 0)
        (fun c => by rw [one c]; exact (hag 0).1)
        (fun c => by rw [one c]; exact (hag 0).2.1) (fun c => by rw [one c]; exact (hag 0).2.2.1)
        (fun c => by rw [one c]; exact (hag 0).2.2.2.1) (fun c => by rw [one c]; exact (hag 0).2.2.2.2.1)
        (fun c => by rw [one c]; exact (hag 0).2.2.2.2.2.1) (fun c => by rw [one c]; exact (hag 0).2.2.2.2.2.2.1)
        (fun c => by rw [one c]; exact (hag 0).2.2.2.2.2.2.2.1) (fun c => by rw [one c]; exact (hag 0).2.2.2.2.2.2.2.2.1)
        (fun c => by rw [one c]; exact (hag 0).2.2.2.2.2.2.2.2.2.1))
    obtain rfl := one c
    exact h 0

end Cert.Proof.MergeClaim
-- ==== Proof.SampleResultsKernel.lean ====
/-
  The sampled tokens' projection call read at one element: what the arrays prepared by the host hold, what each grid point's
  blocks hold, and each value the body computes in terms of `normRow`, `projCol` and `forget`.
-/
module

public import proofs.«01_k».proof.Proof.SampleReference
public import proofs.«01_k».proof.Proof.Gen.Kernel5Ideal.Frame
public import Idealize.ShloMosaic.Lib.Claim
public import Idealize.ShloMosaic.Lib.Pipeline.ValueKit

@[expose] public section

set_option maxRecDepth 16384

noncomputable section

namespace Cert.Proof.SampleResultsKernel

open Cert.Kernel5Ideal Cert.Kernel5Ideal.Gen Idealize.ShloMosaic Idealize.ShloMosaic.TcCoe
open Idealize.ShloMosaic.Pipeline (Dat)
open Cert.Proof.Logistic Cert.Proof.SampleReference

variable (m : (ℓ : Loc nD τ sig) → Buf (Elt Ideal) ℓ)

/-- The block of every window at every grid point. -/
theorem idx : ∀ t : Fin cfg0.N, win0_0.index t = ![0, 0] ∧ win0_1.index t = ![0, 0] ∧ win0_2.index t = ![t.val, 0] ∧ win0_3.index t = ![0, 0] ∧ win0_4.index t = ![t.val, 0] ∧ win0_5.index t = ![0, 0] ∧ win0_6.index t = ![0, t.val] ∧ win0_7.index t = ![0, 0] ∧ win0_8.index t = ![0, t.val] :=
  (by decide +kernel : ∀ t : Fin grid0.N, _)

/-- The input rows. -/
abbrev inX (c : Dev nD) : FVec Ideal Cert.Reference3Ideal.S32x1x1024 .f32 := m (c.tc.loc main_arg0)

/-- The scale of the normalisation. -/
abbrev inG (c : Dev nD) : FVec Ideal Cert.Reference3Ideal.S1024 .f32 := m (c.tc.loc main_arg2)

/-- The projection weights. -/
abbrev inW (c : Dev nD) : FVec Ideal Cert.Reference3Ideal.S1024x4104 .f32 := m (c.tc.loc main_arg3)

/-- The forget gates' bias. -/
abbrev inB (c : Dev nD) : FVec Ideal Cert.Reference3Ideal.S8 .f32 := m (c.tc.loc main_arg4)

theorem host7 (c : Dev nD) : V m c main_v7 = (shapeCast S32x1024 (inX m c : FVec Ideal S32x1x1024 .f32) shapeCasts_S32x1x1024_S32x1024 : FVec Ideal S32x1024 .f32) := by
  simp only [V, V0, hostOps0, hostOps0_1, hostOps0_2, hostOps0_3, hostOps0_4, List.flatten_cons, List.flatten_nil, List.append_nil,
    List.cons_append, List.nil_append]
  entry_read
  rfl

theorem host8 (c : Dev nD) : V m c main_v8 = (shapeCast S1x1024 (inG m c : FVec Ideal S1024 .f32) shapeCasts_S1024_S1x1024 : FVec Ideal S1x1024 .f32) := by
  simp only [V, V0, hostOps0, hostOps0_1, hostOps0_2, hostOps0_3, hostOps0_4, List.flatten_cons, List.flatten_nil, List.append_nil,
    List.cons_append, List.nil_append]
  entry_read
  rfl

theorem host1 (c : Dev nD) : V m c main_v1 = (extractStridedSlice S2048x1024 ![0, 0] (transpose S4104x1024 [1, 0] (inW m c : FVec Ideal S1024x4104 .f32) transposes_S1024x4104_S4104x1024_1_0) slices_S4104x1024_S2048x1024_0_0 : FVec Ideal S2048x1024 .f32) := by
  simp only [V, V0, hostOps0, hostOps0_1, hostOps0_2, hostOps0_3, hostOps0_4, List.flatten_cons, List.flatten_nil, List.append_nil,
    List.cons_append, List.nil_append]
  entry_read
  rfl

theorem host2 (c : Dev nD) : V m c main_v2 = (extractStridedSlice S2048x1024 ![2056, 0] (transpose S4104x1024 [1, 0] (inW m c : FVec Ideal S1024x4104 .f32) transposes_S1024x4104_S4104x1024_1_0) slices_S4104x1024_S2048x1024_2056_0 : FVec Ideal S2048x1024 .f32) := by
  simp only [V, V0, hostOps0, hostOps0_1, hostOps0_2, hostOps0_3, hostOps0_4, List.flatten_cons, List.flatten_nil, List.append_nil,
    List.cons_append, List.nil_append]
  entry_read
  rfl

theorem host4 (c : Dev nD) : V m c main_v4 = (pad S128x1024 ![0, 0] ![120, 0] ![0, 0] (extractStridedSlice S8x1024 ![2048, 0] (transpose S4104x1024 [1, 0] (inW m c : FVec Ideal S1024x4104 .f32) transposes_S1024x4104_S4104x1024_1_0) slices_S4104x1024_S8x1024_2048_0) (sitofp .f32 (constantI S_ 32 0#32)) pads_S8x1024_S128x1024_01200_000 h_S_ : FVec Ideal S128x1024 .f32) := by
  simp only [V, V0, hostOps0, hostOps0_1, hostOps0_2, hostOps0_3, hostOps0_4, List.flatten_cons, List.flatten_nil, List.append_nil,
    List.cons_append, List.nil_append]
  entry_read
  rfl

theorem host6 (c : Dev nD) : V m c main_v6 = (shapeCast S1x128 (pad S128 ![0] ![120] ![0] (inB m c : FVec Ideal S8 .f32) (sitofp .f32 (constantI S_ 32 0#32)) pads_S8_S128_01200 h_S_) shapeCasts_S128_S1x128 : FVec Ideal S1x128 .f32) := by
  simp only [V, V0, hostOps0, hostOps0_1, hostOps0_2, hostOps0_3, hostOps0_4, List.flatten_cons, List.flatten_nil, List.append_nil,
    List.cons_append, List.nil_append]
  entry_read
  rfl

theorem block0 (c : Dev nD) (t : Fin cfg0.N) : iblk m c 0 t = V m c main_v7 := by
  blk_ext! [iblk, idx t]

theorem block1 (c : Dev nD) (t : Fin cfg0.N) : iblk m c 1 t = V m c main_v8 := by
  blk_ext! [iblk, idx t]

theorem block3 (c : Dev nD) (t : Fin cfg0.N) : iblk m c 3 t = V m c main_v4 := by
  blk_ext! [iblk, idx t]

theorem block5 (c : Dev nD) (t : Fin cfg0.N) : iblk m c 5 t = V m c main_v6 := by
  blk_ext! [iblk, idx t]

theorem block2 (c : Dev nD) (t : Fin cfg0.N) (j : Fin 512) (k : Fin 1024) (q : Fin 2048) (h : q.val = t.val * 512 + j.val) :
    (iblk m c 2 t : FVec Ideal S512x1024 .f32) (ix2 j k) = (V m c main_v1 : FVec Ideal S2048x1024 .f32) (ix2 q k) := by
  blk_ext [iblk, idx t]

theorem block4 (c : Dev nD) (t : Fin cfg0.N) (j : Fin 512) (k : Fin 1024) (q : Fin 2048) (h : q.val = t.val * 512 + j.val) :
    (iblk m c 4 t : FVec Ideal S512x1024 .f32) (ix2 j k) = (V m c main_v2 : FVec Ideal S2048x1024 .f32) (ix2 q k) := by
  blk_ext [iblk, idx t]

theorem rows_at (c : Dev nD) (t : Fin cfg0.N) (r : Fin 32) (k : Fin 1024) :
    (iblk m c 0 t : FVec Ideal S32x1024 .f32) (ix2 r k) = inX m c (ix3 r 0 k) := by
  rw [block0, host7]
  pointwise

theorem scale_at (c : Dev nD) (t : Fin cfg0.N) (k : Fin 1024) :
    (iblk m c 1 t : FVec Ideal S1x1024 .f32) (ix2 0 k) = inG m c (ix1 k) := by
  rw [block1, host8]
  pointwise

theorem first_cols (W : FVec Ideal S1024x4104 .f32) (q : Fin 2048) (k : Fin 1024) :
    (extractStridedSlice S2048x1024 ![0, 0] (transpose S4104x1024 [1, 0] W transposes_S1024x4104_S4104x1024_1_0)
      slices_S4104x1024_S2048x1024_0_0 : FVec Ideal S2048x1024 .f32) (ix2 q k) = W (ix2 k ⟨q.val, by omega⟩) := by
  pointwise

theorem last_cols (W : FVec Ideal S1024x4104 .f32) (q : Fin 2048) (k : Fin 1024) :
    (extractStridedSlice S2048x1024 ![2056, 0] (transpose S4104x1024 [1, 0] W transposes_S1024x4104_S4104x1024_1_0)
      slices_S4104x1024_S2048x1024_2056_0 : FVec Ideal S2048x1024 .f32) (ix2 q k) = W (ix2 k ⟨2056 + q.val, by omega⟩) := by
  pointwise

theorem main_at (c : Dev nD) (t : Fin cfg0.N) (k : Fin 1024) (j : Fin 512) (q : Fin 2048) (h : q.val = t.val * 512 + j.val) :
    (iblk m c 2 t : FVec Ideal S512x1024 .f32) (ix2 j k) = inW m c (ix2 k ⟨q.val, by omega⟩) :=
  (block2 m c t j k q h).trans ((congrFun (host1 m c) _).trans (first_cols (inW m c) q k))

theorem gate_at (c : Dev nD) (t : Fin cfg0.N) (k : Fin 1024) (j : Fin 512) (q : Fin 2048) (h : q.val = t.val * 512 + j.val) :
    (iblk m c 4 t : FVec Ideal S512x1024 .f32) (ix2 j k) = inW m c (ix2 k ⟨2056 + q.val, by omega⟩) :=
  (block4 m c t j k q h).trans ((congrFun (host2 m c) _).trans (last_cols (inW m c) q k))

theorem forget_at (c : Dev nD) (t : Fin cfg0.N) (k : Fin 1024) (j : Fin 128) :
    (iblk m c 3 t : FVec Ideal S128x1024 .f32) (ix2 j k)
      = if _h : j.val < 8 then (inW m c (ix2 k ⟨2048 + j.val, by omega⟩) : EReal) else 0 := by
  rw [block3, host4]
  pointwise
  rw [sitofp_zero]

theorem bias_at (c : Dev nD) (t : Fin cfg0.N) (j : Fin 128) :
    (iblk m c 5 t : FVec Ideal S1x128 .f32) (ix2 0 j) = if h : j.val < 8 then (inB m c (ix1 ⟨j.val, h⟩) : EReal) else 0 := by
  rw [block5, host6]
  pointwise
  rw [sitofp_zero]

section Body

variable {P0 : FVec Ideal S32x1024 .f32} {P1 : FVec Ideal S1x1024 .f32} {P2 : FVec Ideal S512x1024 .f32}
variable {x : FVec Ideal Cert.Reference3Ideal.S32x1x1024 .f32} {g : FVec Ideal Cert.Reference3Ideal.S1024 .f32}
variable {w : FVec Ideal Cert.Reference3Ideal.S1024x4104 .f32} {b : FVec Ideal Cert.Reference3Ideal.S8 .f32}
variable {r : Fin 32}

theorem normRow_at (h0 : ∀ k, P0 (ix2 r k) = x (ix3 r 0 k)) (h1 : ∀ k, P1 (ix2 0 k) = g (ix1 k)) (k : Fin 1024) :
    k0_pay2 (F := Ideal) P0 P1 (ix2 r k) = normRow x g r k := by
  pointwise [k0_pay2, normRow]
  simp only [h0, h1]

theorem first_at (h0 : ∀ k, P0 (ix2 r k) = x (ix3 r 0 k)) (h1 : ∀ k, P1 (ix2 0 k) = g (ix1 k)) (j : Fin 512) (q : Fin 4104)
    (h2 : ∀ k : Fin 1024, P2 (ix2 j k) = w (ix2 k q)) :
    k0_pay3 (F := Ideal) P0 P1 P2 (ix2 r j) = projCol x g w r q := by
  pointwise [k0_pay3, projCol]
  exact Finset.sum_congr rfl fun k _ => congrArg₂ (· * ·) (normRow_at h0 h1 k) (h2 k)

theorem outGate_at {H : FVec Ideal S32x1024 .f32} {P4 : FVec Ideal S512x1024 .f32} (h0 : ∀ k, H (ix2 r k) = normRow x g r k)
    (j : Fin 512) (q : Fin 4104) (h4 : ∀ k : Fin 1024, P4 (ix2 j k) = w (ix2 k q)) :
    k0_pay1 (F := Ideal) H P4 (ix2 r j) = sigmoid (projCol x g w r q) := by
  have hz : (∑ k : Fin 1024, (H (ix2 r k) : EReal) * P4 (ix2 j k)) = projCol x g w r q :=
    Finset.sum_congr rfl fun k _ => congrArg₂ (· * ·) (h0 k) (h4 k)
  rw [← hz]
  pointwise [k0_pay1, sigmoid]
  rw [zero_sub]

theorem logForget_at {P3 : FVec Ideal S128x1024 .f32} {P5 : FVec Ideal S1x128 .f32}
    (h0 : ∀ k, P0 (ix2 r k) = x (ix3 r 0 k)) (h1 : ∀ k, P1 (ix2 0 k) = g (ix1 k)) (j : Fin 128)
    (h3 : ∀ k : Fin 1024, P3 (ix2 j k) = if _h : j.val < 8 then (w (ix2 k ⟨2048 + j.val, by omega⟩) : EReal) else 0)
    (h5 : P5 (ix2 0 j) = if h : j.val < 8 then (b (ix1 ⟨j.val, h⟩) : EReal) else 0) :
    k0_pay4 (F := Ideal) P0 P1 P3 P5 (ix2 r j) = logSigmoid (forget x g w b r j) := by
  have hz : (∑ k : Fin 1024, (k0_pay2 (F := Ideal) P0 P1 (ix2 r k) : EReal) * P3 (ix2 j k)) + P5 (ix2 0 j) = forget x g w b r j := by
    rw [forget, h5]
    by_cases h : j.val < 8
    · rw [dif_pos h, dif_pos h]
      exact congrArg (· + _) (Finset.sum_congr rfl fun k _ =>
        congrArg₂ (· * ·) (normRow_at h0 h1 k) ((h3 k).trans (dif_pos h)))
    · rw [dif_neg h, dif_neg h, add_zero]
      exact Finset.sum_eq_zero fun k _ => by rw [(h3 k).trans (dif_neg h)]; exact mul_zero _
  rw [← hz]
  pointwise [k0_pay4, logSigmoid]
  rw [zero_sub]
  rfl

end Body

end Cert.Proof.SampleResultsKernel
-- ==== Proof.SampleResultsValue.lean ====
/-
  The three arrays the sampled tokens' projection call leaves, each as one function of the arguments.
-/
module

public import proofs.«01_k».proof.Proof.SampleResultsKernel

@[expose] public section

set_option maxRecDepth 16384

noncomputable section

namespace Cert.Proof.SampleResultsValue

open Cert.Kernel5Ideal Cert.Kernel5Ideal.Gen Idealize.ShloMosaic Idealize.ShloMosaic.TcCoe
open Idealize.ShloMosaic.Pipeline (Dat)
open Cert.Proof.Logistic Cert.Proof.SampleReference Cert.Proof.SampleResultsKernel

variable (m : (ℓ : Loc nD τ sig) → Buf (Elt Ideal) ℓ)

theorem pointZ (c : Dev nD) (t : Fin cfg0.N) (y : S32x512.Idx) :
    k0_pay3 (F := Ideal) (iblk m c 0 t) (iblk m c 1 t) (iblk m c 2 t) y = outZ (inX m c) (inG m c) (inW m c) (((cfg0.win 6).blk t).view.emb y) := by
  idx_vars y
  have ht : t.val < 4 := t.isLt
  have he : ((cfg0.win 6).blk t).view.emb (ix2 y0 y1) = ix2 y0 ⟨t.val * 512 + y1.val, by omega⟩ := by
    blk_ext [idx t]
  exact ((first_at (fun k => rows_at m c t y0 k) (fun k => scale_at m c t k) y1 _ fun k => main_at m c t k y1 ⟨t.val * 512 + y1.val, by omega⟩ rfl).trans (outZ_apply (inX m c) (inG m c) (inW m c) y0 _).symm).trans (congrArg _ he.symm)

theorem finalZ (c : Dev nD) : (dats m 0 c).arrAt 6 cfg0.N = outZ (inX m c) (inG m c) (inW m c) := by
  refine (dats m 0 c).arrAt_eq_of_covers 6 _ (by decide +kernel) fun t _ y => ?_
  blk_simp
  rw [after0_6]
  frame_out
  exact pointZ m c t y

theorem pointG (c : Dev nD) (t : Fin cfg0.N) (y : S32x512.Idx) :
    k0_pay1 (F := Ideal) (k0_pay2 (F := Ideal) (iblk m c 0 t) (iblk m c 1 t)) (iblk m c 4 t) y = outG (inX m c) (inG m c) (inW m c) (((cfg0.win 8).blk t).view.emb y) := by
  idx_vars y
  have ht : t.val < 4 := t.isLt
  have he : ((cfg0.win 8).blk t).view.emb (ix2 y0 y1) = ix2 y0 ⟨t.val * 512 + y1.val, by omega⟩ := by
    blk_ext [idx t]
  exact ((outGate_at (fun k => normRow_at (fun k => rows_at m c t y0 k) (fun k => scale_at m c t k) k) y1 _ fun k => gate_at m c t k y1 ⟨t.val * 512 + y1.val, by omega⟩ rfl).trans (outG_apply (inX m c) (inG m c) (inW m c) y0 _).symm).trans (congrArg _ he.symm)

theorem finalG (c : Dev nD) : (dats m 0 c).arrAt 8 cfg0.N = outG (inX m c) (inG m c) (inW m c) := by
  refine (dats m 0 c).arrAt_eq_of_covers 8 _ (by decide +kernel) fun t _ y => ?_
  blk_simp
  rw [after0_8]
  frame_out
  exact pointG m c t y

theorem pointF (c : Dev nD) (t : Fin cfg0.N) (y : S32x128.Idx) :
    k0_pay4 (F := Ideal) (iblk m c 0 t) (iblk m c 1 t) (iblk m c 3 t) (iblk m c 5 t) y
      = outF (inX m c) (inG m c) (inW m c) (inB m c) y := by
  idx_vars y
  exact (logForget_at (fun k => rows_at m c t y0 k) (fun k => scale_at m c t k) y1 (fun k => forget_at m c t k y1)
    (bias_at m c t y1)).trans (outF_apply (inX m c) (inG m c) (inW m c) (inB m c) y0 y1).symm

theorem finalF (c : Dev nD) : (dats m 0 c).arrAt 7 cfg0.N = outF (inX m c) (inG m c) (inW m c) (inB m c) := by
  refine (dats m 0 c).arrAt_eq_of_after_last 7 t0_3 (by decide +kernel) _ fun j => ?_
  blk_simp
  rw [after0_7]
  frame_out
  exact pointF m c t0_3 j

end Cert.Proof.SampleResultsValue
-- ==== Proof.SampleResults.lean ====
/-
  The layer's results that the sampled tokens' projections make up, at one element: the keys and the values by head, the
  logarithms of the forget gates, and the pooling rows that the state keeps, which are the state's last fourteen and the new one.
-/
module

public import proofs.«01_k».proof.Proof.SampleResultsValue
public import proofs.«01_k».proof.Proof.Gen.Reference5Ideal.Run

@[expose] public section

set_option maxRecDepth 16384

noncomputable section

namespace Cert.Proof.SampleResults

open Idealize.ShloMosaic Cert.Proof.Logistic Cert.Proof.SampleReference

section Reference

open Cert.Reference5Ideal Cert.Reference5Ideal.Gen

/-- The normalised rows. -/
def rows (x : FVec Ideal S32x1x1024 .f32) (g : FVec Ideal S1024 .f32) : FVec Ideal S32x1x1024 .f32 :=
  mulf (mulf x (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf x x) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32)))))) (broadcastInDim S32x1x1024 ![0, 1, 2] bcast_S1x1x1024_S32x1x1024_0_1_2 (broadcastInDim S1x1x1024 ![2] bcast_S1024_S1x1x1024_2 g))

/-- The projected rows. -/
def product (x : FVec Ideal S32x1x1024 .f32) (g : FVec Ideal S1024 .f32) (w : FVec Ideal S1024x4104 .f32) : FVec Ideal S32x1x4104 .f32 :=
  Host.dotGeneral dot_S32x1x1024_S1024x4104_S32x1x4104_2_0_01_1_n_n none (rows x g) w

/-- The forget gates before the logarithm of the logistic function. -/
def logits (x : FVec Ideal S32x1x1024 .f32) (g : FVec Ideal S1024 .f32) (w : FVec Ideal S1024x4104 .f32) (b : FVec Ideal S8 .f32) : FVec Ideal S32x1x8 .f32 :=
  addf (extractStridedSlice S32x1x8 ![0, 0, 2048] (product x g w) slices_S32x1x4104_S32x1x8_0_0_2048) (broadcastInDim S32x1x8 ![0, 1, 2] bcast_S1x1x8_S32x1x8_0_1_2 (broadcastInDim S1x1x8 ![2] bcast_S8_S1x1x8_2 b))

/-- The keys by head. -/
def keys (x : FVec Ideal S32x1x1024 .f32) (g : FVec Ideal S1024 .f32) (w : FVec Ideal S1024x4104 .f32) : FVec Ideal S1x32x1x8x64 .f32 :=
  shapeCast _ (extractStridedSlice S32x1x512 ![0, 0, 1024] (product x g w) slices_S32x1x4104_S32x1x512_0_0_1024) shapeCasts_S32x1x512_S1x32x1x8x64

/-- The values by head. -/
def values (x : FVec Ideal S32x1x1024 .f32) (g : FVec Ideal S1024 .f32) (w : FVec Ideal S1024x4104 .f32) : FVec Ideal S1x32x1x8x64 .f32 :=
  shapeCast _ (extractStridedSlice S32x1x512 ![0, 0, 1536] (product x g w) slices_S32x1x4104_S32x1x512_0_0_1536) shapeCasts_S32x1x512_S1x32x1x8x64

/-- The logarithms of the forget gates. -/
def forgets (x : FVec Ideal S32x1x1024 .f32) (g : FVec Ideal S1024 .f32) (w : FVec Ideal S1024x4104 .f32) (b : FVec Ideal S8 .f32) : FVec Ideal S1x32x1x8 .f32 :=
  broadcastInDim S1x32x1x8 ![1, 2, 3] bcast_S32x1x8_S1x32x1x8_1_2_3 (Host.negf (select (cmpf .une (subf (Host.negf (logits x g w b)) (broadcastInDim S32x1x8 ![] bcast_S_S32x1x8 (constant S_ .f32 0x00000000#32))) (subf (Host.negf (logits x g w b)) (broadcastInDim S32x1x8 ![] bcast_S_S32x1x8 (constant S_ .f32 0x00000000#32)))) (addf (Host.negf (logits x g w b)) (broadcastInDim S32x1x8 ![] bcast_S_S32x1x8 (constant S_ .f32 0x00000000#32))) (addf (maximumf (Host.negf (logits x g w b)) (broadcastInDim S32x1x8 ![] bcast_S_S32x1x8 (constant S_ .f32 0x00000000#32))) (Host.log1p (Host.exp (Host.negf (Host.absf (subf (Host.negf (logits x g w b)) (broadcastInDim S32x1x8 ![] bcast_S_S32x1x8 (constant S_ .f32 0x00000000#32))))))))))

/-- The pooling rows that the state keeps. -/
def pool (x : FVec Ideal S32x1x1024 .f32) (s : FVec Ideal S1x32x15x512 .f32) (g : FVec Ideal S1024 .f32) (w : FVec Ideal S1024x4104 .f32) : FVec Ideal S1x32x15x512 .f32 :=
  broadcastInDim S1x32x15x512 ![1, 2, 3] bcast_S32x15x512_S1x32x15x512_1_2_3 (extractStridedSlice S32x15x512 ![0, 1, 0] (concatenate S32x16x512 1 [⟨S32x15x512, (shapeCast _ s shapeCasts_S1x32x15x512_S32x15x512)⟩, ⟨S32x1x512, (extractStridedSlice S32x1x512 ![0, 0, 0] (product x g w) slices_S32x1x4104_S32x1x512_0_0_0)⟩] concatenates_S32x15x512_S32x1x512_S32x16x512_d1) slices_S32x16x512_S32x15x512_0_1_0)

theorem rows_apply (x : FVec Ideal S32x1x1024 .f32) (g : FVec Ideal S1024 .f32) (r : Fin 32) (k : Fin 1024) :
    rows x g (ix3 r 0 k) = normRow x g r k := by
  pointwise [rows, normRow]

theorem product_apply (x : FVec Ideal S32x1x1024 .f32) (g : FVec Ideal S1024 .f32) (w : FVec Ideal S1024x4104 .f32) (r : Fin 32) (j : Fin 4104) :
    product x g w (ix3 r 0 j) = projCol x g w r j := by
  pointwise [product, projCol]
  exact Finset.sum_congr rfl fun k _ => congrArg (· * _) (rows_apply x g r k)

theorem logits_apply (x : FVec Ideal S32x1x1024 .f32) (g : FVec Ideal S1024 .f32) (w : FVec Ideal S1024x4104 .f32) (b : FVec Ideal S8 .f32) (r : Fin 32) (j : Fin 8) :
    logits x g w b (ix3 r 0 j) = projCol x g w r ⟨2048 + j.val, by omega⟩ + b (ix1 j) := by
  rw [← product_apply]
  pointwise [logits]

theorem forgets_apply (x : FVec Ideal S32x1x1024 .f32) (g : FVec Ideal S1024 .f32) (w : FVec Ideal S1024x4104 .f32) (b : FVec Ideal S8 .f32) (r : Fin 32) (j : Fin 8) :
    forgets x g w b (ix4 0 r 0 j) = logSigmoid (projCol x g w r ⟨2048 + j.val, by omega⟩ + b (ix1 j)) := by
  rw [← logits_apply]
  pointwise [forgets]
  generalize logits x g w b (ix3 r 0 j) = a
  simp only [ne_eq, not_true_eq_false, if_false]
  exact neg_softplus a

theorem keys_apply (x : FVec Ideal S32x1x1024 .f32) (g : FVec Ideal S1024 .f32) (w : FVec Ideal S1024x4104 .f32) (r : Fin 32) (h : Fin 8) (d : Fin 64) :
    keys x g w (ix5 0 r 0 h d) = projCol x g w r ⟨1024 + (h.val * 64 + d.val), by omega⟩ := by
  rw [← product_apply]
  pointwise [keys]

theorem values_apply (x : FVec Ideal S32x1x1024 .f32) (g : FVec Ideal S1024 .f32) (w : FVec Ideal S1024x4104 .f32) (r : Fin 32) (h : Fin 8) (d : Fin 64) :
    values x g w (ix5 0 r 0 h d) = projCol x g w r ⟨1536 + (h.val * 64 + d.val), by omega⟩ := by
  rw [← product_apply]
  pointwise [values]

theorem pool_apply (x : FVec Ideal S32x1x1024 .f32) (s : FVec Ideal S1x32x15x512 .f32) (g : FVec Ideal S1024 .f32) (w : FVec Ideal S1024x4104 .f32) (r : Fin 32) (i : Fin 15) (d : Fin 512) :
    pool x s g w (ix4 0 r i d) = if h : i.val < 14 then s (ix4 0 r ⟨1 + i.val, by omega⟩ d) else projCol x g w r ⟨d.val, by omega⟩ := by
  rw [← product_apply]
  pointwise [pool]
  by_cases h : i.val < 14
  · rw [dif_pos h, dif_pos (by omega)]
  · rw [dif_neg h, dif_neg (by omega)]
    exact congrArg (fun a => product x g w (ix3 r a ⟨d.val, by omega⟩)) (Subsingleton.elim _ _)

end Reference

section Kernel

open Cert.Kernel5Ideal Cert.Kernel5Ideal.Gen

variable (m : (ℓ : Loc nD τ sig) → Buf (Elt Ideal) ℓ)

open Cert.Proof.SampleResultsKernel Cert.Proof.SampleResultsValue

/-- The state's pooling rows. -/
abbrev inS (c : Dev nD) : FVec Ideal Cert.Reference5Ideal.S1x32x15x512 .f32 := m (c.tc.loc main_arg1)

/-- What the host finds after the call. -/
abbrev after (c : Dev nD) (b : Ref sig .tc) : Buf (Elt Ideal) ((c.tc : Thread nD τ).loc b) :=
  Pipeline.afterTail₀ cfgs (dats m) 0 (V0 m) [hostOps1] c b

/-- What the call leaves, as a valuation. -/
abbrev left (c : Dev nD) : Valuation τ sig (Elt Ideal) :=
  Pipeline.withArrays (cfgs 0).spec c (V0 m c) fun w => (dats m 0 c).arrAt w (cfgs 0).N

theorem left_z (c : Dev nD) : (left m c (Proc.devRef .tc main_v9_0) : FVec Ideal S32x2048 .f32) = outZ (inX m c) (inG m c) (inW m c) :=
  (Pipeline.withArrays_arr (cfgs 0).spec launch0.win.arr_inj c (V0 m c) _ 6).trans (finalZ m c)

theorem left_f (c : Dev nD) : (left m c (Proc.devRef .tc main_v9_1) : FVec Ideal S32x128 .f32) = outF (inX m c) (inG m c) (inW m c) (inB m c) :=
  (Pipeline.withArrays_arr (cfgs 0).spec launch0.win.arr_inj c (V0 m c) _ 7).trans (finalF m c)

theorem left_s (c : Dev nD) : (left m c (Proc.devRef .tc main_arg1) : FVec Ideal S1x32x15x512 .f32) = inS m c :=
  (Pipeline.withArrays_of_ne (cfgs 0).spec c (V0 m c) _ main_arg1 (by exact (by decide : ∀ w, Pipeline.arrRef spec0 w ≠ main_arg1))).trans
    (V_main_arg1 m c)

theorem read_k (c : Dev nD) : after m c main_v17 = (shapeCast S1x32x1x8x64 (extractStridedSlice S32x512 ![0, 1024]
    (left m c (Proc.devRef .tc main_v9_0) : FVec Ideal S32x2048 .f32) slices_S32x2048_S32x512_0_1024) shapeCasts_S32x512_S1x32x1x8x64 : FVec Ideal _ .f32) := by
  unfold after Pipeline.afterTail₀
  simp only [hostOps1, List.flatten_cons, List.flatten_nil, List.append_nil, List.cons_append, List.nil_append]
  entry_read
  rfl

theorem read_v (c : Dev nD) : after m c main_v18 = (shapeCast S1x32x1x8x64 (extractStridedSlice S32x512 ![0, 1536]
    (left m c (Proc.devRef .tc main_v9_0) : FVec Ideal S32x2048 .f32) slices_S32x2048_S32x512_0_1536) shapeCasts_S32x512_S1x32x1x8x64 : FVec Ideal _ .f32) := by
  unfold after Pipeline.afterTail₀
  simp only [hostOps1, List.flatten_cons, List.flatten_nil, List.append_nil, List.cons_append, List.nil_append]
  entry_read
  rfl

theorem read_f (c : Dev nD) : after m c main_v20 = (shapeCast S1x32x1x8 (extractStridedSlice S32x8 ![0, 0]
    (left m c (Proc.devRef .tc main_v9_1) : FVec Ideal S32x128 .f32) slices_S32x128_S32x8_0_0) shapeCasts_S32x8_S1x32x1x8 : FVec Ideal _ .f32) := by
  unfold after Pipeline.afterTail₀
  simp only [hostOps1, List.flatten_cons, List.flatten_nil, List.append_nil, List.cons_append, List.nil_append]
  entry_read
  rfl

theorem read_p (c : Dev nD) : after m c main_v21 = (broadcastInDim S1x32x15x512 ![1, 2, 3] bcast_S32x15x512_S1x32x15x512_1_2_3
    (concatenate S32x15x512 1 [⟨S32x14x512, extractStridedSlice S32x14x512 ![0, 1, 0] (shapeCast S32x15x512
      (left m c (Proc.devRef .tc main_arg1) : FVec Ideal S1x32x15x512 .f32) shapeCasts_S1x32x15x512_S32x15x512) slices_S32x15x512_S32x14x512_0_1_0⟩,
      ⟨S32x1x512, broadcastInDim S32x1x512 ![0, 2] bcast_S32x512_S32x1x512_0_2 (extractStridedSlice S32x512 ![0, 0]
        (left m c (Proc.devRef .tc main_v9_0) : FVec Ideal S32x2048 .f32) slices_S32x2048_S32x512_0_0)⟩]
      concatenates_S32x14x512_S32x1x512_S32x15x512_d1) : FVec Ideal _ .f32) := by
  unfold after Pipeline.afterTail₀
  simp only [hostOps1, List.flatten_cons, List.flatten_nil, List.append_nil, List.cons_append, List.nil_append]
  entry_read
  rfl

/-- The call's keys, laid out by head, are the reference's. -/
theorem keys_eq (c : Dev nD) : after m c main_v17 = keys (inX m c) (inG m c) (inW m c) := by
  rw [read_k, left_z]
  funext y
  idx_vars y
  obtain rfl : y0 = 0 := Subsingleton.elim _ _
  obtain rfl : y2 = 0 := Subsingleton.elim _ _
  refine Eq.trans ?_ (keys_apply _ _ _ y1 y3 y4).symm
  refine Eq.trans ?_ (outZ_apply _ _ _ y1 ⟨1024 + (y3.val * 64 + y4.val), by omega⟩)
  pointwise

theorem values_eq (c : Dev nD) : after m c main_v18 = values (inX m c) (inG m c) (inW m c) := by
  rw [read_v, left_z]
  funext y
  idx_vars y
  obtain rfl : y0 = 0 := Subsingleton.elim _ _
  obtain rfl : y2 = 0 := Subsingleton.elim _ _
  refine Eq.trans ?_ (values_apply _ _ _ y1 y3 y4).symm
  refine Eq.trans ?_ (outZ_apply _ _ _ y1 ⟨1536 + (y3.val * 64 + y4.val), by omega⟩)
  pointwise

theorem forgets_eq (c : Dev nD) : after m c main_v20 = forgets (inX m c) (inG m c) (inW m c) (inB m c) := by
  rw [read_f, left_f]
  funext y
  idx_vars y
  obtain rfl : y0 = 0 := Subsingleton.elim _ _
  obtain rfl : y2 = 0 := Subsingleton.elim _ _
  refine Eq.trans ?_ (forgets_apply _ _ _ _ y1 y3).symm
  refine Eq.trans ?_ ((outF_apply _ _ _ _ y1 ⟨y3.val, by omega⟩).trans (congrArg logSigmoid (dif_pos y3.isLt)))
  pointwise

theorem pool_eq (c : Dev nD) : after m c main_v21 = pool (inX m c) (inS m c) (inG m c) (inW m c) := by
  rw [read_p, left_z, left_s]
  funext y
  idx_vars y
  obtain rfl : y0 = 0 := Subsingleton.elim _ _
  refine Eq.trans ?_ (pool_apply _ _ _ _ y1 y2 y3).symm
  rw [← outZ_apply _ _ _ y1 ⟨y3.val, by omega⟩]
  pointwise

end Kernel

end Cert.Proof.SampleResults
-- ==== Proof.SampleResultsClaim.lean ====
/-
  The claims on the layer's results that the sampled tokens' projections make up: the call with the host's cuts and reshapes ends
  with the reference's four arrays, and each leaves its arguments as they were.
-/
module

public import proofs.«01_k».proof.Defs
public import proofs.«01_k».proof.Proof.SampleResults
public import proofs.«01_k».proof.Proof.Gen.Kernel5.Frame
public import Idealize.ShloMosaic.Adequacy
public import Idealize.ShloMosaic.Init

@[expose] public section

noncomputable section

namespace Cert.Proof.SampleResultsClaim

open Idealize.ShloMosaic Idealize.ShloMosaic.TcCoe Idealize.SL.Sem
open Cert.Proof.SampleResults Cert.Proof.SampleResultsKernel Cert.Proof.SampleResultsValue

theorem frame_bits : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono
    (fun r h => ⟨fun c => (h c).2.2.2.2, sem_eq_zero_of_no_sems (by decide) r.2⟩)
    (Cert.Reference5Ideal.Value.run (F := Ideal) m ρ)

section Kernel

open Cert.Kernel5Ideal Cert.Kernel5Ideal.Gen

/-- The run of the call and of the host's operations around it, each result as one function of the arguments. -/
theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v17) = keys (inX m c) (inG m c) (inW m c)
      ∧ r.2.mem (c.tc.loc main_v18) = values (inX m c) (inG m c) (inW m c)
      ∧ r.2.mem (c.tc.loc main_v20) = forgets (inX m c) (inG m c) (inW m c) (inB m c)
      ∧ r.2.mem (c.tc.loc main_v21) = pool (inX m c) (inS m c) (inG m c) (inW m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨((h c).2 main_v17 (Pipeline.mem_restRefs_of main_v17 (by decide) (by decide))).trans (keys_eq m c),
      ((h c).2 main_v18 (Pipeline.mem_restRefs_of main_v18 (by decide) (by decide))).trans (values_eq m c),
      ((h c).2 main_v20 (Pipeline.mem_restRefs_of main_v20 (by decide) (by decide))).trans (forgets_eq m c),
      ((h c).2 main_v21 (Pipeline.mem_restRefs_of main_v21 (by decide) (by decide))).trans (pool_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Kernel

section Reference

open Cert.Reference5Ideal

/-- The reference's run, each result as one function of the arguments. -/
theorem run_reference (m : (ℓ : Loc nD τ sig) → Buf (Elt Ideal) ℓ) (ρ : Dev nD → PrngReg)
    (x : FVec Ideal S32x1x1024 .f32) (s : FVec Ideal S1x32x15x512 .f32) (g : FVec Ideal S1024 .f32) (w : FVec Ideal S1024x4104 .f32) (b : FVec Ideal S8 .f32)
    (hx : ∀ c : Dev nD, m (c.tc.loc main_arg0) = x)
    (hs : ∀ c : Dev nD, m (c.tc.loc main_arg1) = s)
    (hg : ∀ c : Dev nD, m (c.tc.loc main_arg2) = g)
    (hw : ∀ c : Dev nD, m (c.tc.loc main_arg3) = w)
    (hb : ∀ c : Dev nD, m (c.tc.loc main_arg4) = b) :
    θ_run defs (onTc (τ := τ) (main (F := Ideal))) ⟨m, fun _ => 0, ρ⟩ fun r => ∀ c : Dev nD,
      r.2.mem (c.tc.loc main_v26) = keys x g w
      ∧ r.2.mem (c.tc.loc main_v27) = values x g w
      ∧ r.2.mem (c.tc.loc main_v28) = forgets x g w b
      ∧ r.2.mem (c.tc.loc main_v30) = pool x s g w
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run defs _ _).mono (fun r h c => ?_) (Value.run (F := Ideal) m ρ)
  obtain ⟨h0, h1, h2, h3, hk⟩ := h c
  obtain rfl := hx c
  obtain rfl := hs c
  obtain rfl := hg c
  obtain rfl := hw c
  obtain rfl := hb c
  exact ⟨h0, h1, h2, h3, hk⟩

end Reference

theorem value : Cert.algebraic_Kernel5Ideal_Reference5Ideal := by
  intro m ρ m' ρ' _ hag
  refine ⟨fun c => keys (inX m c) (inG m c) (inW m c), fun c => values (inX m c) (inG m c) (inW m c), fun c => forgets (inX m c) (inG m c) (inW m c) (inB m c), fun c => pool (inX m c) (inS m c) (inG m c) (inW m c), run_kernel m ρ, ?_⟩
  have one : ∀ c : Dev Cert.Reference5Ideal.nD, c = 0 := fun c => Subsingleton.elim _ _
  refine (θ_run Cert.Reference5Ideal.defs _ _).mono (fun r h c => ?_)
    (run_reference m' ρ' (inX m 0) (inS m 0) (inG m 0) (inW m 0) (inB m 0)
        (fun c => by rw [one c]; exact (hag 0).1)
        (fun c => by rw [one c]; exact (hag 0).2.1)
        (fun c => by rw [one c]; exact (hag 0).2.2.1)
        (fun c => by rw [one c]; exact (hag 0).2.2.2.1)
        (fun c => by rw [one c]; exact (hag 0).2.2.2.2))
  obtain rfl := one c
  exact h 0

end Cert.Proof.SampleResultsClaim
-- ==== Proof.Running.lean ====
/-
  The running sums of the prompt's log forget values: after the addition of the values `s` positions earlier, for s = 1, 2, 4, …, each
  position holds the sum of a window twice as wide, and the last window is the whole row up to the position.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Claim
public import Idealize.ShloMosaic.Lib.Pipeline.ValueKit
public import Idealize.ShloMosaic.Adequacy
public import Idealize.ShloMosaic.Init

@[expose] public section

noncomputable section

namespace Cert.Proof.Running

open Cert.Kernel6Ideal Cert.Kernel6Ideal.Gen Idealize.ShloMosaic Idealize.ShloMosaic.TcCoe Idealize.SL.Sem

/-- The sum of the `w` values that end at position `l`. -/
def window (x : FVec Ideal S64x2048 .f32) (w : Nat) (r : Fin 64) (l : Nat) : EReal :=
  ∑ i : Fin 2048, if i.val ≤ l ∧ l < i.val + w then x (ix2 r i) else 0

theorem window_one (x : FVec Ideal S64x2048 .f32) (r : Fin 64) (l : Fin 2048) : window x 1 r l = x (ix2 r l) := by
  unfold window
  rw [Finset.sum_eq_single l]
  · rw [if_pos (by omega)]
  · intro i _ hne
    rw [if_neg fun h => hne (Fin.ext (by omega))]
  · exact fun h => absurd (Finset.mem_univ _) h

theorem window_double (x : FVec Ideal S64x2048 .f32) (w : Nat) (r : Fin 64) (l : Nat) :
    window x w r l + (if w ≤ l then window x w r (l - w) else 0) = window x (w + w) r l := by
  unfold window
  by_cases hl : w ≤ l
  · rw [if_pos hl, ← Finset.sum_add_distrib]
    refine Finset.sum_congr rfl fun i _ => ?_
    by_cases h1 : i.val ≤ l ∧ l < i.val + w
    · rw [if_pos h1, if_neg (by omega), if_pos (by omega), add_zero]
    · by_cases h2 : i.val ≤ l - w ∧ l - w < i.val + w
      · rw [if_neg h1, if_pos h2, if_pos (by omega), zero_add]
      · rw [if_neg h1, if_neg h2, if_neg (by omega), zero_add]
  · rw [if_neg hl, add_zero]
    refine Finset.sum_congr rfl fun i _ => ?_
    congr 1
    exact propext ⟨fun h => by omega, fun h => by omega⟩

/-- One step of the kernel: the values `n` positions earlier are added where there are any. -/
def step (n : BitVec 32) (v : FVec Ideal S64x2048 .f32) : FVec Ideal S64x2048 .f32 :=
  addf v (select (cmpi .sge (iota .tc S64x2048 32 [1] iota_S64x2048_d1_w32) (broadcast S64x2048 n))
    (dynamicRotate 1 n none v rotates_S64x2048_d1) (broadcast S64x2048 (Scalar.ofBits .f32 0x00000000#32)))

theorem steps (a : Vec Ideal S64x2048 .f32) : Value.G1 (F := Ideal) a
    = step 1024#32 (step 512#32 (step 256#32 (step 128#32 (step 64#32 (step 32#32 (step 16#32 (step 8#32 (step 4#32
      (step 2#32 (step 1#32 a)))))))))) := rfl

theorem sle_words (a b : BitVec 32) (ha : a.toNat < 2048) (hb : b.toNat < 2048) : a.sle b = decide (a.toNat ≤ b.toNat) := by
  simp only [BitVec.sle, BitVec.toInt_eq_toNat_of_lt (show 2 * a.toNat < 2 ^ 32 by omega),
    BitVec.toInt_eq_toNat_of_lt (show 2 * b.toNat < 2 ^ 32 by omega), Nat.cast_le]

theorem toNat_word (l : Fin 2048) : (BitVec.ofNat 32 l.val).toNat = l.val :=
  (BitVec.toNat_ofNat ..).trans (Nat.mod_eq_of_lt (by omega))

theorem select_le (a b : BitVec 32) (ha : a.toNat < 2048) (hb : b.toNat < 2048) (u v : EReal) :
    Scalar.select (BitVec.ofBool (a.sle b)) u v = if a.toNat ≤ b.toNat then u else v := by
  rw [sle_words a b ha hb]
  by_cases h : a.toNat ≤ b.toNat
  · rw [if_pos h, decide_eq_true h]; rfl
  · rw [if_neg h, decide_eq_false h]; rfl

theorem step_at (n : BitVec 32) (hn : n.toNat < 2048) (v : FVec Ideal S64x2048 .f32) (r : Fin 64) (l : Fin 2048) :
    step n v (ix2 r l) = v (ix2 r l) + if n.toNat ≤ l.val then v (ix2 r ⟨l.val - n.toNat, by omega⟩) else 0 := by
  pointwise [step]
  refine congrArg (v (ix2 r l) + ·) ((select_le n (BitVec.ofNat 32 l.val) hn (by rw [toNat_word]; omega) _ _).trans ?_)
  rw [toNat_word]
  split_ifs with h
  · congr 2
    exact Fin.ext (by show (l.val + 2048 - n.toNat % 2048) % 2048 = l.val - n.toNat; omega)
  · rfl

theorem step_window (x v : FVec Ideal S64x2048 .f32) (n : BitVec 32) (w : Nat) (hw : n.toNat = w) (hn : w < 2048)
    (h : ∀ r (l : Fin 2048), v (ix2 r l) = window x w r l) (r : Fin 64) (l : Fin 2048) :
    step n v (ix2 r l) = window x (w + w) r l := by
  subst hw
  rw [step_at n hn, ← window_double]
  simp only [h]

theorem all (x : FVec Ideal S64x2048 .f32) (r : Fin 64) (l : Fin 2048) :
    Value.G1 (F := Ideal) x (ix2 r l) = window x 2048 r l := by
  rw [steps]
  have w1 := fun r l => step_window x x 1#32 1 rfl (by omega) (fun r l => (window_one x r l).symm) r l
  have w2 := fun r l => step_window x _ 2#32 2 rfl (by omega) w1 r l
  have w3 := fun r l => step_window x _ 4#32 4 rfl (by omega) w2 r l
  have w4 := fun r l => step_window x _ 8#32 8 rfl (by omega) w3 r l
  have w5 := fun r l => step_window x _ 16#32 16 rfl (by omega) w4 r l
  have w6 := fun r l => step_window x _ 32#32 32 rfl (by omega) w5 r l
  have w7 := fun r l => step_window x _ 64#32 64 rfl (by omega) w6 r l
  have w8 := fun r l => step_window x _ 128#32 128 rfl (by omega) w7 r l
  have w9 := fun r l => step_window x _ 256#32 256 rfl (by omega) w8 r l
  have w10 := fun r l => step_window x _ 512#32 512 rfl (by omega) w9 r l
  exact step_window x _ 1024#32 1024 rfl (by omega) w10 r l

theorem frame_bits : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem value : Cert.algebraic_Kernel6Ideal_Reference6Ideal := by
  intro m ρ m' ρ' _ hag
  refine ⟨fun c => Value.G1 (F := Ideal) (m (c.tc.loc main_arg0)), Value.run (F := Ideal) m ρ,
    (θ_run Cert.Reference6Ideal.defs _ _).mono (fun r h c => ⟨?_, (h c).2⟩) (Cert.Reference6Ideal.Value.run (F := Ideal) m' ρ')⟩
  refine (h c).1.trans ?_
  rw [hag c]
  funext y
  idx_vars y
  refine Eq.trans ?_ (all _ y0 y1).symm
  pointwise [window]
  refine Finset.sum_congr rfl fun i _ => ?_
  refine (select_le (BitVec.ofNat 32 i.val) (BitVec.ofNat 32 y1.val) (by rw [toNat_word]; omega) (by rw [toNat_word]; omega) _ _).trans ?_
  rw [toNat_word, toNat_word]
  by_cases h : i.val ≤ y1.val
  · rw [if_pos h, if_pos (by omega)]
  · rw [if_neg h, if_neg (by omega)]
    show (constant Cert.Reference6Ideal.S_ FTy.f32 0#32 : FVec Ideal _ _) ix0 = (0 : EReal)
    pointwise

end Cert.Proof.Running
-- ==== Proof.PromptResultsKernel.lean ====
/-
  The prompt's projection call read at one element: what the arrays prepared by the host hold, what each grid point's blocks
  hold, and each value the body computes in terms of `normRow` and `projCol`.
-/
module

public import proofs.«01_k».proof.Proof.PromptReference
public import proofs.«01_k».proof.Proof.Gen.Kernel7Ideal.Frame
public import Idealize.ShloMosaic.Lib.Claim
public import Idealize.ShloMosaic.Lib.Pipeline.ValueKit

@[expose] public section

set_option maxRecDepth 16384

noncomputable section

namespace Cert.Proof.PromptResultsKernel

open Cert.Kernel7Ideal Cert.Kernel7Ideal.Gen Idealize.ShloMosaic Idealize.ShloMosaic.TcCoe
open Idealize.ShloMosaic.Pipeline (Dat)
open Cert.Proof.Logistic Cert.Proof.PromptReference

variable (m : (ℓ : Loc nD τ sig) → Buf (Elt Ideal) ℓ)

/-- The block of every window at every grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val / 4, 0, t.val % 4] ∧ win0_9.index t = ![t.val / 4, 0, t.val % 4] ∧ win0_10.index t = ![t.val, 0] ∧ win0_11.index t = ![t.val, 0] ∧ win0_12.index t = ![t.val / 4, 0, t.val % 4] ∧ win0_13.index t = ![t.val, 0] :=
  (by decide +kernel : ∀ t : Fin grid0.N, _)

/-- The input rows. -/
abbrev inX (c : Dev nD) : FVec Ideal Cert.Reference2Ideal.S8x2048x1024 .f32 := m (c.tc.loc main_arg0)

/-- The scale of the normalisation. -/
abbrev inG (c : Dev nD) : FVec Ideal Cert.Reference2Ideal.S1024 .f32 := m (c.tc.loc main_arg1)

/-- The projection weights. -/
abbrev inW (c : Dev nD) : FVec Ideal Cert.Reference2Ideal.S1024x4104 .f32 := m (c.tc.loc main_arg2)

/-- The forget gates' bias. -/
abbrev inB (c : Dev nD) : FVec Ideal Cert.Reference2Ideal.S8 .f32 := m (c.tc.loc main_arg3)

theorem host6 (c : Dev nD) : V m c main_v6 = shapeCast S16384x1024 (m (c.tc.loc main_arg0)) shapeCasts_S8x2048x1024_S16384x1024 := by
  simp only [V, V0, hostOps0, hostOps0_1, hostOps0_2, hostOps0_3, hostOps0_4, List.flatten_cons, List.flatten_nil, List.append_nil,
    List.cons_append, List.nil_append]
  entry_read
  rfl

theorem host7 (c : Dev nD) : V m c main_v7 = shapeCast S1x1024 (m (c.tc.loc main_arg1)) shapeCasts_S1024_S1x1024 := by
  simp only [V, V0, hostOps0, hostOps0_1, hostOps0_2, hostOps0_3, hostOps0_4, List.flatten_cons, List.flatten_nil, List.append_nil,
    List.cons_append, List.nil_append]
  entry_read
  rfl

theorem host8 (c : Dev nD) : V m c main_v8 = (truncf .bf16 (extractStridedSlice S1024x2048 ![0, 0] (m (c.tc.loc main_arg2)) slices_S1024x4104_S1024x2048_0_0) bitsLt_bf16_f32 : FVec Ideal S1024x2048 .bf16) := by
  simp only [V, V0, hostOps0, hostOps0_1, hostOps0_2, hostOps0_3, hostOps0_4, List.flatten_cons, List.flatten_nil, List.append_nil,
    List.cons_append, List.nil_append]
  entry_read
  rfl

theorem host9 (c : Dev nD) : V m c main_v9 = (truncf .bf16 (pad S1024x128 ![0, 0] ![0, 120] ![0, 0] (extractStridedSlice S1024x8 ![0, 2048] (m (c.tc.loc main_arg2)) slices_S1024x4104_S1024x8_0_2048) (sitofp .f32 (constantI S_ 32 0#32)) pads_S1024x8_S1024x128_000_01200 h_S_) bitsLt_bf16_f32 : FVec Ideal S1024x128 .bf16) := by
  simp only [V, V0, hostOps0, hostOps0_1, hostOps0_2, hostOps0_3, hostOps0_4, List.flatten_cons, List.flatten_nil, List.append_nil,
    List.cons_append, List.nil_append]
  entry_read
  rfl

theorem host10 (c : Dev nD) : V m c main_v10 = (truncf .bf16 (extractStridedSlice S1024x2048 ![0, 2056] (m (c.tc.loc main_arg2)) slices_S1024x4104_S1024x2048_0_2056) bitsLt_bf16_f32 : FVec Ideal S1024x2048 .bf16) := by
  simp only [V, V0, hostOps0, hostOps0_1, hostOps0_2, hostOps0_3, hostOps0_4, List.flatten_cons, List.flatten_nil, List.append_nil,
    List.cons_append, List.nil_append]
  entry_read
  rfl

theorem host5 (c : Dev nD) : V m c main_v5 = (shapeCast S1x128 (pad S128 ![0] ![120] ![0] (inB m c : FVec Ideal S8 .f32) (sitofp .f32 (constantI S_ 32 0#32)) pads_S8_S128_01200 h_S_) shapeCasts_S128_S1x128 : FVec Ideal S1x128 .f32) := by
  simp only [V, V0, hostOps0, hostOps0_1, hostOps0_2, hostOps0_3, hostOps0_4, List.flatten_cons, List.flatten_nil, List.append_nil,
    List.cons_append, List.nil_append]
  entry_read
  rfl

theorem block1 (c : Dev nD) (t : Fin cfg0.N) : iblk m c 1 t = V m c main_v7 := by
  blk_ext! [iblk, idx t]

theorem block2 (c : Dev nD) (t : Fin cfg0.N) : iblk m c 2 t = V m c main_v8 := by
  blk_ext! [iblk, idx t]

theorem block3 (c : Dev nD) (t : Fin cfg0.N) : iblk m c 3 t = V m c main_v9 := by
  blk_ext! [iblk, idx t]

theorem block4 (c : Dev nD) (t : Fin cfg0.N) : iblk m c 4 t = V m c main_v10 := by
  blk_ext! [iblk, idx t]

theorem block5 (c : Dev nD) (t : Fin cfg0.N) : iblk m c 5 t = V m c main_v5 := by
  blk_ext! [iblk, idx t]

theorem block0 (c : Dev nD) (t : Fin cfg0.N) (r : Fin 512) (k : Fin 1024) (q : Fin 16384) (h : q.val = t.val * 512 + r.val) :
    (iblk m c 0 t : FVec Ideal S512x1024 .f32) (ix2 r k) = (V m c main_v6 : FVec Ideal S16384x1024 .f32) (ix2 q k) := by
  blk_ext [iblk, idx t]

theorem flat_at (X : FVec Ideal S8x2048x1024 .f32) (q : Fin 16384) (k : Fin 1024) (p : Fin 8) (s : Fin 2048)
    (h : q.val = p.val * 2048 + s.val) :
    shapeCast S16384x1024 X shapeCasts_S8x2048x1024_S16384x1024 (ix2 q k) = X (ix3 p s k) := by
  pointwise
  have hp : q.val / 2048 = p.val := by omega
  have hs : q.val % 2048 = s.val := by omega
  simp only [hp, hs]

theorem rows_at (c : Dev nD) (t : Fin cfg0.N) (r : Fin 512) (k : Fin 1024) (p : Fin 8) (s : Fin 2048)
    (h : t.val * 512 + r.val = p.val * 2048 + s.val) :
    (iblk m c 0 t : FVec Ideal S512x1024 .f32) (ix2 r k) = inX m c (ix3 p s k) :=
  (block0 m c t r k ⟨t.val * 512 + r.val, by omega⟩ rfl).trans
    ((congrFun (host6 m c) _).trans (flat_at (inX m c) _ k p s h))

theorem scale_at (c : Dev nD) (t : Fin cfg0.N) (k : Fin 1024) :
    (iblk m c 1 t : FVec Ideal S1x1024 .f32) (ix2 0 k) = inG m c (ix1 k) := by
  rw [block1, host7]
  pointwise

theorem main_at (c : Dev nD) (t : Fin cfg0.N) (k : Fin 1024) (j : Fin 2048) :
    (iblk m c 2 t : FVec Ideal S1024x2048 .bf16) (ix2 k j) = inW m c (ix2 k ⟨j.val, by omega⟩) := by
  rw [block2, host8]
  pointwise

theorem forget_at (c : Dev nD) (t : Fin cfg0.N) (k : Fin 1024) (j : Fin 8) :
    (iblk m c 3 t : FVec Ideal S1024x128 .bf16) (ix2 k ⟨j.val, by omega⟩) = inW m c (ix2 k ⟨2048 + j.val, by omega⟩) := by
  rw [block3, host9]
  pointwise

theorem gate_at (c : Dev nD) (t : Fin cfg0.N) (k : Fin 1024) (j : Fin 2048) :
    (iblk m c 4 t : FVec Ideal S1024x2048 .bf16) (ix2 k j) = inW m c (ix2 k ⟨2056 + j.val, by omega⟩) := by
  rw [block4, host10]
  pointwise

theorem bias_at (c : Dev nD) (t : Fin cfg0.N) (j : Fin 8) :
    (iblk m c 5 t : FVec Ideal S1x128 .f32) (ix2 0 ⟨j.val, by omega⟩) = inB m c (ix1 j) := by
  rw [block5, host5]
  pointwise

section Body

variable {P0 : FVec Ideal S512x1024 .f32} {P1 : FVec Ideal S1x1024 .f32} {P2 : FVec Ideal S1024x2048 .bf16}
variable {x : FVec Ideal Cert.Reference2Ideal.S8x2048x1024 .f32} {g : FVec Ideal Cert.Reference2Ideal.S1024 .f32}
variable {w : FVec Ideal Cert.Reference2Ideal.S1024x4104 .f32} {b : FVec Ideal Cert.Reference2Ideal.S8 .f32}
variable {p : Fin 8} {s : Fin 2048} {r : Fin 512}

theorem hidden_at (h0 : ∀ k, P0 (ix2 r k) = x (ix3 p s k)) (h1 : ∀ k, P1 (ix2 0 k) = g (ix1 k)) (k : Fin 1024) :
    k0_pay2 (F := Ideal) P0 P1 (ix2 r k) = normRow x g p s k := by
  pointwise [k0_pay2, normRow]
  simp only [h0, h1]

theorem proj_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 2048) :
    k0_pay3 (F := Ideal) P0 P1 P2 (ix2 r j) = projCol x g w p s ⟨j.val, by omega⟩ := by
  pointwise [k0_pay3, projCol]
  exact Finset.sum_congr rfl fun k _ => congrArg₂ (· * ·) (hidden_at h0 h1 k) (h2 k j)

theorem logForget_at {H : FVec Ideal S512x1024 .bf16} {P3 : FVec Ideal S1024x128 .bf16} {P5 : FVec Ideal S1x128 .f32}
    (h0 : ∀ k, H (ix2 r k) = normRow x g p s k)
    (h3 : ∀ (k : Fin 1024) (j : Fin 8), P3 (ix2 k ⟨j.val, by omega⟩) = w (ix2 k ⟨2048 + j.val, by omega⟩))
    (h5 : ∀ j : Fin 8, P5 (ix2 0 ⟨j.val, by omega⟩) = b (ix1 j)) (j : Fin 8) :
    k0_pay13 (F := Ideal) H P3 P5 (ix3 0 j r) = logSigmoid (projCol x g w p s ⟨2048 + j.val, by omega⟩ + b (ix1 j)) := by
  have hz : (∑ k : Fin 1024, (H (ix2 r k) : EReal) * P3 (ix2 k ⟨j.val, by omega⟩)) + P5 (ix2 0 ⟨j.val, by omega⟩)
      = projCol x g w p s ⟨2048 + j.val, by omega⟩ + b (ix1 j) :=
    congrArg₂ (· + ·) (Finset.sum_congr rfl fun k _ => congrArg₂ (· * ·) (h0 k) (h3 k j)) (h5 j)
  rw [← hz]
  pointwise [k0_pay13, logSigmoid]
  rw [zero_sub]
  rfl

theorem outGate_at {H : FVec Ideal S512x1024 .bf16} {P4 : FVec Ideal S1024x2048 .bf16}
    (h0 : ∀ k, H (ix2 r k) = normRow x g p s k)
    (h4 : ∀ (k : Fin 1024) (j : Fin 2048), P4 (ix2 k j) = w (ix2 k ⟨2056 + j.val, by omega⟩)) (j : Fin 2048) :
    k0_pay1 (F := Ideal) (k0_pay14 (F := Ideal) H P4) (ix2 r j) = sigmoid (projCol x g w p s ⟨2056 + j.val, by omega⟩) := by
  have hz : (∑ k : Fin 1024, (H (ix2 r k) : EReal) * P4 (ix2 k j)) = projCol x g w p s ⟨2056 + j.val, by omega⟩ :=
    Finset.sum_congr rfl fun k _ => congrArg₂ (· * ·) (h0 k) (h4 k j)
  rw [← hz]
  pointwise [k0_pay1, k0_pay14, sigmoid]
  rw [zero_sub]

theorem first_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay4 (F := Ideal) P0 P1 P2 (ix2 r j) = projCol x g w p s ⟨j.val, by omega⟩ := by
  pointwise [k0_pay4]
  exact proj_at h0 h1 h2 _

theorem query_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay5 (F := Ideal) P0 P1 P2 (ix2 r j) = projCol x g w p s ⟨512 + j.val, by omega⟩ * Ideal.ofBits .f32 0x3E000000#32 := by
  pointwise [k0_pay5]
  exact congrArg (· * _) (proj_at h0 h1 h2 _)

theorem key_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay6 (F := Ideal) P0 P1 P2 (ix2 r j) = projCol x g w p s ⟨1024 + j.val, by omega⟩ := by
  pointwise [k0_pay6]
  exact proj_at h0 h1 h2 _

theorem value_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay7 (F := Ideal) P0 P1 P2 (ix2 r j) = projCol x g w p s ⟨1536 + j.val, by omega⟩ := by
  pointwise [k0_pay7]
  exact proj_at h0 h1 h2 _

theorem keyT_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay8 (F := Ideal) P0 P1 P2 (ix3 0 j r) = projCol x g w p s ⟨1024 + j.val, by omega⟩ := by
  pointwise [k0_pay8]
  exact key_at h0 h1 h2 _

theorem valueT_at (h0 : ∀ k, P0 (ix2 r k) = x (ix3 p s k)) (h1 : ∀ k, P1 (ix2 0 k) = g (ix1 k))
    (h2 : ∀ (k : Fin 1024) (j : Fin 2048), P2 (ix2 k j) = w (ix2 k ⟨j.val, by omega⟩)) (j : Fin 512) :
    k0_pay10 (F := Ideal) (k0_pay9 (F := Ideal) P0 P1 P2) (ix3 0 j r) = projCol x g w p s ⟨1536 + j.val, by omega⟩ := by
  pointwise [k0_pay10, k0_pay9]
  exact value_at h0 h1 h2 _

end Body

end Cert.Proof.PromptResultsKernel
-- ==== Proof.PromptResultsValue.lean ====
/-
  The eight arrays the prompt's projection call leaves, each as one function of the arguments: at every grid point the value
  written is the reference's at the same place, and the points' blocks cover each array.
-/
module

public import proofs.«01_k».proof.Proof.PromptResultsKernel

@[expose] public section

set_option maxRecDepth 16384

noncomputable section

namespace Cert.Proof.PromptResultsValue

open Cert.Kernel7Ideal Cert.Kernel7Ideal.Gen Idealize.ShloMosaic Idealize.ShloMosaic.TcCoe
open Idealize.ShloMosaic.Pipeline (Dat)
open Cert.Proof.Logistic Cert.Proof.PromptReference Cert.Proof.PromptResultsKernel

variable (m : (ℓ : Loc nD τ sig) → Buf (Elt Ideal) ℓ)

theorem pointU (c : Dev nD) (t : Fin cfg0.N) (y : S512x512.Idx) :
    k0_pay4 (F := Ideal) (iblk m c 0 t) (iblk m c 1 t) (iblk m c 2 t) y = outU (inX m c) (inG m c) (inW m c) (((cfg0.win 6).blk t).view.emb y) := by
  idx_vars y
  have ht : t.val < 32 := t.isLt
  have he : ((cfg0.win 6).blk t).view.emb (ix2 y0 y1) = ix2 ⟨t.val * 512 + y0.val, by omega⟩ y1 := by
    blk_ext [idx t]
  exact ((first_at (fun k => rows_at m c t y0 k _ _ (by show t.val * 512 + y0.val = (t.val * 512 + y0.val) / 2048 * 2048 + (t.val * 512 + y0.val) % 2048; omega)) (fun k => scale_at m c t k) (fun k i => main_at m c t k i) y1).trans (outU_apply (inX m c) (inG m c) (inW m c) _ y1).symm).trans (congrArg _ he.symm)

set_option maxHeartbeats 2000000 in
theorem finalU (c : Dev nD) : (dats m 0 c).arrAt 6 cfg0.N = outU (inX m c) (inG m c) (inW m c) := by
  refine (dats m 0 c).arrAt_eq_of_covers 6 _ (by decide +kernel) fun t _ y => ?_
  blk_simp
  rw [after0_6]
  frame_out
  exact pointU m c t y

theorem pointQ (c : Dev nD) (t : Fin cfg0.N) (y : S512x512.Idx) :
    k0_pay5 (F := Ideal) (iblk m c 0 t) (iblk m c 1 t) (iblk m c 2 t) y = outQ (inX m c) (inG m c) (inW m c) (((cfg0.win 7).blk t).view.emb y) := by
  idx_vars y
  have ht : t.val < 32 := t.isLt
  have he : ((cfg0.win 7).blk t).view.emb (ix2 y0 y1) = ix2 ⟨t.val * 512 + y0.val, by omega⟩ y1 := by
    blk_ext [idx t]
  exact ((query_at (fun k => rows_at m c t y0 k _ _ (by show t.val * 512 + y0.val = (t.val * 512 + y0.val) / 2048 * 2048 + (t.val * 512 + y0.val) % 2048; omega)) (fun k => scale_at m c t k) (fun k i => main_at m c t k i) y1).trans (outQ_apply (inX m c) (inG m c) (inW m c) _ y1).symm).trans (congrArg _ he.symm)

set_option maxHeartbeats 2000000 in
theorem finalQ (c : Dev nD) : (dats m 0 c).arrAt 7 cfg0.N = outQ (inX m c) (inG m c) (inW m c) := by
  refine (dats m 0 c).arrAt_eq_of_covers 7 _ (by decide +kernel) fun t _ y => ?_
  blk_simp
  rw [after0_7]
  frame_out
  exact pointQ m c t y

theorem pointK (c : Dev nD) (t : Fin cfg0.N) (y : S512x512.Idx) :
    k0_pay11 (F := Ideal) (k0_pay6 (F := Ideal) (iblk m c 0 t) (iblk m c 1 t) (iblk m c 2 t)) y = outK (inX m c) (inG m c) (inW m c) (((cfg0.win 10).blk t).view.emb y) := by
  idx_vars y
  have ht : t.val < 32 := t.isLt
  have he : ((cfg0.win 10).blk t).view.emb (ix2 y0 y1) = ix2 ⟨t.val * 512 + y0.val, by omega⟩ y1 := by
    blk_ext [idx t]
  exact ((key_at (fun k => rows_at m c t y0 k _ _ (by show t.val * 512 + y0.val = (t.val * 512 + y0.val) / 2048 * 2048 + (t.val * 512 + y0.val) % 2048; omega)) (fun k => scale_at m c t k) (fun k i => main_at m c t k i) y1).trans (outK_apply (inX m c) (inG m c) (inW m c) _ y1).symm).trans (congrArg _ he.symm)

set_option maxHeartbeats 2000000 in
theorem finalK (c : Dev nD) : (dats m 0 c).arrAt 10 cfg0.N = outK (inX m c) (inG m c) (inW m c) := by
  refine (dats m 0 c).arrAt_eq_of_covers 10 _ (by decide +kernel) fun t _ y => ?_
  blk_simp
  rw [after0_10]
  frame_out
  exact pointK m c t y

theorem pointV (c : Dev nD) (t : Fin cfg0.N) (y : S512x512.Idx) :
    k0_pay12 (F := Ideal) (k0_pay7 (F := Ideal) (iblk m c 0 t) (iblk m c 1 t) (iblk m c 2 t)) y = outV (inX m c) (inG m c) (inW m c) (((cfg0.win 11).blk t).view.emb y) := by
  idx_vars y
  have ht : t.val < 32 := t.isLt
  have he : ((cfg0.win 11).blk t).view.emb (ix2 y0 y1) = ix2 ⟨t.val * 512 + y0.val, by omega⟩ y1 := by
    blk_ext [idx t]
  exact ((value_at (fun k => rows_at m c t y0 k _ _ (by show t.val * 512 + y0.val = (t.val * 512 + y0.val) / 2048 * 2048 + (t.val * 512 + y0.val) % 2048; omega)) (fun k => scale_at m c t k) (fun k i => main_at m c t k i) y1).trans (outV_apply (inX m c) (inG m c) (inW m c) _ y1).symm).trans (congrArg _ he.symm)

set_option maxHeartbeats 2000000 in
theorem finalV (c : Dev nD) : (dats m 0 c).arrAt 11 cfg0.N = outV (inX m c) (inG m c) (inW m c) := by
  refine (dats m 0 c).arrAt_eq_of_covers 11 _ (by decide +kernel) fun t _ y => ?_
  blk_simp
  rw [after0_11]
  frame_out
  exact pointV m c t y

theorem pointG (c : Dev nD) (t : Fin cfg0.N) (y : S512x2048.Idx) :
    k0_pay1 (F := Ideal) (k0_pay14 (F := Ideal) (k0_pay2 (F := Ideal) (iblk m c 0 t) (iblk m c 1 t)) (iblk m c 4 t)) y = outG (inX m c) (inG m c) (inW m c) (((cfg0.win 13).blk t).view.emb y) := by
  idx_vars y
  have ht : t.val < 32 := t.isLt
  have he : ((cfg0.win 13).blk t).view.emb (ix2 y0 y1) = ix2 ⟨t.val * 512 + y0.val, by omega⟩ y1 := by
    blk_ext [idx t]
  exact ((outGate_at (fun k => hidden_at (fun k => rows_at m c t y0 k _ _ (by show t.val * 512 + y0.val = (t.val * 512 + y0.val) / 2048 * 2048 + (t.val * 512 + y0.val) % 2048; omega)) (fun k => scale_at m c t k) k) (fun k i => gate_at m c t k i) y1).trans (outG_apply (inX m c) (inG m c) (inW m c) _ y1).symm).trans (congrArg _ he.symm)

set_option maxHeartbeats 2000000 in
theorem finalG (c : Dev nD) : (dats m 0 c).arrAt 13 cfg0.N = outG (inX m c) (inG m c) (inW m c) := by
  refine (dats m 0 c).arrAt_eq_of_covers 13 _ (by decide +kernel) fun t _ y => ?_
  blk_simp
  rw [after0_13]
  unfold_out out0_13
  frame_out
  exact pointG m c t y

theorem pointKT (c : Dev nD) (t : Fin cfg0.N) (y : S1x512x512.Idx) :
    k0_pay8 (F := Ideal) (iblk m c 0 t) (iblk m c 1 t) (iblk m c 2 t) y = outKT (inX m c) (inG m c) (inW m c) (((cfg0.win 8).blk t).view.emb y) := by
  idx_vars y
  obtain rfl : y0 = 0 := Subsingleton.elim _ _
  have ht : t.val < 32 := t.isLt
  have he : ((cfg0.win 8).blk t).view.emb (ix3 0 y1 y2) = ix3 ⟨t.val / 4, by omega⟩ y1 ⟨t.val % 4 * 512 + y2.val, by omega⟩ := by
    blk_ext [idx t]
  exact ((keyT_at (fun k => rows_at m c t y2 k _ _ (by show t.val * 512 + y2.val = t.val / 4 * 2048 + (t.val % 4 * 512 + y2.val); omega)) (fun k => scale_at m c t k) (fun k i => main_at m c t k i) y1).trans (outKT_apply (inX m c) (inG m c) (inW m c) _ y1 _).symm).trans (congrArg _ he.symm)

set_option maxHeartbeats 2000000 in
theorem finalKT (c : Dev nD) : (dats m 0 c).arrAt 8 cfg0.N = outKT (inX m c) (inG m c) (inW m c) := by
  refine (dats m 0 c).arrAt_eq_of_covers 8 _ (by decide +kernel) fun t _ y => ?_
  blk_simp
  rw [after0_8]
  frame_out
  exact pointKT m c t y

theorem pointVT (c : Dev nD) (t : Fin cfg0.N) (y : S1x512x512.Idx) :
    k0_pay10 (F := Ideal) (k0_pay9 (F := Ideal) (iblk m c 0 t) (iblk m c 1 t) (iblk m c 2 t)) y = outVT (inX m c) (inG m c) (inW m c) (((cfg0.win 9).blk t).view.emb y) := by
  idx_vars y
  obtain rfl : y0 = 0 := Subsingleton.elim _ _
  have ht : t.val < 32 := t.isLt
  have he : ((cfg0.win 9).blk t).view.emb (ix3 0 y1 y2) = ix3 ⟨t.val / 4, by omega⟩ y1 ⟨t.val % 4 * 512 + y2.val, by omega⟩ := by
    blk_ext [idx t]
  exact ((valueT_at (fun k => rows_at m c t y2 k _ _ (by show t.val * 512 + y2.val = t.val / 4 * 2048 + (t.val % 4 * 512 + y2.val); omega)) (fun k => scale_at m c t k) (fun k i => main_at m c t k i) y1).trans (outVT_apply (inX m c) (inG m c) (inW m c) _ y1 _).symm).trans (congrArg _ he.symm)

set_option maxHeartbeats 2000000 in
theorem finalVT (c : Dev nD) : (dats m 0 c).arrAt 9 cfg0.N = outVT (inX m c) (inG m c) (inW m c) := by
  refine (dats m 0 c).arrAt_eq_of_covers 9 _ (by decide +kernel) fun t _ y => ?_
  blk_simp
  rw [after0_9]
  frame_out
  exact pointVT m c t y

theorem pointF (c : Dev nD) (t : Fin cfg0.N) (y : S1x8x512.Idx) :
    k0_pay13 (F := Ideal) (k0_pay2 (F := Ideal) (iblk m c 0 t) (iblk m c 1 t)) (iblk m c 3 t) (iblk m c 5 t) y = outF (inX m c) (inG m c) (inW m c) (inB m c) (((cfg0.win 12).blk t).view.emb y) := by
  idx_vars y
  obtain rfl : y0 = 0 := Subsingleton.elim _ _
  have ht : t.val < 32 := t.isLt
  have he : ((cfg0.win 12).blk t).view.emb (ix3 0 y1 y2) = ix3 ⟨t.val / 4, by omega⟩ y1 ⟨t.val % 4 * 512 + y2.val, by omega⟩ := by
    blk_ext [idx t]
  exact ((logForget_at (fun k => hidden_at (fun k => rows_at m c t y2 k _ _ (by show t.val * 512 + y2.val = t.val / 4 * 2048 + (t.val % 4 * 512 + y2.val); omega)) (fun k => scale_at m c t k) k) (fun k i => forget_at m c t k i) (fun i => bias_at m c t i) y1).trans (outF_apply (inX m c) (inG m c) (inW m c) (inB m c) _ y1 _).symm).trans (congrArg _ he.symm)

set_option maxHeartbeats 2000000 in
theorem finalF (c : Dev nD) : (dats m 0 c).arrAt 12 cfg0.N = outF (inX m c) (inG m c) (inW m c) (inB m c) := by
  refine (dats m 0 c).arrAt_eq_of_covers 12 _ (by decide +kernel) fun t _ y => ?_
  blk_simp
  rw [after0_12]
  unfold_out out0_12
  frame_out
  exact pointF m c t y

end Cert.Proof.PromptResultsValue
-- ==== Proof.PromptResults.lean ====
/-
  The layer's results that the prompt's projections make up, at one element: the keys and the values by head, the logarithms of
  the forget gates, and the pooling rows that the state keeps, which are each sequence's last fifteen.
-/
module

public import proofs.«01_k».proof.Proof.PromptResultsValue
public import proofs.«01_k».proof.Proof.Gen.Reference7Ideal.Run

@[expose] public section

set_option maxRecDepth 16384

noncomputable section

namespace Cert.Proof.PromptResults

open Idealize.ShloMosaic Cert.Proof.Logistic Cert.Proof.PromptReference

section Reference

open Cert.Reference7Ideal Cert.Reference7Ideal.Gen

/-- The keys by head. -/
def keys (x : FVec Ideal S8x2048x1024 .f32) (g : FVec Ideal S1024 .f32) (w : FVec Ideal S1024x4104 .f32) : FVec Ideal S1x8x2048x8x64 .f32 :=
  shapeCast _ (extractStridedSlice S8x2048x512 ![0, 0, 1024] (projected x g w) slices_S8x2048x4104_S8x2048x512_0_0_1024) shapeCasts_S8x2048x512_S1x8x2048x8x64

/-- The values by head. -/
def values (x : FVec Ideal S8x2048x1024 .f32) (g : FVec Ideal S1024 .f32) (w : FVec Ideal S1024x4104 .f32) : FVec Ideal S1x8x2048x8x64 .f32 :=
  shapeCast _ (extractStridedSlice S8x2048x512 ![0, 0, 1536] (projected x g w) slices_S8x2048x4104_S8x2048x512_0_0_1536) shapeCasts_S8x2048x512_S1x8x2048x8x64

/-- The logarithms of the forget gates. -/
def forgets (x : FVec Ideal S8x2048x1024 .f32) (g : FVec Ideal S1024 .f32) (w : FVec Ideal S1024x4104 .f32) (b : FVec Ideal S8 .f32) : FVec Ideal S1x8x2048x8 .f32 :=
  broadcastInDim S1x8x2048x8 ![1, 2, 3] bcast_S8x2048x8_S1x8x2048x8_1_2_3 (Host.negf (select (cmpf .une (subf (Host.negf (forgetLogit x g w b)) (broadcastInDim S8x2048x8 ![] bcast_S_S8x2048x8 (constant S_ .f32 0x00000000#32))) (subf (Host.negf (forgetLogit x g w b)) (broadcastInDim S8x2048x8 ![] bcast_S_S8x2048x8 (constant S_ .f32 0x00000000#32)))) (addf (Host.negf (forgetLogit x g w b)) (broadcastInDim S8x2048x8 ![] bcast_S_S8x2048x8 (constant S_ .f32 0x00000000#32))) (addf (maximumf (Host.negf (forgetLogit x g w b)) (broadcastInDim S8x2048x8 ![] bcast_S_S8x2048x8 (constant S_ .f32 0x00000000#32))) (Host.log1p (Host.exp (Host.negf (Host.absf (subf (Host.negf (forgetLogit x g w b)) (broadcastInDim S8x2048x8 ![] bcast_S_S8x2048x8 (constant S_ .f32 0x00000000#32))))))))))

/-- The pooling rows that the state keeps. -/
def pool (x : FVec Ideal S8x2048x1024 .f32) (g : FVec Ideal S1024 .f32) (w : FVec Ideal S1024x4104 .f32) : FVec Ideal S1x8x15x512 .f32 :=
  broadcastInDim S1x8x15x512 ![1, 2, 3] bcast_S8x15x512_S1x8x15x512_1_2_3 (extractStridedSlice S8x15x512 ![0, 2033, 0] (extractStridedSlice S8x2048x512 ![0, 0, 0] (projected x g w) slices_S8x2048x4104_S8x2048x512_0_0_0) slices_S8x2048x512_S8x15x512_0_2033_0)

theorem forgets_apply (x : FVec Ideal S8x2048x1024 .f32) (g : FVec Ideal S1024 .f32) (w : FVec Ideal S1024x4104 .f32) (b : FVec Ideal S8 .f32) (p : Fin 8) (s : Fin 2048) (j : Fin 8) :
    forgets x g w b (ix4 0 p s j) = logSigmoid (projCol x g w p s ⟨2048 + j.val, by omega⟩ + b (ix1 j)) := by
  rw [← forgetLogit_apply]
  pointwise [forgets]
  generalize forgetLogit x g w b (ix3 p s j) = a
  simp only [ne_eq, not_true_eq_false, if_false]
  exact neg_softplus a

theorem keys_apply (x : FVec Ideal S8x2048x1024 .f32) (g : FVec Ideal S1024 .f32) (w : FVec Ideal S1024x4104 .f32) (p : Fin 8) (s : Fin 2048) (h : Fin 8) (d : Fin 64) :
    keys x g w (ix5 0 p s h d) = projCol x g w p s ⟨1024 + (h.val * 64 + d.val), by omega⟩ := by
  rw [← projected_apply]
  pointwise [keys]

theorem values_apply (x : FVec Ideal S8x2048x1024 .f32) (g : FVec Ideal S1024 .f32) (w : FVec Ideal S1024x4104 .f32) (p : Fin 8) (s : Fin 2048) (h : Fin 8) (d : Fin 64) :
    values x g w (ix5 0 p s h d) = projCol x g w p s ⟨1536 + (h.val * 64 + d.val), by omega⟩ := by
  rw [← projected_apply]
  pointwise [values]

theorem pool_apply (x : FVec Ideal S8x2048x1024 .f32) (g : FVec Ideal S1024 .f32) (w : FVec Ideal S1024x4104 .f32) (p : Fin 8) (i : Fin 15) (d : Fin 512) :
    pool x g w (ix4 0 p i d) = projCol x g w p ⟨2033 + i.val, by omega⟩ ⟨d.val, by omega⟩ := by
  rw [← projected_apply]
  pointwise [pool]

end Reference

section Kernel

open Cert.Kernel7Ideal Cert.Kernel7Ideal.Gen

variable (m : (ℓ : Loc nD τ sig) → Buf (Elt Ideal) ℓ)

open Cert.Proof.PromptResultsKernel Cert.Proof.PromptResultsValue

/-- What the host finds after the call. -/
abbrev after (c : Dev nD) (b : Ref sig .tc) : Buf (Elt Ideal) ((c.tc : Thread nD τ).loc b) :=
  Pipeline.afterTail₀ cfgs (dats m) 0 (V0 m) [hostOps1] c b

/-- What the call leaves, as a valuation. -/
abbrev left (c : Dev nD) : Valuation τ sig (Elt Ideal) :=
  Pipeline.withArrays (cfgs 0).spec c (V0 m c) fun w => (dats m 0 c).arrAt w (cfgs 0).N

theorem left_u (c : Dev nD) : (left m c (Proc.devRef .tc main_v11_0) : FVec Ideal S16384x512 .f32) = outU (inX m c) (inG m c) (inW m c) :=
  (Pipeline.withArrays_arr (cfgs 0).spec launch0.win.arr_inj c (V0 m c) _ 6).trans (finalU m c)

theorem left_k (c : Dev nD) : (left m c (Proc.devRef .tc main_v11_2) : FVec Ideal S8x512x2048 .f32) = outKT (inX m c) (inG m c) (inW m c) :=
  (Pipeline.withArrays_arr (cfgs 0).spec launch0.win.arr_inj c (V0 m c) _ 8).trans (finalKT m c)

theorem left_v (c : Dev nD) : (left m c (Proc.devRef .tc main_v11_3) : FVec Ideal S8x512x2048 .f32) = outVT (inX m c) (inG m c) (inW m c) :=
  (Pipeline.withArrays_arr (cfgs 0).spec launch0.win.arr_inj c (V0 m c) _ 9).trans (finalVT m c)

theorem left_f (c : Dev nD) : (left m c (Proc.devRef .tc main_v11_6) : FVec Ideal S8x8x2048 .f32) = outF (inX m c) (inG m c) (inW m c) (inB m c) :=
  (Pipeline.withArrays_arr (cfgs 0).spec launch0.win.arr_inj c (V0 m c) _ 12).trans (finalF m c)

theorem read_k (c : Dev nD) : after m c main_v16 = (broadcastInDim S1x8x2048x8x64 ![1, 2, 3, 4] bcast_S8x2048x8x64_S1x8x2048x8x64_1_2_3_4
    (transpose S8x2048x8x64 [0, 3, 1, 2] (shapeCast S8x8x64x2048 (left m c (Proc.devRef .tc main_v11_2) : FVec Ideal S8x512x2048 .f32)
      shapeCasts_S8x512x2048_S8x8x64x2048) transposes_S8x8x64x2048_S8x2048x8x64_0_3_1_2) : FVec Ideal _ .f32) := by
  unfold after Pipeline.afterTail₀
  simp only [hostOps1, List.flatten_cons, List.flatten_nil, List.append_nil, List.cons_append, List.nil_append]
  entry_read
  rfl

theorem read_v (c : Dev nD) : after m c main_v19 = (broadcastInDim S1x8x2048x8x64 ![1, 2, 3, 4] bcast_S8x2048x8x64_S1x8x2048x8x64_1_2_3_4
    (transpose S8x2048x8x64 [0, 3, 1, 2] (shapeCast S8x8x64x2048 (left m c (Proc.devRef .tc main_v11_3) : FVec Ideal S8x512x2048 .f32)
      shapeCasts_S8x512x2048_S8x8x64x2048) transposes_S8x8x64x2048_S8x2048x8x64_0_3_1_2) : FVec Ideal _ .f32) := by
  unfold after Pipeline.afterTail₀
  simp only [hostOps1, List.flatten_cons, List.flatten_nil, List.append_nil, List.cons_append, List.nil_append]
  entry_read
  rfl

theorem read_f (c : Dev nD) : after m c main_v21 = (broadcastInDim S1x8x2048x8 ![1, 2, 3] bcast_S8x2048x8_S1x8x2048x8_1_2_3
    (transpose S8x2048x8 [0, 2, 1] (left m c (Proc.devRef .tc main_v11_6) : FVec Ideal S8x8x2048 .f32) transposes_S8x8x2048_S8x2048x8_0_2_1) : FVec Ideal _ .f32) := by
  unfold after Pipeline.afterTail₀
  simp only [hostOps1, List.flatten_cons, List.flatten_nil, List.append_nil, List.cons_append, List.nil_append]
  entry_read
  rfl

theorem read_p (c : Dev nD) : after m c main_v22 = (broadcastInDim S1x8x15x512 ![1, 2, 3] bcast_S8x15x512_S1x8x15x512_1_2_3
    (extractStridedSlice S8x15x512 ![0, 2033, 0] (shapeCast S8x2048x512 (left m c (Proc.devRef .tc main_v11_0) : FVec Ideal S16384x512 .f32)
      shapeCasts_S16384x512_S8x2048x512) slices_S8x2048x512_S8x15x512_0_2033_0) : FVec Ideal _ .f32) := by
  unfold after Pipeline.afterTail₀
  simp only [hostOps1, List.flatten_cons, List.flatten_nil, List.append_nil, List.cons_append, List.nil_append]
  entry_read
  rfl

/-- The call's keys, laid out by head, are the reference's. -/
theorem keys_eq (c : Dev nD) : after m c main_v16 = keys (inX m c) (inG m c) (inW m c) := by
  rw [read_k, left_k]
  funext y
  idx_vars y
  obtain rfl : y0 = 0 := Subsingleton.elim _ _
  refine Eq.trans ?_ (keys_apply _ _ _ y1 y2 y3 y4).symm
  refine Eq.trans ?_ (outKT_apply _ _ _ y1 ⟨y3.val * 64 + y4.val, by omega⟩ y2)
  pointwise

theorem values_eq (c : Dev nD) : after m c main_v19 = values (inX m c) (inG m c) (inW m c) := by
  rw [read_v, left_v]
  funext y
  idx_vars y
  obtain rfl : y0 = 0 := Subsingleton.elim _ _
  refine Eq.trans ?_ (values_apply _ _ _ y1 y2 y3 y4).symm
  refine Eq.trans ?_ (outVT_apply _ _ _ y1 ⟨y3.val * 64 + y4.val, by omega⟩ y2)
  pointwise

theorem forgets_eq (c : Dev nD) : after m c main_v21 = forgets (inX m c) (inG m c) (inW m c) (inB m c) := by
  rw [read_f, left_f]
  funext y
  idx_vars y
  obtain rfl : y0 = 0 := Subsingleton.elim _ _
  refine Eq.trans ?_ (forgets_apply _ _ _ _ y1 y2 y3).symm
  refine Eq.trans ?_ (outF_apply _ _ _ _ y1 y3 y2)
  pointwise

theorem flat (X : FVec Ideal S16384x512 .f32) (p : Fin 8) (i : Fin 15) (d : Fin 512) (q : Fin 16384) (h : q.val = p.val * 2048 + (2033 + i.val)) :
    (broadcastInDim S1x8x15x512 ![1, 2, 3] bcast_S8x15x512_S1x8x15x512_1_2_3 (extractStridedSlice S8x15x512 ![0, 2033, 0]
      (shapeCast S8x2048x512 X shapeCasts_S16384x512_S8x2048x512) slices_S8x2048x512_S8x15x512_0_2033_0) : FVec Ideal S1x8x15x512 .f32) (ix4 0 p i d)
      = X (ix2 q d) := by
  rw [show q = ⟨p.val * 2048 + (2033 + i.val), by omega⟩ from Fin.ext h]
  pointwise

theorem pool_eq (c : Dev nD) : after m c main_v22 = pool (inX m c) (inG m c) (inW m c) := by
  rw [read_p, left_u]
  funext y
  idx_vars y
  obtain rfl : y0 = 0 := Subsingleton.elim _ _
  refine Eq.trans ?_ (pool_apply _ _ _ y1 y2 y3).symm
  refine (flat _ y1 y2 y3 ⟨y1.val * 2048 + (2033 + y2.val), by omega⟩ rfl).trans ((outU_apply _ _ _ _ y3).trans ?_)
  have hp : (y1.val * 2048 + (2033 + y2.val)) / 2048 = y1.val := by omega
  have hs : (y1.val * 2048 + (2033 + y2.val)) % 2048 = 2033 + y2.val := by omega
  simp only [hp, hs]

end Kernel

end Cert.Proof.PromptResults
-- ==== Proof.PromptResultsClaim.lean ====
/-
  The claims on the layer's results that the prompt's projections make up: the call with the host's cuts and transpositions ends
  with the reference's four arrays, and each leaves its arguments as they were.
-/
module

public import proofs.«01_k».proof.Defs
public import proofs.«01_k».proof.Proof.PromptResults
public import proofs.«01_k».proof.Proof.Gen.Kernel7.Frame
public import Idealize.ShloMosaic.Adequacy
public import Idealize.ShloMosaic.Init

@[expose] public section

noncomputable section

namespace Cert.Proof.PromptResultsClaim

open Idealize.ShloMosaic Idealize.ShloMosaic.TcCoe Idealize.SL.Sem
open Cert.Proof.PromptResults Cert.Proof.PromptResultsKernel Cert.Proof.PromptResultsValue

theorem frame_bits : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

section Kernel

open Cert.Kernel7Ideal Cert.Kernel7Ideal.Gen

/-- The run of the call and of the host's operations around it, each result as one function of the arguments. -/
theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v16) = keys (inX m c) (inG m c) (inW m c)
      ∧ r.2.mem (c.tc.loc main_v19) = values (inX m c) (inG m c) (inW m c)
      ∧ r.2.mem (c.tc.loc main_v21) = forgets (inX m c) (inG m c) (inW m c) (inB m c)
      ∧ r.2.mem (c.tc.loc main_v22) = pool (inX m c) (inG m c) (inW m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨((h c).2 main_v16 (Pipeline.mem_restRefs_of main_v16 (by decide) (by decide))).trans (keys_eq m c),
      ((h c).2 main_v19 (Pipeline.mem_restRefs_of main_v19 (by decide) (by decide))).trans (values_eq m c),
      ((h c).2 main_v21 (Pipeline.mem_restRefs_of main_v21 (by decide) (by decide))).trans (forgets_eq m c),
      ((h c).2 main_v22 (Pipeline.mem_restRefs_of main_v22 (by decide) (by decide))).trans (pool_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Kernel

section Reference

open Cert.Reference7Ideal

/-- The reference's run, each result as one function of the arguments. -/
theorem run_reference (m : (ℓ : Loc nD τ sig) → Buf (Elt Ideal) ℓ) (ρ : Dev nD → PrngReg)
    (x : FVec Ideal S8x2048x1024 .f32) (g : FVec Ideal S1024 .f32) (w : FVec Ideal S1024x4104 .f32) (b : FVec Ideal S8 .f32)
    (hx : ∀ c : Dev nD, m (c.tc.loc main_arg0) = x)
    (hg : ∀ c : Dev nD, m (c.tc.loc main_arg1) = g)
    (hw : ∀ c : Dev nD, m (c.tc.loc main_arg2) = w)
    (hb : ∀ c : Dev nD, m (c.tc.loc main_arg3) = b) :
    θ_run defs (onTc (τ := τ) (main (F := Ideal))) ⟨m, fun _ => 0, ρ⟩ fun r => ∀ c : Dev nD,
      r.2.mem (c.tc.loc main_v24) = keys x g w
      ∧ r.2.mem (c.tc.loc main_v25) = values x g w
      ∧ r.2.mem (c.tc.loc main_v26) = forgets x g w b
      ∧ r.2.mem (c.tc.loc main_v28) = pool x g w
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ?_) (Value.run (F := Ideal) m ρ)
  obtain ⟨h0, h1, h2, h3, hk⟩ := h c
  obtain rfl := hx c
  obtain rfl := hg c
  obtain rfl := hw c
  obtain rfl := hb c
  exact ⟨h0, h1, h2, h3, hk⟩

end Reference

theorem value : Cert.algebraic_Kernel7Ideal_Reference7Ideal := by
  intro m ρ m' ρ' _ hag
  refine ⟨fun c => keys (inX m c) (inG m c) (inW m c), fun c => values (inX m c) (inG m c) (inW m c), fun c => forgets (inX m c) (inG m c) (inW m c) (inB m c), fun c => pool (inX m c) (inG m c) (inW m c), run_kernel m ρ, ?_⟩
  have one : ∀ c : Dev Cert.Reference7Ideal.nD, c = 0 := fun c => Subsingleton.elim _ _
  refine (θ_run Cert.Reference7Ideal.defs _ _).mono (fun r h c => ?_)
    (run_reference m' ρ' (inX m 0) (inG m 0) (inW m 0) (inB m 0)
        (fun c => by rw [one c]; exact (hag 0).1)
        (fun c => by rw [one c]; exact (hag 0).2.1)
        (fun c => by rw [one c]; exact (hag 0).2.2.1)
        (fun c => by rw [one c]; exact (hag 0).2.2.2))
  obtain rfl := one c
  exact h 0

end Cert.Proof.PromptResultsClaim
-- ==== Proof.PoolReference.lean ====
/-
  The reference of the prompt's merge read at one element: `meanAt` is the mean of the newest rows of one channel of a sequence
  less the newest row, `mixed` one entry of a group's product, `branch` one entry of the two gated branches' sum, `merged` one
  entry of the layer's residual row.
-/
module

public import proofs.«01_k».proof.Proof.Gen.Reference8Ideal.Run
public import Idealize.ShloMosaic.Lib.Pointwise

@[expose] public section

set_option maxRecDepth 16384

noncomputable section

namespace Cert.Proof.PoolReference

open Cert.Reference8Ideal Cert.Reference8Ideal.Gen Idealize.ShloMosaic

variable (x : FVec Ideal S8x2048x1024 .f32) (u : FVec Ideal S16384x512 .f32) (a : FVec Ideal S16384x512 .bf16)
variable (G : FVec Ideal S16384x2048 .bf16) (wp : FVec Ideal S4x128x128 .f32) (ps : FVec Ideal S512 .f32)
variable (wu wa : FVec Ideal S512x1024 .f32) (wo : FVec Ideal S1024x1024 .f32)

/-- The pooling row `n` rows before row `r` of its sequence: zero before the sequence's first. -/
def lag (r : Fin 16384) (j : Fin 512) (n : Nat) : EReal :=
  if r.val % 2048 < n then 0 else u (ix2 ⟨r.val - n, by omega⟩ j)

/-- The first `n + 1` terms' sum, from the first on. -/
def acc (f : Nat → EReal) : Nat → EReal
  | 0 => f 0
  | n + 1 => acc f n + f (n + 1)

/-- The number of rows averaged at row `r` under a window of `w`. -/
def cnt (w : BitVec 32) (r : Fin 16384) : EReal :=
  FloatOps.sitofp (F := Ideal) .f32 (IntOp.minsi (IntOp.addi (BitVec.ofNat 32 (r.val % 2048)) 1#32) w)

/-- The last `n + 1` pooling rows' mean at row `r`, less the newest row. -/
def meanAt (n : Nat) (w : BitVec 32) (r : Fin 16384) (j : Fin 512) : EReal :=
  Ideal.div (acc (lag u r j) n) (cnt w r) - u (ix2 r j)

/-- Entry `c` of group `g` of the pooled row `r`. -/
def pooled (r : Fin 16384) (g : Fin 4) (c : Fin 128) : EReal :=
  match g with
  | 0 => meanAt u 1 2#32 r ⟨c.val, by omega⟩
  | 1 => meanAt u 3 4#32 r ⟨128 + c.val, by omega⟩
  | 2 => meanAt u 7 8#32 r ⟨256 + c.val, by omega⟩
  | 3 => meanAt u 15 16#32 r ⟨384 + c.val, by omega⟩

/-- Entry `d` of group `g` after the group's product. -/
def mixed (r : Fin 16384) (g : Fin 4) (d : Fin 128) : EReal :=
  ∑ c : Fin 128, pooled u r g c * wp (ix3 g c d)

/-- Entry `j` of the scaled pooled row. -/
def poolOut (r : Fin 16384) (j : Fin 512) : EReal :=
  mixed u wp r ⟨j.val / 128, by omega⟩ ⟨j.val % 128, by omega⟩ * ps (ix1 j)

/-- Entry `k` of the two branches' sum under their gates. -/
def branch (r : Fin 16384) (k : Fin 1024) : EReal :=
  (G (ix2 r ⟨k.val, by omega⟩) : EReal) * (∑ j : Fin 512, poolOut u wp ps r j * wu (ix2 j k))
    + (G (ix2 r ⟨1024 + k.val, by omega⟩) : EReal) * ∑ j : Fin 512, (a (ix2 r j) : EReal) * wa (ix2 j k)

/-- Entry `k` of the residual row `r`. -/
def merged (r : Fin 16384) (k : Fin 1024) : EReal :=
  (x (ix3 ⟨r.val / 2048, by omega⟩ ⟨r.val % 2048, by omega⟩ k) : EReal) + ∑ l : Fin 1024, branch u a G wp ps wu wa r l * wo (ix2 l k)

/-- Every sequence behind fifteen zero rows. -/
def ext : FVec Ideal S8x2063x512 .f32 :=
  concatenate S8x2063x512 1 [⟨S8x15x512, (broadcastInDim S8x15x512 ![] bcast_S_S8x15x512 (constant S_ .f32 0x00000000#32))⟩, ⟨S8x2048x512, (shapeCast _ u shapeCasts_S16384x512_S8x2048x512)⟩] concatenates_S8x15x512_S8x2048x512_S8x2063x512_d1

/-- The first group's means. -/
def mean2 : FVec Ideal S8x2048x128 .f32 :=
  Host.divf (extractStridedSlice S8x2048x128 ![0, 0, 0] (addf (extractStridedSlice S8x2048x512 ![0, 15, 0] (ext u) slices_S8x2063x512_S8x2048x512_0_15_0) (extractStridedSlice S8x2048x512 ![0, 14, 0] (ext u) slices_S8x2063x512_S8x2048x512_0_14_0)) slices_S8x2048x512_S8x2048x128_0_0_0) (broadcastInDim S8x2048x128 ![0, 1, 2] bcast_S1x2048x1_S8x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 2#32))))))

/-- The second group's. -/
def mean4 : FVec Ideal S8x2048x128 .f32 :=
  Host.divf (extractStridedSlice S8x2048x128 ![0, 0, 128] (addf (addf (addf (extractStridedSlice S8x2048x512 ![0, 15, 0] (ext u) slices_S8x2063x512_S8x2048x512_0_15_0) (extractStridedSlice S8x2048x512 ![0, 14, 0] (ext u) slices_S8x2063x512_S8x2048x512_0_14_0)) (extractStridedSlice S8x2048x512 ![0, 13, 0] (ext u) slices_S8x2063x512_S8x2048x512_0_13_0)) (extractStridedSlice S8x2048x512 ![0, 12, 0] (ext u) slices_S8x2063x512_S8x2048x512_0_12_0)) slices_S8x2048x512_S8x2048x128_0_0_128) (broadcastInDim S8x2048x128 ![0, 1, 2] bcast_S1x2048x1_S8x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 4#32))))))

/-- The third group's. -/
def mean8 : FVec Ideal S8x2048x128 .f32 :=
  Host.divf (extractStridedSlice S8x2048x128 ![0, 0, 256] (addf (addf (addf (addf (addf (addf (addf (extractStridedSlice S8x2048x512 ![0, 15, 0] (ext u) slices_S8x2063x512_S8x2048x512_0_15_0) (extractStridedSlice S8x2048x512 ![0, 14, 0] (ext u) slices_S8x2063x512_S8x2048x512_0_14_0)) (extractStridedSlice S8x2048x512 ![0, 13, 0] (ext u) slices_S8x2063x512_S8x2048x512_0_13_0)) (extractStridedSlice S8x2048x512 ![0, 12, 0] (ext u) slices_S8x2063x512_S8x2048x512_0_12_0)) (extractStridedSlice S8x2048x512 ![0, 11, 0] (ext u) slices_S8x2063x512_S8x2048x512_0_11_0)) (extractStridedSlice S8x2048x512 ![0, 10, 0] (ext u) slices_S8x2063x512_S8x2048x512_0_10_0)) (extractStridedSlice S8x2048x512 ![0, 9, 0] (ext u) slices_S8x2063x512_S8x2048x512_0_9_0)) (extractStridedSlice S8x2048x512 ![0, 8, 0] (ext u) slices_S8x2063x512_S8x2048x512_0_8_0)) slices_S8x2048x512_S8x2048x128_0_0_256) (broadcastInDim S8x2048x128 ![0, 1, 2] bcast_S1x2048x1_S8x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 8#32))))))

/-- The fourth group's. -/
def mean16 : FVec Ideal S8x2048x128 .f32 :=
  Host.divf (extractStridedSlice S8x2048x128 ![0, 0, 384] (addf (addf (addf (addf (addf (addf (addf (addf (addf (addf (addf (addf (addf (addf (addf (extractStridedSlice S8x2048x512 ![0, 15, 0] (ext u) slices_S8x2063x512_S8x2048x512_0_15_0) (extractStridedSlice S8x2048x512 ![0, 14, 0] (ext u) slices_S8x2063x512_S8x2048x512_0_14_0)) (extractStridedSlice S8x2048x512 ![0, 13, 0] (ext u) slices_S8x2063x512_S8x2048x512_0_13_0)) (extractStridedSlice S8x2048x512 ![0, 12, 0] (ext u) slices_S8x2063x512_S8x2048x512_0_12_0)) (extractStridedSlice S8x2048x512 ![0, 11, 0] (ext u) slices_S8x2063x512_S8x2048x512_0_11_0)) (extractStridedSlice S8x2048x512 ![0, 10, 0] (ext u) slices_S8x2063x512_S8x2048x512_0_10_0)) (extractStridedSlice S8x2048x512 ![0, 9, 0] (ext u) slices_S8x2063x512_S8x2048x512_0_9_0)) (extractStridedSlice S8x2048x512 ![0, 8, 0] (ext u) slices_S8x2063x512_S8x2048x512_0_8_0)) (extractStridedSlice S8x2048x512 ![0, 7, 0] (ext u) slices_S8x2063x512_S8x2048x512_0_7_0)) (extractStridedSlice S8x2048x512 ![0, 6, 0] (ext u) slices_S8x2063x512_S8x2048x512_0_6_0)) (extractStridedSlice S8x2048x512 ![0, 5, 0] (ext u) slices_S8x2063x512_S8x2048x512_0_5_0)) (extractStridedSlice S8x2048x512 ![0, 4, 0] (ext u) slices_S8x2063x512_S8x2048x512_0_4_0)) (extractStridedSlice S8x2048x512 ![0, 3, 0] (ext u) slices_S8x2063x512_S8x2048x512_0_3_0)) (extractStridedSlice S8x2048x512 ![0, 2, 0] (ext u) slices_S8x2063x512_S8x2048x512_0_2_0)) (extractStridedSlice S8x2048x512 ![0, 1, 0] (ext u) slices_S8x2063x512_S8x2048x512_0_1_0)) (extractStridedSlice S8x2048x512 ![0, 0, 0] (ext u) slices_S8x2063x512_S8x2048x512_0_0_0)) slices_S8x2048x512_S8x2048x128_0_0_384) (broadcastInDim S8x2048x128 ![0, 1, 2] bcast_S1x2048x1_S8x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 16#32))))))

/-- The four groups side by side. -/
def means : FVec Ideal S8x2048x4x128 .f32 :=
  (concatenate S8x2048x4x128 2 [⟨S8x2048x1x128, ((broadcastInDim S8x2048x1x128 ![0, 1, 3] bcast_S8x2048x128_S8x2048x1x128_0_1_3 (mean2 u)) : (⟨S8x2048x1x128, .f32⟩ : BufTy).Contents (Elt Ideal))⟩, ⟨S8x2048x1x128, ((broadcastInDim S8x2048x1x128 ![0, 1, 3] bcast_S8x2048x128_S8x2048x1x128_0_1_3 (mean4 u)) : (⟨S8x2048x1x128, .f32⟩ : BufTy).Contents (Elt Ideal))⟩, ⟨S8x2048x1x128, ((broadcastInDim S8x2048x1x128 ![0, 1, 3] bcast_S8x2048x128_S8x2048x1x128_0_1_3 (mean8 u)) : (⟨S8x2048x1x128, .f32⟩ : BufTy).Contents (Elt Ideal))⟩, ⟨S8x2048x1x128, ((broadcastInDim S8x2048x1x128 ![0, 1, 3] bcast_S8x2048x128_S8x2048x1x128_0_1_3 (mean16 u)) : (⟨S8x2048x1x128, .f32⟩ : BufTy).Contents (Elt Ideal))⟩] concatenates_S8x2048x1x128_S8x2048x1x128_S8x2048x1x128_S8x2048x1x128_S8x2048x4x128_d2 : (⟨S8x2048x4x128, .f32⟩ : BufTy).Contents (Elt Ideal))

/-- The same, less the newest rows. -/
def pools : FVec Ideal S8x2048x4x128 .f32 :=
  subf (means u) (shapeCast _ (shapeCast _ u shapeCasts_S16384x512_S8x2048x512) shapeCasts_S8x2048x512_S8x2048x4x128)

/-- Each group's product. -/
def products : FVec Ideal S16384x4x128 .f32 :=
  transpose S16384x4x128 [2, 0, 1] (Host.dotGeneral dot_S4x128x128_S16384x4x128_S4x128x16384_1_2_2_0_0_1 none wp (shapeCast _ (pools u) shapeCasts_S8x2048x4x128_S16384x4x128)) transposes_S4x128x16384_S16384x4x128_2_0_1

/-- The scaled pooled rows. -/
def scaled : FVec Ideal S16384x512 .f32 :=
  mulf (shapeCast _ (products u wp) shapeCasts_S16384x4x128_S16384x512) (broadcastInDim S16384x512 ![0, 1] bcast_S1x512_S16384x512_0_1 (broadcastInDim S1x512 ![1] bcast_S512_S1x512_1 ps))

/-- The two branches' sum under their gates. -/
def branches : FVec Ideal S16384x1024 .f32 :=
  addf (mulf (extractStridedSlice S16384x1024 ![0, 0] (extf .f32 G bitsLt_bf16_f32) slices_S16384x2048_S16384x1024_0_0) (Host.dotGeneral dot_S16384x512_S512x1024_S16384x1024_1_0_0_1_n_n none (scaled u wp ps) wu)) (mulf (extractStridedSlice S16384x1024 ![0, 1024] (extf .f32 G bitsLt_bf16_f32) slices_S16384x2048_S16384x1024_0_1024) (Host.dotGeneral dot_S16384x512_S512x1024_S16384x1024_1_0_0_1_n_n none (extf .f32 a bitsLt_bf16_f32) wa))

/-- The residual rows. -/
def out : FVec Ideal S16384x1024 .f32 :=
  addf (shapeCast _ x shapeCasts_S8x2048x1024_S16384x1024) (Host.dotGeneral dot_S16384x1024_S1024x1024_S16384x1024_1_0_0_1_n_n none (branches u a G wp ps wu wa) wo)

theorem ext_apply (b : Fin 8) (n : Nat) (hn : n ≤ 15) (t : Fin 2048) (j : Fin 512) (p : Fin 2063) (hp : p.val + n = 15 + t.val) :
    ext u (ix3 b p j) = lag u ⟨b.val * 2048 + t.val, by omega⟩ j n := by
  pointwise [ext, lag]
  by_cases h : p.val < 15
  · rw [dif_pos h, if_pos (by omega)]
  · rw [dif_neg h]
    refine Eq.trans ?_ (if_neg (show ¬ (b.val * 2048 + t.val) % 2048 < n by omega)).symm
    exact congrArg (fun q => u (ix2 q j)) (Fin.ext (by simp only []; omega))

theorem cnt_at (w : BitVec 32) (b : Fin 8) (t : Fin 2048) :
    cnt w ⟨b.val * 2048 + t.val, by omega⟩ = FloatOps.sitofp (F := Ideal) .f32 (IntOp.minsi (IntOp.addi (BitVec.ofNat 32 t.val) 1#32) w) := by
  unfold cnt
  rw [show (b.val * 2048 + t.val) % 2048 = t.val by omega]

theorem mean2_apply (b : Fin 8) (t : Fin 2048) (c : Fin 128) :
    mean2 u (ix3 b t c) = Ideal.div (acc (lag u ⟨b.val * 2048 + t.val, by omega⟩ ⟨c.val, by omega⟩) 1) (cnt 2#32 ⟨b.val * 2048 + t.val, by omega⟩) := by
  rw [cnt_at]
  pointwise [mean2]
  simp only [acc]
  rw [ext_apply u b 0 (by decide) t _ ⟨15 + t.val, by omega⟩ (by simp only []; omega)]
  rw [ext_apply u b 1 (by decide) t _ ⟨14 + t.val, by omega⟩ (by simp only []; omega)]

theorem mean4_apply (b : Fin 8) (t : Fin 2048) (c : Fin 128) :
    mean4 u (ix3 b t c) = Ideal.div (acc (lag u ⟨b.val * 2048 + t.val, by omega⟩ ⟨128 + c.val, by omega⟩) 3) (cnt 4#32 ⟨b.val * 2048 + t.val, by omega⟩) := by
  rw [cnt_at]
  pointwise [mean4]
  simp only [acc]
  rw [ext_apply u b 0 (by decide) t _ ⟨15 + t.val, by omega⟩ (by simp only []; omega)]
  rw [ext_apply u b 1 (by decide) t _ ⟨14 + t.val, by omega⟩ (by simp only []; omega)]
  rw [ext_apply u b 2 (by decide) t _ ⟨13 + t.val, by omega⟩ (by simp only []; omega)]
  rw [ext_apply u b 3 (by decide) t _ ⟨12 + t.val, by omega⟩ (by simp only []; omega)]

theorem mean8_apply (b : Fin 8) (t : Fin 2048) (c : Fin 128) :
    mean8 u (ix3 b t c) = Ideal.div (acc (lag u ⟨b.val * 2048 + t.val, by omega⟩ ⟨256 + c.val, by omega⟩) 7) (cnt 8#32 ⟨b.val * 2048 + t.val, by omega⟩) := by
  rw [cnt_at]
  pointwise [mean8]
  simp only [acc]
  rw [ext_apply u b 0 (by decide) t _ ⟨15 + t.val, by omega⟩ (by simp only []; omega)]
  rw [ext_apply u b 1 (by decide) t _ ⟨14 + t.val, by omega⟩ (by simp only []; omega)]
  rw [ext_apply u b 2 (by decide) t _ ⟨13 + t.val, by omega⟩ (by simp only []; omega)]
  rw [ext_apply u b 3 (by decide) t _ ⟨12 + t.val, by omega⟩ (by simp only []; omega)]
  rw [ext_apply u b 4 (by decide) t _ ⟨11 + t.val, by omega⟩ (by simp only []; omega)]
  rw [ext_apply u b 5 (by decide) t _ ⟨10 + t.val, by omega⟩ (by simp only []; omega)]
  rw [ext_apply u b 6 (by decide) t _ ⟨9 + t.val, by omega⟩ (by simp only []; omega)]
  rw [ext_apply u b 7 (by decide) t _ ⟨8 + t.val, by omega⟩ (by simp only []; omega)]

theorem mean16_apply (b : Fin 8) (t : Fin 2048) (c : Fin 128) :
    mean16 u (ix3 b t c) = Ideal.div (acc (lag u ⟨b.val * 2048 + t.val, by omega⟩ ⟨384 + c.val, by omega⟩) 15) (cnt 16#32 ⟨b.val * 2048 + t.val, by omega⟩) := by
  rw [cnt_at]
  pointwise [mean16]
  simp only [acc]
  rw [ext_apply u b 0 (by decide) t _ ⟨15 + t.val, by omega⟩ (by simp only []; omega)]
  rw [ext_apply u b 1 (by decide) t _ ⟨14 + t.val, by omega⟩ (by simp only []; omega)]
  rw [ext_apply u b 2 (by decide) t _ ⟨13 + t.val, by omega⟩ (by simp only []; omega)]
  rw [ext_apply u b 3 (by decide) t _ ⟨12 + t.val, by omega⟩ (by simp only []; omega)]
  rw [ext_apply u b 4 (by decide) t _ ⟨11 + t.val, by omega⟩ (by simp only []; omega)]
  rw [ext_apply u b 5 (by decide) t _ ⟨10 + t.val, by omega⟩ (by simp only []; omega)]
  rw [ext_apply u b 6 (by decide) t _ ⟨9 + t.val, by omega⟩ (by simp only []; omega)]
  rw [ext_apply u b 7 (by decide) t _ ⟨8 + t.val, by omega⟩ (by simp only []; omega)]
  rw [ext_apply u b 8 (by decide) t _ ⟨7 + t.val, by omega⟩ (by simp only []; omega)]
  rw [ext_apply u b 9 (by decide) t _ ⟨6 + t.val, by omega⟩ (by simp only []; omega)]
  rw [ext_apply u b 10 (by decide) t _ ⟨5 + t.val, by omega⟩ (by simp only []; omega)]
  rw [ext_apply u b 11 (by decide) t _ ⟨4 + t.val, by omega⟩ (by simp only []; omega)]
  rw [ext_apply u b 12 (by decide) t _ ⟨3 + t.val, by omega⟩ (by simp only []; omega)]
  rw [ext_apply u b 13 (by decide) t _ ⟨2 + t.val, by omega⟩ (by simp only []; omega)]
  rw [ext_apply u b 14 (by decide) t _ ⟨1 + t.val, by omega⟩ (by simp only []; omega)]
  rw [ext_apply u b 15 (by decide) t _ ⟨t.val, by omega⟩ (by simp only []; omega)]

theorem means0_apply (b : Fin 8) (t : Fin 2048) (c : Fin 128) : means u (ix4 b t 0 c) = mean2 u (ix3 b t c) := by
  pointwise [means]

theorem means1_apply (b : Fin 8) (t : Fin 2048) (c : Fin 128) : means u (ix4 b t 1 c) = mean4 u (ix3 b t c) := by
  pointwise [means]

theorem means2_apply (b : Fin 8) (t : Fin 2048) (c : Fin 128) : means u (ix4 b t 2 c) = mean8 u (ix3 b t c) := by
  pointwise [means]

theorem means3_apply (b : Fin 8) (t : Fin 2048) (c : Fin 128) : means u (ix4 b t 3 c) = mean16 u (ix3 b t c) := by
  pointwise [means]

theorem pools_sub (b : Fin 8) (t : Fin 2048) (g : Fin 4) (c : Fin 128) :
    pools u (ix4 b t g c) = (means u (ix4 b t g c) : EReal) - u (ix2 ⟨b.val * 2048 + t.val, by omega⟩ ⟨g.val * 128 + c.val, by omega⟩) := by
  pointwise [pools]

theorem pools_apply (r : Fin 16384) (g : Fin 4) (c : Fin 128) :
    pools u (ix4 ⟨r.val / 2048, by omega⟩ ⟨r.val % 2048, by omega⟩ g c) = pooled u r g c := by
  have e : (⟨(⟨r.val / 2048, by omega⟩ : Fin 8).val * 2048 + (⟨r.val % 2048, by omega⟩ : Fin 2048).val, by simp only []; omega⟩ : Fin 16384) = r :=
    Fin.ext (by simp only []; omega)
  rw [pools_sub, e]
  match g with
  | 0 => rw [means0_apply, mean2_apply, e]; exact congrArg (fun q => _ - u (ix2 r q)) (Fin.ext (by simp))
  | 1 => rw [means1_apply, mean4_apply, e]; rfl
  | 2 => rw [means2_apply, mean8_apply, e]; rfl
  | 3 => rw [means3_apply, mean16_apply, e]; rfl

theorem products_apply (r : Fin 16384) (g : Fin 4) (d : Fin 128) : products u wp (ix3 r g d) = mixed u wp r g d := by
  pointwise [products, mixed]
  exact Finset.sum_congr rfl fun c _ => (mul_comm _ _).trans (congrArg (· * _) (pools_apply u r g c))

theorem scaled_apply (r : Fin 16384) (j : Fin 512) : scaled u wp ps (ix2 r j) = poolOut u wp ps r j := by
  pointwise [scaled, poolOut]
  exact congrArg (· * _) (products_apply u wp r _ _)

theorem branches_apply (r : Fin 16384) (k : Fin 1024) : branches u a G wp ps wu wa (ix2 r k) = branch u a G wp ps wu wa r k := by
  pointwise [branches, branch]
  simp only [scaled_apply]

theorem out_apply (r : Fin 16384) (k : Fin 1024) : out x u a G wp ps wu wa wo (ix2 r k) = merged x u a G wp ps wu wa wo r k := by
  pointwise [out, merged]
  simp only [branches_apply]

end Cert.Proof.PoolReference
-- ==== Proof.PoolPoint.lean ====
/-
  The prompt's merge at one grid point. At a point with rows the body leaves in the blocks of the residual rows, of the rows with
  their slab, of the slab and of the counts what its stores put there. At the last point it copies the sampled tokens' rows into the
  block of the rows with their slab.
-/
module

public import proofs.«01_k».proof.Proof.Gen.Kernel8Ideal.Frame
public import proofs.«01_k».proof.Proof.Gen.Kernel8Ideal.Skeleton
public import Idealize.ShloMosaic.Lib.WritesUnit
public import Idealize.ShloMosaic.Lib.Transfers
public import Idealize.ShloMosaic.Lib.Claim

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

set_option maxHeartbeats 1000000 in
/-- At a point with rows: the pieces that the body's stores leave in the four result blocks and in the pooling rows. -/
noncomputable def liveRun (c : Dev nD) (i : grid0.Coords) (hc1 : k0_cond1 i = 1#1) (hc2 : ¬ k0_cond2 i = 1#1) (arg1 : Memref sig .tc .vmem S512x1024 .f32) (harg1 : arg1.IsWhole) (arg2 : Memref sig .tc .vmem S512x512 .f32) (harg2 : arg2.IsWhole) (arg3 : Memref sig .tc .vmem S16x512 .f32) (harg3 : arg3.IsWhole) (arg4 : Memref sig .tc .vmem S512x512 .bf16) (harg4 : arg4.IsWhole) (arg5 : Memref sig .tc .vmem S512x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1x128 .f32) (harg13 : arg13.IsWhole) (arg14 : Memref sig .tc .hbm S1536x1024 .bf16) (harg14 : arg14.IsWhole) (arg15 : Memref sig .tc .vmem S512x1024 .f32) (harg15 : arg15.IsWhole) (arg16 : Memref sig .tc .vmem S1536x1024 .bf16) (harg16 : arg16.IsWhole) (arg17 : Memref sig .tc .vmem S512x128 .f32) (harg17 : arg17.IsWhole) (arg18 : Memref sig .tc .vmem S1x1x128 .f32) (harg18 : arg18.IsWhole) (arg19 : Memref sig .tc .vmem S528x512 .f32) (harg19 : arg19.IsWhole) (arg20 : DmaSems sig S_)
    (x0 : Vec F S512x1024 .f32) (x1 : Vec F S512x512 .f32) (x2 : Vec F S16x512 .f32) (x3 : Vec F S512x512 .bf16) (x4 : Vec F S512x2048 .bf16) (x5 : Vec F S4x128x128 .bf16) (x6 : Vec F S1x512 .f32) (x7 : Vec F S512x1024 .bf16) (x8 : Vec F S512x1024 .bf16) (x9 : Vec F S1024x1024 .bf16) (x10 : Vec F S1x1024 .f32) (x11 : Vec F S1024x128 .bf16) (x12 : Vec F S1x128 .f32) :
    Σ' (L13 : List (View.Piece (Elt F) S512x1024 .f32)), Σ' (L14 : List (View.Piece (Elt F) S1536x1024 .bf16)), Σ' (L15 : List (View.Piece (Elt F) S512x128 .f32)), Σ' (L16 : List (View.Piece (Elt F) S1x1x128 .f32)), { LT0 : List (View.Piece (Elt F) S528x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0)) -∗ K ⟨⟩))
          ⊢ wp frame (wpE (defs₀ (F := F)) Variants.none c none) E (cc0_merge_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20) K } := by
  refine ⟨?_, ?_, ?_, ?_, ?_, fun E K => ?run⟩
  case run =>
    simp only [cc0_merge_prompt_eq_skeleton]; unfold cc0_merge_prompt_skel
    simp only [dif_pos hc1, dif_neg hc2]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    iexists _; iexact HS0

/-- At the last point: the rows of `arg14` go into `arg16`, the rest stays. -/
theorem lastRun (c : Dev nD) (i : grid0.Coords) (hc1 : ¬ k0_cond1 i = 1#1) (hc2 : k0_cond2 i = 1#1) (arg1 : Memref sig .tc .vmem S512x1024 .f32) (harg1 : arg1.IsWhole) (arg2 : Memref sig .tc .vmem S512x512 .f32) (harg2 : arg2.IsWhole) (arg3 : Memref sig .tc .vmem S16x512 .f32) (harg3 : arg3.IsWhole) (arg4 : Memref sig .tc .vmem S512x512 .bf16) (harg4 : arg4.IsWhole) (arg5 : Memref sig .tc .vmem S512x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1x128 .f32) (harg13 : arg13.IsWhole) (arg14 : Memref sig .tc .hbm S1536x1024 .bf16) (harg14 : arg14.IsWhole) (arg15 : Memref sig .tc .vmem S512x1024 .f32) (harg15 : arg15.IsWhole) (arg16 : Memref sig .tc .vmem S1536x1024 .bf16) (harg16 : arg16.IsWhole) (arg17 : Memref sig .tc .vmem S512x128 .f32) (harg17 : arg17.IsWhole) (arg18 : Memref sig .tc .vmem S1x1x128 .f32) (harg18 : arg18.IsWhole) (arg19 : Memref sig .tc .vmem S528x512 .f32) (harg19 : arg19.IsWhole) (arg20 : DmaSems sig S_)
    (z : Vec F S1536x1024 .bf16) (W : Waits sig Unit) (K : PUnit → sProp 𝕄) :
    iprop(owns (c : Thread nD τ) arg14 fullShare z ∗ (∃ d, owns (c : Thread nD τ) arg16 fullShare d) ∗ semVal ((c : Thread nD τ), .dma arg20.sem) 0 ∗ owes (c : Thread nD τ) 0 W
        ∗ (iprop(owns (c : Thread nD τ) arg14 fullShare z ∗ owns (c : Thread nD τ) arg16 fullShare z ∗ semVal ((c : Thread nD τ), .dma arg20.sem) 0 ∗ (∃ W', owes (c : Thread nD τ) 0 W')) -∗ K ⟨⟩))
      ⊢ wp frame (wpE (defs₀ (F := F)) Variants.none c none) Set.univ (cc0_merge_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20) K := by
  simp only [cc0_merge_prompt_eq_skeleton]; unfold cc0_merge_prompt_skel
  simp only [dif_neg hc1, dif_pos hc2]
  unfold owns
  iintro ⟨⟨%f14, %hf14, H14⟩, ⟨%d16, %f16, -, H16⟩, Hs, HO, Hk⟩
  obtain rfl := harg14.eq_unread hf14
  sl_exec
  sl_step
  iapply Hk
  isplitl [H14]
  · iexists _; isplitr; · ipureintro; exact harg14.read_unread _
    iexact H14
  isplitl [H16]
  · iexists _; isplitr
    swap; · iexact H16
    ipureintro
    funext y
    refine (View.read_writes_cons_unit_of_mem arg16.view f16 _ (lastRun.sl.dma0 arg14 harg14 z) [] y y rfl (fun a => (Nat.zero_add _).symm)).trans ?_
    unfold lastRun.sl.dma0
    exact congrFun (harg14.read_unread z) y
  isplitl [Hs]; · iexact Hs
  iexists _; iexact HO

end Cert.Kernel8Ideal.Hand

end
-- ==== Proof.PoolRun.lean ====
/-
  The prompt's merge over its grid: what each window's block holds after a point, the run, and the arguments that it leaves unchanged.
-/
module

public import proofs.«01_k».proof.Proof.PoolPoint

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The points -/

theorem coord_val (t : Fin grid0.N) : (grid0.coords t 0).val = t.val := by
  have h := Pipeline.Grid.coords_val (G := grid0) t 0 (S := 1) (B := 33) (by decide) rfl
  have := t.isLt.trans_eq N_0
  omega

theorem conds : ∀ t : Fin grid0.N, (k0_cond1 (grid0.coords t) = 1#1 ↔ t.val < 32) ∧ (k0_cond2 (grid0.coords t) = 1#1 ↔ ¬ t.val < 32) := by
  decide +kernel

theorem cond1 {t : Fin cfg0.N} (h : t.val < 32) : k0_cond1 (grid0.coords t) = 1#1 := (conds t).1.2 h
theorem not_cond2 {t : Fin cfg0.N} (h : t.val < 32) : ¬ k0_cond2 (grid0.coords t) = 1#1 := fun e => (conds t).2.1 e h
theorem not_cond1 {t : Fin cfg0.N} (h : ¬ t.val < 32) : ¬ k0_cond1 (grid0.coords t) = 1#1 := fun e => h ((conds t).1.1 e)
theorem cond2 {t : Fin cfg0.N} (h : ¬ t.val < 32) : k0_cond2 (grid0.coords t) = 1#1 := (conds t).2.2 h

/-- The last point with rows. -/
def p31 : Fin cfg0.N := ⟨31, by decide⟩

theorem last_eq {t : Fin cfg0.N} (h : ¬ t.val < 32) : t = ⟨32, by decide⟩ :=
  Fin.ext (by have := t.isLt.trans_eq N_0; simp only []; omega)

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x2048 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x128x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x128 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x1024 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1536x1024 .bf16 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x1x128 .f32 := win0_16.stage (cfg0.slots t 16)
abbrev hs16 (t : Fin cfg0.N) : (ms16 t).IsWhole := hstage0_16 ((cfg0.slots t 16).cast nbuf0_16)
abbrev VO13 : View sig .tc .vmem S512x1024 .f32 := (Memref.whole cc0_stg13_0 : Memref sig .tc .vmem S512x1024 .f32).view
abbrev VO14 : View sig .tc .vmem S1536x1024 .bf16 := (Memref.whole cc0_stg14_0 : Memref sig .tc .vmem S1536x1024 .bf16).view
abbrev VO15 : View sig .tc .vmem S512x128 .f32 := (Memref.whole cc0_stg15_0 : Memref sig .tc .vmem S512x128 .f32).view
abbrev VO16 : View sig .tc .vmem S1x1x128 .f32 := (Memref.whole cc0_stg16_0 : Memref sig .tc .vmem S1x1x128 .f32).view

/-- The body's pieces at point `t`. -/
abbrev pieces (c : Dev nD) (t : Fin cfg0.N) (h : t.val < 32) :=
  liveRun c (grid0.coords t) (cond1 h) (not_cond2 h) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole main_arg14) (Memref.isWhole_whole _) (ms13 t) (hs13 t) (ms14 t) (hs14 t) (ms15 t) (hs15 t) (ms16 t) (hs16 t) (Memref.whole cc0_scratch0) (Memref.isWhole_whole _) cc0_scratch1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

theorem cover13 (c : Dev nD) (t : Fin cfg0.N) (h : t.val < 32) (y : S512x1024.Idx) : ∃ pc ∈ (pieces m c t h).1, y ∈ pc.1.set :=
  View.cover_of_tiledL (pieces m c t h).1 S512x1024.size (by sl_kernel_rfl) y

/-- What point `t` leaves in the block of result 0. -/
def out13 (c : Dev nD) (t : Fin cfg0.N) (h : t.val < 32) : Vec F S512x1024 .f32 :=
  VO13.read (Elt F) (VO13.writes (Elt F) VO13.junk (pieces m c t h).1)

/-- The same at any point: the last point leaves what the one before left. -/
def kept13 (c : Dev nD) (t : Fin cfg0.N) : Vec F S512x1024 .f32 :=
  if h : t.val < 32 then out13 m c t h else out13 m c p31 (by decide)

theorem cover14 (c : Dev nD) (t : Fin cfg0.N) (h : t.val < 32) (y : S1536x1024.Idx) : ∃ pc ∈ (pieces m c t h).2.1, y ∈ pc.1.set :=
  View.cover_of_tiledL (pieces m c t h).2.1 S1536x1024.size (by sl_kernel_rfl) y

/-- What point `t` leaves in the block of result 1. -/
def out14 (c : Dev nD) (t : Fin cfg0.N) (h : t.val < 32) : Vec F S1536x1024 .bf16 :=
  VO14.read (Elt F) (VO14.writes (Elt F) VO14.junk (pieces m c t h).2.1)

/-- The same at any point: the sampled tokens' rows at the last. -/
def kept14 (c : Dev nD) (t : Fin cfg0.N) : Vec F S1536x1024 .bf16 :=
  if h : t.val < 32 then out14 m c t h else V m c main_arg14

theorem cover15 (c : Dev nD) (t : Fin cfg0.N) (h : t.val < 32) (y : S512x128.Idx) : ∃ pc ∈ (pieces m c t h).2.2.1, y ∈ pc.1.set :=
  View.cover_of_tiledL (pieces m c t h).2.2.1 S512x128.size (by sl_kernel_rfl) y

/-- What point `t` leaves in the block of result 2. -/
def out15 (c : Dev nD) (t : Fin cfg0.N) (h : t.val < 32) : Vec F S512x128 .f32 :=
  VO15.read (Elt F) (VO15.writes (Elt F) VO15.junk (pieces m c t h).2.2.1)

/-- The same at any point: the last point leaves what the one before left. -/
def kept15 (c : Dev nD) (t : Fin cfg0.N) : Vec F S512x128 .f32 :=
  if h : t.val < 32 then out15 m c t h else out15 m c p31 (by decide)

theorem cover16 (c : Dev nD) (t : Fin cfg0.N) (h : t.val < 32) (y : S1x1x128.Idx) : ∃ pc ∈ (pieces m c t h).2.2.2.1, y ∈ pc.1.set :=
  View.cover_of_tiledL (pieces m c t h).2.2.2.1 S1x1x128.size (by sl_kernel_rfl) y

/-- What point `t` leaves in the block of result 3. -/
def out16 (c : Dev nD) (t : Fin cfg0.N) (h : t.val < 32) : Vec F S1x1x128 .f32 :=
  VO16.read (Elt F) (VO16.writes (Elt F) VO16.junk (pieces m c t h).2.2.2.1)

/-- The same at any point: the last point leaves what the one before left. -/
def kept16 (c : Dev nD) (t : Fin cfg0.N) : Vec F S1x1x128 .f32 :=
  if h : t.val < 32 then out16 m c t h else out16 m c p31 (by decide)

/-! ## The run's data -/

/-- The kernel's own semaphore. -/
abbrev osem0 : Fin 1 → SemLoc sig := fun _ => .dma cc0_scratch1.sem
theorem ownSemFacts0 : Pipeline.OwnSemFacts spec0 osem0 := by decide
/-- The array that the kernel copies from itself. -/
abbrev H0 : Finset (Ref sig .tc) := {main_arg14}
theorem H0_sub : H0 ⊆ Pipeline.restRefs sig spec0 := by decide

theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), .dma cc0_scratch1.sem) 0 := by
  rw [Pipeline.ownSems0_eq_of_list c osem0 [0] (by decide) (by decide)]; rfl

theorem hbm0_eq (c : Dev nD) : (bigSep H0 (fun b => ((c : Thread nD τ).loc b) ↦{fullShare} V m c b) : sProp 𝕄)
    = ((c : Thread nD τ).loc main_arg14 ↦{fullShare} V m c main_arg14) := BI.bigSep_singleton

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => kept13 m c t
    | ⟨14, _⟩ => kept14 m c t
    | ⟨15, _⟩ => kept15 m c t
    | ⟨16, _⟩ => kept16 m c t
    | ⟨_ + 17, h⟩ => absurd h (Nat.not_lt.2 (Nat.le_add_left _ _))
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = kept13 m c t := by dsimp only [dats]
theorem after14 (c : Dev nD) (t : Fin cfg0.N) : (dats m 0 c).after 14 t = kept14 m c t := by dsimp only [dats]
theorem after15 (c : Dev nD) (t : Fin cfg0.N) : (dats m 0 c).after 15 t = kept15 m c t := by dsimp only [dats]
theorem after16 (c : Dev nD) (t : Fin cfg0.N) : (dats m 0 c).after 16 t = kept16 m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)

theorem fill_uncut (w : Fin cfg0.W) (i : cfg0.grid.Coords) (h : ∀ a, (cfg0.win w).clip i a = none) {α : Type}
    (d d' : (cfg0.win w).block.Idx → α) (g : ((cfg0.win w).xblock i).Idx → α) : (cfg0.win w).fill i d g = (cfg0.win w).fill i d' g := by
  funext j
  have hm : (cfg0.win w).moved i j = true :=
    ((cfg0.win w).moved_iff _ j).mpr fun a => by have := (j a).isLt; unfold Pipeline.Window.xsize; rw [h a]; exact this
  unfold Pipeline.Window.fill; rw [dif_pos hm, dif_pos hm]

theorem idle13_live (t : Fin cfg0.N) (h : t.val < 32) : cfg0.idle 13 (cfg0.grid.coords t) = false := by
  show (!(k0_cond1 (grid0.coords t) == 1#1)) = false
  rw [cond1 h]; rfl
theorem idle13_last (t : Fin cfg0.N) (h : ¬ t.val < 32) : cfg0.idle 13 (cfg0.grid.coords t) = true := by
  show (!(k0_cond1 (grid0.coords t) == 1#1)) = true
  rw [Bool.not_eq_true']; exact beq_eq_false_iff_ne.2 (not_cond1 h)

/-- At the last point the block still holds what the point before left. -/
theorem before13_last (c : Dev nD) (t : Fin cfg0.N) (h : ¬ t.val < 32) (d) : (dats m 0 c).before 13 t d = kept13 m c t := by
  obtain rfl := last_eq h
  rw [(dats m 0 c).before_of_pos 13 _ (by decide) ((cfg0.win 13).fetch_out rfl _), if_neg (by decide +kernel)]
  unfold Dat.left
  rw [idle13_live _ (by decide)]
  dsimp only
  unfold Dat.kept
  rw [fill_uncut 13 _ (fun _ => rfl) d ((dats m 0 c).after 13 _), Pipeline.Window.fill_cut, after13]
  unfold kept13
  rw [dif_pos (by decide), dif_neg (by decide)]
  rfl

theorem idle15_live (t : Fin cfg0.N) (h : t.val < 32) : cfg0.idle 15 (cfg0.grid.coords t) = false := by
  show (!(k0_cond1 (grid0.coords t) == 1#1)) = false
  rw [cond1 h]; rfl
theorem idle15_last (t : Fin cfg0.N) (h : ¬ t.val < 32) : cfg0.idle 15 (cfg0.grid.coords t) = true := by
  show (!(k0_cond1 (grid0.coords t) == 1#1)) = true
  rw [Bool.not_eq_true']; exact beq_eq_false_iff_ne.2 (not_cond1 h)

/-- At the last point the block still holds what the point before left. -/
theorem before15_last (c : Dev nD) (t : Fin cfg0.N) (h : ¬ t.val < 32) (d) : (dats m 0 c).before 15 t d = kept15 m c t := by
  obtain rfl := last_eq h
  rw [(dats m 0 c).before_of_pos 15 _ (by decide) ((cfg0.win 15).fetch_out rfl _), if_neg (by decide +kernel)]
  unfold Dat.left
  rw [idle15_live _ (by decide)]
  dsimp only
  unfold Dat.kept
  rw [fill_uncut 15 _ (fun _ => rfl) d ((dats m 0 c).after 15 _), Pipeline.Window.fill_cut, after15]
  unfold kept15
  rw [dif_pos (by decide), dif_neg (by decide)]
  rfl

theorem idle16_live (t : Fin cfg0.N) (h : t.val < 32) : cfg0.idle 16 (cfg0.grid.coords t) = false := by
  show (!(k0_cond1 (grid0.coords t) == 1#1)) = false
  rw [cond1 h]; rfl
theorem idle16_last (t : Fin cfg0.N) (h : ¬ t.val < 32) : cfg0.idle 16 (cfg0.grid.coords t) = true := by
  show (!(k0_cond1 (grid0.coords t) == 1#1)) = true
  rw [Bool.not_eq_true']; exact beq_eq_false_iff_ne.2 (not_cond1 h)

/-- At the last point the block still holds what the point before left. -/
theorem before16_last (c : Dev nD) (t : Fin cfg0.N) (h : ¬ t.val < 32) (d) : (dats m 0 c).before 16 t d = kept16 m c t := by
  obtain rfl := last_eq h
  rw [(dats m 0 c).before_of_pos 16 _ (by decide) ((cfg0.win 16).fetch_out rfl _), if_neg (by decide +kernel)]
  unfold Dat.left
  rw [idle16_live _ (by decide)]
  dsimp only
  unfold Dat.kept
  rw [fill_uncut 16 _ (fun _ => rfl) d ((dats m 0 c).after 16 _), Pipeline.Window.fill_cut, after16]
  unfold kept16
  rw [dif_pos (by decide), dif_neg (by decide)]
  rfl

theorem idle14 (t : Fin cfg0.N) : cfg0.idle 14 (cfg0.grid.coords t) = false := by
  show (!(k0_cond1 (grid0.coords t) == 1#1) && !(k0_cond2 (grid0.coords t) == 1#1)) = false
  by_cases h : t.val < 32
  · rw [cond1 h]; rfl
  · rw [cond2 h, Bool.and_comm]; rfl

/-- A block that a point writes back or is not idle at holds the point's rows. -/
theorem leaves_of {c : Dev nD} (w : Fin cfg0.W) (t : Fin cfg0.N) (h : cfg0.idle w (cfg0.grid.coords t) = false ∨ (cfg0.win w).flush t = true) :
    (dats (F := F) m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

theorem flush_last : ∀ t : Fin cfg0.N, ¬ t.val < 32 → (cfg0.win 13).flush t = true ∧ (cfg0.win 15).flush t = true ∧ (cfg0.win 16).flush t = true := by
  intro t h
  obtain rfl := last_eq h
  decide +kernel

def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d)) ∗ (∃ d, owns (c : Thread nD τ) (ms16 t) fullShare ((dats m 0 c).before 16 t d)))

def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t) ∗ owns (c : Thread nD τ) (ms12 t) fullShare ((dats m 0 c).after 12 t) ∗ owns (c : Thread nD τ) (ms13 t) fullShare ((dats m 0 c).after 13 t) ∗ owns (c : Thread nD τ) (ms14 t) fullShare ((dats m 0 c).after 14 t) ∗ owns (c : Thread nD τ) (ms15 t) fullShare ((dats m 0 c).after 15 t) ∗ owns (c : Thread nD τ) (ms16 t) fullShare ((dats m 0 c).after 16 t))

theorem scratch_of (c : Dev nD) : (iprop(∃ d, owns (c : Thread nD τ) (Memref.whole cc0_scratch0) fullShare d) : sProp 𝕄)
    ⊢ iprop(∃ f, ((c : Thread nD τ).loc cc0_scratch0) ↦{fullShare} f) := by
  simp only [owns_whole]; exact .rfl

set_option maxHeartbeats 1600000 in
theorem live_body (c : Dev nD) (t : Fin cfg0.N) (h : t.val < 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = Pipeline.ΦD osem0 spec0 H0 (V m) c from rfl, show (dats m 0 c).Φ t.castSucc = Pipeline.ΦD osem0 spec0 H0 (V m) c from rfl,
    after0, after1, after2, after3, after4, after5, after6, after7, after8, after9, after10, after11, after12, after13, after14, after15, after16, Pipeline.ΦD_eq, scopedRest0_eq, ownSems0_eq, hbm0_eq]
  rw [show (dats m 0 c).owesAt () t.succ = (dats m 0 c).owesAt () t.castSucc from rfl]
  unfold kept13 kept14 kept15 kept16
  rw [dif_pos h, dif_pos h, dif_pos h, dif_pos h]
  unfold out13 out14 out15 out16
  iintro ⟨⟨⟨%g0, HS0⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((pieces m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexists g0; rw [owns_whole]; iexact HS0
  iintro ⟨H0, H1, H2, H3, H4, H5, H6, H7, H8, H9, H10, H11, H12, ⟨%e13, H13⟩, ⟨%e14, H14⟩, ⟨%e15, H15⟩, ⟨%e16, H16⟩, ⟨%fT0, HS0⟩⟩
  isplitl [HS0 Hrest]
  · isplitl [HS0]
    · iapply (scratch_of c)
      unfold owns; iexists _; iexists _; isplitr
      swap; · iexact HS0
      ipureintro; rfl
    iexact Hrest
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover13 m c t h)
  isplitl [H14]
  · unfold owns; iexists _; isplitr
    swap; · iexact H14
    ipureintro; exact View.read_writes_of_cover _ _ _ _ _ (cover14 m c t h)
  isplitl [H15]
  · unfold owns; iexists _; isplitr
    swap; · iexact H15
    ipureintro; exact View.read_writes_of_cover _ _ _ _ _ (cover15 m c t h)
  unfold owns; iexists _; isplitr
  swap; · iexact H16
  ipureintro; exact View.read_writes_of_cover _ _ _ _ _ (cover16 m c t h)

theorem last_body (c : Dev nD) (t : Fin cfg0.N) (h : ¬ t.val < 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = Pipeline.ΦD osem0 spec0 H0 (V m) c from rfl, show (dats m 0 c).Φ t.castSucc = Pipeline.ΦD osem0 spec0 H0 (V m) c from rfl,
    after0, after1, after2, after3, after4, after5, after6, after7, after8, after9, after10, after11, after12, after13, after14, after15, after16, Pipeline.ΦD_eq, scopedRest0_eq, ownSems0_eq, hbm0_eq]
  simp only [before13_last m c t h, before15_last m c t h, before16_last m c t h]
  unfold kept14
  rw [dif_neg h]
  unfold Dat.owesAt Pipeline.owesWithin
  rw [show (dats m 0 c).owed t.castSucc = 0 from rfl, show (dats m 0 c).owed t.succ = 0 from rfl]
  iintro ⟨⟨HS0, Hp, Hs, Hz⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (lastRun c (grid0.coords t) (not_cond1 h) (cond2 h) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole main_arg14) (Memref.isWhole_whole _) (ms13 t) (hs13 t) (ms14 t) (hs14 t) (ms15 t) (hs15 t) (ms16 t) (hs16 t) (Memref.whole cc0_scratch0) (Memref.isWhole_whole _) cc0_scratch1 (V m c main_arg14) W _)
  isplitl [Hz]; · rw [owns_whole]; iexact Hz
  isplitl [H14]; · iexists _; iexact H14
  isplitl [Hs]; · iexact Hs
  isplitl [HW]; · iexact HW
  iintro ⟨Hz, H14, Hs, ⟨%W', HW⟩⟩
  isplitl [HS0 Hp Hs Hz]
  · isplitl [HS0]; · iexact HS0
    isplitl [Hp]; · iexact Hp
    isplitl [Hs]; · iexact Hs
    rw [owns_whole]; exact .rfl
  isplitl [HW]
  · iexists W'
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    bodyPre m c t ⊢ wp frame (wpE (defs₀ (F := F)) Variants.none c none) Set.univ (bodyAt0 t) (fun _ =>
      iprop((dats m 0 c).Φ t.succ ∗ (dats m 0 c).owesAt () t.succ ∗ (dats (F := F) m 0 c).leavesExact 0 t ∗ (dats (F := F) m 0 c).leavesExact 1 t ∗ (dats (F := F) m 0 c).leavesExact 2 t ∗ (dats (F := F) m 0 c).leavesExact 3 t ∗ (dats (F := F) m 0 c).leavesExact 4 t ∗ (dats (F := F) m 0 c).leavesExact 5 t ∗ (dats (F := F) m 0 c).leavesExact 6 t ∗ (dats (F := F) m 0 c).leavesExact 7 t ∗ (dats (F := F) m 0 c).leavesExact 8 t ∗ (dats (F := F) m 0 c).leavesExact 9 t ∗ (dats (F := F) m 0 c).leavesExact 10 t ∗ (dats (F := F) m 0 c).leavesExact 11 t ∗ (dats (F := F) m 0 c).leavesExact 12 t ∗ (dats (F := F) m 0 c).leavesExact 13 t ∗ (dats (F := F) m 0 c).leavesExact 14 t ∗ (dats (F := F) m 0 c).leavesExact 15 t ∗ (dats (F := F) m 0 c).leavesExact 16 t)) := by
  by_cases h : t.val < 32
  · rw [leaves_of m 13 t (Or.inl (idle13_live t h)), leaves_of m 14 t (Or.inl (idle14 t)), leaves_of m 15 t (Or.inl (idle15_live t h)), leaves_of m 16 t (Or.inl (idle16_live t h))]
    exact live_body m c t h
  · rw [leaves_of m 13 t (Or.inr (flush_last t h).1), leaves_of m 14 t (Or.inl (idle14 t)), leaves_of m 15 t (Or.inr (flush_last t h).2.1), leaves_of m 16 t (Or.inr (flush_last t h).2.2)]
    exact last_body m c t h

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmain' : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option backward.isDefEq.respectTransparency.types false in
theorem run_main : θ_run defs (onTc (τ := τ) (main (F := F))) ⟨m, fun _ => 0, ρ⟩
    (fun r => Pipeline.FramePost cfgs (dats m) 0 (V m) r ∧ r.2.sem = fun _ => 0) :=
  Pipeline.θ_run_frame_dma_shared cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain' m) (hA := A_eq m) (hin := fun _ => .rfl) (hout := fun _ => .rfl) (Q' := _)

/-- The run leaves every argument as it was and every semaphore at zero. -/
theorem frame : θ_run defs (onTc (τ := τ) (main (F := F))) ⟨m, fun _ => 0, ρ⟩ (fun r => (∀ c : Dev nD,
      r.2.mem (c.tc.loc main_v16_0) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r hr => ⟨fun c => have h := hr.1; ⟨(h c).1 13, ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩, hr.2⟩) (run_main m ρ)

end Cert.Kernel8Ideal.Hand

end
-- ==== Proof.PoolKernel.lean ====
/-
  The prompt's merge read at one element: what the blocks hold, and the residual row that the body computes in terms of `pooled`,
  `mixed`, `branch` and `merged`.
-/
module

public import proofs.«01_k».proof.Proof.PoolReference
public import proofs.«01_k».proof.Proof.PoolRun
public import Idealize.ShloMosaic.Lib.Claim
public import Idealize.ShloMosaic.Lib.Pipeline.ValueKit

@[expose] public section

set_option maxRecDepth 16384

noncomputable section

namespace Cert.Proof.PoolKernel

open Cert.Kernel8Ideal Cert.Kernel8Ideal.Gen Idealize.ShloMosaic Idealize.ShloMosaic.TcCoe
open Idealize.ShloMosaic.Pipeline (Dat)
open Cert.Proof.PoolReference

variable (m : (ℓ : Loc nD τ sig) → Buf (Elt Ideal) ℓ)

/-- The blocks of a point: the last point's are those of the one before. -/
theorem idx : ∀ t : Fin cfg0.N, win0_0.index t = ![min t.val 31, 0] ∧ win0_1.index t = ![min t.val 31, 0] ∧ win0_2.index t = ![min t.val 31 * 32 - 1, 0] ∧ win0_3.index t = ![min t.val 31, 0] ∧ win0_4.index t = ![min t.val 31, 0] ∧ win0_5.index t = ![0, 0, 0] ∧ win0_6.index t = ![0, 0] ∧ win0_7.index t = ![0, 0] ∧ win0_8.index t = ![0, 0] ∧ win0_9.index t = ![0, 0] ∧ win0_13.index t = ![min t.val 31, 0] :=
  (by decide +kernel : ∀ t : Fin grid0.N, _)

/-- The rows. -/
abbrev inX (c : Dev nD) : FVec Ideal Cert.Reference8Ideal.S8x2048x1024 .f32 := m (c.tc.loc main_arg0)

/-- The pooling rows. -/
abbrev inU (c : Dev nD) : FVec Ideal Cert.Reference8Ideal.S16384x512 .f32 := m (c.tc.loc main_arg1)

/-- The attention's rows. -/
abbrev inA (c : Dev nD) : FVec Ideal Cert.Reference8Ideal.S16384x512 .bf16 := m (c.tc.loc main_arg2)

/-- The gates. -/
abbrev inG (c : Dev nD) : FVec Ideal Cert.Reference8Ideal.S16384x2048 .bf16 := m (c.tc.loc main_arg3)

/-- The groups' weights. -/
abbrev inP (c : Dev nD) : FVec Ideal Cert.Reference8Ideal.S4x128x128 .f32 := m (c.tc.loc main_arg4)

/-- The scale of the pooled rows. -/
abbrev inQ (c : Dev nD) : FVec Ideal Cert.Reference8Ideal.S512 .f32 := m (c.tc.loc main_arg5)

/-- The weights after the pooled rows. -/
abbrev inM (c : Dev nD) : FVec Ideal Cert.Reference8Ideal.S512x1024 .f32 := m (c.tc.loc main_arg6)

/-- The weights after the attention. -/
abbrev inN (c : Dev nD) : FVec Ideal Cert.Reference8Ideal.S512x1024 .f32 := m (c.tc.loc main_arg7)

/-- The weights after the branches. -/
abbrev inO (c : Dev nD) : FVec Ideal Cert.Reference8Ideal.S1024x1024 .f32 := m (c.tc.loc main_arg8)

theorem host8 (c : Dev nD) : V m c main_v8 = (shapeCast S16384x1024 (inX m c : FVec Ideal S8x2048x1024 .f32) shapeCasts_S8x2048x1024_S16384x1024 : FVec Ideal S16384x1024 .f32) := by
  simp only [V, hostOps0, hostOps0_1, hostOps0_2, hostOps0_3, hostOps0_4, List.flatten_cons, List.flatten_nil, List.append_nil,
    List.cons_append, List.nil_append]
  entry_read
  rfl

theorem host9 (c : Dev nD) : V m c main_v9 = (truncf .bf16 (inP m c : FVec Ideal S4x128x128 .f32) bitsLt_bf16_f32 : FVec Ideal S4x128x128 .bf16) := by
  simp only [V, hostOps0, hostOps0_1, hostOps0_2, hostOps0_3, hostOps0_4, List.flatten_cons, List.flatten_nil, List.append_nil,
    List.cons_append, List.nil_append]
  entry_read
  rfl

theorem host10 (c : Dev nD) : V m c main_v10 = (shapeCast S1x512 (inQ m c : FVec Ideal S512 .f32) shapeCasts_S512_S1x512 : FVec Ideal S1x512 .f32) := by
  simp only [V, hostOps0, hostOps0_1, hostOps0_2, hostOps0_3, hostOps0_4, List.flatten_cons, List.flatten_nil, List.append_nil,
    List.cons_append, List.nil_append]
  entry_read
  rfl

theorem host11 (c : Dev nD) : V m c main_v11 = (truncf .bf16 (inM m c : FVec Ideal S512x1024 .f32) bitsLt_bf16_f32 : FVec Ideal S512x1024 .bf16) := by
  simp only [V, hostOps0, hostOps0_1, hostOps0_2, hostOps0_3, hostOps0_4, List.flatten_cons, List.flatten_nil, List.append_nil,
    List.cons_append, List.nil_append]
  entry_read
  rfl

theorem host12 (c : Dev nD) : V m c main_v12 = (truncf .bf16 (inN m c : FVec Ideal S512x1024 .f32) bitsLt_bf16_f32 : FVec Ideal S512x1024 .bf16) := by
  simp only [V, hostOps0, hostOps0_1, hostOps0_2, hostOps0_3, hostOps0_4, List.flatten_cons, List.flatten_nil, List.append_nil,
    List.cons_append, List.nil_append]
  entry_read
  rfl

theorem host13 (c : Dev nD) : V m c main_v13 = (truncf .bf16 (inO m c : FVec Ideal S1024x1024 .f32) bitsLt_bf16_f32 : FVec Ideal S1024x1024 .bf16) := by
  simp only [V, hostOps0, hostOps0_1, hostOps0_2, hostOps0_3, hostOps0_4, List.flatten_cons, List.flatten_nil, List.append_nil,
    List.cons_append, List.nil_append]
  entry_read
  rfl

theorem block5 (c : Dev nD) (t : Fin cfg0.N) : iblk m c 5 t = V m c main_v9 := by
  blk_ext! [iblk, idx t]

theorem block6 (c : Dev nD) (t : Fin cfg0.N) : iblk m c 6 t = V m c main_v10 := by
  blk_ext! [iblk, idx t]

theorem block7 (c : Dev nD) (t : Fin cfg0.N) : iblk m c 7 t = V m c main_v11 := by
  blk_ext! [iblk, idx t]

theorem block8 (c : Dev nD) (t : Fin cfg0.N) : iblk m c 8 t = V m c main_v12 := by
  blk_ext! [iblk, idx t]

theorem block9 (c : Dev nD) (t : Fin cfg0.N) : iblk m c 9 t = V m c main_v13 := by
  blk_ext! [iblk, idx t]

theorem block0 (c : Dev nD) (t : Fin cfg0.N) (ht : t.val < 32) (k : Fin 512) (j : Fin 1024) :
    (iblk m c 0 t : FVec Ideal S512x1024 .f32) (ix2 k j) = (V m c main_v8 : FVec Ideal S16384x1024 .f32) (ix2 ⟨t.val * 512 + k.val, by omega⟩ j) := by
  have hm : min t.val 31 = t.val := by omega
  blk_ext [iblk, idx t, hm]

theorem block1 (c : Dev nD) (t : Fin cfg0.N) (ht : t.val < 32) (k : Fin 512) (j : Fin 512) :
    (iblk m c 1 t : FVec Ideal S512x512 .f32) (ix2 k j) = (V m c main_arg1 : FVec Ideal S16384x512 .f32) (ix2 ⟨t.val * 512 + k.val, by omega⟩ j) := by
  have hm : min t.val 31 = t.val := by omega
  blk_ext [iblk, idx t, hm]

theorem block3 (c : Dev nD) (t : Fin cfg0.N) (ht : t.val < 32) (k : Fin 512) (j : Fin 512) :
    (iblk m c 3 t : FVec Ideal S512x512 .bf16) (ix2 k j) = (V m c main_arg2 : FVec Ideal S16384x512 .bf16) (ix2 ⟨t.val * 512 + k.val, by omega⟩ j) := by
  have hm : min t.val 31 = t.val := by omega
  blk_ext [iblk, idx t, hm]

theorem block4 (c : Dev nD) (t : Fin cfg0.N) (ht : t.val < 32) (k : Fin 512) (j : Fin 2048) :
    (iblk m c 4 t : FVec Ideal S512x2048 .bf16) (ix2 k j) = (V m c main_arg3 : FVec Ideal S16384x2048 .bf16) (ix2 ⟨t.val * 512 + k.val, by omega⟩ j) := by
  have hm : min t.val 31 = t.val := by omega
  blk_ext [iblk, idx t, hm]

theorem block2 (c : Dev nD) (t : Fin cfg0.N) (ht : t.val < 32) (h0 : t.val % 4 ≠ 0) (k : Fin 16) (j : Fin 512) :
    (iblk m c 2 t : FVec Ideal S16x512 .f32) (ix2 k j) = (V m c main_arg1 : FVec Ideal S16384x512 .f32) (ix2 ⟨t.val * 512 + k.val - 16, by omega⟩ j) := by
  have hm : min t.val 31 = t.val := by omega
  blk_ext [iblk, idx t, hm]

theorem rows_at (c : Dev nD) (t : Fin cfg0.N) (ht : t.val < 32) (k : Fin 512) (j : Fin 1024) (r : Fin 16384) (hr : r.val = t.val * 512 + k.val) :
    (iblk m c 0 t : FVec Ideal S512x1024 .f32) (ix2 k j) = inX m c (ix3 ⟨r.val / 2048, by omega⟩ ⟨r.val % 2048, by omega⟩ j) := by
  have hb : t.val * 512 + k.val < 16384 := by omega
  obtain rfl : r = ⟨t.val * 512 + k.val, hb⟩ := Fin.ext hr
  rw [block0 m c t ht, host8]
  pointwise

theorem newest_at (c : Dev nD) (t : Fin cfg0.N) (ht : t.val < 32) (k : Fin 512) (j : Fin 512) :
    (iblk m c 1 t : FVec Ideal S512x512 .f32) (ix2 k j) = inU m c (ix2 ⟨t.val * 512 + k.val, by omega⟩ j) := by
  rw [block1 m c t ht, V_main_arg1]

theorem halo_at (c : Dev nD) (t : Fin cfg0.N) (ht : t.val < 32) (h0 : t.val % 4 ≠ 0) (k : Fin 16) (j : Fin 512) :
    (iblk m c 2 t : FVec Ideal S16x512 .f32) (ix2 k j) = inU m c (ix2 ⟨t.val * 512 + k.val - 16, by omega⟩ j) := by
  rw [block2 m c t ht h0, V_main_arg1]

theorem att_at (c : Dev nD) (t : Fin cfg0.N) (ht : t.val < 32) (k : Fin 512) (j : Fin 512) (r : Fin 16384) (hr : r.val = t.val * 512 + k.val) :
    (iblk m c 3 t : FVec Ideal S512x512 .bf16) (ix2 k j) = inA m c (ix2 r j) := by
  have hb : t.val * 512 + k.val < 16384 := by omega
  obtain rfl : r = ⟨t.val * 512 + k.val, hb⟩ := Fin.ext hr
  rw [block3 m c t ht, V_main_arg2]

theorem gates_at (c : Dev nD) (t : Fin cfg0.N) (ht : t.val < 32) (k : Fin 512) (j : Fin 2048) (r : Fin 16384) (hr : r.val = t.val * 512 + k.val) :
    (iblk m c 4 t : FVec Ideal S512x2048 .bf16) (ix2 k j) = inG m c (ix2 r j) := by
  have hb : t.val * 512 + k.val < 16384 := by omega
  obtain rfl : r = ⟨t.val * 512 + k.val, hb⟩ := Fin.ext hr
  rw [block4 m c t ht, V_main_arg3]

theorem group_at (c : Dev nD) (t : Fin cfg0.N) (g : Fin 4) (i d : Fin 128) :
    (iblk m c 5 t : FVec Ideal S4x128x128 .bf16) (ix3 g i d) = inP m c (ix3 g i d) := by
  rw [block5, host9]
  pointwise

theorem scale_at (c : Dev nD) (t : Fin cfg0.N) (j : Fin 512) :
    (iblk m c 6 t : FVec Ideal S1x512 .f32) (ix2 0 j) = inQ m c (ix1 j) := by
  rw [block6, host10]
  pointwise

theorem upPool_at (c : Dev nD) (t : Fin cfg0.N) (j : Fin 512) (l : Fin 1024) :
    (iblk m c 7 t : FVec Ideal S512x1024 .bf16) (ix2 j l) = inM m c (ix2 j l) := by
  rw [block7, host11]
  pointwise

theorem upAtt_at (c : Dev nD) (t : Fin cfg0.N) (j : Fin 512) (l : Fin 1024) :
    (iblk m c 8 t : FVec Ideal S512x1024 .bf16) (ix2 j l) = inN m c (ix2 j l) := by
  rw [block8, host12]
  pointwise

theorem outer_at (c : Dev nD) (t : Fin cfg0.N) (j l : Fin 1024) :
    (iblk m c 9 t : FVec Ideal S1024x1024 .bf16) (ix2 j l) = inO m c (ix2 j l) := by
  rw [block9, host13]
  pointwise

/-! ## The body at one element -/

/-- The position in its sequence of a block's first row. -/
def pos0 (arg0 : BitVec 32) : BitVec 32 :=
  let v6 : BitVec 32 := Scalar.muli arg0 512#32
  let v7 : BitVec 1 := Scalar.cmpi .eq 2048#32 0#32
  let v8 : BitVec 32 := Scalar.select v7 1#32 2048#32
  let v9 : BitVec 32 := Scalar.remsi v6 v8
  let v10 : BitVec 1 := Scalar.cmpi .ne v9 0#32
  let v11 : BitVec 1 := Scalar.cmpi .slt v9 0#32
  let v12 : BitVec 1 := Scalar.cmpi .slt v8 0#32
  let v13 : BitVec 1 := Scalar.xori v11 v12
  let v14 : BitVec 1 := Scalar.andi v13 v10
  let v15 : BitVec 32 := Scalar.addi v9 v8
  Scalar.select v14 v15 v9

theorem pos0_eq : ∀ i : Fin 32, pos0 (BitVec.ofNat 32 i.val) = BitVec.ofNat 32 (i.val % 4 * 512)
    ∧ (Scalar.cmpi .eq (pos0 (BitVec.ofNat 32 i.val)) 0#32 = 1#1 ↔ i.val % 4 = 0) := by
  decide +kernel

theorem first_at (i : Fin 32) (z : FVec Ideal S16x512 .f32) (a : Fin 16) (j : Fin 512) :
    k0_pay3 (F := Ideal) (BitVec.ofNat 32 i.val) z (ix2 a j) = if i.val % 4 = 0 then 0 else z (ix2 a j) := by
  have e : k0_pay3 (F := Ideal) (BitVec.ofNat 32 i.val) z
      = shapeCast S16x512 (Scalar.select (Scalar.cmpi .eq (pos0 (BitVec.ofNat 32 i.val)) 0#32) (broadcast S16x512 (Scalar.ofBits (F := Ideal) .f32 0x00000000#32)) z) shapeCasts_S16x512_S16x512 := rfl
  rw [e]
  by_cases h : i.val % 4 = 0
  · rw [(pos0_eq i).2.2 h, if_pos h]
    pointwise
  · rw [if_neg h, Scalar.select, if_neg (show ¬ (Scalar.cmpi .eq (pos0 (BitVec.ofNat 32 i.val)) 0#32 = 1) from fun q => h ((pos0_eq i).2.1 q))]
    pointwise

theorem pos_at (i : Fin 32) (k : Fin 512) :
    k0_pay5 (BitVec.ofNat 32 i.val) (ix2 k 0) = BitVec.ofNat 32 ((i.val * 512 + k.val) % 2048) := by
  have e : k0_pay5 (BitVec.ofNat 32 i.val) (ix2 k 0) = pos0 (BitVec.ofNat 32 i.val) + BitVec.ofNat 32 k.val := by
    pointwise [k0_pay5, pos0, IntOp.addi]
  rw [e, (pos0_eq i).1, ← BitVec.ofNat_add]
  exact congrArg _ (by omega)

section Body

variable {x1 : FVec Ideal S512x512 .f32} {x2 : FVec Ideal S16x512 .f32} {i : Fin 32}
variable {u : FVec Ideal Cert.Reference8Ideal.S16384x512 .f32}

/-- What a load of 512 rows, `n` rows back, reads at one element. -/
theorem lag_at (h1 : ∀ (k : Fin 512) (j : Fin 512), x1 (ix2 k j) = u (ix2 ⟨i.val * 512 + k.val, by omega⟩ j))
    (h2 : i.val % 4 ≠ 0 → ∀ (a : Fin 16) (j : Fin 512), x2 (ix2 a j) = u (ix2 ⟨i.val * 512 + a.val - 16, by omega⟩ j))
    (n o lo : Nat) (hn : o + n = 16) (ho : 1 ≤ o) (inb : ∀ a, (![o, lo] : Fin 2 → Nat) a + (![512, 128] : Fin 2 → Nat) a ≤ S528x512.size a)
    (k : Fin 512) (c : Fin 128) (hl : lo + c.val < 512) :
    ((View.whole cc0_scratch0).readCov (Val := Elt Ideal)
        [⟨Rect.unit ![16, 0] ![512, 512] inb_S528x512_S512x512_16_0, k0_pay4 (F := Ideal) x1⟩,
          ⟨Rect.unit ![0, 0] ![16, 512] inb_S528x512_S16x512_0_0, k0_pay3 (F := Ideal) (BitVec.ofNat 32 i.val) x2⟩]
        (Rect.unit (s := S528x512) ![o, lo] ![512, 128] inb).toLoadRect : FVec Ideal S512x128 .f32) (ix2 k c)
      = lag u ⟨i.val * 512 + k.val, by omega⟩ ⟨lo + c.val, hl⟩ n := by
  unfold lag
  rw [View.readCov, View.readAt_apply]
  have e0 : ((Rect.unit (s := S528x512) ![o, lo] ![512, 128] inb).toLoadRect.idx (ix2 k c) 0).val = o + k.val := by
    show o + 1 * k.val = _; omega
  have e1 : ((Rect.unit (s := S528x512) ![o, lo] ![512, 128] inb).toLoadRect.idx (ix2 k c) 1).val = lo + c.val := by
    show lo + 1 * c.val = _; omega
  by_cases hk : k.val < n
  · rw [View.read_writes_cons_unit_of_not_mem _ _ _ _ _ _ rfl (0 : Fin 2) (Or.inl (by rw [e0]; show o + k.val < 16; omega))]
    refine (View.read_writes_cons_unit_of_mem _ _ _ _ _ _ (ix2 ⟨o + k.val, by omega⟩ ⟨lo + c.val, hl⟩) rfl
      (Fin.forall_fin_two.2 ⟨e0.trans (Nat.zero_add _).symm, e1.trans (Nat.zero_add _).symm⟩)).trans ?_
    refine (first_at i x2 _ _).trans ?_
    by_cases hi : i.val % 4 = 0
    · rw [if_pos hi, if_pos (by simp only []; omega)]
    · refine (if_neg hi).trans ((h2 hi _ _).trans ?_)
      refine Eq.trans ?_ (if_neg (show ¬ (i.val * 512 + k.val) % 2048 < n by omega)).symm
      exact congrArg (fun q => u (ix2 q _)) (Fin.ext (by simp only []; omega))
  · refine (View.read_writes_cons_unit_of_mem _ _ _ _ _ _ (ix2 ⟨k.val - n, by omega⟩ ⟨lo + c.val, hl⟩) rfl
      (Fin.forall_fin_two.2 ⟨e0.trans (by show o + k.val = 16 + (k.val - n); omega), e1.trans (Nat.zero_add _).symm⟩)).trans ?_
    have e : k0_pay4 (F := Ideal) x1 (ix2 ⟨k.val - n, by omega⟩ ⟨lo + c.val, hl⟩) = x1 (ix2 ⟨k.val - n, by omega⟩ ⟨lo + c.val, hl⟩) := by
      pointwise [k0_pay4]
    refine e.trans ((h1 _ _).trans ?_)
    refine Eq.trans ?_ (if_neg (show ¬ (i.val * 512 + k.val) % 2048 < n by omega)).symm
    exact congrArg (fun q => u (ix2 q _)) (Fin.ext (by simp only []; omega))

theorem mean2_at {v0 v1 : FVec Ideal S512x128 .f32} (k : Fin 512) (c : Fin 128)
    (h1 : ∀ j : Fin 512, x1 (ix2 k j) = u (ix2 ⟨i.val * 512 + k.val, by omega⟩ j))
    (e0 : v0 (ix2 k c) = lag u ⟨i.val * 512 + k.val, by omega⟩ ⟨c.val, by omega⟩ 0) (e1 : v1 (ix2 k c) = lag u ⟨i.val * 512 + k.val, by omega⟩ ⟨c.val, by omega⟩ 1) :
    k0_pay7 (F := Ideal) x1 (k0_pay6 (BitVec.ofNat 32 i.val) v0 v1) (ix2 k c) = pooled u ⟨i.val * 512 + k.val, by omega⟩ 0 c := by
  have hp := pos_at i k
  pointwise [k0_pay7, k0_pay6, pooled, meanAt, cnt]
  simp only [h1, hp, acc, e0, e1]

theorem mean4_at {v0 v1 v2 v3 : FVec Ideal S512x128 .f32} (k : Fin 512) (c : Fin 128)
    (h1 : ∀ j : Fin 512, x1 (ix2 k j) = u (ix2 ⟨i.val * 512 + k.val, by omega⟩ j))
    (e0 : v0 (ix2 k c) = lag u ⟨i.val * 512 + k.val, by omega⟩ ⟨128 + c.val, by omega⟩ 0) (e1 : v1 (ix2 k c) = lag u ⟨i.val * 512 + k.val, by omega⟩ ⟨128 + c.val, by omega⟩ 1) (e2 : v2 (ix2 k c) = lag u ⟨i.val * 512 + k.val, by omega⟩ ⟨128 + c.val, by omega⟩ 2) (e3 : v3 (ix2 k c) = lag u ⟨i.val * 512 + k.val, by omega⟩ ⟨128 + c.val, by omega⟩ 3) :
    k0_pay8 (F := Ideal) x1 (k0_pay5 (BitVec.ofNat 32 i.val)) v0 v1 v2 v3 (ix2 k c) = pooled u ⟨i.val * 512 + k.val, by omega⟩ 1 c := by
  have hp := pos_at i k
  pointwise [k0_pay8, pooled, meanAt, cnt]
  simp only [h1, hp, acc, e0, e1, e2, e3]

theorem mean8_at {v0 v1 v2 v3 v4 v5 v6 v7 : FVec Ideal S512x128 .f32} (k : Fin 512) (c : Fin 128)
    (h1 : ∀ j : Fin 512, x1 (ix2 k j) = u (ix2 ⟨i.val * 512 + k.val, by omega⟩ j))
    (e0 : v0 (ix2 k c) = lag u ⟨i.val * 512 + k.val, by omega⟩ ⟨256 + c.val, by omega⟩ 0) (e1 : v1 (ix2 k c) = lag u ⟨i.val * 512 + k.val, by omega⟩ ⟨256 + c.val, by omega⟩ 1) (e2 : v2 (ix2 k c) = lag u ⟨i.val * 512 + k.val, by omega⟩ ⟨256 + c.val, by omega⟩ 2) (e3 : v3 (ix2 k c) = lag u ⟨i.val * 512 + k.val, by omega⟩ ⟨256 + c.val, by omega⟩ 3) (e4 : v4 (ix2 k c) = lag u ⟨i.val * 512 + k.val, by omega⟩ ⟨256 + c.val, by omega⟩ 4) (e5 : v5 (ix2 k c) = lag u ⟨i.val * 512 + k.val, by omega⟩ ⟨256 + c.val, by omega⟩ 5) (e6 : v6 (ix2 k c) = lag u ⟨i.val * 512 + k.val, by omega⟩ ⟨256 + c.val, by omega⟩ 6) (e7 : v7 (ix2 k c) = lag u ⟨i.val * 512 + k.val, by omega⟩ ⟨256 + c.val, by omega⟩ 7) :
    k0_pay10 (F := Ideal) x1 (k0_pay5 (BitVec.ofNat 32 i.val)) (k0_pay9 v0 v1 v2 v3 v4 v5 v6 v7) 1#32 (ix2 k c) = pooled u ⟨i.val * 512 + k.val, by omega⟩ 2 c := by
  have hp := pos_at i k
  pointwise [k0_pay10, k0_pay9, pooled, meanAt, cnt]
  simp only [h1, hp, acc, e0, e1, e2, e3, e4, e5, e6, e7]

theorem mean16_at {v0 v1 v2 v3 v4 v5 v6 v7 v8 v9 v10 v11 v12 v13 v14 v15 : FVec Ideal S512x128 .f32} (k : Fin 512) (c : Fin 128)
    (h1 : ∀ j : Fin 512, x1 (ix2 k j) = u (ix2 ⟨i.val * 512 + k.val, by omega⟩ j))
    (e0 : v0 (ix2 k c) = lag u ⟨i.val * 512 + k.val, by omega⟩ ⟨384 + c.val, by omega⟩ 0) (e1 : v1 (ix2 k c) = lag u ⟨i.val * 512 + k.val, by omega⟩ ⟨384 + c.val, by omega⟩ 1) (e2 : v2 (ix2 k c) = lag u ⟨i.val * 512 + k.val, by omega⟩ ⟨384 + c.val, by omega⟩ 2) (e3 : v3 (ix2 k c) = lag u ⟨i.val * 512 + k.val, by omega⟩ ⟨384 + c.val, by omega⟩ 3) (e4 : v4 (ix2 k c) = lag u ⟨i.val * 512 + k.val, by omega⟩ ⟨384 + c.val, by omega⟩ 4) (e5 : v5 (ix2 k c) = lag u ⟨i.val * 512 + k.val, by omega⟩ ⟨384 + c.val, by omega⟩ 5) (e6 : v6 (ix2 k c) = lag u ⟨i.val * 512 + k.val, by omega⟩ ⟨384 + c.val, by omega⟩ 6) (e7 : v7 (ix2 k c) = lag u ⟨i.val * 512 + k.val, by omega⟩ ⟨384 + c.val, by omega⟩ 7) (e8 : v8 (ix2 k c) = lag u ⟨i.val * 512 + k.val, by omega⟩ ⟨384 + c.val, by omega⟩ 8) (e9 : v9 (ix2 k c) = lag u ⟨i.val * 512 + k.val, by omega⟩ ⟨384 + c.val, by omega⟩ 9) (e10 : v10 (ix2 k c) = lag u ⟨i.val * 512 + k.val, by omega⟩ ⟨384 + c.val, by omega⟩ 10) (e11 : v11 (ix2 k c) = lag u ⟨i.val * 512 + k.val, by omega⟩ ⟨384 + c.val, by omega⟩ 11) (e12 : v12 (ix2 k c) = lag u ⟨i.val * 512 + k.val, by omega⟩ ⟨384 + c.val, by omega⟩ 12) (e13 : v13 (ix2 k c) = lag u ⟨i.val * 512 + k.val, by omega⟩ ⟨384 + c.val, by omega⟩ 13) (e14 : v14 (ix2 k c) = lag u ⟨i.val * 512 + k.val, by omega⟩ ⟨384 + c.val, by omega⟩ 14) (e15 : v15 (ix2 k c) = lag u ⟨i.val * 512 + k.val, by omega⟩ ⟨384 + c.val, by omega⟩ 15) :
    k0_pay12 (F := Ideal) x1 (k0_pay5 (BitVec.ofNat 32 i.val)) (k0_pay11 v0 v1 v2 v3 v4 v5 v6 v7 v8 v9 v10 v11) v12 v13 v14 v15 (ix2 k c) = pooled u ⟨i.val * 512 + k.val, by omega⟩ 3 c := by
  have hp := pos_at i k
  pointwise [k0_pay12, k0_pay11, pooled, meanAt, cnt]
  simp only [h1, hp, acc, e0, e1, e2, e3, e4, e5, e6, e7, e8, e9, e10, e11, e12, e13, e14, e15]

theorem product14_at {wp : FVec Ideal Cert.Reference8Ideal.S4x128x128 .f32} {v : FVec Ideal S512x128 .f32} {g : Fin 4} {p : FVec Ideal S1x128x128 .bf16} (k : Fin 512) (r : Fin 16384)
    (hv : ∀ c, v (ix2 k c) = pooled u r g c) (hp : ∀ c d, p (ix3 0 c d) = wp (ix3 g c d)) (d : Fin 128) :
    k0_pay14 (F := Ideal) v p (ix2 k d) = mixed u wp r g d := by
  pointwise [k0_pay14, mixed]
  simp only [hv, hp]

theorem product15_at {wp : FVec Ideal Cert.Reference8Ideal.S4x128x128 .f32} {v : FVec Ideal S512x128 .f32} {g : Fin 4} {p : FVec Ideal S1x128x128 .bf16} (k : Fin 512) (r : Fin 16384)
    (hv : ∀ c, v (ix2 k c) = pooled u r g c) (hp : ∀ c d, p (ix3 0 c d) = wp (ix3 g c d)) (d : Fin 128) :
    k0_pay15 (F := Ideal) v p (ix2 k d) = mixed u wp r g d := by
  pointwise [k0_pay15, mixed]
  simp only [hv, hp]

theorem product16_at {wp : FVec Ideal Cert.Reference8Ideal.S4x128x128 .f32} {v : FVec Ideal S512x128 .f32} {g : Fin 4} {p : FVec Ideal S1x128x128 .bf16} (k : Fin 512) (r : Fin 16384)
    (hv : ∀ c, v (ix2 k c) = pooled u r g c) (hp : ∀ c d, p (ix3 0 c d) = wp (ix3 g c d)) (d : Fin 128) :
    k0_pay16 (F := Ideal) v p (ix2 k d) = mixed u wp r g d := by
  pointwise [k0_pay16, mixed]
  simp only [hv, hp]

theorem merged_at {x : FVec Ideal Cert.Reference8Ideal.S8x2048x1024 .f32} {a : FVec Ideal Cert.Reference8Ideal.S16384x512 .bf16}
    {G : FVec Ideal Cert.Reference8Ideal.S16384x2048 .bf16} {wp : FVec Ideal Cert.Reference8Ideal.S4x128x128 .f32}
    {ps : FVec Ideal Cert.Reference8Ideal.S512 .f32} {wu wa : FVec Ideal Cert.Reference8Ideal.S512x1024 .f32}
    {wo : FVec Ideal Cert.Reference8Ideal.S1024x1024 .f32}
    {x0 : FVec Ideal S512x1024 .f32} {v w0 w1 w2 : FVec Ideal S512x128 .f32} {p : FVec Ideal S1x128x128 .bf16}
    {x3 : FVec Ideal S512x512 .bf16} {x4 : FVec Ideal S512x2048 .bf16} {x6 : FVec Ideal S1x512 .f32}
    {x7 x8 : FVec Ideal S512x1024 .bf16} {x9 : FVec Ideal S1024x1024 .bf16}
    (k : Fin 512) (r : Fin 16384) (h0 : ∀ j, x0 (ix2 k j) = x (ix3 ⟨r.val / 2048, by omega⟩ ⟨r.val % 2048, by omega⟩ j))
    (hv : ∀ c, v (ix2 k c) = pooled u r 3 c) (hp : ∀ c d, p (ix3 0 c d) = wp (ix3 3 c d)) (e0 : ∀ d, w0 (ix2 k d) = mixed u wp r 0 d)
    (e1 : ∀ d, w1 (ix2 k d) = mixed u wp r 1 d) (e2 : ∀ d, w2 (ix2 k d) = mixed u wp r 2 d)
    (h3 : ∀ j, x3 (ix2 k j) = a (ix2 r j)) (h4 : ∀ j, x4 (ix2 k j) = G (ix2 r j))
    (h6 : ∀ j, x6 (ix2 0 j) = ps (ix1 j)) (h7 : ∀ j l, x7 (ix2 j l) = wu (ix2 j l)) (h8 : ∀ j l, x8 (ix2 j l) = wa (ix2 j l))
    (h9 : ∀ j l, x9 (ix2 j l) = wo (ix2 j l)) (l : Fin 1024) :
    k0_pay17 (F := Ideal) v (k0_pay13 x0) x3 x4 w0 w1 w2 p x6 x7 x8 x9 (ix2 k l) = merged x u a G wp ps wu wa wo r l := by
  have hm : ∀ j : Fin 512,
      (if h : j.val < 128 then w0 (ix2 k ⟨j.val, h⟩)
        else if h' : j.val - 128 < 128 then w1 (ix2 k ⟨j.val - 128, h'⟩)
        else if h'' : j.val - 128 - 128 < 128 then w2 (ix2 k ⟨j.val - 128 - 128, h''⟩)
        else ∑ c, v (ix2 k c) * p (ix3 0 c ⟨j.val - 128 - 128 - 128, by omega⟩))
      = mixed u wp r ⟨j.val / 128, by omega⟩ ⟨j.val % 128, by omega⟩ := by
    intro j
    split_ifs with c0 c1 c2
    · rw [e0]; congr 1 <;> (apply Fin.ext; simp only [Fin.val_ofNat]; omega)
    · rw [e1]; congr 1 <;> (apply Fin.ext; simp only [Fin.val_ofNat]; omega)
    · rw [e2]; congr 1 <;> (apply Fin.ext; simp only [Fin.val_ofNat]; omega)
    · have ea : (⟨j.val / 128, by omega⟩ : Fin 4) = 3 := Fin.ext (by simp only [Fin.val_ofNat]; omega)
      have eb : (⟨j.val % 128, by omega⟩ : Fin 128) = ⟨j.val - 128 - 128 - 128, by omega⟩ := Fin.ext (by simp only []; omega)
      rw [ea, eb]
      simp only [hv, hp, mixed]
  pointwise [k0_pay17, k0_pay13, merged, branch, poolOut]
  simp only [hm, h0, h3, h4, h6, h7, h8, h9]

end Body

end Cert.Proof.PoolKernel
-- ==== Proof.PoolValue.lean ====
/-
  The residual rows that the prompt's merge leaves, as one function of the arguments: every block that is kept holds the
  reference's rows at the same place, and the blocks cover the array.
-/
module

public import proofs.«01_k».proof.Proof.PoolKernel

@[expose] public section

set_option maxRecDepth 16384

noncomputable section

namespace Cert.Proof.PoolValue

open Cert.Kernel8Ideal Cert.Kernel8Ideal.Gen Cert.Kernel8Ideal.Hand Idealize.ShloMosaic Idealize.ShloMosaic.TcCoe
open Idealize.ShloMosaic.Pipeline (Dat)
open Cert.Proof.PoolReference Cert.Proof.PoolKernel

variable (m : (ℓ : Loc nD τ sig) → Buf (Elt Ideal) ℓ)

/-- The reference's result over a device's arguments. -/
abbrev result (c : Dev nD) : FVec Ideal Cert.Reference8Ideal.S16384x1024 .f32 :=
  out (inX m c) (inU m c) (inA m c) (inG m c) (inP m c) (inQ m c) (inM m c) (inN m c) (inO m c)

set_option maxHeartbeats 4000000 in
theorem out13_at (c : Dev nD) (t : Fin cfg0.N) (h : t.val < 32) (k : Fin 512) (l : Fin 1024) :
    (out13 m c t h : FVec Ideal S512x1024 .f32) (ix2 k l) = result m c (ix2 ⟨t.val * 512 + k.val, by omega⟩ l) := by
  have h1 := newest_at m c t h
  have h2 := halo_at m c t h
  unfold out13 pieces liveRun
  dsimp only
  frame_out
  rw [coord_val t]
  refine (merged_at (x := inX m c) (u := inU m c) (a := inA m c) (G := inG m c) (wp := inP m c) (ps := inQ m c) (wu := inM m c)
    (wa := inN m c) (wo := inO m c) k ⟨t.val * 512 + k.val, by omega⟩ (fun j => rows_at m c t h k j _ rfl)
    (fun e => mean16_at (i := ⟨t.val, h⟩) k e (h1 k)
      (lag_at (i := ⟨t.val, h⟩) h1 h2 0 16 384 rfl (by decide) _ k e (by omega))
      (lag_at (i := ⟨t.val, h⟩) h1 h2 1 15 384 rfl (by decide) _ k e (by omega))
      (lag_at (i := ⟨t.val, h⟩) h1 h2 2 14 384 rfl (by decide) _ k e (by omega))
      (lag_at (i := ⟨t.val, h⟩) h1 h2 3 13 384 rfl (by decide) _ k e (by omega))
      (lag_at (i := ⟨t.val, h⟩) h1 h2 4 12 384 rfl (by decide) _ k e (by omega))
      (lag_at (i := ⟨t.val, h⟩) h1 h2 5 11 384 rfl (by decide) _ k e (by omega))
      (lag_at (i := ⟨t.val, h⟩) h1 h2 6 10 384 rfl (by decide) _ k e (by omega))
      (lag_at (i := ⟨t.val, h⟩) h1 h2 7 9 384 rfl (by decide) _ k e (by omega))
      (lag_at (i := ⟨t.val, h⟩) h1 h2 8 8 384 rfl (by decide) _ k e (by omega))
      (lag_at (i := ⟨t.val, h⟩) h1 h2 9 7 384 rfl (by decide) _ k e (by omega))
      (lag_at (i := ⟨t.val, h⟩) h1 h2 10 6 384 rfl (by decide) _ k e (by omega))
      (lag_at (i := ⟨t.val, h⟩) h1 h2 11 5 384 rfl (by decide) _ k e (by omega))
      (lag_at (i := ⟨t.val, h⟩) h1 h2 12 4 384 rfl (by decide) _ k e (by omega))
      (lag_at (i := ⟨t.val, h⟩) h1 h2 13 3 384 rfl (by decide) _ k e (by omega))
      (lag_at (i := ⟨t.val, h⟩) h1 h2 14 2 384 rfl (by decide) _ k e (by omega))
      (lag_at (i := ⟨t.val, h⟩) h1 h2 15 1 384 rfl (by decide) _ k e (by omega))) (fun a b => ?_)
    (fun d => product14_at (g := 0) k _ (fun e => mean2_at (i := ⟨t.val, h⟩) k e (h1 k)
      ((lag_at (i := ⟨t.val, h⟩) h1 h2 0 16 0 rfl (by decide) _ k e (by omega)).trans (congrArg (fun q => lag (inU m c) _ q 0) (Fin.ext (Nat.zero_add _))))
      ((lag_at (i := ⟨t.val, h⟩) h1 h2 1 15 0 rfl (by decide) _ k e (by omega)).trans (congrArg (fun q => lag (inU m c) _ q 1) (Fin.ext (Nat.zero_add _))))) (fun a b => ?_) d)
    (fun d => product15_at (g := 1) k _ (fun e => mean4_at (i := ⟨t.val, h⟩) k e (h1 k)
      (lag_at (i := ⟨t.val, h⟩) h1 h2 0 16 128 rfl (by decide) _ k e (by omega))
      (lag_at (i := ⟨t.val, h⟩) h1 h2 1 15 128 rfl (by decide) _ k e (by omega))
      (lag_at (i := ⟨t.val, h⟩) h1 h2 2 14 128 rfl (by decide) _ k e (by omega))
      (lag_at (i := ⟨t.val, h⟩) h1 h2 3 13 128 rfl (by decide) _ k e (by omega))) (fun a b => ?_) d)
    (fun d => product16_at (g := 2) k _ (fun e => mean8_at (i := ⟨t.val, h⟩) k e (h1 k)
      (lag_at (i := ⟨t.val, h⟩) h1 h2 0 16 256 rfl (by decide) _ k e (by omega))
      (lag_at (i := ⟨t.val, h⟩) h1 h2 1 15 256 rfl (by decide) _ k e (by omega))
      (lag_at (i := ⟨t.val, h⟩) h1 h2 2 14 256 rfl (by decide) _ k e (by omega))
      (lag_at (i := ⟨t.val, h⟩) h1 h2 3 13 256 rfl (by decide) _ k e (by omega))
      (lag_at (i := ⟨t.val, h⟩) h1 h2 4 12 256 rfl (by decide) _ k e (by omega))
      (lag_at (i := ⟨t.val, h⟩) h1 h2 5 11 256 rfl (by decide) _ k e (by omega))
      (lag_at (i := ⟨t.val, h⟩) h1 h2 6 10 256 rfl (by decide) _ k e (by omega))
      (lag_at (i := ⟨t.val, h⟩) h1 h2 7 9 256 rfl (by decide) _ k e (by omega))) (fun a b => ?_) d)
    (fun j => att_at m c t h k j _ rfl) (fun j => gates_at m c t h k j _ rfl) (fun j => scale_at m c t j)
    (fun a b => upPool_at m c t a b) (fun a b => upAtt_at m c t a b) (fun a b => outer_at m c t a b) l).trans
    (out_apply (inX m c) (inU m c) (inA m c) (inG m c) (inP m c) (inQ m c) (inM m c) (inN m c) (inO m c) _ l).symm
  · rw [← group_at m c t 3 a b]; pointwise
  · rw [← group_at m c t 0 a b]; pointwise
  · rw [← group_at m c t 1 a b]; pointwise
  · rw [← group_at m c t 2 a b]; pointwise

/-- A kept block, at the last point too: there it is the block of the point before. -/
theorem kept13_at (c : Dev nD) (t : Fin cfg0.N) (k : Fin 512) (l : Fin 1024) :
    (kept13 m c t : FVec Ideal S512x1024 .f32) (ix2 k l) = result m c (ix2 ⟨min t.val 31 * 512 + k.val, by omega⟩ l) := by
  unfold kept13
  split_ifs with h
  · refine (out13_at m c t h k l).trans (congrArg (fun q => result m c (ix2 q l)) (Fin.ext ?_))
    show t.val * 512 + k.val = min t.val 31 * 512 + k.val
    omega
  · refine (out13_at m c p31 (by decide) k l).trans (congrArg (fun q => result m c (ix2 q l)) (Fin.ext ?_))
    show 31 * 512 + k.val = min t.val 31 * 512 + k.val
    omega

theorem point (c : Dev nD) (t : Fin cfg0.N) (y : S512x1024.Idx) :
    (kept13 m c t : FVec Ideal S512x1024 .f32) y = result m c (((cfg0.win 13).blk t).view.emb y) := by
  idx_vars y
  have he : ((cfg0.win 13).blk t).view.emb (ix2 y0 y1) = ix2 ⟨min t.val 31 * 512 + y0.val, by omega⟩ y1 := by
    blk_ext [idx t]
  exact (kept13_at m c t y0 y1).trans (congrArg _ he.symm)

set_option maxHeartbeats 2000000 in
theorem final (c : Dev nD) : (dats m 0 c).arrAt 13 cfg0.N = result m c := by
  refine (dats m 0 c).arrAt_eq_of_covers 13 _ (by decide +kernel) fun t _ y => ?_
  blk_simp
  rw [after13]
  exact point m c t y

end Cert.Proof.PoolValue
-- ==== Proof.PoolClaim.lean ====
/-
  The claims on the prompt's merge: the call and the reference end with the same residual rows, and each leaves its arguments as
  they were. The call over its own number formats is the same text as the call over the extended reals, so one run serves both.
-/
module

public import proofs.«01_k».proof.Defs
public import proofs.«01_k».proof.Proof.PoolValue
public import proofs.«01_k».proof.Proof.Gen.Kernel8
public import proofs.«01_k».proof.Proof.Gen.Reference8Ideal.Run
public import Idealize.ShloMosaic.PureOps.BitExact
public import Idealize.ShloMosaic.Adequacy
public import Idealize.ShloMosaic.Init

@[expose] public section

noncomputable section

namespace Cert.Proof.PoolClaim

open Idealize.ShloMosaic Idealize.ShloMosaic.TcCoe Idealize.SL.Sem
open Cert.Proof.PoolReference Cert.Proof.PoolKernel Cert.Proof.PoolValue

set_option maxHeartbeats 4000000 in
/-- The two programs' bodies are one. -/
theorem bodies_eq : Cert.Kernel8.defs₀ (F := Bits) = Cert.Kernel8Ideal.defs₀ (F := Bits) := by
  unfold Cert.Kernel8.defs₀ Cert.Kernel8Ideal.defs₀
  refine congrArg Defs.onTc (funext fun i => ?_)
  match i with
  | 0 => exact funext fun ⟨t, s⟩ => rfl
  | ⟨_ + 1, h⟩ => exact absurd h (Nat.not_lt.2 (Nat.le_add_left _ _))

/-- So are their definitions. -/
theorem defs_eq : Cert.Kernel8.defs (F := Bits) = Cert.Kernel8Ideal.defs (F := Bits) :=
  congrArg (Pipeline.defs (Cert.Kernel8Ideal.pcfgs (F := Bits))) bodies_eq

/-- A run of the one is a run of the other. -/
theorem run_same (m : (ℓ : Loc Cert.Kernel8.nD Cert.Kernel8.τ Cert.Kernel8.sig) → Buf (Elt Bits) ℓ) (ρ : Dev Cert.Kernel8.nD → PrngReg)
    (Q : _ → Prop)
    (h : θ_run (Cert.Kernel8Ideal.defs (F := Bits)) (onTc (τ := Cert.Kernel8Ideal.τ) (Cert.Kernel8Ideal.main (F := Bits))) ⟨m, fun _ => 0, ρ⟩ Q) :
    θ_run (Cert.Kernel8.defs (F := Bits)) (onTc (τ := Cert.Kernel8.τ) (Cert.Kernel8.main (F := Bits))) ⟨m, fun _ => 0, ρ⟩ Q := by
  rw [defs_eq]
  exact h

theorem frame_bits : Cert.quiescent_Kernel8 := fun m ρ _ =>
  run_same m ρ _ ((θ_run (Cert.Kernel8Ideal.defs (F := Bits)) _ _).mono (fun _ h => ⟨fun c => (h.1 c).2, h.2⟩)
    (Cert.Kernel8Ideal.Hand.frame (F := Bits) m ρ))

theorem frame_ideal : Cert.quiescent_Kernel8Ideal := fun m ρ _ =>
  (θ_run (Cert.Kernel8Ideal.defs (F := Ideal)) _ _).mono (fun _ h => ⟨fun c => (h.1 c).2, h.2⟩)
    (Cert.Kernel8Ideal.Hand.frame (F := Ideal) m ρ)

theorem frame_reference : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- The reference's run, its result as one function of the arguments. -/
theorem run_reference (m : (ℓ : Loc Cert.Reference8Ideal.nD Cert.Reference8Ideal.τ Cert.Reference8Ideal.sig) → Buf (Elt Ideal) ℓ)
    (ρ : Dev Cert.Reference8Ideal.nD → PrngReg)
    (x : FVec Ideal Cert.Reference8Ideal.S8x2048x1024 .f32)
    (u : FVec Ideal Cert.Reference8Ideal.S16384x512 .f32)
    (a : FVec Ideal Cert.Reference8Ideal.S16384x512 .bf16)
    (G : FVec Ideal Cert.Reference8Ideal.S16384x2048 .bf16)
    (wp : FVec Ideal Cert.Reference8Ideal.S4x128x128 .f32)
    (ps : FVec Ideal Cert.Reference8Ideal.S512 .f32)
    (wu : FVec Ideal Cert.Reference8Ideal.S512x1024 .f32)
    (wa : FVec Ideal Cert.Reference8Ideal.S512x1024 .f32)
    (wo : FVec Ideal Cert.Reference8Ideal.S1024x1024 .f32)
    (h0 : ∀ c : Dev Cert.Reference8Ideal.nD, m (c.tc.loc Cert.Reference8Ideal.main_arg0) = x)
    (h1 : ∀ c : Dev Cert.Reference8Ideal.nD, m (c.tc.loc Cert.Reference8Ideal.main_arg1) = u)
    (h2 : ∀ c : Dev Cert.Reference8Ideal.nD, m (c.tc.loc Cert.Reference8Ideal.main_arg2) = a)
    (h3 : ∀ c : Dev Cert.Reference8Ideal.nD, m (c.tc.loc Cert.Reference8Ideal.main_arg3) = G)
    (h4 : ∀ c : Dev Cert.Reference8Ideal.nD, m (c.tc.loc Cert.Reference8Ideal.main_arg4) = wp)
    (h5 : ∀ c : Dev Cert.Reference8Ideal.nD, m (c.tc.loc Cert.Reference8Ideal.main_arg5) = ps)
    (h6 : ∀ c : Dev Cert.Reference8Ideal.nD, m (c.tc.loc Cert.Reference8Ideal.main_arg6) = wu)
    (h7 : ∀ c : Dev Cert.Reference8Ideal.nD, m (c.tc.loc Cert.Reference8Ideal.main_arg7) = wa)
    (h8 : ∀ c : Dev Cert.Reference8Ideal.nD, m (c.tc.loc Cert.Reference8Ideal.main_arg8) = wo) :
    θ_run Cert.Reference8Ideal.defs (onTc (τ := Cert.Reference8Ideal.τ) (Cert.Reference8Ideal.main (F := Ideal))) ⟨m, fun _ => 0, ρ⟩
      fun r => ∀ c : Dev Cert.Reference8Ideal.nD,
        r.2.mem (c.tc.loc Cert.Reference8Ideal.main_v90) = out x u a G wp ps wu wa wo
        ∧ r.2.mem (c.tc.loc Cert.Reference8Ideal.main_arg0) = m (c.tc.loc Cert.Reference8Ideal.main_arg0)
        ∧ r.2.mem (c.tc.loc Cert.Reference8Ideal.main_arg1) = m (c.tc.loc Cert.Reference8Ideal.main_arg1)
        ∧ r.2.mem (c.tc.loc Cert.Reference8Ideal.main_arg2) = m (c.tc.loc Cert.Reference8Ideal.main_arg2)
        ∧ r.2.mem (c.tc.loc Cert.Reference8Ideal.main_arg3) = m (c.tc.loc Cert.Reference8Ideal.main_arg3)
        ∧ r.2.mem (c.tc.loc Cert.Reference8Ideal.main_arg4) = m (c.tc.loc Cert.Reference8Ideal.main_arg4)
        ∧ r.2.mem (c.tc.loc Cert.Reference8Ideal.main_arg5) = m (c.tc.loc Cert.Reference8Ideal.main_arg5)
        ∧ r.2.mem (c.tc.loc Cert.Reference8Ideal.main_arg6) = m (c.tc.loc Cert.Reference8Ideal.main_arg6)
        ∧ r.2.mem (c.tc.loc Cert.Reference8Ideal.main_arg7) = m (c.tc.loc Cert.Reference8Ideal.main_arg7)
        ∧ r.2.mem (c.tc.loc Cert.Reference8Ideal.main_arg8) = m (c.tc.loc Cert.Reference8Ideal.main_arg8)
        ∧ r.2.mem (c.tc.loc Cert.Reference8Ideal.main_arg9) = m (c.tc.loc Cert.Reference8Ideal.main_arg9)
        ∧ r.2.mem (c.tc.loc Cert.Reference8Ideal.main_arg10) = m (c.tc.loc Cert.Reference8Ideal.main_arg10)
        ∧ r.2.mem (c.tc.loc Cert.Reference8Ideal.main_arg11) = m (c.tc.loc Cert.Reference8Ideal.main_arg11)
        ∧ r.2.mem (c.tc.loc Cert.Reference8Ideal.main_arg12) = m (c.tc.loc Cert.Reference8Ideal.main_arg12)
        ∧ r.2.mem (c.tc.loc Cert.Reference8Ideal.main_arg13) = m (c.tc.loc Cert.Reference8Ideal.main_arg13)
        ∧ r.2.mem (c.tc.loc Cert.Reference8Ideal.main_arg14) = m (c.tc.loc Cert.Reference8Ideal.main_arg14) := by
  refine (θ_run Cert.Reference8Ideal.defs _ _).mono (fun r h c => ?_) (Cert.Reference8Ideal.Value.run (F := Ideal) m ρ)
  obtain ⟨e, hk⟩ := h c
  obtain rfl := h0 c
  obtain rfl := h1 c
  obtain rfl := h2 c
  obtain rfl := h3 c
  obtain rfl := h4 c
  obtain rfl := h5 c
  obtain rfl := h6 c
  obtain rfl := h7 c
  obtain rfl := h8 c
  exact ⟨e, hk⟩

theorem value : Cert.algebraic_Kernel8Ideal_Reference8Ideal := by
  intro m ρ m' ρ' _ hag
  refine ⟨fun c => result m c, ?_, ?_⟩
  · refine (θ_run Cert.Kernel8Ideal.defs _ _).mono (fun r h c => ?_) (Cert.Kernel8Ideal.Hand.frame (F := Ideal) m ρ)
    obtain ⟨e, hk⟩ := h.1 c
    exact ⟨e.trans (final m c), hk⟩
  · have one : ∀ c : Dev Cert.Reference8Ideal.nD, c = 0 := fun c => Subsingleton.elim _ _
    refine (θ_run Cert.Reference8Ideal.defs _ _).mono (fun r h c => ?_)
      (run_reference m' ρ' (inX m 0) (inU m 0) (inA m 0) (inG m 0) (inP m 0) (inQ m 0) (inM m 0) (inN m 0) (inO m 0)
        (fun c => by rw [one c]; exact (hag 0).1)
        (fun c => by rw [one c]; exact (hag 0).2.1)
        (fun c => by rw [one c]; exact (hag 0).2.2.1)
        (fun c => by rw [one c]; exact (hag 0).2.2.2.1)
        (fun c => by rw [one c]; exact (hag 0).2.2.2.2.1)
        (fun c => by rw [one c]; exact (hag 0).2.2.2.2.2.1)
        (fun c => by rw [one c]; exact (hag 0).2.2.2.2.2.2.1)
        (fun c => by rw [one c]; exact (hag 0).2.2.2.2.2.2.2.1)
        (fun c => by rw [one c]; exact (hag 0).2.2.2.2.2.2.2.2.1))
    obtain rfl := one c
    exact h 0

end Cert.Proof.PoolClaim
-- ==== Proof.lean ====
/-
  The proof of `Cert.Claim` for the experts' products of the layer's mixture of experts: the kernel computes one tile of
  512 rows at each of its 129 points, gathering the tile's rows from the source by asynchronous copies one point ahead of
  their use.

  The run is proved once, over any float values (`Proof/Run.lean`, read at the arrays in `Proof/Output.lean`); the two
  frames and the value claim all follow from it. `Proof/Same.lean` carries it to the kernel as printed; `Proof/Checked.lean` reads the precondition, `Proof/Reference.lean` the
  reference's result at one element, and `Proof/Meaning.lean` says that the two results are the same.

  The two projection calls of the same layer are claimed besides: `Proof/PromptClaim.lean` for the prompt's tokens,
  `Proof/SampleClaim.lean` for the sampled ones. Each reads the reference and the call at one element and meets in the same
  sum over a normalised row. `Proof/MergeClaim.lean` claims the residual rows that the merge of the sampled tokens leaves,
  `Proof/PoolClaim.lean` those of the prompt's merge, whose run is proved in `Proof/PoolPoint.lean` and `Proof/PoolRun.lean`.
  `Proof/SampleResultsClaim.lean` and `Proof/PromptResultsClaim.lean` follow the projections through the host's cuts and reshapes to
  eight of the layer's results, and `Proof/Running.lean` claims the running sums of the prompt's log forget values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tables_routed
public import proofs.«01_k».proof.Proof.Gen.ReferenceIdeal.Run
public import proofs.«01_k».proof.Proof.Meaning
public import proofs.«01_k».proof.Proof.Same
public import proofs.«01_k».proof.Proof.PromptClaim
public import proofs.«01_k».proof.Proof.SampleClaim
public import proofs.«01_k».proof.Proof.MergeClaim
public import proofs.«01_k».proof.Proof.SampleResultsClaim
public import proofs.«01_k».proof.Proof.Running
public import proofs.«01_k».proof.Proof.PromptResultsClaim
public import proofs.«01_k».proof.Proof.PoolClaim
public import Idealize.ShloMosaic.Adequacy
public import Idealize.ShloMosaic.Init
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Skeleton
public import proofs.«01_k».proof.Proof.Gen.Reference8Ideal.Run

@[expose] public section

noncomputable section

namespace Cert.Proof

open Idealize.ShloMosaic Idealize.ShloMosaic.TcCoe Idealize.SL.Sem Cert.KernelIdeal.Hand

/-- The kernel over the extended reals leaves its arguments and its counters as they were. -/
theorem frame_ideal : Cert.quiescent_KernelIdeal := fun m ρ h =>
  leaves (F := Ideal) m ρ (routing _ _ _ _ _ _ _ (h 0))

/-- So does the kernel over its own number formats: the same run. -/
theorem frame_bits : Cert.quiescent_Kernel := fun m ρ h =>
  run_same m ρ _ (leaves (F := Bits) m ρ (routing _ _ _ _ _ _ _ (h 0)))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value : Cert.algebraic_KernelIdeal_ReferenceIdeal := by
  intro m ρ m' ρ' hpre hag
  have hO : Ok m := routing _ _ _ _ _ _ _ (hpre 0)
  refine ⟨fun c => result m c, (θ_run Cert.KernelIdeal.defs _ _).mono (fun _ r => r.1) (run (F := Ideal) m ρ hO),
    (θ_run Cert.ReferenceIdeal.defs _ _).mono (fun r h c => ⟨?_, (h c).2⟩) (Cert.ReferenceIdeal.Value.run (F := Ideal) m' ρ')⟩
  refine (h c).1.trans ?_
  obtain ⟨a0, a1, a2, a3, a4, a5, a6⟩ := hag c
  rw [a0, a2, a3, a4, a5, a6]
  obtain rfl : c = 0 := Subsingleton.elim _ _
  funext x
  obtain ⟨p, q, rfl⟩ : ∃ (p : Fin 66048) (q : Fin 1024), x = ix2 p q := ⟨x 0, x 1, eq_ix2 x⟩
  exact (tileOut_apply _ _ _ hO _ _ _ _ p q).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_tables_routed.Gen.facts,
  frame_bits, frame_ideal, frame_reference,
  PromptClaim.frame_bits, PromptClaim.frame_ideal, PromptClaim.frame_reference,
  SampleClaim.frame_bits, SampleClaim.frame_ideal, SampleClaim.frame_reference,
  MergeClaim.frame_bits, MergeClaim.frame_ideal, MergeClaim.frame_reference,
  SampleResultsClaim.frame_bits, SampleResultsClaim.frame_ideal, SampleResultsClaim.frame_reference,
  Running.frame_bits, Running.frame_ideal, Running.frame_reference,
  PromptResultsClaim.frame_bits, PromptResultsClaim.frame_ideal, PromptResultsClaim.frame_reference,
  PoolClaim.frame_bits, PoolClaim.frame_ideal, PoolClaim.frame_reference,
  trivial, value, trivial, PromptClaim.value, trivial, SampleClaim.value, trivial, MergeClaim.value,
  trivial, SampleResultsClaim.value, trivial, Running.value, trivial, PromptResultsClaim.value,
  trivial, PoolClaim.value⟩

end Cert.Proof

end
